-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsReferenceIdeal (m : (ℓ : Loc Cert.WeightsReferenceIdeal.nD Cert.WeightsReferenceIdeal.τ Cert.WeightsReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareReferenceIdeal (m : (ℓ : Loc Cert.SquareReferenceIdeal.nD Cert.SquareReferenceIdeal.τ Cert.SquareReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedReferenceIdeal (m : (ℓ : Loc Cert.EmbedReferenceIdeal.nD Cert.EmbedReferenceIdeal.τ Cert.EmbedReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1))
      ∧ r.2.sem = fun _ => 0)

def quiescent_WeightsReferenceIdeal [hWeightsReferenceIdeal : Cert.WeightsReferenceIdeal.Facts] : Prop :=
  ∀ (m : (ℓ : Loc Cert.WeightsReferenceIdeal.nD Cert.WeightsReferenceIdeal.τ Cert.WeightsReferenceIdeal.sig) → Buf (Elt Ideal) ℓ) (g : Dev Cert.WeightsReferenceIdeal.nD → PrngReg), Pre_WeightsReferenceIdeal m →
    θ_run (Cert.WeightsReferenceIdeal.defs (F := Ideal)) (onTc (τ := Cert.WeightsReferenceIdeal.τ) (Cert.WeightsReferenceIdeal.main (F := Ideal))) ⟨m, fun _ => 0, g⟩ (fun r => (∀ c : Dev Cert.WeightsReferenceIdeal.nD,
      r.2.mem ((c.tc : Thread Cert.WeightsReferenceIdeal.nD Cert.WeightsReferenceIdeal.τ).loc Cert.WeightsReferenceIdeal.main_arg0) = m ((c.tc : Thread Cert.WeightsReferenceIdeal.nD Cert.WeightsReferenceIdeal.τ).loc Cert.WeightsReferenceIdeal.main_arg0)
      ∧ r.2.mem ((c.tc : Thread Cert.WeightsReferenceIdeal.nD Cert.WeightsReferenceIdeal.τ).loc Cert.WeightsReferenceIdeal.main_arg1) = m ((c.tc : Thread Cert.WeightsReferenceIdeal.nD Cert.WeightsReferenceIdeal.τ).loc Cert.WeightsReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareReferenceIdeal [hSquareReferenceIdeal : Cert.SquareReferenceIdeal.Facts] : Prop :=
  ∀ (m : (ℓ : Loc Cert.SquareReferenceIdeal.nD Cert.SquareReferenceIdeal.τ Cert.SquareReferenceIdeal.sig) → Buf (Elt Ideal) ℓ) (g : Dev Cert.SquareReferenceIdeal.nD → PrngReg), Pre_SquareReferenceIdeal m →
    θ_run (Cert.SquareReferenceIdeal.defs (F := Ideal)) (onTc (τ := Cert.SquareReferenceIdeal.τ) (Cert.SquareReferenceIdeal.main (F := Ideal))) ⟨m, fun _ => 0, g⟩ (fun r => (∀ c : Dev Cert.SquareReferenceIdeal.nD,
      r.2.mem ((c.tc : Thread Cert.SquareReferenceIdeal.nD Cert.SquareReferenceIdeal.τ).loc Cert.SquareReferenceIdeal.main_arg0) = m ((c.tc : Thread Cert.SquareReferenceIdeal.nD Cert.SquareReferenceIdeal.τ).loc Cert.SquareReferenceIdeal.main_arg0)
      ∧ r.2.mem ((c.tc : Thread Cert.SquareReferenceIdeal.nD Cert.SquareReferenceIdeal.τ).loc Cert.SquareReferenceIdeal.main_arg1) = m ((c.tc : Thread Cert.SquareReferenceIdeal.nD Cert.SquareReferenceIdeal.τ).loc Cert.SquareReferenceIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v92)) (v2 : (c : Dev Cert.KernelIdeal.nD) → Buf (Elt Ideal) ((c.tc : Thread Cert.KernelIdeal.nD Cert.KernelIdeal.τ).loc Cert.KernelIdeal.main_v93)) (v3 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_v93) = v2 c
          ∧ r.2.mem ((c.tc : Thread Cert.KernelIdeal.nD Cert.KernelIdeal.τ).loc Cert.KernelIdeal.main_v94) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Weights_WeightsIdeal : Prop :=
  True

def algebraic_WeightsIdeal_WeightsReferenceIdeal [hWeightsIdeal : Cert.WeightsIdeal.Facts] [hWeightsReferenceIdeal : Cert.WeightsReferenceIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsReferenceIdeal.nD Cert.WeightsReferenceIdeal.τ Cert.WeightsReferenceIdeal.sig) → Buf (Elt Ideal) ℓ) (g' : Dev Cert.WeightsReferenceIdeal.nD → PrngReg), Pre_WeightsIdeal m →
    (∀ c : Dev Cert.WeightsIdeal.nD,
      m' ((c.tc : Thread Cert.WeightsReferenceIdeal.nD Cert.WeightsReferenceIdeal.τ).loc Cert.WeightsReferenceIdeal.main_arg0) = m ((c.tc : Thread Cert.WeightsIdeal.nD Cert.WeightsIdeal.τ).loc Cert.WeightsIdeal.main_arg0)
      ∧ m' ((c.tc : Thread Cert.WeightsReferenceIdeal.nD Cert.WeightsReferenceIdeal.τ).loc Cert.WeightsReferenceIdeal.main_arg1) = m ((c.tc : Thread Cert.WeightsIdeal.nD Cert.WeightsIdeal.τ).loc Cert.WeightsIdeal.main_arg1)) →
    ∃ (v0 : (c : Dev Cert.WeightsIdeal.nD) → Buf (Elt Ideal) ((c.tc : Thread Cert.WeightsIdeal.nD Cert.WeightsIdeal.τ).loc Cert.WeightsIdeal.main_v12)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v12) = v0 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1))
      ∧ θ_run (Cert.WeightsReferenceIdeal.defs (F := Ideal)) (onTc (τ := Cert.WeightsReferenceIdeal.τ) (Cert.WeightsReferenceIdeal.main (F := Ideal))) ⟨m', fun _ => 0, g'⟩ (fun r => ∀ c : Dev Cert.WeightsReferenceIdeal.nD,
          r.2.mem ((c.tc : Thread Cert.WeightsReferenceIdeal.nD Cert.WeightsReferenceIdeal.τ).loc Cert.WeightsReferenceIdeal.main_v3) = v0 c
          ∧ r.2.mem ((c.tc : Thread Cert.WeightsReferenceIdeal.nD Cert.WeightsReferenceIdeal.τ).loc Cert.WeightsReferenceIdeal.main_arg0) = m' ((c.tc : Thread Cert.WeightsReferenceIdeal.nD Cert.WeightsReferenceIdeal.τ).loc Cert.WeightsReferenceIdeal.main_arg0)
          ∧ r.2.mem ((c.tc : Thread Cert.WeightsReferenceIdeal.nD Cert.WeightsReferenceIdeal.τ).loc Cert.WeightsReferenceIdeal.main_arg1) = m' ((c.tc : Thread Cert.WeightsReferenceIdeal.nD Cert.WeightsReferenceIdeal.τ).loc Cert.WeightsReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v13_0)) (v1 : (c : Dev Cert.NormIdeal.nD) → Buf (Elt Ideal) ((c.tc : Thread Cert.NormIdeal.nD Cert.NormIdeal.τ).loc Cert.NormIdeal.main_v13_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v13_0) = v0 c
          ∧ r.2.mem ((c.tc : Thread Cert.NormIdeal.nD Cert.NormIdeal.τ).loc Cert.NormIdeal.main_v13_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v38) = v0 c
          ∧ r.2.mem ((c.tc : Thread Cert.NormReferenceIdeal.nD Cert.NormReferenceIdeal.τ).loc Cert.NormReferenceIdeal.main_v39) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_Square_SquareIdeal : Prop :=
  True

def algebraic_SquareIdeal_SquareReferenceIdeal [hSquareIdeal : Cert.SquareIdeal.Facts] [hSquareReferenceIdeal : Cert.SquareReferenceIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareReferenceIdeal.nD Cert.SquareReferenceIdeal.τ Cert.SquareReferenceIdeal.sig) → Buf (Elt Ideal) ℓ) (g' : Dev Cert.SquareReferenceIdeal.nD → PrngReg), Pre_SquareIdeal m →
    (∀ c : Dev Cert.SquareIdeal.nD,
      m' ((c.tc : Thread Cert.SquareReferenceIdeal.nD Cert.SquareReferenceIdeal.τ).loc Cert.SquareReferenceIdeal.main_arg0) = m ((c.tc : Thread Cert.SquareIdeal.nD Cert.SquareIdeal.τ).loc Cert.SquareIdeal.main_arg0)
      ∧ m' ((c.tc : Thread Cert.SquareReferenceIdeal.nD Cert.SquareReferenceIdeal.τ).loc Cert.SquareReferenceIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v3)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v3) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareReferenceIdeal.defs (F := Ideal)) (onTc (τ := Cert.SquareReferenceIdeal.τ) (Cert.SquareReferenceIdeal.main (F := Ideal))) ⟨m', fun _ => 0, g'⟩ (fun r => ∀ c : Dev Cert.SquareReferenceIdeal.nD,
          r.2.mem ((c.tc : Thread Cert.SquareReferenceIdeal.nD Cert.SquareReferenceIdeal.τ).loc Cert.SquareReferenceIdeal.main_v3) = v0 c
          ∧ r.2.mem ((c.tc : Thread Cert.SquareReferenceIdeal.nD Cert.SquareReferenceIdeal.τ).loc Cert.SquareReferenceIdeal.main_arg0) = m' ((c.tc : Thread Cert.SquareReferenceIdeal.nD Cert.SquareReferenceIdeal.τ).loc Cert.SquareReferenceIdeal.main_arg0)
          ∧ r.2.mem ((c.tc : Thread Cert.SquareReferenceIdeal.nD Cert.SquareReferenceIdeal.τ).loc Cert.SquareReferenceIdeal.main_arg1) = m' ((c.tc : Thread Cert.SquareReferenceIdeal.nD Cert.SquareReferenceIdeal.τ).loc Cert.SquareReferenceIdeal.main_arg1))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v12)) (v1 : (c : Dev Cert.ProjectIdeal.nD) → Buf (Elt Ideal) ((c.tc : Thread Cert.ProjectIdeal.nD Cert.ProjectIdeal.τ).loc Cert.ProjectIdeal.main_v13)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v12) = v0 c
          ∧ r.2.mem ((c.tc : Thread Cert.ProjectIdeal.nD Cert.ProjectIdeal.τ).loc Cert.ProjectIdeal.main_v13) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v13) = v0 c
          ∧ r.2.mem ((c.tc : Thread Cert.ProjectReferenceIdeal.nD Cert.ProjectReferenceIdeal.τ).loc Cert.ProjectReferenceIdeal.main_v12) = v1 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_Embed_EmbedIdeal : Prop :=
  True

def algebraic_EmbedIdeal_EmbedReferenceIdeal [hEmbedIdeal : Cert.EmbedIdeal.Facts] [hEmbedReferenceIdeal : Cert.EmbedReferenceIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedIdeal m →
    (∀ c : Dev Cert.EmbedIdeal.nD,
      m' ((c.tc : Thread Cert.EmbedReferenceIdeal.nD Cert.EmbedReferenceIdeal.τ).loc Cert.EmbedReferenceIdeal.main_arg0) = m ((c.tc : Thread Cert.EmbedIdeal.nD Cert.EmbedIdeal.τ).loc Cert.EmbedIdeal.main_arg0)
      ∧ m' ((c.tc : Thread Cert.EmbedReferenceIdeal.nD Cert.EmbedReferenceIdeal.τ).loc Cert.EmbedReferenceIdeal.main_arg1) = m ((c.tc : Thread Cert.EmbedIdeal.nD Cert.EmbedIdeal.τ).loc Cert.EmbedIdeal.main_arg1)) →
    ∃ (v0 : (c : Dev Cert.EmbedIdeal.nD) → Buf (Elt Ideal) ((c.tc : Thread Cert.EmbedIdeal.nD Cert.EmbedIdeal.τ).loc Cert.EmbedIdeal.main_v2)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v2) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v5) = v0 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)
      ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v15)) (v1 : (c : Dev Cert.MidIdeal.nD) → Buf (Elt Ideal) ((c.tc : Thread Cert.MidIdeal.nD Cert.MidIdeal.τ).loc Cert.MidIdeal.main_v14_1)) (v2 : (c : Dev Cert.MidIdeal.nD) → Buf (Elt Ideal) ((c.tc : Thread Cert.MidIdeal.nD Cert.MidIdeal.τ).loc Cert.MidIdeal.main_v14_2)) (v3 : (c : Dev Cert.MidIdeal.nD) → Buf (Elt Ideal) ((c.tc : Thread Cert.MidIdeal.nD Cert.MidIdeal.τ).loc Cert.MidIdeal.main_v16)) (v4 : (c : Dev Cert.MidIdeal.nD) → Buf (Elt Ideal) ((c.tc : Thread Cert.MidIdeal.nD Cert.MidIdeal.τ).loc Cert.MidIdeal.main_v17)) (v5 : (c : Dev Cert.MidIdeal.nD) → Buf (Elt Ideal) ((c.tc : Thread Cert.MidIdeal.nD Cert.MidIdeal.τ).loc Cert.MidIdeal.main_v18)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v15) = v0 c
          ∧ r.2.mem ((c.tc : Thread Cert.MidIdeal.nD Cert.MidIdeal.τ).loc Cert.MidIdeal.main_v14_1) = v1 c
          ∧ r.2.mem ((c.tc : Thread Cert.MidIdeal.nD Cert.MidIdeal.τ).loc Cert.MidIdeal.main_v14_2) = v2 c
          ∧ r.2.mem ((c.tc : Thread Cert.MidIdeal.nD Cert.MidIdeal.τ).loc Cert.MidIdeal.main_v16) = v3 c
          ∧ r.2.mem ((c.tc : Thread Cert.MidIdeal.nD Cert.MidIdeal.τ).loc Cert.MidIdeal.main_v17) = v4 c
          ∧ r.2.mem ((c.tc : Thread Cert.MidIdeal.nD Cert.MidIdeal.τ).loc Cert.MidIdeal.main_v18) = v5 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v6) = v0 c
          ∧ r.2.mem ((c.tc : Thread Cert.MidReferenceIdeal.nD Cert.MidReferenceIdeal.τ).loc Cert.MidReferenceIdeal.main_v8) = v1 c
          ∧ r.2.mem ((c.tc : Thread Cert.MidReferenceIdeal.nD Cert.MidReferenceIdeal.τ).loc Cert.MidReferenceIdeal.main_v33) = v2 c
          ∧ r.2.mem ((c.tc : Thread Cert.MidReferenceIdeal.nD Cert.MidReferenceIdeal.τ).loc Cert.MidReferenceIdeal.main_v21) = v3 c
          ∧ r.2.mem ((c.tc : Thread Cert.MidReferenceIdeal.nD Cert.MidReferenceIdeal.τ).loc Cert.MidReferenceIdeal.main_v31) = v4 c
          ∧ r.2.mem ((c.tc : Thread Cert.MidReferenceIdeal.nD Cert.MidReferenceIdeal.τ).loc Cert.MidReferenceIdeal.main_v28) = v5 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8))

def Claim : Prop :=
  ∃ (hKernel : Cert.Kernel.Facts) (hKernelIdeal : Cert.KernelIdeal.Facts) (hReferenceIdeal : Cert.ReferenceIdeal.Facts) (hWeights : Cert.Weights.Facts) (hWeightsIdeal : Cert.WeightsIdeal.Facts) (hWeightsReferenceIdeal : Cert.WeightsReferenceIdeal.Facts) (hNorm : Cert.Norm.Facts) (hNormIdeal : Cert.NormIdeal.Facts) (hNormReferenceIdeal : Cert.NormReferenceIdeal.Facts) (hSquare : Cert.Square.Facts) (hSquareIdeal : Cert.SquareIdeal.Facts) (hSquareReferenceIdeal : Cert.SquareReferenceIdeal.Facts) (hProject : Cert.Project.Facts) (hProjectIdeal : Cert.ProjectIdeal.Facts) (hProjectReferenceIdeal : Cert.ProjectReferenceIdeal.Facts) (hEmbed : Cert.Embed.Facts) (hEmbedIdeal : Cert.EmbedIdeal.Facts) (hEmbedReferenceIdeal : Cert.EmbedReferenceIdeal.Facts) (hMid : Cert.Mid.Facts) (hMidIdeal : Cert.MidIdeal.Facts) (hMidReferenceIdeal : Cert.MidReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Weights (hWeights := hWeights)
    ∧ quiescent_WeightsIdeal (hWeightsIdeal := hWeightsIdeal)
    ∧ quiescent_WeightsReferenceIdeal (hWeightsReferenceIdeal := hWeightsReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Square (hSquare := hSquare)
    ∧ quiescent_SquareIdeal (hSquareIdeal := hSquareIdeal)
    ∧ quiescent_SquareReferenceIdeal (hSquareReferenceIdeal := hSquareReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Embed (hEmbed := hEmbed)
    ∧ quiescent_EmbedIdeal (hEmbedIdeal := hEmbedIdeal)
    ∧ quiescent_EmbedReferenceIdeal (hEmbedReferenceIdeal := hEmbedReferenceIdeal)
    ∧ quiescent_Mid (hMid := hMid)
    ∧ quiescent_MidIdeal (hMidIdeal := hMidIdeal)
    ∧ quiescent_MidReferenceIdeal (hMidReferenceIdeal := hMidReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Weights_WeightsIdeal
    ∧ algebraic_WeightsIdeal_WeightsReferenceIdeal (hWeightsIdeal := hWeightsIdeal) (hWeightsReferenceIdeal := hWeightsReferenceIdeal)
    ∧ preserves_Norm_NormIdeal
    ∧ algebraic_NormIdeal_NormReferenceIdeal (hNormIdeal := hNormIdeal) (hNormReferenceIdeal := hNormReferenceIdeal)
    ∧ preserves_Square_SquareIdeal
    ∧ algebraic_SquareIdeal_SquareReferenceIdeal (hSquareIdeal := hSquareIdeal) (hSquareReferenceIdeal := hSquareReferenceIdeal)
    ∧ preserves_Project_ProjectIdeal
    ∧ algebraic_ProjectIdeal_ProjectReferenceIdeal (hProjectIdeal := hProjectIdeal) (hProjectReferenceIdeal := hProjectReferenceIdeal)
    ∧ preserves_Embed_EmbedIdeal
    ∧ algebraic_EmbedIdeal_EmbedReferenceIdeal (hEmbedIdeal := hEmbedIdeal) (hEmbedReferenceIdeal := hEmbedReferenceIdeal)
    ∧ preserves_Mid_MidIdeal
    ∧ algebraic_MidIdeal_MidReferenceIdeal (hMidIdeal := hMidIdeal) (hMidReferenceIdeal := hMidReferenceIdeal)
-- ==== Pre_finite.lean ====
abbrev S8192x8x64 : Shape := ⟨3, ![8192, 8, 64]⟩
abbrev S8192x8 : Shape := ⟨2, ![8192, 8]⟩
abbrev S_ : Shape := ⟨0, ![]⟩

class Facts : Prop where
  bcast_S_S8192x8x64 : S_.BroadcastsInDim S8192x8x64 (![] : Fin 0 → Fin S8192x8x64.rank)
  bcast_S_S8192x8 : S_.BroadcastsInDim S8192x8 (![] : Fin 0 → Fin S8192x8.rank)

variable [Facts]

def fn {F : FTy → Type} [FloatOps F] (main_arg0 : FVec F S8192x8x64 .f32) (main_arg1 : FVec F S8192x8x64 .f32) (main_arg2 : FVec F S8192x8x64 .f32) (main_arg3 : FVec F S8192x8 .f32) (main_arg4 : FVec F S8192x8x64 .f32) : IVec S8192x8x64 1 × IVec S8192x8x64 1 × IVec S8192x8x64 1 × IVec S8192x8 1 × IVec S8192x8x64 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_v12 : FVec F S8192x8x64 .f32 := Host.absf main_arg4
  let main_cst_3 : FVec F S_ .f32 := constant S_ .f32 0x7F800000#32
  let main_v13 : FVec F S8192x8x64 .f32 := broadcastInDim S8192x8x64 ![] bcast_S_S8192x8x64 main_cst_3
  let main_v14 : IVec S8192x8x64 1 := cmpf .olt main_v12 main_v13
  (main_v2, main_v5, main_v8, main_v11, main_v14)
-- ==== Kernel.lean ====
abbrev S8192x8x64 : Shape := ⟨3, ![8192, 8, 64]⟩
abbrev S8192x8 : Shape := ⟨2, ![8192, 8]⟩
abbrev S_ : Shape := ⟨0, ![]⟩
abbrev S8x8192 : Shape := ⟨2, ![8, 8192]⟩
abbrev S8x8192x64 : Shape := ⟨3, ![8, 8192, 64]⟩
abbrev S8x8192x3 : Shape := ⟨3, ![8, 8192, 3]⟩
abbrev S8x8192x61 : Shape := ⟨3, ![8, 8192, 61]⟩
abbrev S8x8192x128 : Shape := ⟨3, ![8, 8192, 128]⟩
abbrev S8x8192x1 : Shape := ⟨3, ![8, 8192, 1]⟩
abbrev S8x8192x60 : Shape := ⟨3, ![8, 8192, 60]⟩
abbrev S8x8192x8192 : Shape := ⟨3, ![8, 8192, 8192]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x16x1x512 : Shape := ⟨4, ![8, 16, 1, 512]⟩
abbrev S1x512x512 : Shape := ⟨3, ![1, 512, 512]⟩
abbrev S4x16x1x512 : Shape := ⟨4, ![4, 16, 1, 512]⟩
abbrev S4x8192x128 : Shape := ⟨3, ![4, 8192, 128]⟩
abbrev S4x512x128 : Shape := ⟨3, ![4, 512, 128]⟩
abbrev S512x512 : Shape := ⟨2, ![512, 512]⟩
abbrev S1x512x128 : Shape := ⟨3, ![1, 512, 128]⟩
abbrev S512x128 : Shape := ⟨2, ![512, 128]⟩
abbrev S1x1x1x512 : Shape := ⟨4, ![1, 1, 1, 512]⟩
abbrev S1x512 : Shape := ⟨2, ![1, 512]⟩
abbrev S32x512 : Shape := ⟨2, ![32, 512]⟩
abbrev S1x32x512 : Shape := ⟨3, ![1, 32, 512]⟩

abbrev nBuf : Space → Nat
  | .hbm => 126
  | .vmem => 34
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8192, .f32⟩
  | .hbm, ⟨10, _⟩ => ⟨S8x8192x64, .f32⟩
  | .hbm, ⟨11, _⟩ => ⟨S_, .f32⟩
  | .hbm, ⟨12, _⟩ => ⟨S_, .f32⟩
  | .hbm, ⟨13, _⟩ => ⟨S8x8192x64, .f32⟩
  | .hbm, ⟨14, _⟩ => ⟨S8x8192x64, .f32⟩
  | .hbm, ⟨15, _⟩ => ⟨S_, .f32⟩
  | .hbm, ⟨16, _⟩ => ⟨S8x8192x3, .f32⟩
  | .hbm, ⟨17, _⟩ => ⟨S_, .f32⟩
  | .hbm, ⟨18, _⟩ => ⟨S8x8192x61, .f32⟩
  | .hbm, ⟨19, _⟩ => ⟨S8x8192x128, .f32⟩
  | .hbm, ⟨20, _⟩ => ⟨S8x8192x128, .bf16⟩
  | .hbm, ⟨21, _⟩ => ⟨S8x8192, .f32⟩
  | .hbm, ⟨22, _⟩ => ⟨S8x8192, .f32⟩
  | .hbm, ⟨23, _⟩ => ⟨S8x8192x1, .f32⟩
  | .hbm, ⟨24, _⟩ => ⟨S8x8192x1, .bf16⟩
  | .hbm, ⟨25, _⟩ => ⟨S8x8192x1, .f32⟩
  | .hbm, ⟨26, _⟩ => ⟨S8x8192x1, .f32⟩
  | .hbm, ⟨27, _⟩ => ⟨S8x8192x1, .bf16⟩
  | .hbm, ⟨28, _⟩ => ⟨S8x8192x1, .f32⟩
  | .hbm, ⟨29, _⟩ => ⟨S8x8192x1, .f32⟩
  | .hbm, ⟨30, _⟩ => ⟨S8x8192x1, .f32⟩
  | .hbm, ⟨31, _⟩ => ⟨S8x8192x64, .f32⟩
  | .hbm, ⟨32, _⟩ => ⟨S_, .f32⟩
  | .hbm, ⟨33, _⟩ => ⟨S8x8192x1, .f32⟩
  | .hbm, ⟨34, _⟩ => ⟨S_, .f32⟩
  | .hbm, ⟨35, _⟩ => ⟨S8x8192x60, .f32⟩
  | .hbm, ⟨36, _⟩ => ⟨S8x8192x128, .f32⟩
  | .hbm, ⟨37, _⟩ => ⟨S8x8192x128, .bf16⟩
  | .hbm, ⟨38, _⟩ => ⟨S8x8192x64, .f32⟩
  | .hbm, ⟨39, _⟩ => ⟨S_, .f32⟩
  | .hbm, ⟨40, _⟩ => ⟨S8x8192x64, .f32⟩
  | .hbm, ⟨41, _⟩ => ⟨S8x8192x128, .f32⟩
  | .hbm, ⟨42, _⟩ => ⟨S8x8192x128, .bf16⟩
  | .hbm, ⟨43, _⟩ => ⟨S8x8192x64, .f32⟩
  | .hbm, ⟨44, _⟩ => ⟨S_, .f32⟩
  | .hbm, ⟨45, _⟩ => ⟨S8x8192x64, .f32⟩
  | .hbm, ⟨46, _⟩ => ⟨S8x8192x128, .f32⟩
  | .hbm, ⟨47, _⟩ => ⟨S8x8192x128, .bf16⟩
  | .hbm, ⟨48, _⟩ => ⟨S8x8192x8192, .f32⟩
  | .hbm, ⟨49, _⟩ => ⟨S_, .f32⟩
  | .hbm, ⟨50, _⟩ => ⟨S8x8192x8192, .f32⟩
  | .hbm, ⟨51, _⟩ => ⟨S8x8192x8192, .f32⟩
  | .hbm, ⟨52, _⟩ => ⟨S8x1x8192, .f32⟩
  | .hbm, ⟨53, _⟩ => ⟨S8x8192x8192, .f32⟩
  | .hbm, ⟨54, _⟩ => ⟨S8x8192x8192, .f32⟩
  | .hbm, ⟨55, _⟩ => ⟨S8192, .i32⟩
  | .hbm, ⟨56, _⟩ => ⟨S1x8192, .i32⟩
  | .hbm, ⟨57, _⟩ => ⟨S8192x1, .i32⟩
  | .hbm, ⟨58, _⟩ => ⟨S8192x8192, .i32⟩
  | .hbm, ⟨59, _⟩ => ⟨S8192x8192, .i32⟩
  | .hbm, ⟨60, _⟩ => ⟨S8192x8192, .i1⟩
  | .hbm, ⟨61, _⟩ => ⟨S_, .f32⟩
  | .hbm, ⟨62, _⟩ => ⟨S_, .f32⟩
  | .hbm, ⟨63, _⟩ => ⟨S8x8192x8192, .i1⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x1, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192, .f32⟩
  | .hbm, ⟨75, _⟩ => ⟨S8x8192, .f32⟩
  | .hbm, ⟨76, _⟩ => ⟨S8x8192x1, .f32⟩
  | .hbm, ⟨77, _⟩ => ⟨S8x8192x8192, .f32⟩
  | .hbm, ⟨78, _⟩ => ⟨S8x8192x8192, .f32⟩
  | .hbm, ⟨79, _⟩ => ⟨S8x8192x64, .f32⟩
  | .hbm, ⟨80, _⟩ => ⟨S8x8192x64, .f32⟩
  | .hbm, ⟨81, _⟩ => ⟨S8x8192x64, .f32⟩
  | .hbm, ⟨82, _⟩ => ⟨S_, .f32⟩
  | .hbm, ⟨83, _⟩ => ⟨S8x8192, .f32⟩
  | .hbm, ⟨84, _⟩ => ⟨S8x8192, .f32⟩
  | .hbm, ⟨85, _⟩ => ⟨S8x8192, .f32⟩
  | .hbm, ⟨86, _⟩ => ⟨S8x16x1x512, .f32⟩
  | .hbm, ⟨87, _⟩ => ⟨S8x16x1x512, .f32⟩
  | .hbm, ⟨88, _⟩ => ⟨S1x512x512, .i32⟩
  | .hbm, ⟨89, _⟩ => ⟨S1x512x512, .i32⟩
  | .hbm, ⟨90, _⟩ => ⟨S1x512x512, .i32⟩
  | .hbm, ⟨91, _⟩ => ⟨S_, .i32⟩
  | .hbm, ⟨92, _⟩ => ⟨S1x512x512, .i32⟩
  | .hbm, ⟨93, _⟩ => ⟨S1x512x512, .i32⟩
  | .hbm, ⟨94, _⟩ => ⟨S1x512x512, .i32⟩
  | .hbm, ⟨95, _⟩ => ⟨S1x512x512, .i32⟩
  | .hbm, ⟨96, _⟩ => ⟨S_, .i32⟩
  | .hbm, ⟨97, _⟩ => ⟨S1x512x512, .i32⟩
  | .hbm, ⟨98, _⟩ => ⟨S1x512x512, .i1⟩
  | .hbm, ⟨99, _⟩ => ⟨S_, .f32⟩
  | .hbm, ⟨100, _⟩ => ⟨S_, .f32⟩
  | .hbm, ⟨101, _⟩ => ⟨S1x512x512, .f32⟩
  | .hbm, ⟨102, _⟩ => ⟨S1x512x512, .f32⟩
  | .hbm, ⟨103, _⟩ => ⟨S1x512x512, .f32⟩
  | .hbm, ⟨104, _⟩ => ⟨S1x512x512, .f32⟩
  | .hbm, ⟨105, _⟩ => ⟨S8x8192x128, .f32⟩
  | .hbm, ⟨106, _⟩ => ⟨S8x8192x128, .f32⟩
  | .hbm, ⟨107, _⟩ => ⟨S8x8192x128, .bf16⟩
  | .hbm, ⟨108, _⟩ => ⟨S8x8192x64, .f32⟩
  | .hbm, ⟨109, _⟩ => ⟨S_, .f32⟩
  | .hbm, ⟨110, _⟩ => ⟨S8x8192x64, .f32⟩
  | .hbm, ⟨111, _⟩ => ⟨S8x8192x64, .f32⟩
  | .hbm, ⟨112, _⟩ => ⟨S8x8192x64, .f32⟩
  | .hbm, ⟨113, _⟩ => ⟨S8x8192x64, .f32⟩
  | .hbm, ⟨114, _⟩ => ⟨S8x8192x64, .f32⟩
  | .hbm, ⟨115, _⟩ => ⟨S8x8192x64, .bf16⟩
  | .hbm, ⟨116, _⟩ => ⟨S8x8192x64, .f32⟩
  | .hbm, ⟨117, _⟩ => ⟨S8x8192x1, .f32⟩
  | .hbm, ⟨118, _⟩ => ⟨S8x8192, .f32⟩
  | .hbm, ⟨119, _⟩ => ⟨S8x8192x1, .f32⟩
  | .hbm, ⟨120, _⟩ => ⟨S8x8192, .f32⟩
  | .hbm, ⟨121, _⟩ => ⟨S8x8192, .f32⟩
  | .hbm, ⟨122, _⟩ => ⟨S8192x8x64, .f32⟩
  | .hbm, ⟨123, _⟩ => ⟨S8192x8x64, .f32⟩
  | .hbm, ⟨124, _⟩ => ⟨S8192x8x64, .f32⟩
  | .hbm, ⟨125, _⟩ => ⟨S8192x8, .f32⟩
  | .local _ .vmem, ⟨0, _⟩ => ⟨S4x16x1x512, .f32⟩
  | .local _ .vmem, ⟨1, _⟩ => ⟨S4x16x1x512, .f32⟩
  | .local _ .vmem, ⟨2, _⟩ => ⟨S4x8192x128, .bf16⟩
  | .local _ .vmem, ⟨3, _⟩ => ⟨S4x8192x128, .bf16⟩
  | .local _ .vmem, ⟨4, _⟩ => ⟨S4x16x1x512, .f32⟩
  | .local _ .vmem, ⟨5, _⟩ => ⟨S4x16x1x512, .f32⟩
  | .local _ .vmem, ⟨6, _⟩ => ⟨S4x512x128, .bf16⟩
  | .local _ .vmem, ⟨7, _⟩ => ⟨S4x512x128, .bf16⟩
  | .local _ .vmem, ⟨8, _⟩ => ⟨S4x512x128, .bf16⟩
  | .local _ .vmem, ⟨9, _⟩ => ⟨S4x512x128, .bf16⟩
  | .local _ .vmem, ⟨10, _⟩ => ⟨S1x512x512, .f32⟩
  | .local _ .vmem, ⟨11, _⟩ => ⟨S4x512x128, .f32⟩
  | .local _ .vmem, ⟨12, _⟩ => ⟨S4x512x128, .f32⟩
  | .local _ .vmem, ⟨13, _⟩ => ⟨S4x512x128, .bf16⟩
  | .local _ .vmem, ⟨14, _⟩ => ⟨S4x512x128, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S4x8192x128, .f32⟩
  | .local _ .vmem, ⟨32, _⟩ => ⟨S4x512x128, .f32⟩
  | .local _ .vmem, ⟨33, _⟩ => ⟨S4x512x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_cst_15 : Ref sig .tc := ⟨.hbm, 100, rfl⟩
abbrev main_call1_v0 : Ref sig .tc := ⟨.hbm, 101, rfl⟩
abbrev main_call1_v1 : Ref sig .tc := ⟨.hbm, 102, rfl⟩
abbrev main_v75 : Ref sig .tc := ⟨.hbm, 103, rfl⟩
abbrev main_v76 : Ref sig .tc := ⟨.hbm, 104, rfl⟩
abbrev main_v77_0 : Ref sig .tc := ⟨.hbm, 105, rfl⟩
abbrev main_v77_1 : Ref sig .tc := ⟨.hbm, 106, rfl⟩
abbrev main_v77_2 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_scratch11 : Ref sig .tc := ⟨.vmem, 26, rfl⟩
abbrev cc0_scratch12 : Ref sig .tc := ⟨.vmem, 27, rfl⟩
abbrev cc0_scratch13 : Ref sig .tc := ⟨.vmem, 28, rfl⟩
abbrev cc0_scratch14 : Ref sig .tc := ⟨.vmem, 29, rfl⟩
abbrev cc0_scratch15 : Ref sig .tc := ⟨.vmem, 30, rfl⟩
abbrev cc0_scratch16 : Ref sig .tc := ⟨.vmem, 31, rfl⟩
abbrev cc0_scratch17 : Ref sig .tc := ⟨.vmem, 32, rfl⟩
abbrev cc0_scratch18 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 3 → Nat :=
  let c0_10 : Index := 0#32
  let arg1 : BitVec 32 := BitVec.ofNat 32 (i 1).val
  let c512_i32 : BitVec 32 := 512#32
  let v11 : BitVec 32 := Scalar.muli arg1 c512_i32
  let v12 : BitVec 32 := v11
  let v15 : Index := Scalar.indexCast v12
  let c0_11 : Index := 0#32
  ![0, v15.toNat, 0]
def k0_off2 (i : grid0.Coords) : Fin 3 → Nat :=
  let c1_25 : Index := 1#32
  let arg1 : BitVec 32 := BitVec.ofNat 32 (i 1).val
  let c512_i32 : BitVec 32 := 512#32
  let v11 : BitVec 32 := Scalar.muli arg1 c512_i32
  let v12 : BitVec 32 := v11
  let v33 : Index := Scalar.indexCast v12
  let c0_26 : Index := 0#32
  ![1, v33.toNat, 0]
def k0_off3 (i : grid0.Coords) : Fin 3 → Nat :=
  let c2_40 : Index := 2#32
  let arg1 : BitVec 32 := BitVec.ofNat 32 (i 1).val
  let c512_i32 : BitVec 32 := 512#32
  let v11 : BitVec 32 := Scalar.muli arg1 c512_i32
  let v12 : BitVec 32 := v11
  let v51 : Index := Scalar.indexCast v12
  let c0_41 : Index := 0#32
  ![2, v51.toNat, 0]
def k0_off4 (i : grid0.Coords) : Fin 3 → Nat :=
  let c3_55 : Index := 3#32
  let arg1 : BitVec 32 := BitVec.ofNat 32 (i 1).val
  let c512_i32 : BitVec 32 := 512#32
  let v11 : BitVec 32 := Scalar.muli arg1 c512_i32
  let v12 : BitVec 32 := v11
  let v69 : Index := Scalar.indexCast v12
  let c0_56 : Index := 0#32
  ![3, v69.toNat, 0]
def k0_off5 (i : grid0.Coords) : Fin 4 → Nat :=
  let c0_68 : Index := 0#32
  let arg1 : BitVec 32 := BitVec.ofNat 32 (i 1).val
  let v85 : Index := Scalar.indexCast arg1
  let c0_69 : Index := 0#32
  let c0_70 : Index := 0#32
  ![0, v85.toNat, 0, 0]
def k0_off6 (i : grid0.Coords) : Fin 4 → Nat :=
  let c1_267 : Index := 1#32
  let arg1 : BitVec 32 := BitVec.ofNat 32 (i 1).val
  let v429 : Index := Scalar.indexCast arg1
  let c0_268 : Index := 0#32
  let c0_269 : Index := 0#32
  ![1, v429.toNat, 0, 0]
def k0_off7 (i : grid0.Coords) : Fin 4 → Nat :=
  let c2_481 : Index := 2#32
  let arg1 : BitVec 32 := BitVec.ofNat 32 (i 1).val
  let v773 : Index := Scalar.indexCast arg1
  let c0_482 : Index := 0#32
  let c0_483 : Index := 0#32
  ![2, v773.toNat, 0, 0]
def k0_off8 (i : grid0.Coords) : Fin 4 → Nat :=
  let c3_695 : Index := 3#32
  let arg1 : BitVec 32 := BitVec.ofNat 32 (i 1).val
  let v1117 : Index := Scalar.indexCast arg1
  let c0_696 : Index := 0#32
  let c0_697 : Index := 0#32
  ![3, v1117.toNat, 0, 0]
@[reducible] def k0_t1_loop (i : grid0.Coords) : Scf.Loop 32 :=
  let c0_i32_913 : BitVec 32 := 0#32
  let c16_i32 : BitVec 32 := 16#32
  let arg1 : BitVec 32 := BitVec.ofNat 32 (i 1).val
  let c1_i32 : BitVec 32 := 1#32
  let v1461 : BitVec 32 := Scalar.addi arg1 c1_i32
  let v1462 : BitVec 32 := Scalar.subi c16_i32 v1461
  let c1_i32_909 : BitVec 32 := 1#32
  let c1_i32_910 : BitVec 32 := 1#32
  let v1463 : BitVec 32 := Scalar.subi c1_i32_909 c1_i32_910
  let v1464 : BitVec 32 := Scalar.addi v1462 v1463
  let c1_i32_911 : BitVec 32 := 1#32
  let v1465 : BitVec 32 := Scalar.divsi v1464 c1_i32_911
  let v1466 : BitVec 32 := Scalar.subi v1465 c0_i32_913
  let c1_i32_914 : BitVec 32 := 1#32
  let v1468 : BitVec 32 := Scalar.divsi v1466 c1_i32_914
  let v1469 : BitVec 32 := Scalar.muli v1468 c1_i32_914
  let v1470 : BitVec 32 := Scalar.addi c0_i32_913 v1469
  let c1_i32_915 : BitVec 32 := 1#32
  ⟨c0_i32_913, v1470, c1_i32_915⟩
def k0_mult2 (i : grid0.Coords) (k0_t1 : Fin (k0_t1_loop i).trips) : BitVec 32 :=
  let arg1 : BitVec 32 := BitVec.ofNat 32 (i 1).val
  let c1_i32 : BitVec 32 := 1#32
  let v1461 : BitVec 32 := Scalar.addi arg1 c1_i32
  let c0_i32_913 : BitVec 32 := 0#32
  let c1_i32_915 : BitVec 32 := 1#32
  let arg32 : BitVec 32 := Scf.iv c0_i32_913 c1_i32_915 k0_t1
  let c1_i32_912 : BitVec 32 := 1#32
  let v1479 : BitVec 32 := Scalar.muli arg32 c1_i32_912
  let v1480 : BitVec 32 := Scalar.addi v1461 v1479
  let c512_i32_930 : BitVec 32 := 512#32
  let v1481 : BitVec 32 := Scalar.muli v1480 c512_i32_930
  v1481
def k0_off9 (i : grid0.Coords) (k0_t1 : Fin (k0_t1_loop i).trips) : Fin 3 → Nat :=
  let c0_934 : Index := 0#32
  let arg1 : BitVec 32 := BitVec.ofNat 32 (i 1).val
  let c1_i32 : BitVec 32 := 1#32
  let v1461 : BitVec 32 := Scalar.addi arg1 c1_i32
  let c0_i32_913 : BitVec 32 := 0#32
  let c1_i32_915 : BitVec 32 := 1#32
  let arg32 : BitVec 32 := Scf.iv c0_i32_913 c1_i32_915 k0_t1
  let c1_i32_912 : BitVec 32 := 1#32
  let v1479 : BitVec 32 := Scalar.muli arg32 c1_i32_912
  let v1480 : BitVec 32 := Scalar.addi v1461 v1479
  let c512_i32_930 : BitVec 32 := 512#32
  let v1481 : BitVec 32 := Scalar.muli v1480 c512_i32_930
  let v1482 : BitVec 32 := v1481
  let v1485 : Index := Scalar.indexCast v1482
  let c0_935 : Index := 0#32
  ![0, v1485.toNat, 0]
def k0_off10 (i : grid0.Coords) (k0_t1 : Fin (k0_t1_loop i).trips) : Fin 3 → Nat :=
  let c1_950 : Index := 1#32
  let arg1 : BitVec 32 := BitVec.ofNat 32 (i 1).val
  let c1_i32 : BitVec 32 := 1#32
  let v1461 : BitVec 32 := Scalar.addi arg1 c1_i32
  let c0_i32_913 : BitVec 32 := 0#32
  let c1_i32_915 : BitVec 32 := 1#32
  let arg32 : BitVec 32 := Scf.iv c0_i32_913 c1_i32_915 k0_t1
  let c1_i32_912 : BitVec 32 := 1#32
  let v1479 : BitVec 32 := Scalar.muli arg32 c1_i32_912
  let v1480 : BitVec 32 := Scalar.addi v1461 v1479
  let c512_i32_930 : BitVec 32 := 512#32
  let v1481 : BitVec 32 := Scalar.muli v1480 c512_i32_930
  let v1482 : BitVec 32 := v1481
  let v1503 : Index := Scalar.indexCast v1482
  let c0_951 : Index := 0#32
  ![1, v1503.toNat, 0]
def k0_off11 (i : grid0.Coords) (k0_t1 : Fin (k0_t1_loop i).trips) : Fin 3 → Nat :=
  let c2_966 : Index := 2#32
  let arg1 : BitVec 32 := BitVec.ofNat 32 (i 1).val
  let c1_i32 : BitVec 32 := 1#32
  let v1461 : BitVec 32 := Scalar.addi arg1 c1_i32
  let c0_i32_913 : BitVec 32 := 0#32
  let c1_i32_915 : BitVec 32 := 1#32
  let arg32 : BitVec 32 := Scf.iv c0_i32_913 c1_i32_915 k0_t1
  let c1_i32_912 : BitVec 32 := 1#32
  let v1479 : BitVec 32 := Scalar.muli arg32 c1_i32_912
  let v1480 : BitVec 32 := Scalar.addi v1461 v1479
  let c512_i32_930 : BitVec 32 := 512#32
  let v1481 : BitVec 32 := Scalar.muli v1480 c512_i32_930
  let v1482 : BitVec 32 := v1481
  let v1521 : Index := Scalar.indexCast v1482
  let c0_967 : Index := 0#32
  ![2, v1521.toNat, 0]
def k0_off12 (i : grid0.Coords) (k0_t1 : Fin (k0_t1_loop i).trips) : Fin 3 → Nat :=
  let c3_982 : Index := 3#32
  let arg1 : BitVec 32 := BitVec.ofNat 32 (i 1).val
  let c1_i32 : BitVec 32 := 1#32
  let v1461 : BitVec 32 := Scalar.addi arg1 c1_i32
  let c0_i32_913 : BitVec 32 := 0#32
  let c1_i32_915 : BitVec 32 := 1#32
  let arg32 : BitVec 32 := Scf.iv c0_i32_913 c1_i32_915 k0_t1
  let c1_i32_912 : BitVec 32 := 1#32
  let v1479 : BitVec 32 := Scalar.muli arg32 c1_i32_912
  let v1480 : BitVec 32 := Scalar.addi v1461 v1479
  let c512_i32_930 : BitVec 32 := 512#32
  let v1481 : BitVec 32 := Scalar.muli v1480 c512_i32_930
  let v1482 : BitVec 32 := v1481
  let v1539 : Index := Scalar.indexCast v1482
  let c0_983 : Index := 0#32
  ![3, v1539.toNat, 0]
def k0_off13 (i : grid0.Coords) (k0_t1 : Fin (k0_t1_loop i).trips) : Fin 4 → Nat :=
  let c0_995 : Index := 0#32
  let arg1 : BitVec 32 := BitVec.ofNat 32 (i 1).val
  let c1_i32 : BitVec 32 := 1#32
  let v1461 : BitVec 32 := Scalar.addi arg1 c1_i32
  let c0_i32_913 : BitVec 32 := 0#32
  let c1_i32_915 : BitVec 32 := 1#32
  let arg32 : BitVec 32 := Scf.iv c0_i32_913 c1_i32_915 k0_t1
  let c1_i32_912 : BitVec 32 := 1#32
  let v1479 : BitVec 32 := Scalar.muli arg32 c1_i32_912
  let v1480 : BitVec 32 := Scalar.addi v1461 v1479
  let v1555 : Index := Scalar.indexCast v1480
  let c0_996 : Index := 0#32
  let c0_997 : Index := 0#32
  ![0, v1555.toNat, 0, 0]
def k0_off14 (i : grid0.Coords) (k0_t1 : Fin (k0_t1_loop i).trips) : Fin 4 → Nat :=
  let c1_1161 : Index := 1#32
  let arg1 : BitVec 32 := BitVec.ofNat 32 (i 1).val
  let c1_i32 : BitVec 32 := 1#32
  let v1461 : BitVec 32 := Scalar.addi arg1 c1_i32
  let c0_i32_913 : BitVec 32 := 0#32
  let c1_i32_915 : BitVec 32 := 1#32
  let arg32 : BitVec 32 := Scf.iv c0_i32_913 c1_i32_915 k0_t1
  let c1_i32_912 : BitVec 32 := 1#32
  let v1479 : BitVec 32 := Scalar.muli arg32 c1_i32_912
  let v1480 : BitVec 32 := Scalar.addi v1461 v1479
  let v1851 : Index := Scalar.indexCast v1480
  let c0_1162 : Index := 0#32
  let c0_1163 : Index := 0#32
  ![1, v1851.toNat, 0, 0]
def k0_off15 (i : grid0.Coords) (k0_t1 : Fin (k0_t1_loop i).trips) : Fin 4 → Nat :=
  let c2_1327 : Index := 2#32
  let arg1 : BitVec 32 := BitVec.ofNat 32 (i 1).val
  let c1_i32 : BitVec 32 := 1#32
  let v1461 : BitVec 32 := Scalar.addi arg1 c1_i32
  let c0_i32_913 : BitVec 32 := 0#32
  let c1_i32_915 : BitVec 32 := 1#32
  let arg32 : BitVec 32 := Scf.iv c0_i32_913 c1_i32_915 k0_t1
  let c1_i32_912 : BitVec 32 := 1#32
  let v1479 : BitVec 32 := Scalar.muli arg32 c1_i32_912
  let v1480 : BitVec 32 := Scalar.addi v1461 v1479
  let v2147 : Index := Scalar.indexCast v1480
  let c0_1328 : Index := 0#32
  let c0_1329 : Index := 0#32
  ![2, v2147.toNat, 0, 0]
def k0_off16 (i : grid0.Coords) (k0_t1 : Fin (k0_t1_loop i).trips) : Fin 4 → Nat :=
  let c3_1493 : Index := 3#32
  let arg1 : BitVec 32 := BitVec.ofNat 32 (i 1).val
  let c1_i32 : BitVec 32 := 1#32
  let v1461 : BitVec 32 := Scalar.addi arg1 c1_i32
  let c0_i32_913 : BitVec 32 := 0#32
  let c1_i32_915 : BitVec 32 := 1#32
  let arg32 : BitVec 32 := Scf.iv c0_i32_913 c1_i32_915 k0_t1
  let c1_i32_912 : BitVec 32 := 1#32
  let v1479 : BitVec 32 := Scalar.muli arg32 c1_i32_912
  let v1480 : BitVec 32 := Scalar.addi v1461 v1479
  let v2443 : Index := Scalar.indexCast v1480
  let c0_1494 : Index := 0#32
  let c0_1495 : Index := 0#32
  ![3, v2443.toNat, 0, 0]
@[reducible] def k0_t2_loop (i : grid0.Coords) : Scf.Loop 32 :=
  let c0_i32_913 : BitVec 32 := 0#32
  let c16_i32 : BitVec 32 := 16#32
  let arg1 : BitVec 32 := BitVec.ofNat 32 (i 1).val
  let c1_i32 : BitVec 32 := 1#32
  let v1461 : BitVec 32 := Scalar.addi arg1 c1_i32
  let v1462 : BitVec 32 := Scalar.subi c16_i32 v1461
  let c1_i32_909 : BitVec 32 := 1#32
  let c1_i32_910 : BitVec 32 := 1#32
  let v1463 : BitVec 32 := Scalar.subi c1_i32_909 c1_i32_910
  let v1464 : BitVec 32 := Scalar.addi v1462 v1463
  let c1_i32_911 : BitVec 32 := 1#32
  let v1465 : BitVec 32 := Scalar.divsi v1464 c1_i32_911
  let v1466 : BitVec 32 := Scalar.subi v1465 c0_i32_913
  let c1_i32_914 : BitVec 32 := 1#32
  let v1468 : BitVec 32 := Scalar.divsi v1466 c1_i32_914
  let v1469 : BitVec 32 := Scalar.muli v1468 c1_i32_914
  let v1470 : BitVec 32 := Scalar.addi c0_i32_913 v1469
  let v1467 : BitVec 32 := Scalar.addi c0_i32_913 v1466
  let c1_i32_916 : BitVec 32 := 1#32
  ⟨v1470, v1467, c1_i32_916⟩
def k0_mult3 (i : grid0.Coords) (k0_t2 : Fin (k0_t2_loop i).trips) : BitVec 32 :=
  let arg1 : BitVec 32 := BitVec.ofNat 32 (i 1).val
  let c1_i32 : BitVec 32 := 1#32
  let v1461 : BitVec 32 := Scalar.addi arg1 c1_i32
  let c0_i32_913 : BitVec 32 := 0#32
  let c16_i32 : BitVec 32 := 16#32
  let v1462 : BitVec 32 := Scalar.subi c16_i32 v1461
  let c1_i32_909 : BitVec 32 := 1#32
  let c1_i32_910 : BitVec 32 := 1#32
  let v1463 : BitVec 32 := Scalar.subi c1_i32_909 c1_i32_910
  let v1464 : BitVec 32 := Scalar.addi v1462 v1463
  let c1_i32_911 : BitVec 32 := 1#32
  let v1465 : BitVec 32 := Scalar.divsi v1464 c1_i32_911
  let v1466 : BitVec 32 := Scalar.subi v1465 c0_i32_913
  let c1_i32_914 : BitVec 32 := 1#32
  let v1468 : BitVec 32 := Scalar.divsi v1466 c1_i32_914
  let v1469 : BitVec 32 := Scalar.muli v1468 c1_i32_914
  let v1470 : BitVec 32 := Scalar.addi c0_i32_913 v1469
  let c1_i32_916 : BitVec 32 := 1#32
  let arg32 : BitVec 32 := Scf.iv v1470 c1_i32_916 k0_t2
  let c1_i32_912 : BitVec 32 := 1#32
  let v1479 : BitVec 32 := Scalar.muli arg32 c1_i32_912
  let v1480 : BitVec 32 := Scalar.addi v1461 v1479
  let c512_i32_930 : BitVec 32 := 512#32
  let v1481 : BitVec 32 := Scalar.muli v1480 c512_i32_930
  v1481
def k0_off17 (i : grid0.Coords) (k0_t2 : Fin (k0_t2_loop i).trips) : Fin 3 → Nat :=
  let c0_934 : Index := 0#32
  let arg1 : BitVec 32 := BitVec.ofNat 32 (i 1).val
  let c1_i32 : BitVec 32 := 1#32
  let v1461 : BitVec 32 := Scalar.addi arg1 c1_i32
  let c0_i32_913 : BitVec 32 := 0#32
  let c16_i32 : BitVec 32 := 16#32
  let v1462 : BitVec 32 := Scalar.subi c16_i32 v1461
  let c1_i32_909 : BitVec 32 := 1#32
  let c1_i32_910 : BitVec 32 := 1#32
  let v1463 : BitVec 32 := Scalar.subi c1_i32_909 c1_i32_910
  let v1464 : BitVec 32 := Scalar.addi v1462 v1463
  let c1_i32_911 : BitVec 32 := 1#32
  let v1465 : BitVec 32 := Scalar.divsi v1464 c1_i32_911
  let v1466 : BitVec 32 := Scalar.subi v1465 c0_i32_913
  let c1_i32_914 : BitVec 32 := 1#32
  let v1468 : BitVec 32 := Scalar.divsi v1466 c1_i32_914
  let v1469 : BitVec 32 := Scalar.muli v1468 c1_i32_914
  let v1470 : BitVec 32 := Scalar.addi c0_i32_913 v1469
  let c1_i32_916 : BitVec 32 := 1#32
  let arg32 : BitVec 32 := Scf.iv v1470 c1_i32_916 k0_t2
  let c1_i32_912 : BitVec 32 := 1#32
  let v1479 : BitVec 32 := Scalar.muli arg32 c1_i32_912
  let v1480 : BitVec 32 := Scalar.addi v1461 v1479
  let c512_i32_930 : BitVec 32 := 512#32
  let v1481 : BitVec 32 := Scalar.muli v1480 c512_i32_930
  let v1482 : BitVec 32 := v1481
  let v1485 : Index := Scalar.indexCast v1482
  let c0_935 : Index := 0#32
  ![0, v1485.toNat, 0]
def k0_off18 (i : grid0.Coords) (k0_t2 : Fin (k0_t2_loop i).trips) : Fin 3 → Nat :=
  let c1_950 : Index := 1#32
  let arg1 : BitVec 32 := BitVec.ofNat 32 (i 1).val
  let c1_i32 : BitVec 32 := 1#32
  let v1461 : BitVec 32 := Scalar.addi arg1 c1_i32
  let c0_i32_913 : BitVec 32 := 0#32
  let c16_i32 : BitVec 32 := 16#32
  let v1462 : BitVec 32 := Scalar.subi c16_i32 v1461
  let c1_i32_909 : BitVec 32 := 1#32
  let c1_i32_910 : BitVec 32 := 1#32
  let v1463 : BitVec 32 := Scalar.subi c1_i32_909 c1_i32_910
  let v1464 : BitVec 32 := Scalar.addi v1462 v1463
  let c1_i32_911 : BitVec 32 := 1#32
  let v1465 : BitVec 32 := Scalar.divsi v1464 c1_i32_911
  let v1466 : BitVec 32 := Scalar.subi v1465 c0_i32_913
  let c1_i32_914 : BitVec 32 := 1#32
  let v1468 : BitVec 32 := Scalar.divsi v1466 c1_i32_914
  let v1469 : BitVec 32 := Scalar.muli v1468 c1_i32_914
  let v1470 : BitVec 32 := Scalar.addi c0_i32_913 v1469
  let c1_i32_916 : BitVec 32 := 1#32
  let arg32 : BitVec 32 := Scf.iv v1470 c1_i32_916 k0_t2
  let c1_i32_912 : BitVec 32 := 1#32
  let v1479 : BitVec 32 := Scalar.muli arg32 c1_i32_912
  let v1480 : BitVec 32 := Scalar.addi v1461 v1479
  let c512_i32_930 : BitVec 32 := 512#32
  let v1481 : BitVec 32 := Scalar.muli v1480 c512_i32_930
  let v1482 : BitVec 32 := v1481
  let v1503 : Index := Scalar.indexCast v1482
  let c0_951 : Index := 0#32
  ![1, v1503.toNat, 0]
def k0_off19 (i : grid0.Coords) (k0_t2 : Fin (k0_t2_loop i).trips) : Fin 3 → Nat :=
  let c2_966 : Index := 2#32
  let arg1 : BitVec 32 := BitVec.ofNat 32 (i 1).val
  let c1_i32 : BitVec 32 := 1#32
  let v1461 : BitVec 32 := Scalar.addi arg1 c1_i32
  let c0_i32_913 : BitVec 32 := 0#32
  let c16_i32 : BitVec 32 := 16#32
  let v1462 : BitVec 32 := Scalar.subi c16_i32 v1461
  let c1_i32_909 : BitVec 32 := 1#32
  let c1_i32_910 : BitVec 32 := 1#32
  let v1463 : BitVec 32 := Scalar.subi c1_i32_909 c1_i32_910
  let v1464 : BitVec 32 := Scalar.addi v1462 v1463
  let c1_i32_911 : BitVec 32 := 1#32
  let v1465 : BitVec 32 := Scalar.divsi v1464 c1_i32_911
  let v1466 : BitVec 32 := Scalar.subi v1465 c0_i32_913
  let c1_i32_914 : BitVec 32 := 1#32
  let v1468 : BitVec 32 := Scalar.divsi v1466 c1_i32_914
  let v1469 : BitVec 32 := Scalar.muli v1468 c1_i32_914
  let v1470 : BitVec 32 := Scalar.addi c0_i32_913 v1469
  let c1_i32_916 : BitVec 32 := 1#32
  let arg32 : BitVec 32 := Scf.iv v1470 c1_i32_916 k0_t2
  let c1_i32_912 : BitVec 32 := 1#32
  let v1479 : BitVec 32 := Scalar.muli arg32 c1_i32_912
  let v1480 : BitVec 32 := Scalar.addi v1461 v1479
  let c512_i32_930 : BitVec 32 := 512#32
  let v1481 : BitVec 32 := Scalar.muli v1480 c512_i32_930
  let v1482 : BitVec 32 := v1481
  let v1521 : Index := Scalar.indexCast v1482
  let c0_967 : Index := 0#32
  ![2, v1521.toNat, 0]
def k0_off20 (i : grid0.Coords) (k0_t2 : Fin (k0_t2_loop i).trips) : Fin 3 → Nat :=
  let c3_982 : Index := 3#32
  let arg1 : BitVec 32 := BitVec.ofNat 32 (i 1).val
  let c1_i32 : BitVec 32 := 1#32
  let v1461 : BitVec 32 := Scalar.addi arg1 c1_i32
  let c0_i32_913 : BitVec 32 := 0#32
  let c16_i32 : BitVec 32 := 16#32
  let v1462 : BitVec 32 := Scalar.subi c16_i32 v1461
  let c1_i32_909 : BitVec 32 := 1#32
  let c1_i32_910 : BitVec 32 := 1#32
  let v1463 : BitVec 32 := Scalar.subi c1_i32_909 c1_i32_910
  let v1464 : BitVec 32 := Scalar.addi v1462 v1463
  let c1_i32_911 : BitVec 32 := 1#32
  let v1465 : BitVec 32 := Scalar.divsi v1464 c1_i32_911
  let v1466 : BitVec 32 := Scalar.subi v1465 c0_i32_913
  let c1_i32_914 : BitVec 32 := 1#32
  let v1468 : BitVec 32 := Scalar.divsi v1466 c1_i32_914
  let v1469 : BitVec 32 := Scalar.muli v1468 c1_i32_914
  let v1470 : BitVec 32 := Scalar.addi c0_i32_913 v1469
  let c1_i32_916 : BitVec 32 := 1#32
  let arg32 : BitVec 32 := Scf.iv v1470 c1_i32_916 k0_t2
  let c1_i32_912 : BitVec 32 := 1#32
  let v1479 : BitVec 32 := Scalar.muli arg32 c1_i32_912
  let v1480 : BitVec 32 := Scalar.addi v1461 v1479
  let c512_i32_930 : BitVec 32 := 512#32
  let v1481 : BitVec 32 := Scalar.muli v1480 c512_i32_930
  let v1482 : BitVec 32 := v1481
  let v1539 : Index := Scalar.indexCast v1482
  let c0_983 : Index := 0#32
  ![3, v1539.toNat, 0]
def k0_off21 (i : grid0.Coords) (k0_t2 : Fin (k0_t2_loop i).trips) : Fin 4 → Nat :=
  let c0_995 : Index := 0#32
  let arg1 : BitVec 32 := BitVec.ofNat 32 (i 1).val
  let c1_i32 : BitVec 32 := 1#32
  let v1461 : BitVec 32 := Scalar.addi arg1 c1_i32
  let c0_i32_913 : BitVec 32 := 0#32
  let c16_i32 : BitVec 32 := 16#32
  let v1462 : BitVec 32 := Scalar.subi c16_i32 v1461
  let c1_i32_909 : BitVec 32 := 1#32
  let c1_i32_910 : BitVec 32 := 1#32
  let v1463 : BitVec 32 := Scalar.subi c1_i32_909 c1_i32_910
  let v1464 : BitVec 32 := Scalar.addi v1462 v1463
  let c1_i32_911 : BitVec 32 := 1#32
  let v1465 : BitVec 32 := Scalar.divsi v1464 c1_i32_911
  let v1466 : BitVec 32 := Scalar.subi v1465 c0_i32_913
  let c1_i32_914 : BitVec 32 := 1#32
  let v1468 : BitVec 32 := Scalar.divsi v1466 c1_i32_914
  let v1469 : BitVec 32 := Scalar.muli v1468 c1_i32_914
  let v1470 : BitVec 32 := Scalar.addi c0_i32_913 v1469
  let c1_i32_916 : BitVec 32 := 1#32
  let arg32 : BitVec 32 := Scf.iv v1470 c1_i32_916 k0_t2
  let c1_i32_912 : BitVec 32 := 1#32
  let v1479 : BitVec 32 := Scalar.muli arg32 c1_i32_912
  let v1480 : BitVec 32 := Scalar.addi v1461 v1479
  let v1555 : Index := Scalar.indexCast v1480
  let c0_996 : Index := 0#32
  let c0_997 : Index := 0#32
  ![0, v1555.toNat, 0, 0]
def k0_off22 (i : grid0.Coords) (k0_t2 : Fin (k0_t2_loop i).trips) : Fin 4 → Nat :=
  let c1_1161 : Index := 1#32
  let arg1 : BitVec 32 := BitVec.ofNat 32 (i 1).val
  let c1_i32 : BitVec 32 := 1#32
  let v1461 : BitVec 32 := Scalar.addi arg1 c1_i32
  let c0_i32_913 : BitVec 32 := 0#32
  let c16_i32 : BitVec 32 := 16#32
  let v1462 : BitVec 32 := Scalar.subi c16_i32 v1461
  let c1_i32_909 : BitVec 32 := 1#32
  let c1_i32_910 : BitVec 32 := 1#32
  let v1463 : BitVec 32 := Scalar.subi c1_i32_909 c1_i32_910
  let v1464 : BitVec 32 := Scalar.addi v1462 v1463
  let c1_i32_911 : BitVec 32 := 1#32
  let v1465 : BitVec 32 := Scalar.divsi v1464 c1_i32_911
  let v1466 : BitVec 32 := Scalar.subi v1465 c0_i32_913
  let c1_i32_914 : BitVec 32 := 1#32
  let v1468 : BitVec 32 := Scalar.divsi v1466 c1_i32_914
  let v1469 : BitVec 32 := Scalar.muli v1468 c1_i32_914
  let v1470 : BitVec 32 := Scalar.addi c0_i32_913 v1469
  let c1_i32_916 : BitVec 32 := 1#32
  let arg32 : BitVec 32 := Scf.iv v1470 c1_i32_916 k0_t2
  let c1_i32_912 : BitVec 32 := 1#32
  let v1479 : BitVec 32 := Scalar.muli arg32 c1_i32_912
  let v1480 : BitVec 32 := Scalar.addi v1461 v1479
  let v1851 : Index := Scalar.indexCast v1480
  let c0_1162 : Index := 0#32
  let c0_1163 : Index := 0#32
  ![1, v1851.toNat, 0, 0]
def k0_off23 (i : grid0.Coords) (k0_t2 : Fin (k0_t2_loop i).trips) : Fin 4 → Nat :=
  let c2_1327 : Index := 2#32
  let arg1 : BitVec 32 := BitVec.ofNat 32 (i 1).val
  let c1_i32 : BitVec 32 := 1#32
  let v1461 : BitVec 32 := Scalar.addi arg1 c1_i32
  let c0_i32_913 : BitVec 32 := 0#32
  let c16_i32 : BitVec 32 := 16#32
  let v1462 : BitVec 32 := Scalar.subi c16_i32 v1461
  let c1_i32_909 : BitVec 32 := 1#32
  let c1_i32_910 : BitVec 32 := 1#32
  let v1463 : BitVec 32 := Scalar.subi c1_i32_909 c1_i32_910
  let v1464 : BitVec 32 := Scalar.addi v1462 v1463
  let c1_i32_911 : BitVec 32 := 1#32
  let v1465 : BitVec 32 := Scalar.divsi v1464 c1_i32_911
  let v1466 : BitVec 32 := Scalar.subi v1465 c0_i32_913
  let c1_i32_914 : BitVec 32 := 1#32
  let v1468 : BitVec 32 := Scalar.divsi v1466 c1_i32_914
  let v1469 : BitVec 32 := Scalar.muli v1468 c1_i32_914
  let v1470 : BitVec 32 := Scalar.addi c0_i32_913 v1469
  let c1_i32_916 : BitVec 32 := 1#32
  let arg32 : BitVec 32 := Scf.iv v1470 c1_i32_916 k0_t2
  let c1_i32_912 : BitVec 32 := 1#32
  let v1479 : BitVec 32 := Scalar.muli arg32 c1_i32_912
  let v1480 : BitVec 32 := Scalar.addi v1461 v1479
  let v2147 : Index := Scalar.indexCast v1480
  let c0_1328 : Index := 0#32
  let c0_1329 : Index := 0#32
  ![2, v2147.toNat, 0, 0]
def k0_off24 (i : grid0.Coords) (k0_t2 : Fin (k0_t2_loop i).trips) : Fin 4 → Nat :=
  let c3_1493 : Index := 3#32
  let arg1 : BitVec 32 := BitVec.ofNat 32 (i 1).val
  let c1_i32 : BitVec 32 := 1#32
  let v1461 : BitVec 32 := Scalar.addi arg1 c1_i32
  let c0_i32_913 : BitVec 32 := 0#32
  let c16_i32 : BitVec 32 := 16#32
  let v1462 : BitVec 32 := Scalar.subi c16_i32 v1461
  let c1_i32_909 : BitVec 32 := 1#32
  let c1_i32_910 : BitVec 32 := 1#32
  let v1463 : BitVec 32 := Scalar.subi c1_i32_909 c1_i32_910
  let v1464 : BitVec 32 := Scalar.addi v1462 v1463
  let c1_i32_911 : BitVec 32 := 1#32
  let v1465 : BitVec 32 := Scalar.divsi v1464 c1_i32_911
  let v1466 : BitVec 32 := Scalar.subi v1465 c0_i32_913
  let c1_i32_914 : BitVec 32 := 1#32
  let v1468 : BitVec 32 := Scalar.divsi v1466 c1_i32_914
  let v1469 : BitVec 32 := Scalar.muli v1468 c1_i32_914
  let v1470 : BitVec 32 := Scalar.addi c0_i32_913 v1469
  let c1_i32_916 : BitVec 32 := 1#32
  let arg32 : BitVec 32 := Scf.iv v1470 c1_i32_916 k0_t2
  let c1_i32_912 : BitVec 32 := 1#32
  let v1479 : BitVec 32 := Scalar.muli arg32 c1_i32_912
  let v1480 : BitVec 32 := Scalar.addi v1461 v1479
  let v2443 : Index := Scalar.indexCast v1480
  let c0_1494 : Index := 0#32
  let c0_1495 : Index := 0#32
  ![3, v2443.toNat, 0, 0]
def k0_cond2 (i : grid0.Coords) : BitVec 1 :=
  let arg1 : BitVec 32 := BitVec.ofNat 32 (i 1).val
  let c15_i32 : BitVec 32 := 15#32
  let v1476 : BitVec 1 := Scalar.cmpi .eq arg1 c15_i32
  let v1477 : BitVec 32 := Scalar.extui v1476
  let c0_i32_929 : BitVec 32 := 0#32
  let v1478 : BitVec 1 := Scalar.cmpi .ne v1477 c0_i32_929
  v1478

def k0_off25 (i : grid0.Coords) : Fin 3 → Nat :=
  let arg0 : BitVec 32 := BitVec.ofNat 32 (i 0).val
  let c4_i32 : BitVec 32 := 4#32
  let v1479 : BitVec 32 := Scalar.muli arg0 c4_i32
  let c0_i32_930 : BitVec 32 := 0#32
  let c0_i32_931 : BitVec 32 := 0#32
  ![v1479.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x16x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4x8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4x16x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x8x64 : Shape := ⟨3, ![8192, 8, 64]⟩
abbrev S8192x8 : Shape := ⟨2, ![8192, 8]⟩
abbrev S8x8192 : Shape := ⟨2, ![8, 8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 110
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S8x8192, .f32⟩
  | .hbm, ⟨6, _⟩ => ⟨S8x8192x8192, .f32⟩
  | .hbm, ⟨7, _⟩ => ⟨S_, .f32⟩
  | .hbm, ⟨8, _⟩ => ⟨S8x8192x8192, .f32⟩
  | .hbm, ⟨9, _⟩ => ⟨S8x8192x8192, .f32⟩
  | .hbm, ⟨10, _⟩ => ⟨S8x8192x1, .f32⟩
  | .hbm, ⟨11, _⟩ => ⟨S8x8192x8192, .f32⟩
  | .hbm, ⟨12, _⟩ => ⟨S8x8192x8192, .f32⟩
  | .hbm, ⟨13, _⟩ => ⟨S8x1x8192, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .i1⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S_, .f32⟩
  | .hbm, ⟨38, _⟩ => ⟨S8x8192, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S8x8192, .i1⟩
  | .hbm, ⟨43, _⟩ => ⟨S_, .f32⟩
  | .hbm, ⟨44, _⟩ => ⟨S8x8192, .f32⟩
  | .hbm, ⟨45, _⟩ => ⟨S8x8192, .i1⟩
  | .hbm, ⟨46, _⟩ => ⟨S_, .f32⟩
  | .hbm, ⟨47, _⟩ => ⟨S8x8192, .f32⟩
  | .hbm, ⟨48, _⟩ => ⟨S_, .f32⟩
  | .hbm, ⟨49, _⟩ => ⟨S8x8192, .f32⟩
  | .hbm, ⟨50, _⟩ => ⟨S_, .f32⟩
  | .hbm, ⟨51, _⟩ => ⟨S8x8192, .f32⟩
  | .hbm, ⟨52, _⟩ => ⟨S8x8192, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S8x8192x8192, .f32⟩
  | .hbm, ⟨62, _⟩ => ⟨S8x8192x8192, .f32⟩
  | .hbm, ⟨63, _⟩ => ⟨S8x8192x1, .f32⟩
  | .hbm, ⟨64, _⟩ => ⟨S_, .f32⟩
  | .hbm, ⟨65, _⟩ => ⟨S8x8192x1, .f32⟩
  | .hbm, ⟨66, _⟩ => ⟨S8x8192x1, .f32⟩
  | .hbm, ⟨67, _⟩ => ⟨S8x64x8192, .f32⟩
  | .hbm, ⟨68, _⟩ => ⟨S8192x8x64, .f32⟩
  | .hbm, ⟨69, _⟩ => ⟨S8x64x8192, .f32⟩
  | .hbm, ⟨70, _⟩ => ⟨S8x8192x8192, .f32⟩
  | .hbm, ⟨71, _⟩ => ⟨S8x64x8192, .f32⟩
  | .hbm, ⟨72, _⟩ => ⟨S8192x8x64, .f32⟩
  | .hbm, ⟨73, _⟩ => ⟨S8x8192x8192, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x1, .f32⟩
  | .hbm, ⟨79, _⟩ => ⟨S8x8192x1, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192, .f32⟩
  | .hbm, ⟨84, _⟩ => ⟨S8x8192x8192, .f32⟩
  | .hbm, ⟨85, _⟩ => ⟨S8x8192x8192, .f32⟩
  | .hbm, ⟨86, _⟩ => ⟨S8x8192x8192, .f32⟩
  | .hbm, ⟨87, _⟩ => ⟨S_, .f32⟩
  | .hbm, ⟨88, _⟩ => ⟨S8x8192x8192, .f32⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192, .f32⟩
  | .hbm, ⟨93, _⟩ => ⟨S8x1x8192, .f32⟩
  | .hbm, ⟨94, _⟩ => ⟨S_, .f32⟩
  | .hbm, ⟨95, _⟩ => ⟨S8x8192, .f32⟩
  | .hbm, ⟨96, _⟩ => ⟨S_, .f32⟩
  | .hbm, ⟨97, _⟩ => ⟨S8x8192, .f32⟩
  | .hbm, ⟨98, _⟩ => ⟨S8x8192x1, .f32⟩
  | .hbm, ⟨99, _⟩ => ⟨S_, .f32⟩
  | .hbm, ⟨100, _⟩ => ⟨S8x8192, .f32⟩
  | .hbm, ⟨101, _⟩ => ⟨S8x8192, .f32⟩
  | .hbm, ⟨102, _⟩ => ⟨S_, .f32⟩
  | .hbm, ⟨103, _⟩ => ⟨S8x8192x8192, .f32⟩
  | .hbm, ⟨104, _⟩ => ⟨S8x8192x8192, .f32⟩
  | .hbm, ⟨105, _⟩ => ⟨S8x8192x64, .f32⟩
  | .hbm, ⟨106, _⟩ => ⟨S8192x8x64, .f32⟩
  | .hbm, ⟨107, _⟩ => ⟨S8x8192x64, .f32⟩
  | .hbm, ⟨108, _⟩ => ⟨S8192x8x64, .f32⟩
  | .hbm, ⟨109, _⟩ => ⟨S8192x8, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_cst_17 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]
-- ==== Weights.lean ====
abbrev S8192x1024 : Shape := ⟨2, ![8192, 1024]⟩
abbrev S8192x4104 : Shape := ⟨2, ![8192, 4104]⟩
abbrev S8192x2048 : Shape := ⟨2, ![8192, 2048]⟩
abbrev S8192x4096 : Shape := ⟨2, ![8192, 4096]⟩
abbrev S8192x8 : Shape := ⟨2, ![8192, 8]⟩
abbrev S_ : Shape := ⟨0, ![]⟩
abbrev S8192x128 : Shape := ⟨2, ![8192, 128]⟩
abbrev S1024x4096 : Shape := ⟨2, ![1024, 4096]⟩
abbrev S1024x128 : Shape := ⟨2, ![1024, 128]⟩
abbrev S1024x1024 : Shape := ⟨2, ![1024, 1024]⟩
abbrev S1024x2048 : Shape := ⟨2, ![1024, 2048]⟩
abbrev S1024x8 : Shape := ⟨2, ![1024, 8]⟩
abbrev S1024x4104 : Shape := ⟨2, ![1024, 4104]⟩

abbrev nBuf : Space → Nat
  | .hbm => 18
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x4104, .f32⟩
  | .hbm, ⟨2, _⟩ => ⟨S8192x4104, .bf16⟩
  | .hbm, ⟨3, _⟩ => ⟨S8192x2048, .bf16⟩
  | .hbm, ⟨4, _⟩ => ⟨S8192x2048, .bf16⟩
  | .hbm, ⟨5, _⟩ => ⟨S8192x4096, .bf16⟩
  | .hbm, ⟨6, _⟩ => ⟨S8192x8, .bf16⟩
  | .hbm, ⟨7, _⟩ => ⟨S_, .i32⟩
  | .hbm, ⟨8, _⟩ => ⟨S_, .bf16⟩
  | .hbm, ⟨9, _⟩ => ⟨S8192x128, .bf16⟩
  | .hbm, ⟨10, _⟩ => ⟨S8192x1024, .bf16⟩
  | .hbm, ⟨11, _⟩ => ⟨S1024x4096, .bf16⟩
  | .hbm, ⟨12, _⟩ => ⟨S1024x128, .bf16⟩
  | .hbm, ⟨13, _⟩ => ⟨S1024x2048, .bf16⟩
  | .hbm, ⟨14, _⟩ => ⟨S1024x8, .bf16⟩
  | .hbm, ⟨15, _⟩ => ⟨S1024x2048, .bf16⟩
  | .hbm, ⟨16, _⟩ => ⟨S1024x4104, .bf16⟩
  | .hbm, ⟨17, _⟩ => ⟨S1024x4104, .f32⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1024x128, .bf16⟩
  | .local _ .vmem, ⟨5, _⟩ => ⟨S1024x128, .bf16⟩
  | .local _ .vmem, ⟨6, _⟩ => ⟨S1024x4096, .bf16⟩
  | .local _ .vmem, ⟨7, _⟩ => ⟨S1024x128, .bf16⟩
  | .local _ .vmem, ⟨8, _⟩ => ⟨S1024x4096, .f32⟩
  | .local _ .vmem, ⟨9, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== WeightsReferenceIdeal.lean ====
abbrev S8192x1024 : Shape := ⟨2, ![8192, 1024]⟩
abbrev S8192x4104 : Shape := ⟨2, ![8192, 4104]⟩
abbrev S_ : Shape := ⟨0, ![]⟩
abbrev S1024x4104 : Shape := ⟨2, ![1024, 4104]⟩
abbrev S4104x1024 : Shape := ⟨2, ![4104, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4104, .f32⟩
  | .hbm, ⟨2, _⟩ => ⟨S_, .f32⟩
  | .hbm, ⟨3, _⟩ => ⟨S1024x4104, .f32⟩
  | .hbm, ⟨4, _⟩ => ⟨S8192x4104, .f32⟩
  | .hbm, ⟨5, _⟩ => ⟨S4104x1024, .f32⟩
  | .hbm, ⟨6, _⟩ => ⟨S1024x4104, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1024x4104 : Shape := ⟨2, ![1024, 4104]⟩
abbrev S8192x4104 : Shape := ⟨2, ![8192, 4104]⟩
abbrev S8192x2048 : Shape := ⟨2, ![8192, 2048]⟩
abbrev S8192x4096 : Shape := ⟨2, ![8192, 4096]⟩
abbrev S8192x8 : Shape := ⟨2, ![8192, 8]⟩
abbrev S_ : Shape := ⟨0, ![]⟩
abbrev S8192x128 : Shape := ⟨2, ![8192, 128]⟩
abbrev S1024x2048 : Shape := ⟨2, ![1024, 2048]⟩
abbrev S1024x4096 : Shape := ⟨2, ![1024, 4096]⟩
abbrev S1024x8 : Shape := ⟨2, ![1024, 8]⟩
abbrev S1024x128 : Shape := ⟨2, ![1024, 128]⟩
abbrev S1x1024 : Shape := ⟨2, ![1, 1024]⟩
abbrev S256x4096 : Shape := ⟨2, ![256, 4096]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩

abbrev nBuf : Space → Nat
  | .hbm => 24
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4104, .f32⟩
  | .hbm, ⟨3, _⟩ => ⟨S8192x1024, .f32⟩
  | .hbm, ⟨4, _⟩ => ⟨S8192x4104, .f32⟩
  | .hbm, ⟨5, _⟩ => ⟨S8192x4104, .bf16⟩
  | .hbm, ⟨6, _⟩ => ⟨S8192x2048, .bf16⟩
  | .hbm, ⟨7, _⟩ => ⟨S8192x2048, .bf16⟩
  | .hbm, ⟨8, _⟩ => ⟨S8192x4096, .bf16⟩
  | .hbm, ⟨9, _⟩ => ⟨S8192x8, .bf16⟩
  | .hbm, ⟨10, _⟩ => ⟨S_, .i32⟩
  | .hbm, ⟨11, _⟩ => ⟨S_, .bf16⟩
  | .hbm, ⟨12, _⟩ => ⟨S8192x128, .bf16⟩
  | .hbm, ⟨13, _⟩ => ⟨S1024x4104, .bf16⟩
  | .hbm, ⟨14, _⟩ => ⟨S1024x2048, .bf16⟩
  | .hbm, ⟨15, _⟩ => ⟨S1024x2048, .bf16⟩
  | .hbm, ⟨16, _⟩ => ⟨S1024x4096, .bf16⟩
  | .hbm, ⟨17, _⟩ => ⟨S1024x8, .bf16⟩
  | .hbm, ⟨18, _⟩ => ⟨S_, .i32⟩
  | .hbm, ⟨19, _⟩ => ⟨S_, .bf16⟩
  | .hbm, ⟨20, _⟩ => ⟨S1024x128, .bf16⟩
  | .hbm, ⟨21, _⟩ => ⟨S1x1024, .f32⟩
  | .hbm, ⟨22, _⟩ => ⟨S8192x1024, .f32⟩
  | .hbm, ⟨23, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S256x128, .bf16⟩
  | .local _ .vmem, ⟨3, _⟩ => ⟨S256x128, .bf16⟩
  | .local _ .vmem, ⟨4, _⟩ => ⟨S1024x4096, .bf16⟩
  | .local _ .vmem, ⟨5, _⟩ => ⟨S1024x128, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormReferenceIdeal.lean ====
abbrev S8192x1024 : Shape := ⟨2, ![8192, 1024]⟩
abbrev S1024 : Shape := ⟨1, ![1024]⟩
abbrev S1024x4104 : Shape := ⟨2, ![1024, 4104]⟩
abbrev S8192x4104 : Shape := ⟨2, ![8192, 4104]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4104, .f32⟩
  | .hbm, ⟨3, _⟩ => ⟨S8192x1024, .f32⟩
  | .hbm, ⟨4, _⟩ => ⟨S8192x4104, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4104, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Square.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SquareReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Project.lean ====
abbrev S8192x1024 : Shape := ⟨2, ![8192, 1024]⟩
abbrev S1024 : Shape := ⟨1, ![1024]⟩
abbrev S1024x4104 : Shape := ⟨2, ![1024, 4104]⟩
abbrev S1024x2048 : Shape := ⟨2, ![1024, 2048]⟩
abbrev S1024x4096 : Shape := ⟨2, ![1024, 4096]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S8192x4096 : Shape := ⟨2, ![8192, 4096]⟩
abbrev S8192x128 : Shape := ⟨2, ![8192, 128]⟩
abbrev S256x1024 : Shape := ⟨2, ![256, 1024]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S8192x2048 : Shape := ⟨2, ![8192, 2048]⟩
abbrev S8192x8 : Shape := ⟨2, ![8192, 8]⟩
abbrev S8192x4104 : Shape := ⟨2, ![8192, 4104]⟩

abbrev nBuf : Space → Nat
  | .hbm => 21
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4104, .f32⟩
  | .hbm, ⟨3, _⟩ => ⟨S1024x4104, .bf16⟩
  | .hbm, ⟨4, _⟩ => ⟨S1024x2048, .bf16⟩
  | .hbm, ⟨5, _⟩ => ⟨S1024x2048, .bf16⟩
  | .hbm, ⟨6, _⟩ => ⟨S1024x4096, .bf16⟩
  | .hbm, ⟨7, _⟩ => ⟨S1024x8, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S1x1024, .f32⟩
  | .hbm, ⟨12, _⟩ => ⟨S8192x4096, .bf16⟩
  | .hbm, ⟨13, _⟩ => ⟨S8192x128, .f32⟩
  | .hbm, ⟨14, _⟩ => ⟨S8192x1024, .bf16⟩
  | .hbm, ⟨15, _⟩ => ⟨S8192x4096, .f32⟩
  | .hbm, ⟨16, _⟩ => ⟨S8192x2048, .f32⟩
  | .hbm, ⟨17, _⟩ => ⟨S8192x8, .f32⟩
  | .hbm, ⟨18, _⟩ => ⟨S8192x2048, .f32⟩
  | .hbm, ⟨19, _⟩ => ⟨S8192x4104, .f32⟩
  | .hbm, ⟨20, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .bf16⟩
  | .local _ .vmem, ⟨5, _⟩ => ⟨S256x4096, .bf16⟩
  | .local _ .vmem, ⟨6, _⟩ => ⟨S256x4096, .bf16⟩
  | .local _ .vmem, ⟨7, _⟩ => ⟨S256x128, .f32⟩
  | .local _ .vmem, ⟨8, _⟩ => ⟨S256x128, .f32⟩
  | .local _ .vmem, ⟨9, _⟩ => ⟨S256x1024, .bf16⟩
  | .local _ .vmem, ⟨10, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjectReferenceIdeal.lean ====
abbrev S8192x1024 : Shape := ⟨2, ![8192, 1024]⟩
abbrev S1024 : Shape := ⟨1, ![1024]⟩
abbrev S1024x4104 : Shape := ⟨2, ![1024, 4104]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4104 : Shape := ⟨2, ![8192, 4104]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4104, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4104, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Embed.lean ====
abbrev S2x1x8192x256 : Shape := ⟨4, ![2, 1, 8192, 256]⟩
abbrev S8192x1024 : Shape := ⟨2, ![8192, 1024]⟩
abbrev S256x1024 : Shape := ⟨2, ![256, 1024]⟩
abbrev S1x1x1024x256 : Shape := ⟨4, ![1, 1, 1024, 256]⟩
abbrev S1024x1024 : Shape := ⟨2, ![1024, 1024]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S2x1x8192x256, .f32⟩
  | .hbm, ⟨1, _⟩ => ⟨S8192x1024, .f32⟩
  | .hbm, ⟨2, _⟩ => ⟨S8192x1024, .bf16⟩
  | .hbm, ⟨3, _⟩ => ⟨S256x1024, .bf16⟩
  | .hbm, ⟨4, _⟩ => ⟨S256x1024, .f32⟩
  | .local _ .vmem, ⟨0, _⟩ => ⟨S1x1x1024x256, .f32⟩
  | .local _ .vmem, ⟨1, _⟩ => ⟨S1x1x1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S2x1x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_10 : BitVec 32 := 0#32
  let v16 : BitVec 1 := Scalar.cmpi .ne v15 c0_i32_10
  v16

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== EmbedReferenceIdeal.lean ====
abbrev S2x1x8192x256 : Shape := ⟨4, ![2, 1, 8192, 256]⟩
abbrev S8192x1024 : Shape := ⟨2, ![8192, 1024]⟩
abbrev S_ : Shape := ⟨0, ![]⟩
abbrev S256x1024 : Shape := ⟨2, ![256, 1024]⟩
abbrev S1x1x8192x256 : Shape := ⟨4, ![1, 1, 8192, 256]⟩
abbrev S8192x256 : Shape := ⟨2, ![8192, 256]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S2x1x8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S1x1x8192x256, .f32⟩
  | .hbm, ⟨5, _⟩ => ⟨S8192x256, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S2x1x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mid.lean ====
abbrev S8192x512 : Shape := ⟨2, ![8192, 512]⟩
abbrev S8192x4104 : Shape := ⟨2, ![8192, 4104]⟩
abbrev S8192x1024 : Shape := ⟨2, ![8192, 1024]⟩
abbrev S2x1x8192x256 : Shape := ⟨4, ![2, 1, 8192, 256]⟩
abbrev S1024x1024 : Shape := ⟨2, ![1024, 1024]⟩
abbrev S1024 : Shape := ⟨1, ![1024]⟩
abbrev S256x1024 : Shape := ⟨2, ![256, 1024]⟩
abbrev S8192x4x128 : Shape := ⟨3, ![8192, 4, 128]⟩
abbrev S4x8192x128 : Shape := ⟨3, ![4, 8192, 128]⟩
abbrev S8192x2048 : Shape := ⟨2, ![8192, 2048]⟩
abbrev S8192x4096 : Shape := ⟨2, ![8192, 4096]⟩
abbrev S8192x8 : Shape := ⟨2, ![8192, 8]⟩
abbrev S_ : Shape := ⟨0, ![]⟩
abbrev S8192x128 : Shape := ⟨2, ![8192, 128]⟩
abbrev S1x1024 : Shape := ⟨2, ![1, 1024]⟩
abbrev S4x256x128 : Shape := ⟨3, ![4, 256, 128]⟩
abbrev S256x512 : Shape := ⟨2, ![256, 512]⟩
abbrev S1x1x256x256 : Shape := ⟨4, ![1, 1, 256, 256]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x256 : Shape := ⟨2, ![256, 256]⟩

abbrev nBuf : Space → Nat
  | .hbm => 35
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x4104, .f32⟩
  | .hbm, ⟨3, _⟩ => ⟨S8192x1024, .f32⟩
  | .hbm, ⟨4, _⟩ => ⟨S2x1x8192x256, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S8192x4x128, .f32⟩
  | .hbm, ⟨10, _⟩ => ⟨S4x8192x128, .f32⟩
  | .hbm, ⟨11, _⟩ => ⟨S8192x4x128, .f32⟩
  | .hbm, ⟨12, _⟩ => ⟨S4x8192x128, .f32⟩
  | .hbm, ⟨13, _⟩ => ⟨S8192x4104, .bf16⟩
  | .hbm, ⟨14, _⟩ => ⟨S8192x2048, .bf16⟩
  | .hbm, ⟨15, _⟩ => ⟨S8192x2048, .bf16⟩
  | .hbm, ⟨16, _⟩ => ⟨S8192x4096, .bf16⟩
  | .hbm, ⟨17, _⟩ => ⟨S8192x8, .bf16⟩
  | .hbm, ⟨18, _⟩ => ⟨S_, .i32⟩
  | .hbm, ⟨19, _⟩ => ⟨S_, .bf16⟩
  | .hbm, ⟨20, _⟩ => ⟨S8192x128, .bf16⟩
  | .hbm, ⟨21, _⟩ => ⟨S1024x1024, .bf16⟩
  | .hbm, ⟨22, _⟩ => ⟨S1024x1024, .bf16⟩
  | .hbm, ⟨23, _⟩ => ⟨S256x1024, .bf16⟩
  | .hbm, ⟨24, _⟩ => ⟨S1x1024, .f32⟩
  | .hbm, ⟨25, _⟩ => ⟨S8192x1024, .bf16⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S8192x1024, .bf16⟩
  | .hbm, ⟨30, _⟩ => ⟨S8192x1024, .bf16⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .local _ .vmem, ⟨0, _⟩ => ⟨S4x256x128, .f32⟩
  | .local _ .vmem, ⟨1, _⟩ => ⟨S4x256x128, .f32⟩
  | .local _ .vmem, ⟨2, _⟩ => ⟨S4x256x128, .f32⟩
  | .local _ .vmem, ⟨3, _⟩ => ⟨S4x256x128, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .f32⟩
  | .local _ .vmem, ⟨9, _⟩ => ⟨S256x1024, .f32⟩
  | .local _ .vmem, ⟨10, _⟩ => ⟨S1x1x256x256, .f32⟩
  | .local _ .vmem, ⟨11, _⟩ => ⟨S1x1x256x256, .f32⟩
  | .local _ .vmem, ⟨12, _⟩ => ⟨S1024x1024, .bf16⟩
  | .local _ .vmem, ⟨13, _⟩ => ⟨S1024x1024, .bf16⟩
  | .local _ .vmem, ⟨14, _⟩ => ⟨S256x1024, .bf16⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MidReferenceIdeal.lean ====
abbrev S8192x512 : Shape := ⟨2, ![8192, 512]⟩
abbrev S8192x4104 : Shape := ⟨2, ![8192, 4104]⟩
abbrev S8192x1024 : Shape := ⟨2, ![8192, 1024]⟩
abbrev S2x1x8192x256 : Shape := ⟨4, ![2, 1, 8192, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1x8192x256 : Shape := ⟨4, ![1, 1, 8192, 256]⟩
abbrev S8192x256 : Shape := ⟨2, ![8192, 256]⟩

abbrev nBuf : Space → Nat
  | .hbm => 64
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x4104, .f32⟩
  | .hbm, ⟨3, _⟩ => ⟨S8192x1024, .f32⟩
  | .hbm, ⟨4, _⟩ => ⟨S2x1x8192x256, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S1x1x8192x256, .f32⟩
  | .hbm, ⟨60, _⟩ => ⟨S8192x256, .f32⟩
  | .hbm, ⟨61, _⟩ => ⟨S8192x1024, .f32⟩
  | .hbm, ⟨62, _⟩ => ⟨S8192x1024, .f32⟩
  | .hbm, ⟨63, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_v11 : Ref sig .tc := ⟨.hbm, 37, rfl⟩
abbrev main_cst_0 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_2 : Ref sig .tc := ⟨.hbm, 53, rfl⟩
abbrev main_v25 : Ref sig .tc := ⟨.hbm, 54, rfl⟩
abbrev main_v26 : Ref sig .tc := ⟨.hbm, 55, rfl⟩
abbrev main_cst_3 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩

abbrev nD : Nat := 1
abbrev τ : Topo := Topo.v7x

variable {F : FTy → Type} [FloatOps F]
-- ==== Proof.Steps.lean ====
/-
  The kernel's body, said as what it is: one STEP per pair of blocks, of four heads, each head's tile made in sixteen
  chunks of 32 rows. The printed body is this program by unfolding (`diag_eq`, `trip1_eq`, `trip2_eq`, in `Body`).
-/
module

public import proofs.«01_k».proof.Proof.Gen.KernelIdeal.Skeleton

@[expose] public section

set_option maxRecDepth 65536

noncomputable section

namespace Cert.KernelIdeal.Fox

open Cert.KernelIdeal Cert.KernelIdeal.Gen
open Idealize.ShloMosaic Idealize.SL.Sem

variable {F : FTy → Type} [FloatOps F]

abbrev PrU (F : FTy → Type) [FloatOps F] := Prog (TpuEff nD τ sig (Elt F) Λ₀ .tc) PUnit
abbrev RowInb (o : ℕ) : Prop := ∀ a, (![o, 0] : Fin 2 → ℕ) a + S32x512.size a ≤ S512x512.size a
abbrev TabInb (o : ℕ) : Prop := ∀ a, (![0, o, 0] : Fin 3 → ℕ) a + S1x32x512.size a ≤ S1x512x512.size a
abbrev HInb (o : Fin 3 → ℕ) : Prop := ∀ a, o a + S1x512x128.size a ≤ S4x512x128.size a
abbrev QInb (o : Fin 3 → ℕ) : Prop := ∀ a, o a + S1x512x128.size a ≤ S4x8192x128.size a
abbrev LInb (o : Fin 4 → ℕ) : Prop := ∀ a, o a + S1x1x1x512.size a ≤ S4x16x1x512.size a

/-! ## The values -/

/-- The product of a block of keys (or values) with a block of queries (or cotangents). -/
def prodP (a b : Vec F S1x512x128 .bf16) : FVec F S512x512 .f32 :=
  shapeCast S512x512 (matmul dot_S512x128_S512x128_S512x512_1_1_0_0_n_n none
    (shapeCast S512x128 a shapeCasts_S1x512x128_S512x128) (shapeCast S512x128 b shapeCasts_S1x512x128_S512x128)
    (constant S512x512 .f32 0x00000000#32)) shapeCasts_S512x512_S512x512
/-- A row of 512 numbers. -/
def rowV (v : Vec F S1x1x1x512 .f32) : FVec F S1x512 .f32 := shapeCast S1x512 v shapeCasts_S1x1x1x512_S1x512
/-- The weights of one chunk. -/
def expP (x : Vec F S32x512 .f32) (l : FVec F S1x512 .f32) : FVec F S32x512 .f32 :=
  exp2 (subf x (broadcastTo S32x512 l broadcasts_S1x512_S32x512))
def payP (x : Vec F S32x512 .f32) (l : FVec F S1x512 .f32) : FVec F S32x512 .bf16 :=
  shapeCast S32x512 (truncf .bf16 (expP x l) bitsLt_bf16_f32) shapeCasts_S32x512_S32x512
def payD (x : Vec F S32x512 .f32) (l d : FVec F S1x512 .f32) (g : Vec F S32x512 .f32) : FVec F S32x512 .bf16 :=
  shapeCast S32x512 (truncf .bf16 (mulf (expP x l) (subf g (broadcastTo S32x512 d broadcasts_S1x512_S32x512)))
    bitsLt_bf16_f32) shapeCasts_S32x512_S32x512
/-- A chunk of scores with the table's chunk added. -/
def tabbed (x : Vec F S32x512 .f32) (t : Vec F S1x32x512 .f32) : FVec F S32x512 .f32 :=
  addf x (shapeCast S32x512 t shapeCasts_S1x32x512_S32x512)
def acc10 (a : Vec F S1x512x128 .f32) (p : Vec F S512x512 .bf16) (o : Vec F S1x512x128 .bf16) : FVec F S1x512x128 .f32 :=
  shapeCast S1x512x128 (addf (shapeCast S512x128 a shapeCasts_S1x512x128_S512x128)
    (matmul dot_S512x512_S512x128_S512x128_1_0_0_1_n_n none p (shapeCast S512x128 o shapeCasts_S1x512x128_S512x128)
      (constant S512x128 .f32 0x00000000#32))) shapeCasts_S512x128_S1x512x128
def acc00 (a : Vec F S1x512x128 .f32) (p : Vec F S512x512 .bf16) (o : Vec F S1x512x128 .bf16) : FVec F S1x512x128 .f32 :=
  shapeCast S1x512x128 (addf (shapeCast S512x128 a shapeCasts_S1x512x128_S512x128)
    (matmul dot_S512x512_S512x128_S512x128_0_0_1_1_n_n none p (shapeCast S512x128 o shapeCasts_S1x512x128_S512x128)
      (constant S512x128 .f32 0x00000000#32))) shapeCasts_S512x128_S1x512x128

/-! ## The program -/

def prod (k : Memref sig .tc .vmem S4x512x128 .bf16) (q : Memref sig .tc .vmem S4x8192x128 .bf16)
    (st : Memref sig .tc .vmem S512x512 .f32) (oH : Fin 3 → ℕ) (hH : HInb oH) (oQ : Fin 3 → ℕ) (hQ : QInb oQ) : PrU F := do
  let a : Vec F S1x512x128 .bf16 ← Prog.lift (.load k (Rect.unit (s := S4x512x128) oH S1x512x128.size hH).toLoadRect (View.loadsAt_vmem h_S1x512x128))
  let b : Vec F S1x512x128 .bf16 ← Prog.lift (.load q (Rect.unit (s := S4x8192x128) oQ S1x512x128.size hQ).toLoadRect (View.loadsAt_vmem h_S1x512x128))
  let _ : Vec F S512x512 .f32 ← Prog.lift (.load st (Rect.unit (s := S512x512) ![0, 0] S512x512.size inb_S512x512_S512x512_0_0).toLoadRect (View.loadsAt_vmem h_S512x512))
  Prog.lift (.store st (Rect.unit (s := S512x512) ![0, 0] S512x512.size inb_S512x512_S512x512_0_0) (prodP a b) Finset.univ (View.stores_vmem_bits_univ h_S512x512 rfl) (.inl rfl))

def chunk (st dpt : Memref sig .tc .vmem S512x512 .f32) (pt : Memref sig .tc .vmem S512x512 .bf16) (hpt : pt.IsWhole)
    (dst : Memref sig .tc .vmem S512x512 .bf16) (hdst : dst.IsWhole) (o : ℕ) (ho : RowInb o)
    (pk : (Rect.unit (s := S512x512) ![o, 0] S32x512.size ho).PackedRows (EltTy.packing .bf16)) (l d : FVec F S1x512 .f32) : PrU F := do
  let x : Vec F S32x512 .f32 ← Prog.lift (.load st (Rect.unit (s := S512x512) ![o, 0] S32x512.size ho).toLoadRect (View.loadsAt_vmem h_S32x512))
  let _ : Vec F S32x512 .bf16 ← Prog.lift (.load pt (Rect.unit (s := S512x512) ![o, 0] S32x512.size ho).toLoadRect (View.loadsAt_vmem h_S32x512))
  Prog.lift (.store pt (Rect.unit (s := S512x512) ![o, 0] S32x512.size ho) (payP x l) Finset.univ (View.stores_vmem h_S32x512 (hpt.storeExact_slice rfl _ pk) (fun _ => rfl)) (.inl rfl))
  let g : Vec F S32x512 .f32 ← Prog.lift (.load dpt (Rect.unit (s := S512x512) ![o, 0] S32x512.size ho).toLoadRect (View.loadsAt_vmem h_S32x512))
  let _ : Vec F S32x512 .bf16 ← Prog.lift (.load dst (Rect.unit (s := S512x512) ![o, 0] S32x512.size ho).toLoadRect (View.loadsAt_vmem h_S32x512))
  Prog.lift (.store dst (Rect.unit (s := S512x512) ![o, 0] S32x512.size ho) (payD x l d g) Finset.univ (View.stores_vmem h_S32x512 (hdst.storeExact_slice rfl _ pk) (fun _ => rfl)) (.inl rfl))

def chunkT (tab : Memref sig .tc .vmem S1x512x512 .f32) (st dpt : Memref sig .tc .vmem S512x512 .f32) (pt : Memref sig .tc .vmem S512x512 .bf16) (hpt : pt.IsWhole)
    (dst : Memref sig .tc .vmem S512x512 .bf16) (hdst : dst.IsWhole) (o : ℕ) (ho : RowInb o) (hT : TabInb o)
    (pk : (Rect.unit (s := S512x512) ![o, 0] S32x512.size ho).PackedRows (EltTy.packing .bf16)) (l d : FVec F S1x512 .f32) : PrU F := do
  let x : Vec F S32x512 .f32 ← Prog.lift (.load st (Rect.unit (s := S512x512) ![o, 0] S32x512.size ho).toLoadRect (View.loadsAt_vmem h_S32x512))
  let t : Vec F S1x32x512 .f32 ← Prog.lift (.load tab (Rect.unit (s := S1x512x512) ![0, o, 0] S1x32x512.size hT).toLoadRect (View.loadsAt_vmem h_S1x32x512))
  let _ : Vec F S32x512 .bf16 ← Prog.lift (.load pt (Rect.unit (s := S512x512) ![o, 0] S32x512.size ho).toLoadRect (View.loadsAt_vmem h_S32x512))
  Prog.lift (.store pt (Rect.unit (s := S512x512) ![o, 0] S32x512.size ho) (payP (tabbed x t) l) Finset.univ (View.stores_vmem h_S32x512 (hpt.storeExact_slice rfl _ pk) (fun _ => rfl)) (.inl rfl))
  let g : Vec F S32x512 .f32 ← Prog.lift (.load dpt (Rect.unit (s := S512x512) ![o, 0] S32x512.size ho).toLoadRect (View.loadsAt_vmem h_S32x512))
  let _ : Vec F S32x512 .bf16 ← Prog.lift (.load dst (Rect.unit (s := S512x512) ![o, 0] S32x512.size ho).toLoadRect (View.loadsAt_vmem h_S32x512))
  Prog.lift (.store dst (Rect.unit (s := S512x512) ![o, 0] S32x512.size ho) (payD (tabbed x t) l d g) Finset.univ (View.stores_vmem h_S32x512 (hdst.storeExact_slice rfl _ pk) (fun _ => rfl)) (.inl rfl))

def chunks (st dpt : Memref sig .tc .vmem S512x512 .f32) (pt : Memref sig .tc .vmem S512x512 .bf16) (hpt : pt.IsWhole)
    (dst : Memref sig .tc .vmem S512x512 .bf16) (hdst : dst.IsWhole) (l d : FVec F S1x512 .f32) : PrU F := do
  chunk st dpt pt hpt dst hdst 0 inb_S512x512_S32x512_0_0 packedbf16_S512x512_S32x512_0_0 l d
  chunk st dpt pt hpt dst hdst 32 inb_S512x512_S32x512_32_0 packedbf16_S512x512_S32x512_32_0 l d
  chunk st dpt pt hpt dst hdst 64 inb_S512x512_S32x512_64_0 packedbf16_S512x512_S32x512_64_0 l d
  chunk st dpt pt hpt dst hdst 96 inb_S512x512_S32x512_96_0 packedbf16_S512x512_S32x512_96_0 l d
  chunk st dpt pt hpt dst hdst 128 inb_S512x512_S32x512_128_0 packedbf16_S512x512_S32x512_128_0 l d
  chunk st dpt pt hpt dst hdst 160 inb_S512x512_S32x512_160_0 packedbf16_S512x512_S32x512_160_0 l d
  chunk st dpt pt hpt dst hdst 192 inb_S512x512_S32x512_192_0 packedbf16_S512x512_S32x512_192_0 l d
  chunk st dpt pt hpt dst hdst 224 inb_S512x512_S32x512_224_0 packedbf16_S512x512_S32x512_224_0 l d
  chunk st dpt pt hpt dst hdst 256 inb_S512x512_S32x512_256_0 packedbf16_S512x512_S32x512_256_0 l d
  chunk st dpt pt hpt dst hdst 288 inb_S512x512_S32x512_288_0 packedbf16_S512x512_S32x512_288_0 l d
  chunk st dpt pt hpt dst hdst 320 inb_S512x512_S32x512_320_0 packedbf16_S512x512_S32x512_320_0 l d
  chunk st dpt pt hpt dst hdst 352 inb_S512x512_S32x512_352_0 packedbf16_S512x512_S32x512_352_0 l d
  chunk st dpt pt hpt dst hdst 384 inb_S512x512_S32x512_384_0 packedbf16_S512x512_S32x512_384_0 l d
  chunk st dpt pt hpt dst hdst 416 inb_S512x512_S32x512_416_0 packedbf16_S512x512_S32x512_416_0 l d
  chunk st dpt pt hpt dst hdst 448 inb_S512x512_S32x512_448_0 packedbf16_S512x512_S32x512_448_0 l d
  chunk st dpt pt hpt dst hdst 480 inb_S512x512_S32x512_480_0 packedbf16_S512x512_S32x512_480_0 l d

def chunksT (tab : Memref sig .tc .vmem S1x512x512 .f32) (st dpt : Memref sig .tc .vmem S512x512 .f32) (pt : Memref sig .tc .vmem S512x512 .bf16) (hpt : pt.IsWhole)
    (dst : Memref sig .tc .vmem S512x512 .bf16) (hdst : dst.IsWhole) (l d : FVec F S1x512 .f32) : PrU F := do
  chunkT tab st dpt pt hpt dst hdst 0 inb_S512x512_S32x512_0_0 inb_S1x512x512_S1x32x512_0_0_0 packedbf16_S512x512_S32x512_0_0 l d
  chunkT tab st dpt pt hpt dst hdst 32 inb_S512x512_S32x512_32_0 inb_S1x512x512_S1x32x512_0_32_0 packedbf16_S512x512_S32x512_32_0 l d
  chunkT tab st dpt pt hpt dst hdst 64 inb_S512x512_S32x512_64_0 inb_S1x512x512_S1x32x512_0_64_0 packedbf16_S512x512_S32x512_64_0 l d
  chunkT tab st dpt pt hpt dst hdst 96 inb_S512x512_S32x512_96_0 inb_S1x512x512_S1x32x512_0_96_0 packedbf16_S512x512_S32x512_96_0 l d
  chunkT tab st dpt pt hpt dst hdst 128 inb_S512x512_S32x512_128_0 inb_S1x512x512_S1x32x512_0_128_0 packedbf16_S512x512_S32x512_128_0 l d
  chunkT tab st dpt pt hpt dst hdst 160 inb_S512x512_S32x512_160_0 inb_S1x512x512_S1x32x512_0_160_0 packedbf16_S512x512_S32x512_160_0 l d
  chunkT tab st dpt pt hpt dst hdst 192 inb_S512x512_S32x512_192_0 inb_S1x512x512_S1x32x512_0_192_0 packedbf16_S512x512_S32x512_192_0 l d
  chunkT tab st dpt pt hpt dst hdst 224 inb_S512x512_S32x512_224_0 inb_S1x512x512_S1x32x512_0_224_0 packedbf16_S512x512_S32x512_224_0 l d
  chunkT tab st dpt pt hpt dst hdst 256 inb_S512x512_S32x512_256_0 inb_S1x512x512_S1x32x512_0_256_0 packedbf16_S512x512_S32x512_256_0 l d
  chunkT tab st dpt pt hpt dst hdst 288 inb_S512x512_S32x512_288_0 inb_S1x512x512_S1x32x512_0_288_0 packedbf16_S512x512_S32x512_288_0 l d
  chunkT tab st dpt pt hpt dst hdst 320 inb_S512x512_S32x512_320_0 inb_S1x512x512_S1x32x512_0_320_0 packedbf16_S512x512_S32x512_320_0 l d
  chunkT tab st dpt pt hpt dst hdst 352 inb_S512x512_S32x512_352_0 inb_S1x512x512_S1x32x512_0_352_0 packedbf16_S512x512_S32x512_352_0 l d
  chunkT tab st dpt pt hpt dst hdst 384 inb_S512x512_S32x512_384_0 inb_S1x512x512_S1x32x512_0_384_0 packedbf16_S512x512_S32x512_384_0 l d
  chunkT tab st dpt pt hpt dst hdst 416 inb_S512x512_S32x512_416_0 inb_S1x512x512_S1x32x512_0_416_0 packedbf16_S512x512_S32x512_416_0 l d
  chunkT tab st dpt pt hpt dst hdst 448 inb_S512x512_S32x512_448_0 inb_S1x512x512_S1x32x512_0_448_0 packedbf16_S512x512_S32x512_448_0 l d
  chunkT tab st dpt pt hpt dst hdst 480 inb_S512x512_S32x512_480_0 inb_S1x512x512_S1x32x512_0_480_0 packedbf16_S512x512_S32x512_480_0 l d

/-- The three products a head's tile ends with, each added to what its accumulator holds. -/
def tail (q od : Memref sig .tc .vmem S4x8192x128 .bf16) (k : Memref sig .tc .vmem S4x512x128 .bf16)
    (pt dst : Memref sig .tc .vmem S512x512 .bf16) (dq : Memref sig .tc .vmem S4x8192x128 .f32) (dk dv : Memref sig .tc .vmem S4x512x128 .f32)
    (oH : Fin 3 → ℕ) (hH : HInb oH) (oQ : Fin 3 → ℕ) (hQ : QInb oQ) : PrU F := do
  let a : Vec F S1x512x128 .f32 ← Prog.lift (.load dv (Rect.unit (s := S4x512x128) oH S1x512x128.size hH).toLoadRect (View.loadsAt_vmem h_S1x512x128))
  let p : Vec F S512x512 .bf16 ← Prog.lift (.load pt (Rect.unit (s := S512x512) ![0, 0] S512x512.size inb_S512x512_S512x512_0_0).toLoadRect (View.loadsAt_vmem h_S512x512))
  let b : Vec F S1x512x128 .bf16 ← Prog.lift (.load od (Rect.unit (s := S4x8192x128) oQ S1x512x128.size hQ).toLoadRect (View.loadsAt_vmem h_S1x512x128))
  let _ : Vec F S1x512x128 .f32 ← Prog.lift (.load dv (Rect.unit (s := S4x512x128) oH S1x512x128.size hH).toLoadRect (View.loadsAt_vmem h_S1x512x128))
  Prog.lift (.store dv (Rect.unit (s := S4x512x128) oH S1x512x128.size hH) (acc10 a p b) Finset.univ (View.stores_vmem_bits_univ h_S1x512x128 rfl) (.inl rfl))
  let a : Vec F S1x512x128 .f32 ← Prog.lift (.load dk (Rect.unit (s := S4x512x128) oH S1x512x128.size hH).toLoadRect (View.loadsAt_vmem h_S1x512x128))
  let p : Vec F S512x512 .bf16 ← Prog.lift (.load dst (Rect.unit (s := S512x512) ![0, 0] S512x512.size inb_S512x512_S512x512_0_0).toLoadRect (View.loadsAt_vmem h_S512x512))
  let b : Vec F S1x512x128 .bf16 ← Prog.lift (.load q (Rect.unit (s := S4x8192x128) oQ S1x512x128.size hQ).toLoadRect (View.loadsAt_vmem h_S1x512x128))
  let _ : Vec F S1x512x128 .f32 ← Prog.lift (.load dk (Rect.unit (s := S4x512x128) oH S1x512x128.size hH).toLoadRect (View.loadsAt_vmem h_S1x512x128))
  Prog.lift (.store dk (Rect.unit (s := S4x512x128) oH S1x512x128.size hH) (acc10 a p b) Finset.univ (View.stores_vmem_bits_univ h_S1x512x128 rfl) (.inl rfl))
  let a : Vec F S1x512x128 .f32 ← Prog.lift (.load dq (Rect.unit (s := S4x8192x128) oQ S1x512x128.size hQ).toLoadRect (View.loadsAt_vmem h_S1x512x128))
  let p : Vec F S512x512 .bf16 ← Prog.lift (.load dst (Rect.unit (s := S512x512) ![0, 0] S512x512.size inb_S512x512_S512x512_0_0).toLoadRect (View.loadsAt_vmem h_S512x512))
  let b : Vec F S1x512x128 .bf16 ← Prog.lift (.load k (Rect.unit (s := S4x512x128) oH S1x512x128.size hH).toLoadRect (View.loadsAt_vmem h_S1x512x128))
  let _ : Vec F S1x512x128 .f32 ← Prog.lift (.load dq (Rect.unit (s := S4x8192x128) oQ S1x512x128.size hQ).toLoadRect (View.loadsAt_vmem h_S1x512x128))
  Prog.lift (.store dq (Rect.unit (s := S4x8192x128) oQ S1x512x128.size hQ) (acc00 a p b) Finset.univ (View.stores_vmem_bits_univ h_S1x512x128 rfl) (.inl rfl))

def head (lse dd : Memref sig .tc .vmem S4x16x1x512 .f32) (q od : Memref sig .tc .vmem S4x8192x128 .bf16) (k : Memref sig .tc .vmem S4x512x128 .bf16)
    (st dpt : Memref sig .tc .vmem S512x512 .f32) (pt : Memref sig .tc .vmem S512x512 .bf16) (hpt : pt.IsWhole)
    (dst : Memref sig .tc .vmem S512x512 .bf16) (hdst : dst.IsWhole) (dq : Memref sig .tc .vmem S4x8192x128 .f32) (dk dv : Memref sig .tc .vmem S4x512x128 .f32)
    (oH : Fin 3 → ℕ) (hH : HInb oH) (oQ : Fin 3 → ℕ) (hQ : QInb oQ) (oL : Fin 4 → ℕ) (hL : LInb oL) : PrU F := do
  let l : Vec F S1x1x1x512 .f32 ← Prog.lift (.load lse (Rect.unit (s := S4x16x1x512) oL S1x1x1x512.size hL).toLoadRect (View.loadsAt_vmem h_S1x1x1x512))
  let d : Vec F S1x1x1x512 .f32 ← Prog.lift (.load dd (Rect.unit (s := S4x16x1x512) oL S1x1x1x512.size hL).toLoadRect (View.loadsAt_vmem h_S1x1x1x512))
  chunks st dpt pt hpt dst hdst (rowV l) (rowV d)
  tail q od k pt dst dq dk dv oH hH oQ hQ

def headT (tab : Memref sig .tc .vmem S1x512x512 .f32) (lse dd : Memref sig .tc .vmem S4x16x1x512 .f32) (q od : Memref sig .tc .vmem S4x8192x128 .bf16) (k : Memref sig .tc .vmem S4x512x128 .bf16)
    (st dpt : Memref sig .tc .vmem S512x512 .f32) (pt : Memref sig .tc .vmem S512x512 .bf16) (hpt : pt.IsWhole)
    (dst : Memref sig .tc .vmem S512x512 .bf16) (hdst : dst.IsWhole) (dq : Memref sig .tc .vmem S4x8192x128 .f32) (dk dv : Memref sig .tc .vmem S4x512x128 .f32)
    (oH : Fin 3 → ℕ) (hH : HInb oH) (oQ : Fin 3 → ℕ) (hQ : QInb oQ) (oL : Fin 4 → ℕ) (hL : LInb oL) : PrU F := do
  let l : Vec F S1x1x1x512 .f32 ← Prog.lift (.load lse (Rect.unit (s := S4x16x1x512) oL S1x1x1x512.size hL).toLoadRect (View.loadsAt_vmem h_S1x1x1x512))
  let d : Vec F S1x1x1x512 .f32 ← Prog.lift (.load dd (Rect.unit (s := S4x16x1x512) oL S1x1x1x512.size hL).toLoadRect (View.loadsAt_vmem h_S1x1x1x512))
  chunksT tab st dpt pt hpt dst hdst (rowV l) (rowV d)
  tail q od k pt dst dq dk dv oH hH oQ hQ

section Step
variable (i : grid0.Coords) (arg2 : Memref sig .tc .vmem S4x16x1x512 .f32) (harg2 : arg2.IsWhole) (arg3 : Memref sig .tc .vmem S4x8192x128 .bf16) (harg3 : arg3.IsWhole) (arg4 : Memref sig .tc .vmem S4x8192x128 .bf16) (harg4 : arg4.IsWhole) (arg5 : Memref sig .tc .vmem S4x16x1x512 .f32) (harg5 : arg5.IsWhole) (arg6 : Memref sig .tc .vmem S4x512x128 .bf16) (harg6 : arg6.IsWhole) (arg7 : Memref sig .tc .vmem S4x512x128 .bf16) (harg7 : arg7.IsWhole) (arg8 : Memref sig .tc .vmem S1x512x512 .f32) (harg8 : arg8.IsWhole) (arg9 : Memref sig .tc .hbm S8x8192x128 .f32) (harg9 : arg9.IsWhole) (arg10 : Memref sig .tc .vmem S4x512x128 .f32) (harg10 : arg10.IsWhole) (arg11 : Memref sig .tc .vmem S4x512x128 .bf16) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (harg28 : arg28.IsWhole) (arg29 : Memref sig .tc .vmem S4x512x128 .f32) (harg29 : arg29.IsWhole) (arg30 : Memref sig .tc .vmem S4x512x128 .f32) (harg30 : arg30.IsWhole)
/-- What a step of the body reads and writes at the offsets `oQ n` (rows of head `n`) and `oL n` (its row statistics). -/
def step (oQ : Fin 4 → Fin 3 → ℕ) (hQ : ∀ n, QInb (oQ n)) (oL : Fin 4 → Fin 4 → ℕ) (hL : ∀ n, LInb (oL n)) : PrU F := do
  prod arg6 arg3 arg12 ![0, 0, 0] inb_S4x512x128_S1x512x128_0_0_0 (oQ 0) (hQ 0)
  prod arg7 arg4 arg16 ![0, 0, 0] inb_S4x512x128_S1x512x128_0_0_0 (oQ 0) (hQ 0)
  prod arg6 arg3 arg13 ![1, 0, 0] inb_S4x512x128_S1x512x128_1_0_0 (oQ 1) (hQ 1)
  prod arg7 arg4 arg17 ![1, 0, 0] inb_S4x512x128_S1x512x128_1_0_0 (oQ 1) (hQ 1)
  prod arg6 arg3 arg14 ![2, 0, 0] inb_S4x512x128_S1x512x128_2_0_0 (oQ 2) (hQ 2)
  prod arg7 arg4 arg18 ![2, 0, 0] inb_S4x512x128_S1x512x128_2_0_0 (oQ 2) (hQ 2)
  prod arg6 arg3 arg15 ![3, 0, 0] inb_S4x512x128_S1x512x128_3_0_0 (oQ 3) (hQ 3)
  prod arg7 arg4 arg19 ![3, 0, 0] inb_S4x512x128_S1x512x128_3_0_0 (oQ 3) (hQ 3)
  head arg2 arg5 arg3 arg4 arg6 arg12 arg16 arg20 harg20 arg24 harg24 arg28 arg29 arg30
    ![0, 0, 0] inb_S4x512x128_S1x512x128_0_0_0 (oQ 0) (hQ 0) (oL 0) (hL 0)
  head arg2 arg5 arg3 arg4 arg6 arg13 arg17 arg21 harg21 arg25 harg25 arg28 arg29 arg30
    ![1, 0, 0] inb_S4x512x128_S1x512x128_1_0_0 (oQ 1) (hQ 1) (oL 1) (hL 1)
  head arg2 arg5 arg3 arg4 arg6 arg14 arg18 arg22 harg22 arg26 harg26 arg28 arg29 arg30
    ![2, 0, 0] inb_S4x512x128_S1x512x128_2_0_0 (oQ 2) (hQ 2) (oL 2) (hL 2)
  head arg2 arg5 arg3 arg4 arg6 arg15 arg19 arg23 harg23 arg27 harg27 arg28 arg29 arg30
    ![3, 0, 0] inb_S4x512x128_S1x512x128_3_0_0 (oQ 3) (hQ 3) (oL 3) (hL 3)

def stepT (oQ : Fin 4 → Fin 3 → ℕ) (hQ : ∀ n, QInb (oQ n)) (oL : Fin 4 → Fin 4 → ℕ) (hL : ∀ n, LInb (oL n)) : PrU F := do
  prod arg6 arg3 arg12 ![0, 0, 0] inb_S4x512x128_S1x512x128_0_0_0 (oQ 0) (hQ 0)
  prod arg7 arg4 arg16 ![0, 0, 0] inb_S4x512x128_S1x512x128_0_0_0 (oQ 0) (hQ 0)
  prod arg6 arg3 arg13 ![1, 0, 0] inb_S4x512x128_S1x512x128_1_0_0 (oQ 1) (hQ 1)
  prod arg7 arg4 arg17 ![1, 0, 0] inb_S4x512x128_S1x512x128_1_0_0 (oQ 1) (hQ 1)
  prod arg6 arg3 arg14 ![2, 0, 0] inb_S4x512x128_S1x512x128_2_0_0 (oQ 2) (hQ 2)
  prod arg7 arg4 arg18 ![2, 0, 0] inb_S4x512x128_S1x512x128_2_0_0 (oQ 2) (hQ 2)
  prod arg6 arg3 arg15 ![3, 0, 0] inb_S4x512x128_S1x512x128_3_0_0 (oQ 3) (hQ 3)
  prod arg7 arg4 arg19 ![3, 0, 0] inb_S4x512x128_S1x512x128_3_0_0 (oQ 3) (hQ 3)
  headT arg8 arg2 arg5 arg3 arg4 arg6 arg12 arg16 arg20 harg20 arg24 harg24 arg28 arg29 arg30
    ![0, 0, 0] inb_S4x512x128_S1x512x128_0_0_0 (oQ 0) (hQ 0) (oL 0) (hL 0)
  headT arg8 arg2 arg5 arg3 arg4 arg6 arg13 arg17 arg21 harg21 arg25 harg25 arg28 arg29 arg30
    ![1, 0, 0] inb_S4x512x128_S1x512x128_1_0_0 (oQ 1) (hQ 1) (oL 1) (hL 1)
  headT arg8 arg2 arg5 arg3 arg4 arg6 arg14 arg18 arg22 harg22 arg26 harg26 arg28 arg29 arg30
    ![2, 0, 0] inb_S4x512x128_S1x512x128_2_0_0 (oQ 2) (hQ 2) (oL 2) (hL 2)
  headT arg8 arg2 arg5 arg3 arg4 arg6 arg15 arg19 arg23 harg23 arg27 harg27 arg28 arg29 arg30
    ![3, 0, 0] inb_S4x512x128_S1x512x128_3_0_0 (oQ 3) (hQ 3) (oL 3) (hL 3)

end Step

end Cert.KernelIdeal.Fox

end
-- ==== Proof.Ops.lean ====
/-
  Loads and stores of a rectangle of a memref held at contents `X` (`owns`): a load gives `X` at the rectangle's
  elements, a store leaves `putR`, the payload on the rectangle and `X` off it.
-/
module

public import proofs.«01_k».proof.Proof.Steps
public import Idealize.ShloMosaic.Lib.Pipeline.FrameBody
public import Idealize.ShloMosaic.Lib.VecWindow
public import Idealize.ShloMosaic.Lib.ValueIdxCore

@[expose] public section

noncomputable section

namespace Cert.KernelIdeal.Fox

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- `X` with the elements of the rectangle `r` replaced by `w`. -/
def putR {s : Shape} {α : Type} (r : Rect s) (w : r.shape.Idx → α) (X : s.Idx → α) : s.Idx → α :=
  Function.extend r.emb w X

theorem putR_emb {s : Shape} {α : Type} (r : Rect s) (w : r.shape.Idx → α) (X : s.Idx → α) (j : r.shape.Idx) :
    putR r w X (r.emb j) = w j := r.emb.injective.extend_apply w X j

theorem putR_off {s : Shape} {α : Type} (r : Rect s) (w : r.shape.Idx → α) (X : s.Idx → α) (x : s.Idx) (h : x ∉ r.set) :
    putR r w X x = X x :=
  Function.extend_apply' _ _ _ fun ⟨j, hj⟩ => h (hj ▸ r.idx_mem j)

/-- A load of a rectangle of a memref held at `X`. -/
theorem owns_load (c : Dev nD) {s : Shape} {e : EltTy} (m : Memref sig .tc .vmem s e) (r : Rect s) {α : Type} {Q : α → sProp 𝕄}
    (X : s.Idx → Elt F e) {hl : m.view.LoadsAt r.toLoadRect} {k : (r.shape.Idx → Elt F e) → Prog (TpuEff nD τ sig (Elt F) Λ₀ .tc) α} :
    (owns (c : Thread nD τ) m fullShare X : sProp 𝕄)
      ⊢ iprop((owns (c : Thread nD τ) m fullShare X
          -∗ wp frame (wpE (defs₀ (F := F)) Variants.none (c : Thread nD τ) none) Set.univ (k fun j => X (r.emb j)) Q)
        -∗ wp frame (wpE (defs₀ (F := F)) Variants.none (c : Thread nD τ) none) Set.univ (.op (.load m r.toLoadRect hl) k) Q) := by
  unfold owns
  iintro ⟨%f, %hf, H⟩ Hk
  iapply (wp_load_rect Variants.none (c : Thread nD τ) none Set.univ (m := m) (r := r) (View.set_slice_subset _ _)) $$ H
  iintro H
  have e1 : (m.access r).read (Elt F) f = fun j => X (r.emb j) := by subst hf; rfl
  rw [e1]
  iapply Hk
  iexists f
  isplitr
  · ipureintro; exact hf
  · iexact H

/-- A store of a rectangle of a memref held at `X`. -/
theorem owns_store (c : Dev nD) {s : Shape} {e : EltTy} (m : Memref sig .tc .vmem s e) (r : Rect s) (w : r.shape.Idx → Elt F e) {α : Type} {Q : α → sProp 𝕄}
    (X : s.Idx → Elt F e) {hx : (m.access r).Stores Finset.univ} {hm : (Finset.univ : Finset r.shape.Idx) = Finset.univ ∨ ∀ a, r.stride a = 1}
    {k : PUnit → Prog (TpuEff nD τ sig (Elt F) Λ₀ .tc) α} :
    (owns (c : Thread nD τ) m fullShare X : sProp 𝕄)
      ⊢ iprop((owns (c : Thread nD τ) m fullShare (putR r w X)
          -∗ wp frame (wpE (defs₀ (F := F)) Variants.none (c : Thread nD τ) none) Set.univ (k ⟨⟩) Q)
        -∗ wp frame (wpE (defs₀ (F := F)) Variants.none (c : Thread nD τ) none) Set.univ (.op (.store m r w Finset.univ hx hm) k) Q) := by
  unfold owns
  iintro ⟨%f, %hf, H⟩ Hk
  iapply (wp_store Variants.none (c : Thread nD τ) none Set.univ (m := m) (r := r) (Mk := Finset.univ) (View.set_slice_subset _ _)) $$ H
  iintro H
  iapply Hk
  iexists ((m.access r).write (Elt F) f w Finset.univ)
  isplitr
  · ipureintro
    funext x
    by_cases hx : x ∈ r.set
    · obtain ⟨j, rfl⟩ := r.exists_idx_of_mem hx
      exact (View.read_slice_write_emb r f w (Finset.mem_univ _)).trans (putR_emb r w X j).symm
    · rw [putR_off r w X x hx, ← hf]
      refine View.read_slice_write_of_not_mem r f w Finset.univ ?_
      rw [Rect.map_emb_univ]; exact hx
  · iexact H

/-- The rectangle of all of a shape's elements: what was there is gone. -/
theorem putR_all {s : Shape} {α : Type} {off : Fin s.rank → ℕ} (h : ∀ a, off a + s.size a ≤ s.size a)
    (w : (Rect.unit (s := s) off s.size h).shape.Idx → α) (X : s.Idx → α) :
    putR (Rect.unit (s := s) off s.size h) w X = w :=
  funext fun x => by
    have := putR_emb (Rect.unit (s := s) off s.size h) w X x
    rwa [Rect.emb_unit_full] at this

/-- The elements of that rectangle are the shape's. -/
theorem get_all {s : Shape} {α : Type} {off : Fin s.rank → ℕ} (h : ∀ a, off a + s.size a ≤ s.size a) (X : s.Idx → α) :
    (fun j => X ((Rect.unit (s := s) off s.size h).emb j)) = X :=
  funext fun x => congrArg X (Rect.emb_unit_full h x)

/-- A region that has come to hold `W`: `W` on `S`, `A` elsewhere. -/
def stage {s : Shape} {α : Type} (A W : s.Idx → α) (S : s.Idx → Prop) : s.Idx → α :=
  fun x => by classical exact if S x then W x else A x

theorem stage_of {s : Shape} {α : Type} (A W : s.Idx → α) (S : s.Idx → Prop) (x : s.Idx) (h : S x) : stage A W S x = W x := by
  unfold stage; exact if_pos h
theorem stage_not {s : Shape} {α : Type} (A W : s.Idx → α) (S : s.Idx → Prop) (x : s.Idx) (h : ¬ S x) : stage A W S x = A x := by
  unfold stage; exact if_neg h

/-- A store of `W`'s elements on a rectangle extends the region by it. -/
theorem putR_stage {s : Shape} {α : Type} (r : Rect s) (w : r.shape.Idx → α) (A W : s.Idx → α) (S S' : s.Idx → Prop)
    (hw : ∀ j, w j = W (r.emb j)) (hS : ∀ x, S' x ↔ S x ∨ x ∈ r.set) : putR r w (stage A W S) = stage A W S' := by
  funext x
  by_cases hx : x ∈ r.set
  · obtain ⟨j, rfl⟩ := r.exists_idx_of_mem hx
    rw [stage_of A W S' _ ((hS _).2 (.inr hx))]
    exact (putR_emb r w _ j).trans (hw j)
  · rw [putR_off _ _ _ _ hx]
    by_cases h : S x
    · rw [stage_of _ _ _ _ h, stage_of _ _ _ _ ((hS _).2 (.inl h))]
    · rw [stage_not _ _ _ _ h, stage_not _ _ _ _ fun h' => ((hS _).1 h').elim h hx]

/-- A load of a rectangle disjoint from the region. -/
theorem get_stage {s : Shape} {α : Type} (r : Rect s) (A W : s.Idx → α) (S : s.Idx → Prop) (h : ∀ x ∈ r.set, ¬ S x) :
    (fun j => stage A W S (r.emb j)) = fun j => A (r.emb j) :=
  funext fun j => stage_not _ _ _ _ (h _ (r.idx_mem j))

theorem stage_none {s : Shape} {α : Type} (A W : s.Idx → α) (S : s.Idx → Prop) (h : ∀ x, ¬ S x) : stage A W S = A :=
  funext fun x => stage_not _ _ _ _ (h x)
theorem stage_all {s : Shape} {α : Type} (A W : s.Idx → α) (S : s.Idx → Prop) (h : ∀ x, S x) : stage A W S = W :=
  funext fun x => stage_of _ _ _ _ (h x)

end Cert.KernelIdeal.Fox

end
-- ==== Proof.Head.lean ====
/-
  What the pieces of a step do: a product fills a tile, a head's chunks make its tiles of weights and of score
  gradients, its tail adds its three products to the accumulators.
-/
module

public import proofs.«01_k».proof.Proof.Ops
public import Idealize.ShloMosaic.Lib.ValueLayout
public import Idealize.ShloMosaic.Lib.Pipeline.Value

@[expose] public section

noncomputable section

namespace Cert.KernelIdeal.Fox

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx (ix2 ix3 ix4)

/-! ## Offsets and slices -/

abbrev oH (n : Fin 4) : Fin 3 → ℕ := ![n.val, 0, 0]
theorem hH : ∀ n : Fin 4, HInb (oH n) := by decide
abbrev oQ (n : Fin 4) (b : Fin 16) : Fin 3 → ℕ := ![n.val, 512 * b.val, 0]
theorem hQ : ∀ (n : Fin 4) (b : Fin 16), QInb (oQ n b) := by decide
abbrev oL (n : Fin 4) (b : Fin 16) : Fin 4 → ℕ := ![n.val, b.val, 0, 0]
theorem hL : ∀ (n : Fin 4) (b : Fin 16), LInb (oL n b) := by decide

abbrev rH (o : Fin 3 → ℕ) (h : HInb o) : Rect S4x512x128 := Rect.unit (s := S4x512x128) o S1x512x128.size h
abbrev rQ (o : Fin 3 → ℕ) (h : QInb o) : Rect S4x8192x128 := Rect.unit (s := S4x8192x128) o S1x512x128.size h
abbrev rL (o : Fin 4 → ℕ) (h : LInb o) : Rect S4x16x1x512 := Rect.unit (s := S4x16x1x512) o S1x1x1x512.size h

/-- A head's 512 rows of a block of keys. -/
def getH {α : Type} (n : Fin 4) (X : S4x512x128.Idx → α) : S1x512x128.Idx → α := fun j => X ((rH (oH n) (hH n)).emb j)
/-- A head's rows of block `b` of the queries. -/
def getQ {α : Type} (n : Fin 4) (b : Fin 16) (X : S4x8192x128.Idx → α) : S1x512x128.Idx → α := fun j => X ((rQ (oQ n b) (hQ n b)).emb j)
/-- A head's row of statistics of block `b` of the queries. -/
def getL {α : Type} (n : Fin 4) (b : Fin 16) (X : S4x16x1x512.Idx → α) : S1x1x1x512.Idx → α := fun j => X ((rL (oL n b) (hL n b)).emb j)

theorem rH_emb (n : Fin 4) (j : S1x512x128.Idx) : (rH (oH n) (hH n)).emb j = (ix3 n (j 1) (j 2) : S4x512x128.Idx) := by
  funext a
  have h0 : (j 0).val < 1 := (j 0).isLt
  match a with
  | ⟨0, _⟩ => exact Fin.ext (show n.val + 1 * (j 0).val = n.val by omega)
  | ⟨1, _⟩ => exact Fin.ext (show 0 + 1 * (j 1).val = (j 1).val by omega)
  | ⟨2, _⟩ => exact Fin.ext (show 0 + 1 * (j 2).val = (j 2).val by omega)

theorem rQ_lt (b : Fin 16) (r : Fin 512) : 512 * b.val + r.val < 8192 := by omega

theorem rQ_emb (n : Fin 4) (b : Fin 16) (j : S1x512x128.Idx) :
    (rQ (oQ n b) (hQ n b)).emb j = (ix3 n (⟨512 * b.val + (j 1).val, rQ_lt b (j 1)⟩ : Fin 8192) (j 2) : S4x8192x128.Idx) := by
  funext a
  have h0 : (j 0).val < 1 := (j 0).isLt
  match a with
  | ⟨0, _⟩ => exact Fin.ext (show n.val + 1 * (j 0).val = n.val by omega)
  | ⟨1, _⟩ => exact Fin.ext (show 512 * b.val + 1 * (j 1).val = 512 * b.val + (j 1).val by omega)
  | ⟨2, _⟩ => exact Fin.ext (show 0 + 1 * (j 2).val = (j 2).val by omega)

theorem rL_emb (n : Fin 4) (b : Fin 16) (j : S1x1x1x512.Idx) : (rL (oL n b) (hL n b)).emb j = (ix4 n b (0 : Fin 1) (j 3) : S4x16x1x512.Idx) := by
  funext a
  have h0 : (j 0).val < 1 := (j 0).isLt
  have h1 : (j 1).val < 1 := (j 1).isLt
  have h2 : (j 2).val < 1 := (j 2).isLt
  match a with
  | ⟨0, _⟩ => exact Fin.ext (show n.val + 1 * (j 0).val = n.val by omega)
  | ⟨1, _⟩ => exact Fin.ext (show b.val + 1 * (j 1).val = b.val by omega)
  | ⟨2, _⟩ => exact Fin.ext (show 0 + 1 * (j 2).val = 0 by omega)
  | ⟨3, _⟩ => exact Fin.ext (show 0 + 1 * (j 3).val = (j 3).val by omega)

/-! ## A head's tiles -/

/-- The weight of one score, and the gradient of one score. -/
def wt (x l : F .f32) : F .f32 := FloatOps.exp2 (FloatOps.subf x l)
def tileP (X : Vec F S512x512 .f32) (l : FVec F S1x512 .f32) : Vec F S512x512 .bf16 := fun y =>
  FloatOps.truncf .bf16 bitsLt_bf16_f32 (wt (X y) (l (ix2 (0 : Fin 1) (y 1))))
def tileD (X Y : Vec F S512x512 .f32) (l d : FVec F S1x512 .f32) : Vec F S512x512 .bf16 := fun y =>
  FloatOps.truncf .bf16 bitsLt_bf16_f32 (FloatOps.mulf (wt (X y) (l (ix2 (0 : Fin 1) (y 1)))) (FloatOps.subf (Y y) (d (ix2 (0 : Fin 1) (y 1)))))
/-- Scores with the table added. -/
def tabX (T : Vec F S1x512x512 .f32) (X : Vec F S512x512 .f32) : Vec F S512x512 .f32 := fun y => FloatOps.addf (X y) (T (ix3 (0 : Fin 1) (y 0) (y 1)))

abbrev rC (o : ℕ) (h : RowInb o) : Rect S512x512 := Rect.unit (s := S512x512) ![o, 0] S32x512.size h

theorem rowV_bcast (l : FVec F S1x512 .f32) (j : S32x512.Idx) : broadcastTo S32x512 l broadcasts_S1x512_S32x512 j = l (ix2 (0 : Fin 1) (j 1)) := by
  unfold broadcastTo
  refine congrArg l ?_
  funext a
  match a with
  | ⟨0, _⟩ => rfl
  | ⟨1, _⟩ => rfl

theorem rC_emb1 (o : ℕ) (h : RowInb o) (j : S32x512.Idx) : ((rC o h).emb j) 1 = j 1 := Fin.ext (show 0 + 1 * (j 1).val = (j 1).val by omega)

theorem payP_eq (o : ℕ) (h : RowInb o) (X : Vec F S512x512 .f32) (l : FVec F S1x512 .f32) (j : S32x512.Idx) :
    payP (fun i => X ((rC o h).emb i)) l j = tileP X l ((rC o h).emb j) := by
  unfold payP; rw [shapeCast_self]
  show FloatOps.truncf .bf16 bitsLt_bf16_f32 (FloatOps.exp2 (FloatOps.subf (X ((rC o h).emb j)) (broadcastTo S32x512 l broadcasts_S1x512_S32x512 j))) = _
  rw [rowV_bcast]; unfold tileP wt; rw [rC_emb1]

theorem payD_eq (o : ℕ) (h : RowInb o) (X Y : Vec F S512x512 .f32) (l d : FVec F S1x512 .f32) (j : S32x512.Idx) :
    payD (fun i => X ((rC o h).emb i)) l d (fun i => Y ((rC o h).emb i)) j = tileD X Y l d ((rC o h).emb j) := by
  unfold payD; rw [shapeCast_self]
  show FloatOps.truncf .bf16 bitsLt_bf16_f32 (FloatOps.mulf (FloatOps.exp2 (FloatOps.subf (X ((rC o h).emb j)) (broadcastTo S32x512 l broadcasts_S1x512_S32x512 j)))
    (FloatOps.subf (Y ((rC o h).emb j)) (broadcastTo S32x512 d broadcasts_S1x512_S32x512 j))) = _
  rw [rowV_bcast, rowV_bcast]; unfold tileD wt; rw [rC_emb1]

theorem tabbed_eq (o : ℕ) (h : RowInb o) (hT : TabInb o) (X : Vec F S512x512 .f32) (T : Vec F S1x512x512 .f32) :
    tabbed (fun i => X ((rC o h).emb i)) (fun i => T ((Rect.unit (s := S1x512x512) ![0, o, 0] S1x32x512.size hT).emb i))
      = fun j => tabX T X ((rC o h).emb j) := by
  funext j
  unfold tabbed
  show FloatOps.addf _ (shapeCast S32x512 (fun i => T ((Rect.unit (s := S1x512x512) ![0, o, 0] S1x32x512.size hT).emb i)) shapeCasts_S1x32x512_S32x512 j) = _
  have e : shapeCast S32x512 (fun i => T ((Rect.unit (s := S1x512x512) ![0, o, 0] S1x32x512.size hT).emb i)) shapeCasts_S1x32x512_S32x512 j
      = T ((Rect.unit (s := S1x512x512) ![0, o, 0] S1x32x512.size hT).emb (ix3 (0 : Fin 1) (j 0) (j 1))) :=
    (congrArg _ (ValueIdx.eq_ix2 j)).trans (ValueIdx.shapeCast_1ab_ab_apply (a := 32) (b := 512) _ _ (j 0) (j 1))
  refine (congrArg (FloatOps.addf _) e).trans ?_
  unfold tabX
  refine congrArg (FloatOps.addf _) (congrArg T ?_)
  funext a
  match a with
  | ⟨0, _⟩ => exact Fin.ext (show 0 + 1 * 0 = 0 by omega)
  | ⟨1, _⟩ => exact Fin.ext (show o + 1 * (j 0).val = o + 1 * (j 0).val by omega)
  | ⟨2, _⟩ => exact Fin.ext (show 0 + 1 * (j 1).val = 0 + 1 * (j 1).val by omega)

theorem payPT_eq (o : ℕ) (h : RowInb o) (hT : TabInb o) (X : Vec F S512x512 .f32) (T : Vec F S1x512x512 .f32) (l : FVec F S1x512 .f32) (j : S32x512.Idx) :
    payP (tabbed (fun i => X ((rC o h).emb i)) (fun i => T ((Rect.unit (s := S1x512x512) ![0, o, 0] S1x32x512.size hT).emb i))) l j
      = tileP (tabX T X) l ((rC o h).emb j) :=
  (congrFun (congrArg (payP · l) (tabbed_eq o h hT X T)) j).trans (payP_eq o h (tabX T X) l j)

theorem payDT_eq (o : ℕ) (h : RowInb o) (hT : TabInb o) (X Y : Vec F S512x512 .f32) (T : Vec F S1x512x512 .f32) (l d : FVec F S1x512 .f32) (j : S32x512.Idx) :
    payD (tabbed (fun i => X ((rC o h).emb i)) (fun i => T ((Rect.unit (s := S1x512x512) ![0, o, 0] S1x32x512.size hT).emb i))) l d (fun i => Y ((rC o h).emb i)) j
      = tileD (tabX T X) Y l d ((rC o h).emb j) :=
  (congrFun (congrArg (payD · l d (fun i => Y ((rC o h).emb i))) (tabbed_eq o h hT X T)) j).trans (payD_eq o h (tabX T X) Y l d j)

theorem rC_mem (o : ℕ) (h : RowInb o) (x : S512x512.Idx) : (x 0).val < o + 32 ↔ (x 0).val < o ∨ x ∈ (rC o h).set := by
  rw [Rect.mem_set_unit]
  constructor
  · intro hx
    by_cases hlo : (x 0).val < o
    · exact .inl hlo
    · refine .inr fun a => ?_
      match a with
      | ⟨0, _⟩ => exact ⟨by show o ≤ (x 0).val; omega, hx⟩
      | ⟨1, _⟩ => exact ⟨Nat.zero_le _, by have := (x 1).isLt; show (x 1).val < 0 + 512; exact (Nat.zero_add 512).symm ▸ this⟩
  · rintro (hx | hx)
    · omega
    · exact (hx 0).2

/-! ## The pieces, run -/

variable (c : Dev nD)

theorem prod_wp (k : Memref sig .tc .vmem S4x512x128 .bf16) (q : Memref sig .tc .vmem S4x8192x128 .bf16)
    (st : Memref sig .tc .vmem S512x512 .f32) (o : Fin 3 → ℕ) (ho : HInb o) (o' : Fin 3 → ℕ) (ho' : QInb o') (n : Fin 4) (b : Fin 16)
    (e : o = oH n) (e' : o' = oQ n b) (K : S4x512x128.Idx → Elt F .bf16) (Qv : S4x8192x128.Idx → Elt F .bf16) (d : S512x512.Idx → Elt F .f32)
    {α : Type} {kk : PUnit → Prog (TpuEff nD τ sig (Elt F) Λ₀ .tc) α} {Q : α → sProp 𝕄} :
    iprop(owns (c : Thread nD τ) k fullShare K ∗ owns (c : Thread nD τ) q fullShare Qv ∗ owns (c : Thread nD τ) st fullShare d)
      ⊢ iprop(((owns (c : Thread nD τ) k fullShare K ∗ owns (c : Thread nD τ) q fullShare Qv
            ∗ owns (c : Thread nD τ) st fullShare (prodP (getH n K) (getQ n b Qv)))
          -∗ wp frame (wpE (defs₀ (F := F)) Variants.none (c : Thread nD τ) none) Set.univ (kk ⟨⟩) Q)
        -∗ wp frame (wpE (defs₀ (F := F)) Variants.none (c : Thread nD τ) none) Set.univ (prod k q st o ho o' ho' >>= kk) Q) := by
  subst e e'
  unfold prod
  iintro ⟨HK, HQ, HS⟩ Hk
  iapply (owns_load c k (rH (oH n) ho) K) $$ HK
  iintro HK
  iapply (owns_load c q (rQ (oQ n b) ho') Qv) $$ HQ
  iintro HQ
  iapply (owns_load c st (Rect.unit (s := S512x512) ![0, 0] S512x512.size inb_S512x512_S512x512_0_0) d) $$ HS
  iintro HS
  iapply (owns_store c st (Rect.unit (s := S512x512) ![0, 0] S512x512.size inb_S512x512_S512x512_0_0) (prodP (getH n K) (getQ n b Qv)) d) $$ HS
  rw [putR_all]
  iintro HS
  iapply Hk
  isplitl [HK]; · iexact HK
  isplitl [HQ]; · iexact HQ
  iexact HS

/-- A head's tiles, made on the rows below `o`. -/
def tiles (st dpt : Memref sig .tc .vmem S512x512 .f32) (pt dst : Memref sig .tc .vmem S512x512 .bf16)
    (X Y : Vec F S512x512 .f32) (P0 D0 P D : Vec F S512x512 .bf16) (o : ℕ) : sProp 𝕄 :=
  iprop(owns (c : Thread nD τ) st fullShare X ∗ owns (c : Thread nD τ) dpt fullShare Y
    ∗ owns (c : Thread nD τ) pt fullShare (stage P0 P fun x => (x 0).val < o)
    ∗ owns (c : Thread nD τ) dst fullShare (stage D0 D fun x => (x 0).val < o))

theorem chunk_wp (st dpt : Memref sig .tc .vmem S512x512 .f32) (pt : Memref sig .tc .vmem S512x512 .bf16) (hpt : pt.IsWhole)
    (dst : Memref sig .tc .vmem S512x512 .bf16) (hdst : dst.IsWhole) (o : ℕ) (ho : RowInb o)
    (pk : (Rect.unit (s := S512x512) ![o, 0] S32x512.size ho).PackedRows (EltTy.packing .bf16)) (l d : FVec F S1x512 .f32)
    (X Y : Vec F S512x512 .f32) (P0 D0 : Vec F S512x512 .bf16)
    {α : Type} {kk : PUnit → Prog (TpuEff nD τ sig (Elt F) Λ₀ .tc) α} {Q : α → sProp 𝕄} :
    tiles c st dpt pt dst X Y P0 D0 (tileP X l) (tileD X Y l d) o
      ⊢ iprop((tiles c st dpt pt dst X Y P0 D0 (tileP X l) (tileD X Y l d) (o + 32)
          -∗ wp frame (wpE (defs₀ (F := F)) Variants.none (c : Thread nD τ) none) Set.univ (kk ⟨⟩) Q)
        -∗ wp frame (wpE (defs₀ (F := F)) Variants.none (c : Thread nD τ) none) Set.univ (chunk st dpt pt hpt dst hdst o ho pk l d >>= kk) Q) := by
  unfold chunk tiles
  iintro ⟨HX, HY, HP, HD⟩ Hk
  iapply (owns_load c st (rC o ho) X) $$ HX
  iintro HX
  iapply (owns_load c pt (rC o ho) _) $$ HP
  iintro HP
  iapply (owns_store c pt (rC o ho) (payP (fun i => X ((rC o ho).emb i)) l) _) $$ HP
  rw [putR_stage (rC o ho) _ _ _ _ _ (payP_eq o ho X l) (rC_mem o ho)]
  iintro HP
  iapply (owns_load c dpt (rC o ho) Y) $$ HY
  iintro HY
  iapply (owns_load c dst (rC o ho) _) $$ HD
  iintro HD
  iapply (owns_store c dst (rC o ho) (payD (fun i => X ((rC o ho).emb i)) l d (fun i => Y ((rC o ho).emb i))) _) $$ HD
  rw [putR_stage (rC o ho) _ _ _ _ _ (payD_eq o ho X Y l d) (rC_mem o ho)]
  iintro HD
  iapply Hk
  isplitl [HX]; · iexact HX
  isplitl [HY]; · iexact HY
  isplitl [HP]; · iexact HP
  iexact HD

theorem chunkT_wp (tab : Memref sig .tc .vmem S1x512x512 .f32) (st dpt : Memref sig .tc .vmem S512x512 .f32) (pt : Memref sig .tc .vmem S512x512 .bf16) (hpt : pt.IsWhole)
    (dst : Memref sig .tc .vmem S512x512 .bf16) (hdst : dst.IsWhole) (o : ℕ) (ho : RowInb o) (hT : TabInb o)
    (pk : (Rect.unit (s := S512x512) ![o, 0] S32x512.size ho).PackedRows (EltTy.packing .bf16)) (l d : FVec F S1x512 .f32)
    (T : Vec F S1x512x512 .f32) (X Y : Vec F S512x512 .f32) (P0 D0 : Vec F S512x512 .bf16)
    {α : Type} {kk : PUnit → Prog (TpuEff nD τ sig (Elt F) Λ₀ .tc) α} {Q : α → sProp 𝕄} :
    iprop(owns (c : Thread nD τ) tab fullShare T ∗ tiles c st dpt pt dst X Y P0 D0 (tileP (tabX T X) l) (tileD (tabX T X) Y l d) o)
      ⊢ iprop(((owns (c : Thread nD τ) tab fullShare T ∗ tiles c st dpt pt dst X Y P0 D0 (tileP (tabX T X) l) (tileD (tabX T X) Y l d) (o + 32))
          -∗ wp frame (wpE (defs₀ (F := F)) Variants.none (c : Thread nD τ) none) Set.univ (kk ⟨⟩) Q)
        -∗ wp frame (wpE (defs₀ (F := F)) Variants.none (c : Thread nD τ) none) Set.univ (chunkT tab st dpt pt hpt dst hdst o ho hT pk l d >>= kk) Q) := by
  unfold chunkT tiles
  iintro ⟨HT, HX, HY, HP, HD⟩ Hk
  iapply (owns_load c st (rC o ho) X) $$ HX
  iintro HX
  iapply (owns_load c tab (Rect.unit (s := S1x512x512) ![0, o, 0] S1x32x512.size hT) T) $$ HT
  iintro HT
  iapply (owns_load c pt (rC o ho) _) $$ HP
  iintro HP
  iapply (owns_store c pt (rC o ho) (payP (tabbed (fun i => X ((rC o ho).emb i)) (fun i => T ((Rect.unit (s := S1x512x512) ![0, o, 0] S1x32x512.size hT).emb i))) l) _) $$ HP
  rw [putR_stage (rC o ho) _ _ _ _ _ (payPT_eq o ho hT X T l) (rC_mem o ho)]
  iintro HP
  iapply (owns_load c dpt (rC o ho) Y) $$ HY
  iintro HY
  iapply (owns_load c dst (rC o ho) _) $$ HD
  iintro HD
  iapply (owns_store c dst (rC o ho) (payD (tabbed (fun i => X ((rC o ho).emb i)) (fun i => T ((Rect.unit (s := S1x512x512) ![0, o, 0] S1x32x512.size hT).emb i))) l d (fun i => Y ((rC o ho).emb i))) _) $$ HD
  rw [putR_stage (rC o ho) _ _ _ _ _ (payDT_eq o ho hT X Y T l d) (rC_mem o ho)]
  iintro HD
  iapply Hk
  isplitl [HT]; · iexact HT
  isplitl [HX]; · iexact HX
  isplitl [HY]; · iexact HY
  isplitl [HP]; · iexact HP
  iexact HD

end Cert.KernelIdeal.Fox

end
-- ==== Proof.HeadRun.lean ====
/-
  A step, run: its eight products, then per head the sixteen chunks and the three products added to the accumulators.
-/
module

public import proofs.«01_k».proof.Proof.Head

@[expose] public section

noncomputable section

namespace Cert.KernelIdeal.Fox

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx (ix2 ix3 ix4)

variable (c : Dev nD)

theorem tiles_zero (P0 P : Vec F S512x512 .bf16) : stage P0 P (fun x : S512x512.Idx => (x 0).val < 0) = P0 :=
  stage_none _ _ _ fun x => Nat.not_lt_zero _
theorem tiles_full (P0 P : Vec F S512x512 .bf16) : stage P0 P (fun x : S512x512.Idx => (x 0).val < 480 + 32) = P :=
  stage_all _ _ _ fun x => (x 0).isLt

/-- The two tiles of a head before its chunks, and after them. -/
def tilesAt (st dpt : Memref sig .tc .vmem S512x512 .f32) (pt dst : Memref sig .tc .vmem S512x512 .bf16)
    (X Y : Vec F S512x512 .f32) (P D : Vec F S512x512 .bf16) : sProp 𝕄 :=
  iprop(owns (c : Thread nD τ) st fullShare X ∗ owns (c : Thread nD τ) dpt fullShare Y ∗ owns (c : Thread nD τ) pt fullShare P ∗ owns (c : Thread nD τ) dst fullShare D)

theorem tilesAt_zero (st dpt : Memref sig .tc .vmem S512x512 .f32) (pt dst : Memref sig .tc .vmem S512x512 .bf16)
    (X Y : Vec F S512x512 .f32) (P0 D0 P D : Vec F S512x512 .bf16) :
    tilesAt c st dpt pt dst X Y P0 D0 = tiles c st dpt pt dst X Y P0 D0 P D 0 := by
  unfold tilesAt tiles; rw [tiles_zero, tiles_zero]
theorem tilesAt_full (st dpt : Memref sig .tc .vmem S512x512 .f32) (pt dst : Memref sig .tc .vmem S512x512 .bf16)
    (X Y : Vec F S512x512 .f32) (P0 D0 P D : Vec F S512x512 .bf16) :
    tilesAt c st dpt pt dst X Y P D = tiles c st dpt pt dst X Y P0 D0 P D (480 + 32) := by
  unfold tilesAt tiles; rw [tiles_full, tiles_full]

theorem chunks_wp (st dpt : Memref sig .tc .vmem S512x512 .f32) (pt : Memref sig .tc .vmem S512x512 .bf16) (hpt : pt.IsWhole)
    (dst : Memref sig .tc .vmem S512x512 .bf16) (hdst : dst.IsWhole) (l d : FVec F S1x512 .f32)
    (X Y : Vec F S512x512 .f32) (P0 D0 : Vec F S512x512 .bf16)
    {α : Type} {kk : PUnit → Prog (TpuEff nD τ sig (Elt F) Λ₀ .tc) α} {Q : α → sProp 𝕄} :
    tilesAt c st dpt pt dst X Y P0 D0
      ⊢ iprop((tilesAt c st dpt pt dst X Y (tileP X l) (tileD X Y l d)
          -∗ wp frame (wpE (defs₀ (F := F)) Variants.none (c : Thread nD τ) none) Set.univ (kk ⟨⟩) Q)
        -∗ wp frame (wpE (defs₀ (F := F)) Variants.none (c : Thread nD τ) none) Set.univ (chunks st dpt pt hpt dst hdst l d >>= kk) Q) := by
  rw [tilesAt_zero c st dpt pt dst X Y P0 D0 (tileP X l) (tileD X Y l d), tilesAt_full c st dpt pt dst X Y P0 D0 (tileP X l) (tileD X Y l d)]
  unfold chunks
  simp only [bind_assoc]
  iintro H Hk
  iapply (chunk_wp c st dpt pt hpt dst hdst 0 _ _ l d X Y P0 D0) $$ H
  iintro H
  iapply (chunk_wp c st dpt pt hpt dst hdst 32 _ _ l d X Y P0 D0) $$ H
  iintro H
  iapply (chunk_wp c st dpt pt hpt dst hdst 64 _ _ l d X Y P0 D0) $$ H
  iintro H
  iapply (chunk_wp c st dpt pt hpt dst hdst 96 _ _ l d X Y P0 D0) $$ H
  iintro H
  iapply (chunk_wp c st dpt pt hpt dst hdst 128 _ _ l d X Y P0 D0) $$ H
  iintro H
  iapply (chunk_wp c st dpt pt hpt dst hdst 160 _ _ l d X Y P0 D0) $$ H
  iintro H
  iapply (chunk_wp c st dpt pt hpt dst hdst 192 _ _ l d X Y P0 D0) $$ H
  iintro H
  iapply (chunk_wp c st dpt pt hpt dst hdst 224 _ _ l d X Y P0 D0) $$ H
  iintro H
  iapply (chunk_wp c st dpt pt hpt dst hdst 256 _ _ l d X Y P0 D0) $$ H
  iintro H
  iapply (chunk_wp c st dpt pt hpt dst hdst 288 _ _ l d X Y P0 D0) $$ H
  iintro H
  iapply (chunk_wp c st dpt pt hpt dst hdst 320 _ _ l d X Y P0 D0) $$ H
  iintro H
  iapply (chunk_wp c st dpt pt hpt dst hdst 352 _ _ l d X Y P0 D0) $$ H
  iintro H
  iapply (chunk_wp c st dpt pt hpt dst hdst 384 _ _ l d X Y P0 D0) $$ H
  iintro H
  iapply (chunk_wp c st dpt pt hpt dst hdst 416 _ _ l d X Y P0 D0) $$ H
  iintro H
  iapply (chunk_wp c st dpt pt hpt dst hdst 448 _ _ l d X Y P0 D0) $$ H
  iintro H
  iapply (chunk_wp c st dpt pt hpt dst hdst 480 _ _ l d X Y P0 D0) $$ H
  iintro H
  iapply Hk
  iexact H

theorem chunksT_wp (tab : Memref sig .tc .vmem S1x512x512 .f32) (T : Vec F S1x512x512 .f32) (st dpt : Memref sig .tc .vmem S512x512 .f32) (pt : Memref sig .tc .vmem S512x512 .bf16) (hpt : pt.IsWhole)
    (dst : Memref sig .tc .vmem S512x512 .bf16) (hdst : dst.IsWhole) (l d : FVec F S1x512 .f32)
    (X Y : Vec F S512x512 .f32) (P0 D0 : Vec F S512x512 .bf16)
    {α : Type} {kk : PUnit → Prog (TpuEff nD τ sig (Elt F) Λ₀ .tc) α} {Q : α → sProp 𝕄} :
    iprop(owns (c : Thread nD τ) tab fullShare T ∗ tilesAt c st dpt pt dst X Y P0 D0)
      ⊢ iprop((iprop(owns (c : Thread nD τ) tab fullShare T ∗ tilesAt c st dpt pt dst X Y (tileP (tabX T X) l) (tileD (tabX T X) Y l d))
          -∗ wp frame (wpE (defs₀ (F := F)) Variants.none (c : Thread nD τ) none) Set.univ (kk ⟨⟩) Q)
        -∗ wp frame (wpE (defs₀ (F := F)) Variants.none (c : Thread nD τ) none) Set.univ (chunksT tab st dpt pt hpt dst hdst l d >>= kk) Q) := by
  rw [tilesAt_zero c st dpt pt dst X Y P0 D0 (tileP (tabX T X) l) (tileD (tabX T X) Y l d), tilesAt_full c st dpt pt dst X Y P0 D0 (tileP (tabX T X) l) (tileD (tabX T X) Y l d)]
  unfold chunksT
  simp only [bind_assoc]
  iintro H Hk
  iapply (chunkT_wp c tab st dpt pt hpt dst hdst 0 _ _ _ l d T X Y P0 D0) $$ H
  iintro H
  iapply (chunkT_wp c tab st dpt pt hpt dst hdst 32 _ _ _ l d T X Y P0 D0) $$ H
  iintro H
  iapply (chunkT_wp c tab st dpt pt hpt dst hdst 64 _ _ _ l d T X Y P0 D0) $$ H
  iintro H
  iapply (chunkT_wp c tab st dpt pt hpt dst hdst 96 _ _ _ l d T X Y P0 D0) $$ H
  iintro H
  iapply (chunkT_wp c tab st dpt pt hpt dst hdst 128 _ _ _ l d T X Y P0 D0) $$ H
  iintro H
  iapply (chunkT_wp c tab st dpt pt hpt dst hdst 160 _ _ _ l d T X Y P0 D0) $$ H
  iintro H
  iapply (chunkT_wp c tab st dpt pt hpt dst hdst 192 _ _ _ l d T X Y P0 D0) $$ H
  iintro H
  iapply (chunkT_wp c tab st dpt pt hpt dst hdst 224 _ _ _ l d T X Y P0 D0) $$ H
  iintro H
  iapply (chunkT_wp c tab st dpt pt hpt dst hdst 256 _ _ _ l d T X Y P0 D0) $$ H
  iintro H
  iapply (chunkT_wp c tab st dpt pt hpt dst hdst 288 _ _ _ l d T X Y P0 D0) $$ H
  iintro H
  iapply (chunkT_wp c tab st dpt pt hpt dst hdst 320 _ _ _ l d T X Y P0 D0) $$ H
  iintro H
  iapply (chunkT_wp c tab st dpt pt hpt dst hdst 352 _ _ _ l d T X Y P0 D0) $$ H
  iintro H
  iapply (chunkT_wp c tab st dpt pt hpt dst hdst 384 _ _ _ l d T X Y P0 D0) $$ H
  iintro H
  iapply (chunkT_wp c tab st dpt pt hpt dst hdst 416 _ _ _ l d T X Y P0 D0) $$ H
  iintro H
  iapply (chunkT_wp c tab st dpt pt hpt dst hdst 448 _ _ _ l d T X Y P0 D0) $$ H
  iintro H
  iapply (chunkT_wp c tab st dpt pt hpt dst hdst 480 _ _ _ l d T X Y P0 D0) $$ H
  iintro H
  iapply Hk
  iexact H

/-! ## The accumulators -/

/-- One head's rows of an accumulator of the keys' block, a product added. -/
def accKVn (A : S4x512x128.Idx → Elt F .f32) (Z : S4x8192x128.Idx → Elt F .bf16) (b : Fin 16) (n : Fin 4) (T : Vec F S512x512 .bf16) : FVec F S1x512x128 .f32 :=
  acc10 (getH n A) T (getQ n b Z)
def accKV (A : S4x512x128.Idx → Elt F .f32) (Z : S4x8192x128.Idx → Elt F .bf16) (b : Fin 16) (T : Fin 4 → Vec F S512x512 .bf16) : S4x512x128.Idx → Elt F .f32 :=
  fun x => accKVn A Z b (x 0) (T (x 0)) (ix3 (0 : Fin 1) (x 1) (x 2))
/-- One head's rows of block `b` of the queries' accumulator, a product added. -/
def accQn (A : S4x8192x128.Idx → Elt F .f32) (K : S4x512x128.Idx → Elt F .bf16) (b : Fin 16) (n : Fin 4) (T : Vec F S512x512 .bf16) : FVec F S1x512x128 .f32 :=
  acc00 (getQ n b A) T (getH n K)
def accQ (A : S4x8192x128.Idx → Elt F .f32) (K : S4x512x128.Idx → Elt F .bf16) (b : Fin 16) (T : Fin 4 → Vec F S512x512 .bf16) : S4x8192x128.Idx → Elt F .f32 :=
  fun x => accQn A K b (x 0) (T (x 0)) (ix3 (0 : Fin 1) (⟨(x 1).val % 512, Nat.mod_lt _ (by decide)⟩ : Fin 512) (x 2))

theorem accKV_emb (A : S4x512x128.Idx → Elt F .f32) (Z : S4x8192x128.Idx → Elt F .bf16) (b : Fin 16) (T : Fin 4 → Vec F S512x512 .bf16) (n : Fin 4) (j : S1x512x128.Idx) :
    accKVn A Z b n (T n) j = accKV A Z b T ((rH (oH n) (hH n)).emb j) := by
  rw [rH_emb]
  unfold accKV
  refine congrArg (accKVn A Z b n (T n)) ?_
  funext a
  match a with
  | ⟨0, _⟩ => exact Fin.ext (by have := (j 0).isLt; show (j 0).val = 0; have h : (j 0).val < 1 := this; omega)
  | ⟨1, _⟩ => rfl
  | ⟨2, _⟩ => rfl

theorem accQ_emb (A : S4x8192x128.Idx → Elt F .f32) (K : S4x512x128.Idx → Elt F .bf16) (b : Fin 16) (T : Fin 4 → Vec F S512x512 .bf16) (n : Fin 4) (j : S1x512x128.Idx) :
    accQn A K b n (T n) j = accQ A K b T ((rQ (oQ n b) (hQ n b)).emb j) := by
  rw [rQ_emb]
  unfold accQ
  refine congrArg (accQn A K b n (T n)) ?_
  funext a
  match a with
  | ⟨0, _⟩ => exact Fin.ext (by have := (j 0).isLt; show (j 0).val = 0; have h : (j 0).val < 1 := this; omega)
  | ⟨1, _⟩ => exact Fin.ext (by have h : (j 1).val < 512 := (j 1).isLt; show (j 1).val = (512 * b.val + (j 1).val) % 512; omega)
  | ⟨2, _⟩ => rfl

/-- The heads below `k` of an accumulator. -/
def SH (k : ℕ) (x : S4x512x128.Idx) : Prop := (x 0).val < k
def SQ (b : Fin 16) (k : ℕ) (x : S4x8192x128.Idx) : Prop := (x 0).val < k ∧ (x 1).val / 512 = b.val

theorem SH_next (n : Fin 4) (x : S4x512x128.Idx) : SH (n.val + 1) x ↔ SH n.val x ∨ x ∈ (rH (oH n) (hH n)).set := by
  rw [Rect.mem_set_unit]
  unfold SH
  constructor
  · intro h
    by_cases h' : (x 0).val < n.val
    · exact .inl h'
    · refine .inr fun a => ?_
      match a with
      | ⟨0, _⟩ => exact ⟨by show n.val ≤ (x 0).val; omega, by show (x 0).val < n.val + 1; omega⟩
      | ⟨1, _⟩ => exact ⟨Nat.zero_le _, by have h : (x 1).val < 512 := (x 1).isLt; show (x 1).val < 0 + 512; omega⟩
      | ⟨2, _⟩ => exact ⟨Nat.zero_le _, by have h : (x 2).val < 128 := (x 2).isLt; show (x 2).val < 0 + 128; omega⟩
  · rintro (h | h)
    · omega
    · exact (h 0).2

theorem SH_disj (n : Fin 4) (x : S4x512x128.Idx) (h : x ∈ (rH (oH n) (hH n)).set) : ¬ SH n.val x := by
  rw [Rect.mem_set_unit] at h
  have h0 : n.val ≤ (x 0).val := (h 0).1
  unfold SH; omega

theorem SQ_next (b : Fin 16) (n : Fin 4) (x : S4x8192x128.Idx) : SQ b (n.val + 1) x ↔ SQ b n.val x ∨ x ∈ (rQ (oQ n b) (hQ n b)).set := by
  rw [Rect.mem_set_unit]
  unfold SQ
  constructor
  · rintro ⟨h, hb⟩
    by_cases h' : (x 0).val < n.val
    · exact .inl ⟨h', hb⟩
    · refine .inr fun a => ?_
      match a with
      | ⟨0, _⟩ => exact ⟨by show n.val ≤ (x 0).val; omega, by show (x 0).val < n.val + 1; omega⟩
      | ⟨1, _⟩ => exact ⟨by show 512 * b.val ≤ (x 1).val; omega, by show (x 1).val < 512 * b.val + 512; omega⟩
      | ⟨2, _⟩ => exact ⟨Nat.zero_le _, by have h : (x 2).val < 128 := (x 2).isLt; show (x 2).val < 0 + 128; omega⟩
  · rintro (h | h)
    · exact ⟨by omega, h.2⟩
    · have h0 : n.val ≤ (x 0).val ∧ (x 0).val < n.val + 1 := h 0
      have h1 : 512 * b.val ≤ (x 1).val ∧ (x 1).val < 512 * b.val + 512 := h 1
      exact ⟨by omega, by omega⟩

theorem SQ_disj (b : Fin 16) (n : Fin 4) (x : S4x8192x128.Idx) (h : x ∈ (rQ (oQ n b) (hQ n b)).set) : ¬ SQ b n.val x := by
  rw [Rect.mem_set_unit] at h
  have h0 : n.val ≤ (x 0).val := (h 0).1
  unfold SQ; omega

/-- What a head's tail reads and adds to, before head `k`. -/
def accs (q od : Memref sig .tc .vmem S4x8192x128 .bf16) (k : Memref sig .tc .vmem S4x512x128 .bf16)
    (dq : Memref sig .tc .vmem S4x8192x128 .f32) (dk dv : Memref sig .tc .vmem S4x512x128 .f32)
    (Qv Ov : S4x8192x128.Idx → Elt F .bf16) (K : S4x512x128.Idx → Elt F .bf16) (b : Fin 16) (Pt Ds : Fin 4 → Vec F S512x512 .bf16)
    (A28 : S4x8192x128.Idx → Elt F .f32) (A29 A30 : S4x512x128.Idx → Elt F .f32) (i : ℕ) : sProp 𝕄 :=
  iprop(owns (c : Thread nD τ) q fullShare Qv ∗ owns (c : Thread nD τ) od fullShare Ov ∗ owns (c : Thread nD τ) k fullShare K ∗ owns (c : Thread nD τ) dq fullShare (stage A28 (accQ A28 K b Ds) (SQ b i)) ∗ owns (c : Thread nD τ) dk fullShare (stage A29 (accKV A29 Qv b Ds) (SH i)) ∗ owns (c : Thread nD τ) dv fullShare (stage A30 (accKV A30 Ov b Pt) (SH i)))

theorem tail_wp (q od : Memref sig .tc .vmem S4x8192x128 .bf16) (k : Memref sig .tc .vmem S4x512x128 .bf16)
    (pt dst : Memref sig .tc .vmem S512x512 .bf16) (dq : Memref sig .tc .vmem S4x8192x128 .f32) (dk dv : Memref sig .tc .vmem S4x512x128 .f32)
    (o : Fin 3 → ℕ) (ho : HInb o) (o' : Fin 3 → ℕ) (ho' : QInb o') (n : Fin 4) (b : Fin 16) (e : o = oH n) (e' : o' = oQ n b)
    (Qv Ov : S4x8192x128.Idx → Elt F .bf16) (K : S4x512x128.Idx → Elt F .bf16) (Pt Ds : Fin 4 → Vec F S512x512 .bf16)
    (A28 : S4x8192x128.Idx → Elt F .f32) (A29 A30 : S4x512x128.Idx → Elt F .f32)
    {α : Type} {kk : PUnit → Prog (TpuEff nD τ sig (Elt F) Λ₀ .tc) α} {Q : α → sProp 𝕄} :
    iprop(owns (c : Thread nD τ) pt fullShare (Pt n) ∗ owns (c : Thread nD τ) dst fullShare (Ds n) ∗ accs c q od k dq dk dv Qv Ov K b Pt Ds A28 A29 A30 n.val)
      ⊢ iprop(((owns (c : Thread nD τ) pt fullShare (Pt n) ∗ owns (c : Thread nD τ) dst fullShare (Ds n) ∗ accs c q od k dq dk dv Qv Ov K b Pt Ds A28 A29 A30 (n.val + 1))
          -∗ wp frame (wpE (defs₀ (F := F)) Variants.none (c : Thread nD τ) none) Set.univ (kk ⟨⟩) Q)
        -∗ wp frame (wpE (defs₀ (F := F)) Variants.none (c : Thread nD τ) none) Set.univ (tail q od k pt dst dq dk dv o ho o' ho' >>= kk) Q) := by
  subst e e'
  unfold tail accs
  iintro ⟨HP, HD, HQ, HO, HK, H28, H29, H30⟩ Hk
  iapply (owns_load c dv (rH (oH n) ho) _) $$ H30
  rw [get_stage (rH (oH n) ho) A30 (accKV A30 Ov b Pt) (SH n.val) (SH_disj n)]
  iintro H30
  iapply (owns_load c pt (Rect.unit (s := S512x512) ![0, 0] S512x512.size inb_S512x512_S512x512_0_0) (Pt n)) $$ HP
  rw [get_all]
  iintro HP
  iapply (owns_load c od (rQ (oQ n b) ho') Ov) $$ HO
  iintro HO
  iapply (owns_load c dv (rH (oH n) ho) _) $$ H30
  iintro H30
  iapply (owns_store c dv (rH (oH n) ho) (accKVn A30 Ov b n (Pt n)) _) $$ H30
  rw [putR_stage (rH (oH n) ho) _ _ _ _ _ (accKV_emb A30 Ov b Pt n) (SH_next n)]
  iintro H30
  iapply (owns_load c dk (rH (oH n) ho) _) $$ H29
  rw [get_stage (rH (oH n) ho) A29 (accKV A29 Qv b Ds) (SH n.val) (SH_disj n)]
  iintro H29
  iapply (owns_load c dst (Rect.unit (s := S512x512) ![0, 0] S512x512.size inb_S512x512_S512x512_0_0) (Ds n)) $$ HD
  rw [get_all]
  iintro HD
  iapply (owns_load c q (rQ (oQ n b) ho') Qv) $$ HQ
  iintro HQ
  iapply (owns_load c dk (rH (oH n) ho) _) $$ H29
  iintro H29
  iapply (owns_store c dk (rH (oH n) ho) (accKVn A29 Qv b n (Ds n)) _) $$ H29
  rw [putR_stage (rH (oH n) ho) _ _ _ _ _ (accKV_emb A29 Qv b Ds n) (SH_next n)]
  iintro H29
  iapply (owns_load c dq (rQ (oQ n b) ho') _) $$ H28
  rw [get_stage (rQ (oQ n b) ho') A28 (accQ A28 K b Ds) (SQ b n.val) (SQ_disj b n)]
  iintro H28
  iapply (owns_load c dst (Rect.unit (s := S512x512) ![0, 0] S512x512.size inb_S512x512_S512x512_0_0) (Ds n)) $$ HD
  rw [get_all]
  iintro HD
  iapply (owns_load c k (rH (oH n) ho) K) $$ HK
  iintro HK
  iapply (owns_load c dq (rQ (oQ n b) ho') _) $$ H28
  iintro H28
  iapply (owns_store c dq (rQ (oQ n b) ho') (accQn A28 K b n (Ds n)) _) $$ H28
  rw [putR_stage (rQ (oQ n b) ho') _ _ _ _ _ (accQ_emb A28 K b Ds n) (SQ_next b n)]
  iintro H28
  iapply Hk
  isplitl [HP]; · iexact HP
  isplitl [HD]; · iexact HD
  isplitl [HQ]; · iexact HQ
  isplitl [HO]; · iexact HO
  isplitl [HK]; · iexact HK
  isplitl [H28]; · iexact H28
  isplitl [H29]; · iexact H29
  iexact H30

/-! ## A head -/

theorem head_wp (lse dd : Memref sig .tc .vmem S4x16x1x512 .f32) (q od : Memref sig .tc .vmem S4x8192x128 .bf16) (k : Memref sig .tc .vmem S4x512x128 .bf16)
    (st dpt : Memref sig .tc .vmem S512x512 .f32) (pt : Memref sig .tc .vmem S512x512 .bf16) (hpt : pt.IsWhole)
    (dst : Memref sig .tc .vmem S512x512 .bf16) (hdst : dst.IsWhole) (dq : Memref sig .tc .vmem S4x8192x128 .f32) (dk dv : Memref sig .tc .vmem S4x512x128 .f32)
    (o : Fin 3 → ℕ) (ho : HInb o) (o' : Fin 3 → ℕ) (ho' : QInb o') (o'' : Fin 4 → ℕ) (ho'' : LInb o'') (n : Fin 4) (b : Fin 16)
    (e : o = oH n) (e' : o' = oQ n b) (e'' : o'' = oL n b)
    (L Dd : S4x16x1x512.Idx → Elt F .f32) (Qv Ov : S4x8192x128.Idx → Elt F .bf16) (K : S4x512x128.Idx → Elt F .bf16) (X Y : Vec F S512x512 .f32)
    (P0 D0 : Vec F S512x512 .bf16) (Pt Ds : Fin 4 → Vec F S512x512 .bf16)
    (hP : Pt n = tileP X (rowV (getL n b L))) (hD : Ds n = tileD X Y (rowV (getL n b L)) (rowV (getL n b Dd)))
    (A28 : S4x8192x128.Idx → Elt F .f32) (A29 A30 : S4x512x128.Idx → Elt F .f32)
    {α : Type} {kk : PUnit → Prog (TpuEff nD τ sig (Elt F) Λ₀ .tc) α} {Q : α → sProp 𝕄} :
    iprop(owns (c : Thread nD τ) lse fullShare L ∗ owns (c : Thread nD τ) dd fullShare Dd ∗ tilesAt c st dpt pt dst X Y P0 D0 ∗ accs c q od k dq dk dv Qv Ov K b Pt Ds A28 A29 A30 n.val)
      ⊢ iprop(((owns (c : Thread nD τ) lse fullShare L ∗ owns (c : Thread nD τ) dd fullShare Dd ∗ tilesAt c st dpt pt dst X Y (Pt n) (Ds n) ∗ accs c q od k dq dk dv Qv Ov K b Pt Ds A28 A29 A30 (n.val + 1))
          -∗ wp frame (wpE (defs₀ (F := F)) Variants.none (c : Thread nD τ) none) Set.univ (kk ⟨⟩) Q)
        -∗ wp frame (wpE (defs₀ (F := F)) Variants.none (c : Thread nD τ) none) Set.univ (head lse dd q od k st dpt pt hpt dst hdst dq dk dv o ho o' ho' o'' ho'' >>= kk) Q) := by
  subst e e' e''
  rw [hP, hD]
  unfold head
  simp only [bind_assoc]
  iintro ⟨HL, HDd, Ht, Ha⟩ Hk
  iapply (owns_load c lse (rL (oL n b) ho'') L) $$ HL
  iintro HL
  iapply (owns_load c dd (rL (oL n b) ho'') Dd) $$ HDd
  iintro HDd
  iapply (chunks_wp c st dpt pt hpt dst hdst (rowV (getL n b L)) (rowV (getL n b Dd)) X Y P0 D0) $$ Ht
  iintro Ht
  unfold tilesAt
  icases Ht with ⟨HX, HY, HP, HD⟩
  rw [← hP, ← hD]
  iapply (tail_wp c q od k pt dst dq dk dv (oH n) ho (oQ n b) ho' n b rfl rfl Qv Ov K Pt Ds A28 A29 A30) $$ [HP HD Ha]
  · isplitl [HP]; · iexact HP
    isplitl [HD]; · iexact HD
    iexact Ha
  iintro ⟨HP, HD, Ha⟩
  iapply Hk

  isplitl [HL]; · iexact HL
  isplitl [HDd]; · iexact HDd
  isplitl [HX HY HP HD]
  · isplitl [HX]; · iexact HX
    isplitl [HY]; · iexact HY
    isplitl [HP]; · iexact HP
    iexact HD
  iexact Ha

theorem headT_wp (tab : Memref sig .tc .vmem S1x512x512 .f32) (lse dd : Memref sig .tc .vmem S4x16x1x512 .f32) (q od : Memref sig .tc .vmem S4x8192x128 .bf16) (k : Memref sig .tc .vmem S4x512x128 .bf16)
    (st dpt : Memref sig .tc .vmem S512x512 .f32) (pt : Memref sig .tc .vmem S512x512 .bf16) (hpt : pt.IsWhole)
    (dst : Memref sig .tc .vmem S512x512 .bf16) (hdst : dst.IsWhole) (dq : Memref sig .tc .vmem S4x8192x128 .f32) (dk dv : Memref sig .tc .vmem S4x512x128 .f32)
    (o : Fin 3 → ℕ) (ho : HInb o) (o' : Fin 3 → ℕ) (ho' : QInb o') (o'' : Fin 4 → ℕ) (ho'' : LInb o'') (n : Fin 4) (b : Fin 16)
    (e : o = oH n) (e' : o' = oQ n b) (e'' : o'' = oL n b)
    (T : Vec F S1x512x512 .f32) (L Dd : S4x16x1x512.Idx → Elt F .f32) (Qv Ov : S4x8192x128.Idx → Elt F .bf16) (K : S4x512x128.Idx → Elt F .bf16) (X Y : Vec F S512x512 .f32)
    (P0 D0 : Vec F S512x512 .bf16) (Pt Ds : Fin 4 → Vec F S512x512 .bf16)
    (hP : Pt n = tileP (tabX T X) (rowV (getL n b L))) (hD : Ds n = tileD (tabX T X) Y (rowV (getL n b L)) (rowV (getL n b Dd)))
    (A28 : S4x8192x128.Idx → Elt F .f32) (A29 A30 : S4x512x128.Idx → Elt F .f32)
    {α : Type} {kk : PUnit → Prog (TpuEff nD τ sig (Elt F) Λ₀ .tc) α} {Q : α → sProp 𝕄} :
    iprop(owns (c : Thread nD τ) tab fullShare T ∗ owns (c : Thread nD τ) lse fullShare L ∗ owns (c : Thread nD τ) dd fullShare Dd ∗ tilesAt c st dpt pt dst X Y P0 D0 ∗ accs c q od k dq dk dv Qv Ov K b Pt Ds A28 A29 A30 n.val)
      ⊢ iprop(((owns (c : Thread nD τ) tab fullShare T ∗ owns (c : Thread nD τ) lse fullShare L ∗ owns (c : Thread nD τ) dd fullShare Dd ∗ tilesAt c st dpt pt dst X Y (Pt n) (Ds n) ∗ accs c q od k dq dk dv Qv Ov K b Pt Ds A28 A29 A30 (n.val + 1))
          -∗ wp frame (wpE (defs₀ (F := F)) Variants.none (c : Thread nD τ) none) Set.univ (kk ⟨⟩) Q)
        -∗ wp frame (wpE (defs₀ (F := F)) Variants.none (c : Thread nD τ) none) Set.univ (headT tab lse dd q od k st dpt pt hpt dst hdst dq dk dv o ho o' ho' o'' ho'' >>= kk) Q) := by
  subst e e' e''
  rw [hP, hD]
  unfold headT
  simp only [bind_assoc]
  iintro ⟨HT, HL, HDd, Ht, Ha⟩ Hk
  iapply (owns_load c lse (rL (oL n b) ho'') L) $$ HL
  iintro HL
  iapply (owns_load c dd (rL (oL n b) ho'') Dd) $$ HDd
  iintro HDd
  iapply (chunksT_wp c tab T st dpt pt hpt dst hdst (rowV (getL n b L)) (rowV (getL n b Dd)) X Y P0 D0) $$ [HT Ht]
  · isplitl [HT]; · iexact HT
    iexact Ht
  iintro ⟨HT, Ht⟩
  unfold tilesAt
  icases Ht with ⟨HX, HY, HP, HD⟩
  rw [← hP, ← hD]
  iapply (tail_wp c q od k pt dst dq dk dv (oH n) ho (oQ n b) ho' n b rfl rfl Qv Ov K Pt Ds A28 A29 A30) $$ [HP HD Ha]
  · isplitl [HP]; · iexact HP
    isplitl [HD]; · iexact HD
    iexact Ha
  iintro ⟨HP, HD, Ha⟩
  iapply Hk
  isplitl [HT]; · iexact HT
  isplitl [HL]; · iexact HL
  isplitl [HDd]; · iexact HDd
  isplitl [HX HY HP HD]
  · isplitl [HX]; · iexact HX
    isplitl [HY]; · iexact HY
    isplitl [HP]; · iexact HP
    iexact HD
  iexact Ha

end Cert.KernelIdeal.Fox

end
-- ==== Proof.StepRun.lean ====
/-
  A step, run: from the accumulators' contents to the contents with the step's products added.
-/
module

public import proofs.«01_k».proof.Proof.HeadRun

@[expose] public section

noncomputable section

namespace Cert.KernelIdeal.Fox

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx (ix2 ix3 ix4)

/-- The products of head `n` of a step, and its tiles: `g` is what is done to the scores first (the table added on the
    diagonal, nothing off it). -/
def score (K : S4x512x128.Idx → Elt F .bf16) (Qv : S4x8192x128.Idx → Elt F .bf16) (b : Fin 16) (n : Fin 4) : Vec F S512x512 .f32 :=
  prodP (getH n K) (getQ n b Qv)
def wTile (g : Vec F S512x512 .f32 → Vec F S512x512 .f32) (L Dd : S4x16x1x512.Idx → Elt F .f32) (Qv Ov : S4x8192x128.Idx → Elt F .bf16) (K V : S4x512x128.Idx → Elt F .bf16) (b : Fin 16) (n : Fin 4) : Vec F S512x512 .bf16 :=
  tileP (g (score K Qv b n)) (rowV (getL n b L))
def dTile (g : Vec F S512x512 .f32 → Vec F S512x512 .f32) (L Dd : S4x16x1x512.Idx → Elt F .f32) (Qv Ov : S4x8192x128.Idx → Elt F .bf16) (K V : S4x512x128.Idx → Elt F .bf16) (b : Fin 16) (n : Fin 4) : Vec F S512x512 .bf16 :=
  tileD (g (score K Qv b n)) (score V Ov b n) (rowV (getL n b L)) (rowV (getL n b Dd))

/-- The accumulators after a step at block `b`. -/
def nextV (g : Vec F S512x512 .f32 → Vec F S512x512 .f32) (L Dd : S4x16x1x512.Idx → Elt F .f32) (Qv Ov : S4x8192x128.Idx → Elt F .bf16) (K V : S4x512x128.Idx → Elt F .bf16) (b : Fin 16) (A : S4x512x128.Idx → Elt F .f32) : S4x512x128.Idx → Elt F .f32 :=
  accKV A Ov b (wTile g L Dd Qv Ov K V b)
def nextK (g : Vec F S512x512 .f32 → Vec F S512x512 .f32) (L Dd : S4x16x1x512.Idx → Elt F .f32) (Qv Ov : S4x8192x128.Idx → Elt F .bf16) (K V : S4x512x128.Idx → Elt F .bf16) (b : Fin 16) (A : S4x512x128.Idx → Elt F .f32) : S4x512x128.Idx → Elt F .f32 :=
  accKV A Qv b (dTile g L Dd Qv Ov K V b)
def nextQ (g : Vec F S512x512 .f32 → Vec F S512x512 .f32) (L Dd : S4x16x1x512.Idx → Elt F .f32) (Qv Ov : S4x8192x128.Idx → Elt F .bf16) (K V : S4x512x128.Idx → Elt F .bf16) (b : Fin 16) (A : S4x8192x128.Idx → Elt F .f32) : S4x8192x128.Idx → Elt F .f32 :=
  stage A (accQ A K b (dTile g L Dd Qv Ov K V b)) (SQ b 4)

variable (c : Dev nD)

theorem accs_zero (q od : Memref sig .tc .vmem S4x8192x128 .bf16) (k : Memref sig .tc .vmem S4x512x128 .bf16)
    (dq : Memref sig .tc .vmem S4x8192x128 .f32) (dk dv : Memref sig .tc .vmem S4x512x128 .f32)
    (Qv Ov : S4x8192x128.Idx → Elt F .bf16) (K : S4x512x128.Idx → Elt F .bf16) (b : Fin 16) (Pt Ds : Fin 4 → Vec F S512x512 .bf16) (A28 : S4x8192x128.Idx → Elt F .f32) (A29 A30 : S4x512x128.Idx → Elt F .f32) :
    accs c q od k dq dk dv Qv Ov K b Pt Ds A28 A29 A30 (0 : Fin 4).val
      = iprop(owns (c : Thread nD τ) q fullShare Qv ∗ owns (c : Thread nD τ) od fullShare Ov ∗ owns (c : Thread nD τ) k fullShare K ∗ owns (c : Thread nD τ) dq fullShare A28 ∗ owns (c : Thread nD τ) dk fullShare A29 ∗ owns (c : Thread nD τ) dv fullShare A30) := by
  unfold accs
  rw [stage_none A28 _ (SQ b (0 : Fin 4).val) fun x h => Nat.not_lt_zero _ h.1, stage_none A29 _ (SH (0 : Fin 4).val) fun x h => Nat.not_lt_zero _ h,
    stage_none A30 _ (SH (0 : Fin 4).val) fun x h => Nat.not_lt_zero _ h]

theorem accs_four (q od : Memref sig .tc .vmem S4x8192x128 .bf16) (k : Memref sig .tc .vmem S4x512x128 .bf16)
    (dq : Memref sig .tc .vmem S4x8192x128 .f32) (dk dv : Memref sig .tc .vmem S4x512x128 .f32)
    (Qv Ov : S4x8192x128.Idx → Elt F .bf16) (K : S4x512x128.Idx → Elt F .bf16) (b : Fin 16) (Pt Ds : Fin 4 → Vec F S512x512 .bf16) (A28 : S4x8192x128.Idx → Elt F .f32) (A29 A30 : S4x512x128.Idx → Elt F .f32) :
    accs c q od k dq dk dv Qv Ov K b Pt Ds A28 A29 A30 ((3 : Fin 4).val + 1)
      ⊢ iprop(owns (c : Thread nD τ) q fullShare Qv ∗ owns (c : Thread nD τ) od fullShare Ov ∗ owns (c : Thread nD τ) k fullShare K ∗ owns (c : Thread nD τ) dq fullShare (stage A28 (accQ A28 K b Ds) (SQ b 4)) ∗ owns (c : Thread nD τ) dk fullShare (accKV A29 Qv b Ds) ∗ owns (c : Thread nD τ) dv fullShare (accKV A30 Ov b Pt)) := by
  unfold accs
  rw [stage_all A29 _ (SH ((3 : Fin 4).val + 1)) fun x => (x 0).isLt, stage_all A30 _ (SH ((3 : Fin 4).val + 1)) fun x => (x 0).isLt]
  exact .rfl

/-- What a step holds: its blocks, the tiles at anything, the accumulators. -/
def held (arg2 : Memref sig .tc .vmem S4x16x1x512 .f32) (arg3 : Memref sig .tc .vmem S4x8192x128 .bf16) (arg4 : Memref sig .tc .vmem S4x8192x128 .bf16) (arg5 : Memref sig .tc .vmem S4x16x1x512 .f32) (arg6 : Memref sig .tc .vmem S4x512x128 .bf16) (arg7 : Memref sig .tc .vmem S4x512x128 .bf16) (arg12 : Memref sig .tc .vmem S512x512 .f32) (arg13 : Memref sig .tc .vmem S512x512 .f32) (arg14 : Memref sig .tc .vmem S512x512 .f32) (arg15 : Memref sig .tc .vmem S512x512 .f32) (arg16 : Memref sig .tc .vmem S512x512 .f32) (arg17 : Memref sig .tc .vmem S512x512 .f32) (arg18 : Memref sig .tc .vmem S512x512 .f32) (arg19 : Memref sig .tc .vmem S512x512 .f32) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (arg29 : Memref sig .tc .vmem S4x512x128 .f32) (arg30 : Memref sig .tc .vmem S4x512x128 .f32) (L Dd : S4x16x1x512.Idx → Elt F .f32) (Qv Ov : S4x8192x128.Idx → Elt F .bf16) (K V : S4x512x128.Idx → Elt F .bf16) (A28 : S4x8192x128.Idx → Elt F .f32) (A29 A30 : S4x512x128.Idx → Elt F .f32) : sProp 𝕄 :=
  iprop(owns (c : Thread nD τ) arg2 fullShare L ∗ owns (c : Thread nD τ) arg5 fullShare Dd ∗ owns (c : Thread nD τ) arg3 fullShare Qv ∗ owns (c : Thread nD τ) arg4 fullShare Ov ∗ owns (c : Thread nD τ) arg6 fullShare K ∗ owns (c : Thread nD τ) arg7 fullShare V ∗ (∃ d12, owns (c : Thread nD τ) arg12 fullShare d12) ∗ (∃ d13, owns (c : Thread nD τ) arg13 fullShare d13) ∗ (∃ d14, owns (c : Thread nD τ) arg14 fullShare d14) ∗ (∃ d15, owns (c : Thread nD τ) arg15 fullShare d15) ∗ (∃ d16, owns (c : Thread nD τ) arg16 fullShare d16) ∗ (∃ d17, owns (c : Thread nD τ) arg17 fullShare d17) ∗ (∃ d18, owns (c : Thread nD τ) arg18 fullShare d18) ∗ (∃ d19, owns (c : Thread nD τ) arg19 fullShare d19) ∗ (∃ d20, owns (c : Thread nD τ) arg20 fullShare d20) ∗ (∃ d21, owns (c : Thread nD τ) arg21 fullShare d21) ∗ (∃ d22, owns (c : Thread nD τ) arg22 fullShare d22) ∗ (∃ d23, owns (c : Thread nD τ) arg23 fullShare d23) ∗ (∃ d24, owns (c : Thread nD τ) arg24 fullShare d24) ∗ (∃ d25, owns (c : Thread nD τ) arg25 fullShare d25) ∗ (∃ d26, owns (c : Thread nD τ) arg26 fullShare d26) ∗ (∃ d27, owns (c : Thread nD τ) arg27 fullShare d27) ∗ owns (c : Thread nD τ) arg28 fullShare A28 ∗ owns (c : Thread nD τ) arg29 fullShare A29 ∗ owns (c : Thread nD τ) arg30 fullShare A30)

theorem step_wp (arg2 : Memref sig .tc .vmem S4x16x1x512 .f32) (arg3 : Memref sig .tc .vmem S4x8192x128 .bf16) (arg4 : Memref sig .tc .vmem S4x8192x128 .bf16) (arg5 : Memref sig .tc .vmem S4x16x1x512 .f32) (arg6 : Memref sig .tc .vmem S4x512x128 .bf16) (arg7 : Memref sig .tc .vmem S4x512x128 .bf16) (arg12 : Memref sig .tc .vmem S512x512 .f32) (arg13 : Memref sig .tc .vmem S512x512 .f32) (arg14 : Memref sig .tc .vmem S512x512 .f32) (arg15 : Memref sig .tc .vmem S512x512 .f32) (arg16 : Memref sig .tc .vmem S512x512 .f32) (arg17 : Memref sig .tc .vmem S512x512 .f32) (arg18 : Memref sig .tc .vmem S512x512 .f32) (arg19 : Memref sig .tc .vmem S512x512 .f32) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (arg29 : Memref sig .tc .vmem S4x512x128 .f32) (arg30 : Memref sig .tc .vmem S4x512x128 .f32) (q : Fin 4 → Fin 3 → ℕ) (hq : ∀ n, QInb (q n)) (l : Fin 4 → Fin 4 → ℕ) (hl : ∀ n, LInb (l n))
    (b : Fin 16) (eq : ∀ n, q n = oQ n b) (el : ∀ n, l n = oL n b)
    (L Dd : S4x16x1x512.Idx → Elt F .f32) (Qv Ov : S4x8192x128.Idx → Elt F .bf16) (K V : S4x512x128.Idx → Elt F .bf16) (A28 : S4x8192x128.Idx → Elt F .f32) (A29 A30 : S4x512x128.Idx → Elt F .f32)
    {α : Type} {kk : PUnit → Prog (TpuEff nD τ sig (Elt F) Λ₀ .tc) α} {Q : α → sProp 𝕄} :
    held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V A28 A29 A30
      ⊢ iprop((held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V (nextQ id L Dd Qv Ov K V b A28) (nextK id L Dd Qv Ov K V b A29) (nextV id L Dd Qv Ov K V b A30)
          -∗ wp frame (wpE (defs₀ (F := F)) Variants.none (c : Thread nD τ) none) Set.univ (kk ⟨⟩) Q)
        -∗ wp frame (wpE (defs₀ (F := F)) Variants.none (c : Thread nD τ) none) Set.univ (step arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 q hq l hl >>= kk) Q) := by
  unfold step held
  simp only [bind_assoc]
  iintro ⟨HL, HD, HQ, HO, HK, HV, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, H28, H29, H30⟩ Hk
  iapply (prod_wp c arg6 arg3 arg12 _ _ _ _ 0 b rfl (eq 0) K Qv d12) $$ [HK HQ H12]
  · isplitl [HK]; · iexact HK
    isplitl [HQ]; · iexact HQ
    iexact H12
  iintro ⟨HK, HQ, H12⟩
  iapply (prod_wp c arg7 arg4 arg16 _ _ _ _ 0 b rfl (eq 0) V Ov d16) $$ [HV HO H16]
  · isplitl [HV]; · iexact HV
    isplitl [HO]; · iexact HO
    iexact H16
  iintro ⟨HV, HO, H16⟩
  iapply (prod_wp c arg6 arg3 arg13 _ _ _ _ 1 b rfl (eq 1) K Qv d13) $$ [HK HQ H13]
  · isplitl [HK]; · iexact HK
    isplitl [HQ]; · iexact HQ
    iexact H13
  iintro ⟨HK, HQ, H13⟩
  iapply (prod_wp c arg7 arg4 arg17 _ _ _ _ 1 b rfl (eq 1) V Ov d17) $$ [HV HO H17]
  · isplitl [HV]; · iexact HV
    isplitl [HO]; · iexact HO
    iexact H17
  iintro ⟨HV, HO, H17⟩
  iapply (prod_wp c arg6 arg3 arg14 _ _ _ _ 2 b rfl (eq 2) K Qv d14) $$ [HK HQ H14]
  · isplitl [HK]; · iexact HK
    isplitl [HQ]; · iexact HQ
    iexact H14
  iintro ⟨HK, HQ, H14⟩
  iapply (prod_wp c arg7 arg4 arg18 _ _ _ _ 2 b rfl (eq 2) V Ov d18) $$ [HV HO H18]
  · isplitl [HV]; · iexact HV
    isplitl [HO]; · iexact HO
    iexact H18
  iintro ⟨HV, HO, H18⟩
  iapply (prod_wp c arg6 arg3 arg15 _ _ _ _ 3 b rfl (eq 3) K Qv d15) $$ [HK HQ H15]
  · isplitl [HK]; · iexact HK
    isplitl [HQ]; · iexact HQ
    iexact H15
  iintro ⟨HK, HQ, H15⟩
  iapply (prod_wp c arg7 arg4 arg19 _ _ _ _ 3 b rfl (eq 3) V Ov d19) $$ [HV HO H19]
  · isplitl [HV]; · iexact HV
    isplitl [HO]; · iexact HO
    iexact H19
  iintro ⟨HV, HO, H19⟩
  ihave Ha : accs c arg3 arg4 arg6 arg28 arg29 arg30 Qv Ov K b (wTile id L Dd Qv Ov K V b) (dTile id L Dd Qv Ov K V b) A28 A29 A30 (0 : Fin 4).val $$ [HQ HO HK H28 H29 H30]
  · rw [accs_zero]
    isplitl [HQ]; · iexact HQ
    isplitl [HO]; · iexact HO
    isplitl [HK]; · iexact HK
    isplitl [H28]; · iexact H28
    isplitl [H29]; · iexact H29
    iexact H30
  iapply (head_wp c arg2 arg5 arg3 arg4 arg6 arg12 arg16 arg20 harg20 arg24 harg24 arg28 arg29 arg30 _ _ _ _ _ _ 0 b rfl (eq 0) (el 0)
      L Dd Qv Ov K (score K Qv b 0) (score V Ov b 0) d20 d24 (wTile id L Dd Qv Ov K V b) (dTile id L Dd Qv Ov K V b) rfl rfl A28 A29 A30) $$ [HL HD H12 H16 H20 H24 Ha]
  · skip
    isplitl [HL]; · iexact HL
    isplitl [HD]; · iexact HD
    isplitl [H12 H16 H20 H24]
    · unfold tilesAt
      isplitl [H12]; · iexact H12
      isplitl [H16]; · iexact H16
      isplitl [H20]; · iexact H20
      iexact H24
    iexact Ha
  iintro ⟨HL, HD, Ht, Ha⟩
  unfold tilesAt
  icases Ht with ⟨H12, H16, H20, H24⟩
  iapply (head_wp c arg2 arg5 arg3 arg4 arg6 arg13 arg17 arg21 harg21 arg25 harg25 arg28 arg29 arg30 _ _ _ _ _ _ 1 b rfl (eq 1) (el 1)
      L Dd Qv Ov K (score K Qv b 1) (score V Ov b 1) d21 d25 (wTile id L Dd Qv Ov K V b) (dTile id L Dd Qv Ov K V b) rfl rfl A28 A29 A30) $$ [HL HD H13 H17 H21 H25 Ha]
  · skip
    isplitl [HL]; · iexact HL
    isplitl [HD]; · iexact HD
    isplitl [H13 H17 H21 H25]
    · unfold tilesAt
      isplitl [H13]; · iexact H13
      isplitl [H17]; · iexact H17
      isplitl [H21]; · iexact H21
      iexact H25
    iexact Ha
  iintro ⟨HL, HD, Ht, Ha⟩
  unfold tilesAt
  icases Ht with ⟨H13, H17, H21, H25⟩
  iapply (head_wp c arg2 arg5 arg3 arg4 arg6 arg14 arg18 arg22 harg22 arg26 harg26 arg28 arg29 arg30 _ _ _ _ _ _ 2 b rfl (eq 2) (el 2)
      L Dd Qv Ov K (score K Qv b 2) (score V Ov b 2) d22 d26 (wTile id L Dd Qv Ov K V b) (dTile id L Dd Qv Ov K V b) rfl rfl A28 A29 A30) $$ [HL HD H14 H18 H22 H26 Ha]
  · skip
    isplitl [HL]; · iexact HL
    isplitl [HD]; · iexact HD
    isplitl [H14 H18 H22 H26]
    · unfold tilesAt
      isplitl [H14]; · iexact H14
      isplitl [H18]; · iexact H18
      isplitl [H22]; · iexact H22
      iexact H26
    iexact Ha
  iintro ⟨HL, HD, Ht, Ha⟩
  unfold tilesAt
  icases Ht with ⟨H14, H18, H22, H26⟩
  iapply (head_wp c arg2 arg5 arg3 arg4 arg6 arg15 arg19 arg23 harg23 arg27 harg27 arg28 arg29 arg30 _ _ _ _ _ _ 3 b rfl (eq 3) (el 3)
      L Dd Qv Ov K (score K Qv b 3) (score V Ov b 3) d23 d27 (wTile id L Dd Qv Ov K V b) (dTile id L Dd Qv Ov K V b) rfl rfl A28 A29 A30) $$ [HL HD H15 H19 H23 H27 Ha]
  · skip
    isplitl [HL]; · iexact HL
    isplitl [HD]; · iexact HD
    isplitl [H15 H19 H23 H27]
    · unfold tilesAt
      isplitl [H15]; · iexact H15
      isplitl [H19]; · iexact H19
      isplitl [H23]; · iexact H23
      iexact H27
    iexact Ha
  iintro ⟨HL, HD, Ht, Ha⟩
  unfold tilesAt
  icases Ht with ⟨H15, H19, H23, H27⟩
  ihave Hb := (accs_four c arg3 arg4 arg6 arg28 arg29 arg30 Qv Ov K b (wTile id L Dd Qv Ov K V b) (dTile id L Dd Qv Ov K V b) A28 A29 A30) $$ Ha
  icases Hb with ⟨HQ, HO, HK, H28, H29, H30⟩
  iapply Hk
  isplitl [HL]; · iexact HL
  isplitl [HD]; · iexact HD
  isplitl [HQ]; · iexact HQ
  isplitl [HO]; · iexact HO
  isplitl [HK]; · iexact HK
  isplitl [HV]; · iexact HV
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexact H28
  isplitl [H29]; · iexact H29
  iexact H30

/-- What a step holds: its blocks, the tiles at anything, the accumulators. -/
def heldT (arg2 : Memref sig .tc .vmem S4x16x1x512 .f32) (arg3 : Memref sig .tc .vmem S4x8192x128 .bf16) (arg4 : Memref sig .tc .vmem S4x8192x128 .bf16) (arg5 : Memref sig .tc .vmem S4x16x1x512 .f32) (arg6 : Memref sig .tc .vmem S4x512x128 .bf16) (arg7 : Memref sig .tc .vmem S4x512x128 .bf16) (arg8 : Memref sig .tc .vmem S1x512x512 .f32) (arg12 : Memref sig .tc .vmem S512x512 .f32) (arg13 : Memref sig .tc .vmem S512x512 .f32) (arg14 : Memref sig .tc .vmem S512x512 .f32) (arg15 : Memref sig .tc .vmem S512x512 .f32) (arg16 : Memref sig .tc .vmem S512x512 .f32) (arg17 : Memref sig .tc .vmem S512x512 .f32) (arg18 : Memref sig .tc .vmem S512x512 .f32) (arg19 : Memref sig .tc .vmem S512x512 .f32) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (arg29 : Memref sig .tc .vmem S4x512x128 .f32) (arg30 : Memref sig .tc .vmem S4x512x128 .f32) (T : Vec F S1x512x512 .f32) (L Dd : S4x16x1x512.Idx → Elt F .f32) (Qv Ov : S4x8192x128.Idx → Elt F .bf16) (K V : S4x512x128.Idx → Elt F .bf16) (A28 : S4x8192x128.Idx → Elt F .f32) (A29 A30 : S4x512x128.Idx → Elt F .f32) : sProp 𝕄 :=
  iprop(owns (c : Thread nD τ) arg8 fullShare T ∗ owns (c : Thread nD τ) arg2 fullShare L ∗ owns (c : Thread nD τ) arg5 fullShare Dd ∗ owns (c : Thread nD τ) arg3 fullShare Qv ∗ owns (c : Thread nD τ) arg4 fullShare Ov ∗ owns (c : Thread nD τ) arg6 fullShare K ∗ owns (c : Thread nD τ) arg7 fullShare V ∗ (∃ d12, owns (c : Thread nD τ) arg12 fullShare d12) ∗ (∃ d13, owns (c : Thread nD τ) arg13 fullShare d13) ∗ (∃ d14, owns (c : Thread nD τ) arg14 fullShare d14) ∗ (∃ d15, owns (c : Thread nD τ) arg15 fullShare d15) ∗ (∃ d16, owns (c : Thread nD τ) arg16 fullShare d16) ∗ (∃ d17, owns (c : Thread nD τ) arg17 fullShare d17) ∗ (∃ d18, owns (c : Thread nD τ) arg18 fullShare d18) ∗ (∃ d19, owns (c : Thread nD τ) arg19 fullShare d19) ∗ (∃ d20, owns (c : Thread nD τ) arg20 fullShare d20) ∗ (∃ d21, owns (c : Thread nD τ) arg21 fullShare d21) ∗ (∃ d22, owns (c : Thread nD τ) arg22 fullShare d22) ∗ (∃ d23, owns (c : Thread nD τ) arg23 fullShare d23) ∗ (∃ d24, owns (c : Thread nD τ) arg24 fullShare d24) ∗ (∃ d25, owns (c : Thread nD τ) arg25 fullShare d25) ∗ (∃ d26, owns (c : Thread nD τ) arg26 fullShare d26) ∗ (∃ d27, owns (c : Thread nD τ) arg27 fullShare d27) ∗ owns (c : Thread nD τ) arg28 fullShare A28 ∗ owns (c : Thread nD τ) arg29 fullShare A29 ∗ owns (c : Thread nD τ) arg30 fullShare A30)

theorem stepT_wp (arg2 : Memref sig .tc .vmem S4x16x1x512 .f32) (arg3 : Memref sig .tc .vmem S4x8192x128 .bf16) (arg4 : Memref sig .tc .vmem S4x8192x128 .bf16) (arg5 : Memref sig .tc .vmem S4x16x1x512 .f32) (arg6 : Memref sig .tc .vmem S4x512x128 .bf16) (arg7 : Memref sig .tc .vmem S4x512x128 .bf16) (arg8 : Memref sig .tc .vmem S1x512x512 .f32) (arg12 : Memref sig .tc .vmem S512x512 .f32) (arg13 : Memref sig .tc .vmem S512x512 .f32) (arg14 : Memref sig .tc .vmem S512x512 .f32) (arg15 : Memref sig .tc .vmem S512x512 .f32) (arg16 : Memref sig .tc .vmem S512x512 .f32) (arg17 : Memref sig .tc .vmem S512x512 .f32) (arg18 : Memref sig .tc .vmem S512x512 .f32) (arg19 : Memref sig .tc .vmem S512x512 .f32) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (arg29 : Memref sig .tc .vmem S4x512x128 .f32) (arg30 : Memref sig .tc .vmem S4x512x128 .f32) (q : Fin 4 → Fin 3 → ℕ) (hq : ∀ n, QInb (q n)) (l : Fin 4 → Fin 4 → ℕ) (hl : ∀ n, LInb (l n))
    (b : Fin 16) (eq : ∀ n, q n = oQ n b) (el : ∀ n, l n = oL n b)
    (T : Vec F S1x512x512 .f32) (L Dd : S4x16x1x512.Idx → Elt F .f32) (Qv Ov : S4x8192x128.Idx → Elt F .bf16) (K V : S4x512x128.Idx → Elt F .bf16) (A28 : S4x8192x128.Idx → Elt F .f32) (A29 A30 : S4x512x128.Idx → Elt F .f32)
    {α : Type} {kk : PUnit → Prog (TpuEff nD τ sig (Elt F) Λ₀ .tc) α} {Q : α → sProp 𝕄} :
    heldT c arg2 arg3 arg4 arg5 arg6 arg7 arg8 arg12 arg13 arg14 arg15 arg16 arg17 arg18 arg19 arg20 harg20 arg21 harg21 arg22 harg22 arg23 harg23 arg24 harg24 arg25 harg25 arg26 harg26 arg27 harg27 arg28 arg29 arg30 T L Dd Qv Ov K V A28 A29 A30
      ⊢ iprop((heldT c arg2 arg3 arg4 arg5 arg6 arg7 arg8 arg12 arg13 arg14 arg15 arg16 arg17 arg18 arg19 arg20 harg20 arg21 harg21 arg22 harg22 arg23 harg23 arg24 harg24 arg25 harg25 arg26 harg26 arg27 harg27 arg28 arg29 arg30 T L Dd Qv Ov K V (nextQ (tabX T) L Dd Qv Ov K V b A28) (nextK (tabX T) L Dd Qv Ov K V b A29) (nextV (tabX T) L Dd Qv Ov K V b A30)
          -∗ wp frame (wpE (defs₀ (F := F)) Variants.none (c : Thread nD τ) none) Set.univ (kk ⟨⟩) Q)
        -∗ wp frame (wpE (defs₀ (F := F)) Variants.none (c : Thread nD τ) none) Set.univ (stepT arg2 arg3 arg4 arg5 arg6 arg7 arg8 arg12 arg13 arg14 arg15 arg16 arg17 arg18 arg19 arg20 harg20 arg21 harg21 arg22 harg22 arg23 harg23 arg24 harg24 arg25 harg25 arg26 harg26 arg27 harg27 arg28 arg29 arg30 q hq l hl >>= kk) Q) := by
  unfold stepT heldT
  simp only [bind_assoc]
  iintro ⟨HT, HL, HD, HQ, HO, HK, HV, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, H28, H29, H30⟩ Hk
  iapply (prod_wp c arg6 arg3 arg12 _ _ _ _ 0 b rfl (eq 0) K Qv d12) $$ [HK HQ H12]
  · isplitl [HK]; · iexact HK
    isplitl [HQ]; · iexact HQ
    iexact H12
  iintro ⟨HK, HQ, H12⟩
  iapply (prod_wp c arg7 arg4 arg16 _ _ _ _ 0 b rfl (eq 0) V Ov d16) $$ [HV HO H16]
  · isplitl [HV]; · iexact HV
    isplitl [HO]; · iexact HO
    iexact H16
  iintro ⟨HV, HO, H16⟩
  iapply (prod_wp c arg6 arg3 arg13 _ _ _ _ 1 b rfl (eq 1) K Qv d13) $$ [HK HQ H13]
  · isplitl [HK]; · iexact HK
    isplitl [HQ]; · iexact HQ
    iexact H13
  iintro ⟨HK, HQ, H13⟩
  iapply (prod_wp c arg7 arg4 arg17 _ _ _ _ 1 b rfl (eq 1) V Ov d17) $$ [HV HO H17]
  · isplitl [HV]; · iexact HV
    isplitl [HO]; · iexact HO
    iexact H17
  iintro ⟨HV, HO, H17⟩
  iapply (prod_wp c arg6 arg3 arg14 _ _ _ _ 2 b rfl (eq 2) K Qv d14) $$ [HK HQ H14]
  · isplitl [HK]; · iexact HK
    isplitl [HQ]; · iexact HQ
    iexact H14
  iintro ⟨HK, HQ, H14⟩
  iapply (prod_wp c arg7 arg4 arg18 _ _ _ _ 2 b rfl (eq 2) V Ov d18) $$ [HV HO H18]
  · isplitl [HV]; · iexact HV
    isplitl [HO]; · iexact HO
    iexact H18
  iintro ⟨HV, HO, H18⟩
  iapply (prod_wp c arg6 arg3 arg15 _ _ _ _ 3 b rfl (eq 3) K Qv d15) $$ [HK HQ H15]
  · isplitl [HK]; · iexact HK
    isplitl [HQ]; · iexact HQ
    iexact H15
  iintro ⟨HK, HQ, H15⟩
  iapply (prod_wp c arg7 arg4 arg19 _ _ _ _ 3 b rfl (eq 3) V Ov d19) $$ [HV HO H19]
  · isplitl [HV]; · iexact HV
    isplitl [HO]; · iexact HO
    iexact H19
  iintro ⟨HV, HO, H19⟩
  ihave Ha : accs c arg3 arg4 arg6 arg28 arg29 arg30 Qv Ov K b (wTile (tabX T) L Dd Qv Ov K V b) (dTile (tabX T) L Dd Qv Ov K V b) A28 A29 A30 (0 : Fin 4).val $$ [HQ HO HK H28 H29 H30]
  · rw [accs_zero]
    isplitl [HQ]; · iexact HQ
    isplitl [HO]; · iexact HO
    isplitl [HK]; · iexact HK
    isplitl [H28]; · iexact H28
    isplitl [H29]; · iexact H29
    iexact H30
  iapply (headT_wp c arg8 arg2 arg5 arg3 arg4 arg6 arg12 arg16 arg20 harg20 arg24 harg24 arg28 arg29 arg30 _ _ _ _ _ _ 0 b rfl (eq 0) (el 0)
      T L Dd Qv Ov K (score K Qv b 0) (score V Ov b 0) d20 d24 (wTile (tabX T) L Dd Qv Ov K V b) (dTile (tabX T) L Dd Qv Ov K V b) rfl rfl A28 A29 A30) $$ [HT HL HD H12 H16 H20 H24 Ha]
  · isplitl [HT]; · iexact HT
    isplitl [HL]; · iexact HL
    isplitl [HD]; · iexact HD
    isplitl [H12 H16 H20 H24]
    · unfold tilesAt
      isplitl [H12]; · iexact H12
      isplitl [H16]; · iexact H16
      isplitl [H20]; · iexact H20
      iexact H24
    iexact Ha
  iintro ⟨HT, HL, HD, Ht, Ha⟩
  unfold tilesAt
  icases Ht with ⟨H12, H16, H20, H24⟩
  iapply (headT_wp c arg8 arg2 arg5 arg3 arg4 arg6 arg13 arg17 arg21 harg21 arg25 harg25 arg28 arg29 arg30 _ _ _ _ _ _ 1 b rfl (eq 1) (el 1)
      T L Dd Qv Ov K (score K Qv b 1) (score V Ov b 1) d21 d25 (wTile (tabX T) L Dd Qv Ov K V b) (dTile (tabX T) L Dd Qv Ov K V b) rfl rfl A28 A29 A30) $$ [HT HL HD H13 H17 H21 H25 Ha]
  · isplitl [HT]; · iexact HT
    isplitl [HL]; · iexact HL
    isplitl [HD]; · iexact HD
    isplitl [H13 H17 H21 H25]
    · unfold tilesAt
      isplitl [H13]; · iexact H13
      isplitl [H17]; · iexact H17
      isplitl [H21]; · iexact H21
      iexact H25
    iexact Ha
  iintro ⟨HT, HL, HD, Ht, Ha⟩
  unfold tilesAt
  icases Ht with ⟨H13, H17, H21, H25⟩
  iapply (headT_wp c arg8 arg2 arg5 arg3 arg4 arg6 arg14 arg18 arg22 harg22 arg26 harg26 arg28 arg29 arg30 _ _ _ _ _ _ 2 b rfl (eq 2) (el 2)
      T L Dd Qv Ov K (score K Qv b 2) (score V Ov b 2) d22 d26 (wTile (tabX T) L Dd Qv Ov K V b) (dTile (tabX T) L Dd Qv Ov K V b) rfl rfl A28 A29 A30) $$ [HT HL HD H14 H18 H22 H26 Ha]
  · isplitl [HT]; · iexact HT
    isplitl [HL]; · iexact HL
    isplitl [HD]; · iexact HD
    isplitl [H14 H18 H22 H26]
    · unfold tilesAt
      isplitl [H14]; · iexact H14
      isplitl [H18]; · iexact H18
      isplitl [H22]; · iexact H22
      iexact H26
    iexact Ha
  iintro ⟨HT, HL, HD, Ht, Ha⟩
  unfold tilesAt
  icases Ht with ⟨H14, H18, H22, H26⟩
  iapply (headT_wp c arg8 arg2 arg5 arg3 arg4 arg6 arg15 arg19 arg23 harg23 arg27 harg27 arg28 arg29 arg30 _ _ _ _ _ _ 3 b rfl (eq 3) (el 3)
      T L Dd Qv Ov K (score K Qv b 3) (score V Ov b 3) d23 d27 (wTile (tabX T) L Dd Qv Ov K V b) (dTile (tabX T) L Dd Qv Ov K V b) rfl rfl A28 A29 A30) $$ [HT HL HD H15 H19 H23 H27 Ha]
  · isplitl [HT]; · iexact HT
    isplitl [HL]; · iexact HL
    isplitl [HD]; · iexact HD
    isplitl [H15 H19 H23 H27]
    · unfold tilesAt
      isplitl [H15]; · iexact H15
      isplitl [H19]; · iexact H19
      isplitl [H23]; · iexact H23
      iexact H27
    iexact Ha
  iintro ⟨HT, HL, HD, Ht, Ha⟩
  unfold tilesAt
  icases Ht with ⟨H15, H19, H23, H27⟩
  ihave Hb := (accs_four c arg3 arg4 arg6 arg28 arg29 arg30 Qv Ov K b (wTile (tabX T) L Dd Qv Ov K V b) (dTile (tabX T) L Dd Qv Ov K V b) A28 A29 A30) $$ Ha
  icases Hb with ⟨HQ, HO, HK, H28, H29, H30⟩
  iapply Hk
  isplitl [HT]; · iexact HT
  isplitl [HL]; · iexact HL
  isplitl [HD]; · iexact HD
  isplitl [HQ]; · iexact HQ
  isplitl [HO]; · iexact HO
  isplitl [HK]; · iexact HK
  isplitl [HV]; · iexact HV
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexact H28
  isplitl [H29]; · iexact H29
  iexact H30

end Cert.KernelIdeal.Fox

end
-- ==== Proof.Trip.lean ====
/- The printed body's loops are `Steps`' program, by unfolding. -/
module

public import proofs.«01_k».proof.Proof.Steps

@[expose] public section

set_option maxRecDepth 65536

noncomputable section

namespace Cert.KernelIdeal.Fox

open Cert.KernelIdeal Cert.KernelIdeal.Gen
open Idealize.ShloMosaic Idealize.SL.Sem

variable {F : FTy → Type} [FloatOps F]

/-- The row offsets of trip `t` of the body's loop. -/
def oQ1 (i : grid0.Coords) (t : Fin (k0_t1_loop i).trips) : Fin 4 → Fin 3 → ℕ
  | 0 => k0_off9 i t | 1 => k0_off10 i t | 2 => k0_off11 i t | 3 => k0_off12 i t
theorem hQ1 (i : grid0.Coords) (t : Fin (k0_t1_loop i).trips) : ∀ n, QInb (oQ1 i t n)
  | 0 => k0_off9_inb i t | 1 => k0_off10_inb i t | 2 => k0_off11_inb i t | 3 => k0_off12_inb i t
def oL1 (i : grid0.Coords) (t : Fin (k0_t1_loop i).trips) : Fin 4 → Fin 4 → ℕ
  | 0 => k0_off13 i t | 1 => k0_off14 i t | 2 => k0_off15 i t | 3 => k0_off16 i t
theorem hL1 (i : grid0.Coords) (t : Fin (k0_t1_loop i).trips) : ∀ n, LInb (oL1 i t n)
  | 0 => k0_off13_inb i t | 1 => k0_off14_inb i t | 2 => k0_off15_inb i t | 3 => k0_off16_inb i t

set_option maxHeartbeats 40000000 in
theorem trip1_eq (i : grid0.Coords) (arg2 : Memref sig .tc .vmem S4x16x1x512 .f32) (harg2 : arg2.IsWhole) (arg3 : Memref sig .tc .vmem S4x8192x128 .bf16) (harg3 : arg3.IsWhole) (arg4 : Memref sig .tc .vmem S4x8192x128 .bf16) (harg4 : arg4.IsWhole) (arg5 : Memref sig .tc .vmem S4x16x1x512 .f32) (harg5 : arg5.IsWhole) (arg6 : Memref sig .tc .vmem S4x512x128 .bf16) (harg6 : arg6.IsWhole) (arg7 : Memref sig .tc .vmem S4x512x128 .bf16) (harg7 : arg7.IsWhole) (arg8 : Memref sig .tc .vmem S1x512x512 .f32) (harg8 : arg8.IsWhole) (arg9 : Memref sig .tc .hbm S8x8192x128 .f32) (harg9 : arg9.IsWhole) (arg10 : Memref sig .tc .vmem S4x512x128 .f32) (harg10 : arg10.IsWhole) (arg11 : Memref sig .tc .vmem S4x512x128 .bf16) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (harg28 : arg28.IsWhole) (arg29 : Memref sig .tc .vmem S4x512x128 .f32) (harg29 : arg29.IsWhole) (arg30 : Memref sig .tc .vmem S4x512x128 .f32) (harg30 : arg30.IsWhole) (arg31 : DmaSems sig S_) (arg1 v12 : BitVec 32) (v1445 : FVec F S512x128 .f32) (v1461 : BitVec 32)
    (t : Fin (k0_t1_loop i).trips) :
    k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 arg1 v12 v1445 v1461 t ()
      = step arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 (oQ1 i t) (hQ1 i t) (oL1 i t) (hL1 i t) := rfl

end Cert.KernelIdeal.Fox

end
-- ==== Proof.Whole.lean ====
/- The printed body is `Steps`' program: the diagonal step, the loop over the later blocks of queries, the results out. -/
module

public import proofs.«01_k».proof.Proof.Trip

@[expose] public section

set_option maxRecDepth 65536

noncomputable section

namespace Cert.KernelIdeal.Fox

open Cert.KernelIdeal Cert.KernelIdeal.Gen
open Idealize.ShloMosaic Idealize.SL.Sem

variable {F : FTy → Type} [FloatOps F]

/-- The row offsets of the diagonal step. -/
def oQ0 (i : grid0.Coords) : Fin 4 → Fin 3 → ℕ
  | 0 => k0_off1 i | 1 => k0_off2 i | 2 => k0_off3 i | 3 => k0_off4 i
theorem hQ0 (i : grid0.Coords) : ∀ n, QInb (oQ0 i n)
  | 0 => k0_off1_inb i | 1 => k0_off2_inb i | 2 => k0_off3_inb i | 3 => k0_off4_inb i
def oL0 (i : grid0.Coords) : Fin 4 → Fin 4 → ℕ
  | 0 => k0_off5 i | 1 => k0_off6 i | 2 => k0_off7 i | 3 => k0_off8 i
theorem hL0 (i : grid0.Coords) : ∀ n, LInb (oL0 i n)
  | 0 => k0_off5_inb i | 1 => k0_off6_inb i | 2 => k0_off7_inb i | 3 => k0_off8_inb i
/-- The row offsets of the second loop, which has no trips. -/
def oQ2 (i : grid0.Coords) (t : Fin (k0_t2_loop i).trips) : Fin 4 → Fin 3 → ℕ
  | 0 => k0_off17 i t | 1 => k0_off18 i t | 2 => k0_off19 i t | 3 => k0_off20 i t
theorem hQ2 (i : grid0.Coords) (t : Fin (k0_t2_loop i).trips) : ∀ n, QInb (oQ2 i t n)
  | 0 => k0_off17_inb i t | 1 => k0_off18_inb i t | 2 => k0_off19_inb i t | 3 => k0_off20_inb i t
def oL2 (i : grid0.Coords) (t : Fin (k0_t2_loop i).trips) : Fin 4 → Fin 4 → ℕ
  | 0 => k0_off21 i t | 1 => k0_off22 i t | 2 => k0_off23 i t | 3 => k0_off24 i t
theorem hL2 (i : grid0.Coords) (t : Fin (k0_t2_loop i).trips) : ∀ n, LInb (oL2 i t n)
  | 0 => k0_off21_inb i t | 1 => k0_off22_inb i t | 2 => k0_off23_inb i t | 3 => k0_off24_inb i t

/-- Whether the point is the first of its group of heads. -/
def cond1 (i : grid0.Coords) : BitVec 1 := Scalar.cmpi .ne (Scalar.extui (Scalar.cmpi .eq (BitVec.ofNat 32 (i 1).val) 0#32) : BitVec 32) 0#32

/-- The accumulator of the queries' gradient, cleared at a group's first point. -/
def clearQ (i : grid0.Coords) (arg28 : Memref sig .tc .vmem S4x8192x128 .f32) : PrU F :=
  if h : cond1 i = 1#1 then do
    let _ : Vec F S4x8192x128 .f32 ← Prog.lift (.load arg28 (Rect.unit (s := S4x8192x128) ![0, 0, 0] S4x8192x128.size inb_S4x8192x128_S4x8192x128_0_0_0).toLoadRect (View.loadsAt_vmem h_S4x8192x128))
    Prog.lift (.store arg28 (Rect.unit (s := S4x8192x128) ![0, 0, 0] S4x8192x128.size inb_S4x8192x128_S4x8192x128_0_0_0) (k0_pay478 (F := F)) Finset.univ (View.stores_vmem_bits_univ h_S4x8192x128 rfl) (.inl rfl))
    pure ⟨⟩
  else do
    pure ⟨⟩

def clearKV (arg29 arg30 : Memref sig .tc .vmem S4x512x128 .f32) : PrU F := do
  let _ : Vec F S4x512x128 .f32 ← Prog.lift (.load arg29 (Rect.unit (s := S4x512x128) ![0, 0, 0] S4x512x128.size inb_S4x512x128_S4x512x128_0_0_0).toLoadRect (View.loadsAt_vmem h_S4x512x128))
  Prog.lift (.store arg29 (Rect.unit (s := S4x512x128) ![0, 0, 0] S4x512x128.size inb_S4x512x128_S4x512x128_0_0_0) (k0_pay479 (F := F)) Finset.univ (View.stores_vmem_bits_univ h_S4x512x128 rfl) (.inl rfl))
  let _ : Vec F S4x512x128 .f32 ← Prog.lift (.load arg30 (Rect.unit (s := S4x512x128) ![0, 0, 0] S4x512x128.size inb_S4x512x128_S4x512x128_0_0_0).toLoadRect (View.loadsAt_vmem h_S4x512x128))
  Prog.lift (.store arg30 (Rect.unit (s := S4x512x128) ![0, 0, 0] S4x512x128.size inb_S4x512x128_S4x512x128_0_0_0) (k0_pay480 (F := F)) Finset.univ (View.stores_vmem_bits_univ h_S4x512x128 rfl) (.inl rfl))

section Body
variable (i : grid0.Coords) (arg2 : Memref sig .tc .vmem S4x16x1x512 .f32) (harg2 : arg2.IsWhole) (arg3 : Memref sig .tc .vmem S4x8192x128 .bf16) (harg3 : arg3.IsWhole) (arg4 : Memref sig .tc .vmem S4x8192x128 .bf16) (harg4 : arg4.IsWhole) (arg5 : Memref sig .tc .vmem S4x16x1x512 .f32) (harg5 : arg5.IsWhole) (arg6 : Memref sig .tc .vmem S4x512x128 .bf16) (harg6 : arg6.IsWhole) (arg7 : Memref sig .tc .vmem S4x512x128 .bf16) (harg7 : arg7.IsWhole) (arg8 : Memref sig .tc .vmem S1x512x512 .f32) (harg8 : arg8.IsWhole) (arg9 : Memref sig .tc .hbm S8x8192x128 .f32) (harg9 : arg9.IsWhole) (arg10 : Memref sig .tc .vmem S4x512x128 .f32) (harg10 : arg10.IsWhole) (arg11 : Memref sig .tc .vmem S4x512x128 .bf16) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (harg28 : arg28.IsWhole) (arg29 : Memref sig .tc .vmem S4x512x128 .f32) (harg29 : arg29.IsWhole) (arg30 : Memref sig .tc .vmem S4x512x128 .f32) (harg30 : arg30.IsWhole) (arg31 : DmaSems sig S_)

/-- The loops, and the keys' gradient out; what the values' accumulator then holds. -/
def loops : Prog (TpuEff nD τ sig (Elt F) Λ₀ .tc) (Vec F S4x512x128 .f32) := do
  Scf.Loop.for (k0_t1_loop i) (k0_t1_ok i) ⟨⟩ (fun t _ => step arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 (oQ1 i t) (hQ1 i t) (oL1 i t) (hL1 i t))
  Scf.Loop.for (k0_t2_loop i) (k0_t2_ok i) ⟨⟩ (fun t _ => step arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 (oQ2 i t) (hQ2 i t) (oL2 i t) (hL2 i t))
  let v1471 : Vec F S4x512x128 .f32 ← Prog.lift (.load arg29 (Rect.unit (s := S4x512x128) ![0, 0, 0] S4x512x128.size inb_S4x512x128_S4x512x128_0_0_0).toLoadRect (View.loadsAt_vmem h_S4x512x128))
  let _ : Vec F S4x512x128 .f32 ← Prog.lift (.load arg10 (Rect.unit (s := S4x512x128) ![0, 0, 0] S4x512x128.size inb_S4x512x128_S4x512x128_0_0_0).toLoadRect (View.loadsAt_vmem h_S4x512x128))
  Prog.lift (.store arg10 (Rect.unit (s := S4x512x128) ![0, 0, 0] S4x512x128.size inb_S4x512x128_S4x512x128_0_0_0) v1471 Finset.univ (View.stores_vmem_bits_univ h_S4x512x128 rfl) (.inl rfl))
  let v1473 : Vec F S4x512x128 .f32 ← Prog.lift (.load arg30 (Rect.unit (s := S4x512x128) ![0, 0, 0] S4x512x128.size inb_S4x512x128_S4x512x128_0_0_0).toLoadRect (View.loadsAt_vmem h_S4x512x128))
  pure v1473

end Body

/-- The queries' gradient, copied out at a group's last point. -/
def copyQ (i : grid0.Coords) (arg9 : Memref sig .tc .hbm S8x8192x128 .f32) (harg9 : arg9.IsWhole) (arg28 : Memref sig .tc .vmem S4x8192x128 .f32) (harg28 : arg28.IsWhole) (arg31 : DmaSems sig S_) : PrU F := do
  if k0_h2 : k0_cond2 i = 1#1 then do
    Prog.lift (.enqueueDma arg28 (.here (arg9.slice (Rect.unit (s := S8x8192x128) (k0_off25 i) S4x8192x128.size (k0_off25_inb i k0_h2)) (fun _ => rfl))) (.dma arg31.sem) harg28.wordExact (View.wordExact_bits rfl) ⟨Or.inl rfl, trivial⟩)
    Prog.lift (.waitDma2 arg31.sem arg28 (arg9.slice (Rect.unit (s := S8x8192x128) (k0_off25 i) S4x8192x128.size (k0_off25_inb i k0_h2)) (fun _ => rfl)) harg28.wordExact (View.wordExact_bits rfl))
    pure ⟨⟩
  else do
    pure ⟨⟩
  pure ⟨⟩

def outV (arg11 : Memref sig .tc .vmem S4x512x128 .bf16) (harg11 : arg11.IsWhole) (v1473 : Vec F S4x512x128 .f32) : PrU F := do
  let _ : Vec F S4x512x128 .bf16 ← Prog.lift (.load arg11 (Rect.unit (s := S4x512x128) ![0, 0, 0] S4x512x128.size inb_S4x512x128_S4x512x128_0_0_0).toLoadRect (View.loadsAt_vmem h_S4x512x128))
  Prog.lift (.store arg11 (Rect.unit (s := S4x512x128) ![0, 0, 0] S4x512x128.size inb_S4x512x128_S4x512x128_0_0_0) (k0_pay1 v1473) Finset.univ (View.stores_vmem h_S4x512x128 (harg11.storeExact_slice rfl _ packedbf16_S4x512x128_S4x512x128_0_0_0) (fun _ => rfl)) (.inl rfl))

section Body
variable (i : grid0.Coords) (arg2 : Memref sig .tc .vmem S4x16x1x512 .f32) (harg2 : arg2.IsWhole) (arg3 : Memref sig .tc .vmem S4x8192x128 .bf16) (harg3 : arg3.IsWhole) (arg4 : Memref sig .tc .vmem S4x8192x128 .bf16) (harg4 : arg4.IsWhole) (arg5 : Memref sig .tc .vmem S4x16x1x512 .f32) (harg5 : arg5.IsWhole) (arg6 : Memref sig .tc .vmem S4x512x128 .bf16) (harg6 : arg6.IsWhole) (arg7 : Memref sig .tc .vmem S4x512x128 .bf16) (harg7 : arg7.IsWhole) (arg8 : Memref sig .tc .vmem S1x512x512 .f32) (harg8 : arg8.IsWhole) (arg9 : Memref sig .tc .hbm S8x8192x128 .f32) (harg9 : arg9.IsWhole) (arg10 : Memref sig .tc .vmem S4x512x128 .f32) (harg10 : arg10.IsWhole) (arg11 : Memref sig .tc .vmem S4x512x128 .bf16) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (harg28 : arg28.IsWhole) (arg29 : Memref sig .tc .vmem S4x512x128 .f32) (harg29 : arg29.IsWhole) (arg30 : Memref sig .tc .vmem S4x512x128 .f32) (harg30 : arg30.IsWhole) (arg31 : DmaSems sig S_)

/-- The body, of `Steps`. -/
def bodyS : PrU F := do
  clearQ i arg28
  clearKV arg29 arg30
  stepT arg2 arg3 arg4 arg5 arg6 arg7 arg8 arg12 arg13 arg14 arg15 arg16 arg17 arg18 arg19 arg20 harg20 arg21 harg21 arg22 harg22 arg23 harg23 arg24 harg24 arg25 harg25 arg26 harg26 arg27 harg27 arg28 arg29 arg30 (oQ0 i) (hQ0 i) (oL0 i) (hL0 i)
  let v ← loops i arg2 arg3 arg4 arg5 arg6 arg7 arg10 arg12 arg13 arg14 arg15 arg16 arg17 arg18 arg19 arg20 harg20 arg21 harg21 arg22 harg22 arg23 harg23 arg24 harg24 arg25 harg25 arg26 harg26 arg27 harg27 arg28 arg29 arg30
  outV arg11 harg11 v
  copyQ i arg9 harg9 arg28 harg28 arg31

set_option maxHeartbeats 40000000 in
theorem body_eq : cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 = bodyS (F := F) i arg2 arg3 arg4 arg5 arg6 arg7 arg8 arg9 harg9 arg10 arg11 harg11 arg12 arg13 arg14 arg15 arg16 arg17 arg18 arg19 arg20 harg20 arg21 harg21 arg22 harg22 arg23 harg23 arg24 harg24 arg25 harg25 arg26 harg26 arg27 harg27 arg28 harg28 arg29 arg30 arg31 := by
  unfold cc0_fox_bwd k0_part73 bodyS
  by_cases h : cond1 i = 1#1
  · unfold clearQ
    rw [dif_pos h, dif_pos (show Scalar.cmpi .ne (Scalar.extui (Scalar.cmpi .eq (BitVec.ofNat 32 (i 1).val) 0#32) : BitVec 32) 0#32 = 1#1 from h)]
    rfl
  · unfold clearQ
    rw [dif_neg h, dif_neg (show ¬ Scalar.cmpi .ne (Scalar.extui (Scalar.cmpi .eq (BitVec.ofNat 32 (i 1).val) 0#32) : BitVec 32) 0#32 = 1#1 from h)]
    rfl

end Body

end Cert.KernelIdeal.Fox

end
-- ==== Proof.BodyRun.lean ====
/-
  The body of a grid point, run.
-/
module

public import proofs.«01_k».proof.Proof.StepRun
public import proofs.«01_k».proof.Proof.Whole

@[expose] public section

noncomputable section

namespace Cert.KernelIdeal.Fox

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.ValueIdx (ix2 ix3 ix4)

/-! ## What the accumulators hold after the trips -/

/-- Block number `n`. -/
def blk (n : ℕ) : Fin 16 := Fin.ofNat 16 n

/-- The accumulator after the diagonal step at block `j` and `n` trips. -/
def atK (T : Vec F S1x512x512 .f32) (L Dd : S4x16x1x512.Idx → Elt F .f32) (Qv Ov : S4x8192x128.Idx → Elt F .bf16) (K V : S4x512x128.Idx → Elt F .bf16) (j : ℕ) (A : S4x512x128.Idx → Elt F .f32) : ℕ → S4x512x128.Idx → Elt F .f32
  | 0 => nextK (tabX T) L Dd Qv Ov K V (blk j) A
  | n + 1 => nextK id L Dd Qv Ov K V (blk (j + 1 + n)) (atK T L Dd Qv Ov K V j A n)

/-- The accumulator after the diagonal step at block `j` and `n` trips. -/
def atV (T : Vec F S1x512x512 .f32) (L Dd : S4x16x1x512.Idx → Elt F .f32) (Qv Ov : S4x8192x128.Idx → Elt F .bf16) (K V : S4x512x128.Idx → Elt F .bf16) (j : ℕ) (A : S4x512x128.Idx → Elt F .f32) : ℕ → S4x512x128.Idx → Elt F .f32
  | 0 => nextV (tabX T) L Dd Qv Ov K V (blk j) A
  | n + 1 => nextV id L Dd Qv Ov K V (blk (j + 1 + n)) (atV T L Dd Qv Ov K V j A n)

/-- The accumulator after the diagonal step at block `j` and `n` trips. -/
def atQ (T : Vec F S1x512x512 .f32) (L Dd : S4x16x1x512.Idx → Elt F .f32) (Qv Ov : S4x8192x128.Idx → Elt F .bf16) (K V : S4x512x128.Idx → Elt F .bf16) (j : ℕ) (A : S4x8192x128.Idx → Elt F .f32) : ℕ → S4x8192x128.Idx → Elt F .f32
  | 0 => nextQ (tabX T) L Dd Qv Ov K V (blk j) A
  | n + 1 => nextQ id L Dd Qv Ov K V (blk (j + 1 + n)) (atQ T L Dd Qv Ov K V j A n)

theorem atK_succ (T : Vec F S1x512x512 .f32) (L Dd : S4x16x1x512.Idx → Elt F .f32) (Qv Ov : S4x8192x128.Idx → Elt F .bf16) (K V : S4x512x128.Idx → Elt F .bf16) (j : ℕ) (A : S4x512x128.Idx → Elt F .f32) (n : ℕ) :
    atK T L Dd Qv Ov K V j A (n + 1) = nextK id L Dd Qv Ov K V (blk (j + 1 + n)) (atK T L Dd Qv Ov K V j A n) := rfl
theorem atV_succ (T : Vec F S1x512x512 .f32) (L Dd : S4x16x1x512.Idx → Elt F .f32) (Qv Ov : S4x8192x128.Idx → Elt F .bf16) (K V : S4x512x128.Idx → Elt F .bf16) (j : ℕ) (A : S4x512x128.Idx → Elt F .f32) (n : ℕ) :
    atV T L Dd Qv Ov K V j A (n + 1) = nextV id L Dd Qv Ov K V (blk (j + 1 + n)) (atV T L Dd Qv Ov K V j A n) := rfl
theorem atQ_succ (T : Vec F S1x512x512 .f32) (L Dd : S4x16x1x512.Idx → Elt F .f32) (Qv Ov : S4x8192x128.Idx → Elt F .bf16) (K V : S4x512x128.Idx → Elt F .bf16) (j : ℕ) (A : S4x8192x128.Idx → Elt F .f32) (n : ℕ) :
    atQ T L Dd Qv Ov K V j A (n + 1) = nextQ id L Dd Qv Ov K V (blk (j + 1 + n)) (atQ T L Dd Qv Ov K V j A n) := rfl

/-- What a point's cleared accumulators are. -/
def zKV : S4x512x128.Idx → Elt F .f32 := k0_pay479 (F := F)
def zQ : S4x8192x128.Idx → Elt F .f32 := k0_pay478 (F := F)

/-- What the queries' accumulator holds once a point's clearing is done. -/
def startQ (i : grid0.Coords) (A : S4x8192x128.Idx → Elt F .f32) : S4x8192x128.Idx → Elt F .f32 :=
  if (i 1).val = 0 then zQ else A

theorem cond1_iff : ∀ i : grid0.Coords, cond1 i = 1#1 ↔ (i 1).val = 0 := by decide +kernel
theorem cond2_iff : ∀ i : grid0.Coords, k0_cond2 i = 1#1 ↔ (i 1).val = 15 := by decide +kernel
theorem off25_eq : ∀ i : grid0.Coords, k0_off25 i = ![4 * (i 0).val, 0, 0] := by decide +kernel
theorem oQ0_eq : ∀ (i : grid0.Coords) (n : Fin 4), oQ0 i n = oQ n (blk (i 1).val) := by decide +kernel
theorem oL0_eq : ∀ (i : grid0.Coords) (n : Fin 4), oL0 i n = oL n (blk (i 1).val) := by decide +kernel
theorem trips1 : ∀ i : grid0.Coords, (k0_t1_loop i).trips = 15 - (i 1).val := by decide +kernel
theorem trips2 : ∀ i : grid0.Coords, (k0_t2_loop i).trips = 0 := by decide +kernel
theorem oQ1_eq : ∀ (i : grid0.Coords) (t : Fin (k0_t1_loop i).trips) (n : Fin 4), oQ1 i t n = oQ n (blk ((i 1).val + 1 + t.val)) := by decide +kernel
theorem oL1_eq : ∀ (i : grid0.Coords) (t : Fin (k0_t1_loop i).trips) (n : Fin 4), oL1 i t n = oL n (blk ((i 1).val + 1 + t.val)) := by decide +kernel

variable (c : Dev nD)

theorem clearQ_wp (i : grid0.Coords) (arg28 : Memref sig .tc .vmem S4x8192x128 .f32) (A : S4x8192x128.Idx → Elt F .f32) {α : Type} {kk : PUnit → Prog (TpuEff nD τ sig (Elt F) Λ₀ .tc) α} {Q : α → sProp 𝕄} :
    (owns (c : Thread nD τ) arg28 fullShare A : sProp 𝕄)
      ⊢ iprop((owns (c : Thread nD τ) arg28 fullShare (startQ i A) -∗ wp frame (wpE (defs₀ (F := F)) Variants.none (c : Thread nD τ) none) Set.univ (kk ⟨⟩) Q) -∗ wp frame (wpE (defs₀ (F := F)) Variants.none (c : Thread nD τ) none) Set.univ (clearQ i arg28 >>= kk) Q) := by
  unfold clearQ startQ
  by_cases h : (i 1).val = 0
  · rw [dif_pos ((cond1_iff i).2 h), if_pos h]
    simp only [bind_assoc]
    iintro H Hk
    iapply (owns_load c arg28 _ A) $$ H
    iintro H
    iapply (owns_store c arg28 _ _ A) $$ H
    iintro H
    iapply Hk
    rw [putR_all]
    iexact H
  · rw [dif_neg (fun e => h ((cond1_iff i).1 e)), if_neg h]
    iintro H Hk
    iapply Hk $$ H

theorem clearKV_wp (arg29 arg30 : Memref sig .tc .vmem S4x512x128 .f32) (A29 A30 : S4x512x128.Idx → Elt F .f32) {α : Type} {kk : PUnit → Prog (TpuEff nD τ sig (Elt F) Λ₀ .tc) α} {Q : α → sProp 𝕄} :
    iprop(owns (c : Thread nD τ) arg29 fullShare A29 ∗ owns (c : Thread nD τ) arg30 fullShare A30)
      ⊢ iprop(((owns (c : Thread nD τ) arg29 fullShare zKV ∗ owns (c : Thread nD τ) arg30 fullShare zKV) -∗ wp frame (wpE (defs₀ (F := F)) Variants.none (c : Thread nD τ) none) Set.univ (kk ⟨⟩) Q) -∗ wp frame (wpE (defs₀ (F := F)) Variants.none (c : Thread nD τ) none) Set.univ (clearKV arg29 arg30 >>= kk) Q) := by
  unfold clearKV
  simp only [bind_assoc]
  iintro ⟨H, H'⟩ Hk
  iapply (owns_load c arg29 _ A29) $$ H
  iintro H
  iapply (owns_store c arg29 _ _ A29) $$ H
  iintro H
  iapply (owns_load c arg30 _ A30) $$ H'
  iintro H'
  iapply (owns_store c arg30 _ _ A30) $$ H'
  iintro H'
  iapply Hk
  rw [putR_all, putR_all]
  isplitl [H]; · iexact H
  iexact H'

theorem outV_wp (arg11 : Memref sig .tc .vmem S4x512x128 .bf16) (harg11 : arg11.IsWhole) (v : Vec F S4x512x128 .f32) (X : S4x512x128.Idx → Elt F .bf16) {α : Type} {kk : PUnit → Prog (TpuEff nD τ sig (Elt F) Λ₀ .tc) α} {Q : α → sProp 𝕄} :
    (owns (c : Thread nD τ) arg11 fullShare X : sProp 𝕄)
      ⊢ iprop((owns (c : Thread nD τ) arg11 fullShare (k0_pay1 v) -∗ wp frame (wpE (defs₀ (F := F)) Variants.none (c : Thread nD τ) none) Set.univ (kk ⟨⟩) Q) -∗ wp frame (wpE (defs₀ (F := F)) Variants.none (c : Thread nD τ) none) Set.univ (outV arg11 harg11 v >>= kk) Q) := by
  unfold outV
  simp only [bind_assoc]
  iintro H Hk
  iapply (owns_load c arg11 _ X) $$ H
  iintro H
  iapply (owns_store c arg11 _ _ X) $$ H
  iintro H
  iapply Hk
  rw [putR_all]
  iexact H

/-- The four heads' rows of the queries' gradient in its array. -/
theorem inbG (h : ℕ) (hh : h < 2) : ∀ a, ![4 * h, 0, 0] a + S4x8192x128.size a ≤ S8x8192x128.size a := by
  interval_cases h <;> decide

/-- The array of the queries' gradient after a group's copy. -/
def putG (i : grid0.Coords) (X : S4x8192x128.Idx → Elt F .f32) (G : S8x8192x128.Idx → Elt F .f32) : S8x8192x128.Idx → Elt F .f32 :=
  if (i 1).val = 15 then putR (Rect.unit (s := S8x8192x128) ![4 * (i 0).val, 0, 0] S4x8192x128.size (inbG _ (i 0).isLt)) X G else G

theorem read_put {s : Shape} {e : EltTy} {sp : Space} (m : Memref sig .tc sp s e) (r : Rect s) (hr : ∀ a, r.stride a = 1) (w : r.shape.Idx → Elt F e) (g : m.view.ty.Contents (Elt F)) :
    m.view.read (Elt F) ((m.slice r hr).view.write (Elt F) g w Finset.univ) = putR r w (m.view.read (Elt F) g) := by
  funext x
  by_cases hx : x ∈ r.set
  · obtain ⟨j, rfl⟩ := r.exists_idx_of_mem hx
    exact (View.read_slice_write_emb r g w (Finset.mem_univ _)).trans (putR_emb r w _ j).symm
  · rw [putR_off r w _ x hx]
    refine View.read_slice_write_of_not_mem r g w Finset.univ ?_
    rw [Rect.map_emb_univ]; exact hx

theorem putR_congr {s : Shape} {α : Type} {o o' size : Fin s.rank → ℕ} (e : o = o') (h : ∀ a, o a + size a ≤ s.size a) (h' : ∀ a, o' a + size a ≤ s.size a)
    (w : ((a : Fin s.rank) → Fin (size a)) → α) (X : s.Idx → α) : putR (Rect.unit (s := s) o size h) w X = putR (Rect.unit (s := s) o' size h') w X := by
  subst e; rfl

theorem copyQ_wp (i : grid0.Coords) (arg9 : Memref sig .tc .hbm S8x8192x128 .f32) (harg9 : arg9.IsWhole) (arg28 : Memref sig .tc .vmem S4x8192x128 .f32) (harg28 : arg28.IsWhole) (arg31 : DmaSems sig S_)
    (X : S4x8192x128.Idx → Elt F .f32) (G : S8x8192x128.Idx → Elt F .f32) (W : Waits sig Unit) {α : Type} {kk : PUnit → Prog (TpuEff nD τ sig (Elt F) Λ₀ .tc) α} {Q : α → sProp 𝕄} :
    iprop(owns (c : Thread nD τ) arg28 fullShare X ∗ owns (c : Thread nD τ) arg9 fullShare G ∗ semVal ((c : Thread nD τ), SemLoc.dma arg31.sem) 0 ∗ owes (c : Thread nD τ) 0 W)
      ⊢ iprop(((owns (c : Thread nD τ) arg28 fullShare X ∗ owns (c : Thread nD τ) arg9 fullShare (putG i X G) ∗ semVal ((c : Thread nD τ), SemLoc.dma arg31.sem) 0 ∗ (∃ W', owes (c : Thread nD τ) 0 W'))
            -∗ wp frame (wpE (defs₀ (F := F)) Variants.none (c : Thread nD τ) none) Set.univ (kk ⟨⟩) Q) -∗ wp frame (wpE (defs₀ (F := F)) Variants.none (c : Thread nD τ) none) Set.univ (copyQ i arg9 harg9 arg28 harg28 arg31 >>= kk) Q) := by
  unfold copyQ putG
  by_cases h : (i 1).val = 15
  · have h2 := (cond2_iff i).2 h
    rw [dif_pos h2, if_pos h]
    simp only [bind_assoc]
    unfold owns
    iintro ⟨⟨%f, %hf, H⟩, ⟨%g, %hg, HG⟩, Hs, HO⟩ Hk
    iapply (Transfers.wp_dmaLocal (countersEmb (U := Pipeline.UD sig nD τ)) Variants.none (c : Thread nD τ) none () _ rfl
      (Nat.pos_of_ne_zero fun e => absurd ((View.amount_eq_zero_iff _ _).mp e) (by decide))
      (View.set_slice_subset arg9.view _)) $$ [H HG Hs]
    · isplitl [H]; · iexact H
      isplitl [HG]; · iexact HG
      iexact Hs
    iintro Hf
    iapply (Transfers.wp_waitLocal (countersEmb (U := Pipeline.UD sig nD τ)) Variants.none (c : Thread nD τ) none () rfl) $$ [Hf HO]
    · isplitl [Hf]; · iexact Hf
      iexact HO
    iintro ⟨⟨HG, H⟩, Hs, HO⟩
    iapply Hk
    isplitl [H]
    · iexists f; isplitr
      · ipureintro; exact hf
      · iexact H
    isplitl [HG]
    · iexists _; isplitr; swap
      · iexact HG
      · ipureintro
        refine (read_put arg9 _ _ _ g).trans ?_
        rw [hg]
        subst hf
        exact putR_congr (off25_eq i) _ _ _ _
    isplitl [Hs]; · iexact Hs
    iexists _; iexact HO
  · rw [dif_neg (fun e => h ((cond2_iff i).1 e)), if_neg h]
    iintro ⟨H, HG, Hs, HO⟩ Hk
    iapply Hk
    isplitl [H]; · iexact H
    isplitl [HG]; · iexact HG
    isplitl [Hs]; · iexact Hs
    iexists _; iexact HO

theorem step_bind (arg2 : Memref sig .tc .vmem S4x16x1x512 .f32) (arg3 : Memref sig .tc .vmem S4x8192x128 .bf16) (arg4 : Memref sig .tc .vmem S4x8192x128 .bf16) (arg5 : Memref sig .tc .vmem S4x16x1x512 .f32) (arg6 : Memref sig .tc .vmem S4x512x128 .bf16) (arg7 : Memref sig .tc .vmem S4x512x128 .bf16) (arg12 : Memref sig .tc .vmem S512x512 .f32) (arg13 : Memref sig .tc .vmem S512x512 .f32) (arg14 : Memref sig .tc .vmem S512x512 .f32) (arg15 : Memref sig .tc .vmem S512x512 .f32) (arg16 : Memref sig .tc .vmem S512x512 .f32) (arg17 : Memref sig .tc .vmem S512x512 .f32) (arg18 : Memref sig .tc .vmem S512x512 .f32) (arg19 : Memref sig .tc .vmem S512x512 .f32) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (arg29 : Memref sig .tc .vmem S4x512x128 .f32) (arg30 : Memref sig .tc .vmem S4x512x128 .f32) (q : Fin 4 → Fin 3 → ℕ) (hq : ∀ n, QInb (q n)) (l : Fin 4 → Fin 4 → ℕ) (hl : ∀ n, LInb (l n)) :
    (step (F := F) arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 q hq l hl >>= pure) = step arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 q hq l hl := bind_pure _

theorem step_only (arg2 : Memref sig .tc .vmem S4x16x1x512 .f32) (arg3 : Memref sig .tc .vmem S4x8192x128 .bf16) (arg4 : Memref sig .tc .vmem S4x8192x128 .bf16) (arg5 : Memref sig .tc .vmem S4x16x1x512 .f32) (arg6 : Memref sig .tc .vmem S4x512x128 .bf16) (arg7 : Memref sig .tc .vmem S4x512x128 .bf16) (arg12 : Memref sig .tc .vmem S512x512 .f32) (arg13 : Memref sig .tc .vmem S512x512 .f32) (arg14 : Memref sig .tc .vmem S512x512 .f32) (arg15 : Memref sig .tc .vmem S512x512 .f32) (arg16 : Memref sig .tc .vmem S512x512 .f32) (arg17 : Memref sig .tc .vmem S512x512 .f32) (arg18 : Memref sig .tc .vmem S512x512 .f32) (arg19 : Memref sig .tc .vmem S512x512 .f32) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (arg29 : Memref sig .tc .vmem S4x512x128 .f32) (arg30 : Memref sig .tc .vmem S4x512x128 .f32) (q : Fin 4 → Fin 3 → ℕ) (hq : ∀ n, QInb (q n)) (l : Fin 4 → Fin 4 → ℕ) (hl : ∀ n, LInb (l n))
    (b : Fin 16) (eq : ∀ n, q n = oQ n b) (el : ∀ n, l n = oL n b) (L Dd : S4x16x1x512.Idx → Elt F .f32) (Qv Ov : S4x8192x128.Idx → Elt F .bf16) (K V : S4x512x128.Idx → Elt F .bf16) (A28 : S4x8192x128.Idx → Elt F .f32) (A29 A30 : S4x512x128.Idx → Elt F .f32) :
    held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V A28 A29 A30
      ⊢ wp frame (wpE (defs₀ (F := F)) Variants.none (c : Thread nD τ) none) Set.univ (step arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 q hq l hl)
          (fun _ => held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V (nextQ id L Dd Qv Ov K V b A28) (nextK id L Dd Qv Ov K V b A29) (nextV id L Dd Qv Ov K V b A30)) := by
  rewrite [← step_bind]
  iintro H
  iapply (step_wp c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 q hq l hl b eq el L Dd Qv Ov K V A28 A29 A30) $$ H
  iintro H
  rw [wp_pure]; imodintro
  iexact H

theorem trip_wp (i : grid0.Coords) (t : Fin (k0_t1_loop i).trips) (arg2 : Memref sig .tc .vmem S4x16x1x512 .f32) (arg3 : Memref sig .tc .vmem S4x8192x128 .bf16) (arg4 : Memref sig .tc .vmem S4x8192x128 .bf16) (arg5 : Memref sig .tc .vmem S4x16x1x512 .f32) (arg6 : Memref sig .tc .vmem S4x512x128 .bf16) (arg7 : Memref sig .tc .vmem S4x512x128 .bf16) (arg12 : Memref sig .tc .vmem S512x512 .f32) (arg13 : Memref sig .tc .vmem S512x512 .f32) (arg14 : Memref sig .tc .vmem S512x512 .f32) (arg15 : Memref sig .tc .vmem S512x512 .f32) (arg16 : Memref sig .tc .vmem S512x512 .f32) (arg17 : Memref sig .tc .vmem S512x512 .f32) (arg18 : Memref sig .tc .vmem S512x512 .f32) (arg19 : Memref sig .tc .vmem S512x512 .f32) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (arg29 : Memref sig .tc .vmem S4x512x128 .f32) (arg30 : Memref sig .tc .vmem S4x512x128 .f32) (T : Vec F S1x512x512 .f32) (L Dd : S4x16x1x512.Idx → Elt F .f32) (Qv Ov : S4x8192x128.Idx → Elt F .bf16) (K V : S4x512x128.Idx → Elt F .bf16) (A28 : S4x8192x128.Idx → Elt F .f32) (A29 A30 : S4x512x128.Idx → Elt F .f32) :
    held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V (atQ T L Dd Qv Ov K V (i 1).val A28 t.val) (atK T L Dd Qv Ov K V (i 1).val A29 t.val) (atV T L Dd Qv Ov K V (i 1).val A30 t.val)
        ⊢ wp frame (wpE (defs₀ (F := F)) Variants.none (c : Thread nD τ) none) Set.univ (step arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 (oQ1 i t) (hQ1 i t) (oL1 i t) (hL1 i t))
          (fun _ => held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V (atQ T L Dd Qv Ov K V (i 1).val A28 (t.val + 1)) (atK T L Dd Qv Ov K V (i 1).val A29 (t.val + 1)) (atV T L Dd Qv Ov K V (i 1).val A30 (t.val + 1))) := by
  rewrite [atQ_succ, atK_succ, atV_succ]
  exact step_only c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 (oQ1 i t) (hQ1 i t) (oL1 i t) (hL1 i t) (blk ((i 1).val + 1 + t.val)) (oQ1_eq i t) (oL1_eq i t) L Dd Qv Ov K V _ _ _

/-- A counted loop, by an invariant indexed by the trips done. -/
theorem loop_wp (l : Scf.Loop 32) (hok : l.OK) (body : Fin l.trips → PUnit → PrU F) (I : ℕ → sProp 𝕄)
    (hb : ∀ t : Fin l.trips, I t.val ⊢ wp frame (wpE (defs₀ (F := F)) Variants.none (c : Thread nD τ) none) Set.univ (body t ⟨⟩) (fun _ => I (t.val + 1))) {α : Type} {kk : PUnit → Prog (TpuEff nD τ sig (Elt F) Λ₀ .tc) α} {Q : α → sProp 𝕄} :
    I 0 ⊢ iprop((I l.trips -∗ wp frame (wpE (defs₀ (F := F)) Variants.none (c : Thread nD τ) none) Set.univ (kk ⟨⟩) Q) -∗ wp frame (wpE (defs₀ (F := F)) Variants.none (c : Thread nD τ) none) Set.univ (Scf.Loop.for l hok ⟨⟩ body >>= kk) Q) := by
  iintro H Hk
  iapply (Scf.wp_for_bind frame (wpE (defs₀ (F := F)) Variants.none (c : Thread nD τ) none) Set.univ l.lb l.ub l.st hok ⟨⟩ body (fun n _ => I n) (fun t _ => hb t)) $$ H
  iintro %_ H
  iapply Hk
  iexact H

theorem loop1_wp (i : grid0.Coords) (arg2 : Memref sig .tc .vmem S4x16x1x512 .f32) (arg3 : Memref sig .tc .vmem S4x8192x128 .bf16) (arg4 : Memref sig .tc .vmem S4x8192x128 .bf16) (arg5 : Memref sig .tc .vmem S4x16x1x512 .f32) (arg6 : Memref sig .tc .vmem S4x512x128 .bf16) (arg7 : Memref sig .tc .vmem S4x512x128 .bf16) (arg12 : Memref sig .tc .vmem S512x512 .f32) (arg13 : Memref sig .tc .vmem S512x512 .f32) (arg14 : Memref sig .tc .vmem S512x512 .f32) (arg15 : Memref sig .tc .vmem S512x512 .f32) (arg16 : Memref sig .tc .vmem S512x512 .f32) (arg17 : Memref sig .tc .vmem S512x512 .f32) (arg18 : Memref sig .tc .vmem S512x512 .f32) (arg19 : Memref sig .tc .vmem S512x512 .f32) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (arg29 : Memref sig .tc .vmem S4x512x128 .f32) (arg30 : Memref sig .tc .vmem S4x512x128 .f32) (T : Vec F S1x512x512 .f32) (L Dd : S4x16x1x512.Idx → Elt F .f32) (Qv Ov : S4x8192x128.Idx → Elt F .bf16) (K V : S4x512x128.Idx → Elt F .bf16) (A28 : S4x8192x128.Idx → Elt F .f32) (A29 A30 : S4x512x128.Idx → Elt F .f32) {α : Type} {kk : PUnit → Prog (TpuEff nD τ sig (Elt F) Λ₀ .tc) α} {Q : α → sProp 𝕄} :
    held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V (atQ T L Dd Qv Ov K V (i 1).val A28 0) (atK T L Dd Qv Ov K V (i 1).val A29 0) (atV T L Dd Qv Ov K V (i 1).val A30 0)
      ⊢ iprop((held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V (atQ T L Dd Qv Ov K V (i 1).val A28 (15 - (i 1).val)) (atK T L Dd Qv Ov K V (i 1).val A29 (15 - (i 1).val)) (atV T L Dd Qv Ov K V (i 1).val A30 (15 - (i 1).val))
              -∗ wp frame (wpE (defs₀ (F := F)) Variants.none (c : Thread nD τ) none) Set.univ (kk ⟨⟩) Q)
          -∗ wp frame (wpE (defs₀ (F := F)) Variants.none (c : Thread nD τ) none) Set.univ (Scf.Loop.for (k0_t1_loop i) (k0_t1_ok i) ⟨⟩ (fun t _ => step arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 (oQ1 i t) (hQ1 i t) (oL1 i t) (hL1 i t)) >>= kk) Q) := by
  rewrite [← trips1 i]
  exact loop_wp c (k0_t1_loop i) (k0_t1_ok i) _ (fun n => held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V (atQ T L Dd Qv Ov K V (i 1).val A28 n) (atK T L Dd Qv Ov K V (i 1).val A29 n) (atV T L Dd Qv Ov K V (i 1).val A30 n))
    (fun t => trip_wp c i t arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 T L Dd Qv Ov K V A28 A29 A30)

theorem loops_wp (i : grid0.Coords) (arg2 : Memref sig .tc .vmem S4x16x1x512 .f32) (arg3 : Memref sig .tc .vmem S4x8192x128 .bf16) (arg4 : Memref sig .tc .vmem S4x8192x128 .bf16) (arg5 : Memref sig .tc .vmem S4x16x1x512 .f32) (arg6 : Memref sig .tc .vmem S4x512x128 .bf16) (arg7 : Memref sig .tc .vmem S4x512x128 .bf16) (arg10 : Memref sig .tc .vmem S4x512x128 .f32) (arg12 : Memref sig .tc .vmem S512x512 .f32) (arg13 : Memref sig .tc .vmem S512x512 .f32) (arg14 : Memref sig .tc .vmem S512x512 .f32) (arg15 : Memref sig .tc .vmem S512x512 .f32) (arg16 : Memref sig .tc .vmem S512x512 .f32) (arg17 : Memref sig .tc .vmem S512x512 .f32) (arg18 : Memref sig .tc .vmem S512x512 .f32) (arg19 : Memref sig .tc .vmem S512x512 .f32) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (arg29 : Memref sig .tc .vmem S4x512x128 .f32) (arg30 : Memref sig .tc .vmem S4x512x128 .f32) (T : Vec F S1x512x512 .f32) (L Dd : S4x16x1x512.Idx → Elt F .f32) (Qv Ov : S4x8192x128.Idx → Elt F .bf16) (K V : S4x512x128.Idx → Elt F .bf16) (A28 : S4x8192x128.Idx → Elt F .f32) (A29 A30 : S4x512x128.Idx → Elt F .f32) (X : S4x512x128.Idx → Elt F .f32)
    {α : Type} {kk : Vec F S4x512x128 .f32 → Prog (TpuEff nD τ sig (Elt F) Λ₀ .tc) α} {Q : α → sProp 𝕄} :
    iprop(held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V (atQ T L Dd Qv Ov K V (i 1).val A28 0) (atK T L Dd Qv Ov K V (i 1).val A29 0) (atV T L Dd Qv Ov K V (i 1).val A30 0) ∗ owns (c : Thread nD τ) arg10 fullShare X)
      ⊢ iprop(((held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V (atQ T L Dd Qv Ov K V (i 1).val A28 (15 - (i 1).val)) (atK T L Dd Qv Ov K V (i 1).val A29 (15 - (i 1).val)) (atV T L Dd Qv Ov K V (i 1).val A30 (15 - (i 1).val))
              ∗ owns (c : Thread nD τ) arg10 fullShare (atK T L Dd Qv Ov K V (i 1).val A29 (15 - (i 1).val)))
            -∗ wp frame (wpE (defs₀ (F := F)) Variants.none (c : Thread nD τ) none) Set.univ (kk (atV T L Dd Qv Ov K V (i 1).val A30 (15 - (i 1).val))) Q)
          -∗ wp frame (wpE (defs₀ (F := F)) Variants.none (c : Thread nD τ) none) Set.univ (loops i arg2 arg3 arg4 arg5 arg6 arg7 arg10 arg12 arg13 arg14 arg15 arg16 arg17 arg18 arg19 arg20 harg20 arg21 harg21 arg22 harg22 arg23 harg23 arg24 harg24 arg25 harg25 arg26 harg26 arg27 harg27 arg28 arg29 arg30 >>= kk) Q) := by
  unfold loops
  simp only [bind_assoc]
  iintro ⟨H, HX⟩ Hk
  iapply (loop1_wp c i arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 T L Dd Qv Ov K V A28 A29 A30) $$ H
  iintro H
  iapply (loop_wp c (k0_t2_loop i) (k0_t2_ok i) _ (fun _ => held c arg2 arg3 arg4 arg5 arg6 arg7 arg12 arg13 arg14 arg15 arg16 arg17 arg18 arg19 arg20 harg20 arg21 harg21 arg22 harg22 arg23 harg23 arg24 harg24 arg25 harg25 arg26 harg26 arg27 harg27 arg28 arg29 arg30 L Dd Qv Ov K V (atQ T L Dd Qv Ov K V (i 1).val A28 (15 - (i 1).val)) (atK T L Dd Qv Ov K V (i 1).val A29 (15 - (i 1).val)) (atV T L Dd Qv Ov K V (i 1).val A30 (15 - (i 1).val)))
    (fun t => absurd (lt_of_lt_of_eq t.isLt (trips2 i)) (Nat.not_lt_zero _))) $$ H
  iintro H
  unfold held
  icases H with ⟨HL, HD, HQ, HO, HK, HV, H12, H13, H14, H15, H16, H17, H18, H19, H20, H21, H22, H23, H24, H25, H26, H27, H28, H29, H30⟩
  iapply (owns_load c arg29 _ (atK T L Dd Qv Ov K V (i 1).val A29 (15 - (i 1).val))) $$ H29
  iintro H29
  iapply (owns_load c arg10 _ X) $$ HX
  iintro HX
  iapply (owns_store c arg10 _ _ X) $$ HX
  iintro HX
  iapply (owns_load c arg30 _ (atV T L Dd Qv Ov K V (i 1).val A30 (15 - (i 1).val))) $$ H30
  iintro H30
  rw [putR_all, get_all, get_all]
  iapply Hk
  isplitr [HX]; swap; · iexact HX
  isplitl [HL]; · iexact HL
  isplitl [HD]; · iexact HD
  isplitl [HQ]; · iexact HQ
  isplitl [HO]; · iexact HO
  isplitl [HK]; · iexact HK
  isplitl [HV]; · iexact HV
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

theorem body_wp (i : grid0.Coords) (arg2 : Memref sig .tc .vmem S4x16x1x512 .f32) (arg3 : Memref sig .tc .vmem S4x8192x128 .bf16) (arg4 : Memref sig .tc .vmem S4x8192x128 .bf16) (arg5 : Memref sig .tc .vmem S4x16x1x512 .f32) (arg6 : Memref sig .tc .vmem S4x512x128 .bf16) (arg7 : Memref sig .tc .vmem S4x512x128 .bf16) (arg8 : Memref sig .tc .vmem S1x512x512 .f32) (arg9 : Memref sig .tc .hbm S8x8192x128 .f32) (harg9 : arg9.IsWhole) (arg10 : Memref sig .tc .vmem S4x512x128 .f32) (arg11 : Memref sig .tc .vmem S4x512x128 .bf16) (harg11 : arg11.IsWhole) (arg12 : Memref sig .tc .vmem S512x512 .f32) (arg13 : Memref sig .tc .vmem S512x512 .f32) (arg14 : Memref sig .tc .vmem S512x512 .f32) (arg15 : Memref sig .tc .vmem S512x512 .f32) (arg16 : Memref sig .tc .vmem S512x512 .f32) (arg17 : Memref sig .tc .vmem S512x512 .f32) (arg18 : Memref sig .tc .vmem S512x512 .f32) (arg19 : Memref sig .tc .vmem S512x512 .f32) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x512 .bf16) (harg25 : arg25.IsWhole) (arg26 : Memref sig .tc .vmem S512x512 .bf16) (harg26 : arg26.IsWhole) (arg27 : Memref sig .tc .vmem S512x512 .bf16) (harg27 : arg27.IsWhole) (arg28 : Memref sig .tc .vmem S4x8192x128 .f32) (harg28 : arg28.IsWhole) (arg29 arg30 : Memref sig .tc .vmem S4x512x128 .f32) (arg31 : DmaSems sig S_)
    (T : Vec F S1x512x512 .f32) (L Dd : S4x16x1x512.Idx → Elt F .f32) (Qv Ov : S4x8192x128.Idx → Elt F .bf16) (K V : S4x512x128.Idx → Elt F .bf16) (A28 : S4x8192x128.Idx → Elt F .f32) (A29 A30 : S4x512x128.Idx → Elt F .f32) (X10 : S4x512x128.Idx → Elt F .f32) (X11 : S4x512x128.Idx → Elt F .bf16) (G : S8x8192x128.Idx → Elt F .f32) (W : Waits sig Unit) {Q : PUnit → sProp 𝕄} :
    iprop(heldT c arg2 arg3 arg4 arg5 arg6 arg7 arg8 arg12 arg13 arg14 arg15 arg16 arg17 arg18 arg19 arg20 harg20 arg21 harg21 arg22 harg22 arg23 harg23 arg24 harg24 arg25 harg25 arg26 harg26 arg27 harg27 arg28 arg29 arg30 T L Dd Qv Ov K V A28 A29 A30 ∗ owns (c : Thread nD τ) arg10 fullShare X10 ∗ owns (c : Thread nD τ) arg11 fullShare X11 ∗ owns (c : Thread nD τ) arg9 fullShare G ∗ semVal ((c : Thread nD τ), SemLoc.dma arg31.sem) 0 ∗ owes (c : Thread nD τ) 0 W)
      ⊢ iprop(((heldT c arg2 arg3 arg4 arg5 arg6 arg7 arg8 arg12 arg13 arg14 arg15 arg16 arg17 arg18 arg19 arg20 harg20 arg21 harg21 arg22 harg22 arg23 harg23 arg24 harg24 arg25 harg25 arg26 harg26 arg27 harg27 arg28 arg29 arg30 T L Dd Qv Ov K V (atQ T L Dd Qv Ov K V (i 1).val (startQ i A28) (15 - (i 1).val)) (atK T L Dd Qv Ov K V (i 1).val zKV (15 - (i 1).val)) (atV T L Dd Qv Ov K V (i 1).val zKV (15 - (i 1).val))
              ∗ owns (c : Thread nD τ) arg10 fullShare (atK T L Dd Qv Ov K V (i 1).val zKV (15 - (i 1).val)) ∗ owns (c : Thread nD τ) arg11 fullShare (k0_pay1 (atV T L Dd Qv Ov K V (i 1).val zKV (15 - (i 1).val)))
              ∗ owns (c : Thread nD τ) arg9 fullShare (putG i (atQ T L Dd Qv Ov K V (i 1).val (startQ i A28) (15 - (i 1).val)) G) ∗ semVal ((c : Thread nD τ), SemLoc.dma arg31.sem) 0 ∗ (∃ W', owes (c : Thread nD τ) 0 W'))
            -∗ Q ⟨⟩)
          -∗ wp frame (wpE (defs₀ (F := F)) Variants.none (c : Thread nD τ) none) Set.univ (bodyS i arg2 arg3 arg4 arg5 arg6 arg7 arg8 arg9 harg9 arg10 arg11 harg11 arg12 arg13 arg14 arg15 arg16 arg17 arg18 arg19 arg20 harg20 arg21 harg21 arg22 harg22 arg23 harg23 arg24 harg24 arg25 harg25 arg26 harg26 arg27 harg27 arg28 harg28 arg29 arg30 arg31) Q) := by
  unfold bodyS heldT
  iintro ⟨⟨HT, HL, HD, HQ, HO, HK, HV, H12, H13, H14, H15, H16, H17, H18, H19, H20, H21, H22, H23, H24, H25, H26, H27, H28, H29, H30⟩, H10, H11, H9, Hs, HW⟩ Hk
  iapply (clearQ_wp c i arg28 A28) $$ H28
  iintro H28
  iapply (clearKV_wp c arg29 arg30 A29 A30) $$ [H29 H30]
  · isplitl [H29]; · iexact H29
    iexact H30
  iintro ⟨H29, H30⟩
  iapply (stepT_wp c arg2 arg3 arg4 arg5 arg6 arg7 arg8 arg12 arg13 arg14 arg15 arg16 arg17 arg18 arg19 arg20 harg20 arg21 harg21 arg22 harg22 arg23 harg23 arg24 harg24 arg25 harg25 arg26 harg26 arg27 harg27 arg28 arg29 arg30 (oQ0 i) (hQ0 i) (oL0 i) (hL0 i) (blk (i 1).val) (oQ0_eq i) (oL0_eq i) T L Dd Qv Ov K V (startQ i A28) zKV zKV) $$ [HT HL HD HQ HO HK HV H12 H13 H14 H15 H16 H17 H18 H19 H20 H21 H22 H23 H24 H25 H26 H27 H28 H29 H30]
  · unfold heldT
    isplitl [HT]; · iexact HT
    isplitl [HL]; · iexact HL
    isplitl [HD]; · iexact HD
    isplitl [HQ]; · iexact HQ
    isplitl [HO]; · iexact HO
    isplitl [HK]; · iexact HK
    isplitl [HV]; · iexact HV
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    iexact H30
  unfold heldT
  iintro ⟨HT, H⟩
  iapply (loops_wp c i arg2 arg3 arg4 arg5 arg6 arg7 arg10 arg12 arg13 arg14 arg15 arg16 arg17 arg18 arg19 arg20 harg20 arg21 harg21 arg22 harg22 arg23 harg23 arg24 harg24 arg25 harg25 arg26 harg26 arg27 harg27 arg28 arg29 arg30 T L Dd Qv Ov K V (startQ i A28) zKV zKV X10) $$ [H H10]
  · isplitl [H]
    · unfold held; iexact H
    iexact H10
  unfold held
  iintro ⟨⟨HL, HD, HQ, HO, HK, HV, H12, H13, H14, H15, H16, H17, H18, H19, H20, H21, H22, H23, H24, H25, H26, H27, H28, H29, H30⟩, H10⟩
  iapply (outV_wp c arg11 harg11 _ X11) $$ H11
  iintro H11
  rw [← bind_pure (copyQ i arg9 harg9 arg28 harg28 arg31)]
  iapply (copyQ_wp c i arg9 harg9 arg28 harg28 arg31 _ G W) $$ [H28 H9 Hs HW]
  · isplitl [H28]; · iexact H28
    isplitl [H9]; · iexact H9
    isplitl [Hs]; · iexact Hs
    iexact HW
  iintro ⟨H28, H9, Hs, HW⟩
  rw [wp_pure]; imodintro
  iapply Hk
  isplitr [H10 H11 H9 Hs HW]
  · isplitl [HT]; · iexact HT
    isplitl [HL]; · iexact HL
    isplitl [HD]; · iexact HD
    isplitl [HQ]; · iexact HQ
    isplitl [HO]; · iexact HO
    isplitl [HK]; · iexact HK
    isplitl [HV]; · iexact HV
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    iexact H30
  isplitl [H10]; · iexact H10
  isplitl [H11]; · iexact H11
  isplitl [H9]; · iexact H9
  isplitl [Hs]; · iexact Hs
  iexact HW

end Cert.KernelIdeal.Fox

end
-- ==== Proof.Grid.lean ====
/-
  The run of the launch: what the grid's points leave in the accumulator of the queries' gradient and in its array, the
  proof data of the pipeline, and the run of `main`.
-/
module

public import proofs.«01_k».proof.Proof.BodyRun
public import proofs.«01_k».proof.Proof.Gen.KernelIdeal.Frame
public import Idealize.ShloMosaic.Lib.Pipeline.FrameSuffixV

@[expose] public section

noncomputable section

namespace Cert.KernelIdeal.Fox

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- What a point leaves in its blocks of the keys' and of the values' gradient. -/
def kOut (c : Dev nD) (t : Fin cfg0.N) : S4x512x128.Idx → Elt F .f32 :=
  atK (iblk m c 6 t) (iblk m c 0 t) (iblk m c 3 t) (iblk m c 1 t) (iblk m c 2 t) (iblk m c 4 t) (iblk m c 5 t) (grid0.coords t 1).val zKV (15 - (grid0.coords t 1).val)
def vOut (c : Dev nD) (t : Fin cfg0.N) : S4x512x128.Idx → Elt F .bf16 :=
  k0_pay1 (atV (iblk m c 6 t) (iblk m c 0 t) (iblk m c 3 t) (iblk m c 1 t) (iblk m c 2 t) (iblk m c 4 t) (iblk m c 5 t) (grid0.coords t 1).val zKV (15 - (grid0.coords t 1).val))

/-- The accumulator of the queries' gradient after a point that found it at `A`. -/
def qNext (c : Dev nD) (t : Fin cfg0.N) (A : S4x8192x128.Idx → Elt F .f32) : S4x8192x128.Idx → Elt F .f32 :=
  atQ (iblk m c 6 t) (iblk m c 0 t) (iblk m c 3 t) (iblk m c 1 t) (iblk m c 2 t) (iblk m c 4 t) (iblk m c 5 t) (grid0.coords t 1).val (startQ (grid0.coords t) A) (15 - (grid0.coords t 1).val)

/-- The accumulator before point `n`, and the array of the queries' gradient. -/
def qAcc (c : Dev nD) : ℕ → S4x8192x128.Idx → Elt F .f32
  | 0 => zQ
  | n + 1 => if h : n < cfg0.N then qNext m c ⟨n, h⟩ (qAcc c n) else qAcc c n
def gAt (c : Dev nD) : ℕ → S8x8192x128.Idx → Elt F .f32
  | 0 => V m c main_v77_0
  | n + 1 => if h : n < cfg0.N then putG (grid0.coords ⟨n, h⟩) (qAcc m c (n + 1)) (gAt c n) else gAt c n

theorem qAcc_succ (c : Dev nD) (t : Fin cfg0.N) : qAcc m c (t.val + 1) = qNext m c t (qAcc m c t.val) := dif_pos t.isLt
theorem gAt_succ (c : Dev nD) (t : Fin cfg0.N) : gAt m c (t.val + 1) = putG (grid0.coords t) (qAcc m c (t.val + 1)) (gAt m c t.val) := dif_pos t.isLt

theorem coord1 : ∀ t : Fin grid0.N, (grid0.coords t 1).val = t.val % 16 := by decide +kernel
theorem coord0 : ∀ t : Fin grid0.N, (grid0.coords t 0).val = t.val / 16 := by decide +kernel

theorem qNext_congr (c : Dev nD) (t : Fin cfg0.N) (A B : S4x8192x128.Idx → Elt F .f32) (h : t.val % 16 ≠ 0 → A = B) : qNext m c t A = qNext m c t B := by
  unfold qNext startQ
  by_cases e : (grid0.coords t 1).val = 0
  · rw [if_pos e, if_pos e]
  · rw [if_neg e, if_neg e, h (by rw [← coord1 t]; exact e)]

/-! ## The pipeline's own resources -/

abbrev osem0 : Fin 1 → SemLoc sig := fun _ => SemLoc.dma cc0_scratch19.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = semVal ((c : Thread nD τ), SemLoc.dma cc0_scratch19.sem) 0 := by
  rw [Pipeline.ownSems0_eq_of_list c osem0 [0] (by decide) (by decide)]; rfl
def R0 : Finset (Ref sig .tc) := {main_v77_0}
theorem R0_sub : R0 ⊆ Pipeline.restRefs sig spec0 \ ∅ := by decide

/-- The array of the queries' gradient at its contents after `n` points, every other buffer as the region finds it. -/
def GG (c : Dev nD) (n : ℕ) (b : Ref sig .tc) : Buf (Elt F) ((c.tc : Thread nD τ).loc b) :=
  Function.update (fun b : Ref sig .tc => (V m c b : b.ty.Contents (Elt F))) main_v77_0 (gAt m c n) b

theorem GG_zero (c : Dev nD) : GG m c 0 = V m c := by
  funext b
  unfold GG
  exact congrFun (Function.update_eq_self (f := fun b : Ref sig .tc => (V m c b : b.ty.Contents (Elt F))) main_v77_0) b

theorem GG_at (c : Dev nD) (n : ℕ) : GG m c n main_v77_0 = gAt m c n := by
  unfold GG
  exact Function.update_self (β := fun b : Ref sig .tc => b.ty.Contents (Elt F)) main_v77_0 (gAt m c n) _

def scratch (c : Dev nD) : sProp 𝕄 := iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch17) fullShare d) ∗ (∃ d, owns (c : Thread nD τ) (Memref.whole cc0_scratch18) fullShare d))

theorem phi_eq (c : Dev nD) (n : ℕ) :
    (Pipeline.ΦDRV osem0 spec0 ∅ R0 (V m) (fun c => GG m c n) c : sProp 𝕄)
      ⊣⊢ iprop(scratch c ∗ (∃ d, owns (c : Thread nD τ) (Memref.whole cc0_scratch16) fullShare d) ∗ semVal ((c : Thread nD τ), SemLoc.dma cc0_scratch19.sem) 0 ∗ owns (c : Thread nD τ) (Memref.whole main_v77_0) fullShare (gAt m c n)) := by
  unfold Pipeline.ΦDRV scratch R0
  rw [scopedRest0_eq, ownSems00_eq, BI.bigSep_empty, BI.bigSep_singleton]
  simp only [owns_whole, GG_at]
  constructor
  · iintro ⟨⟨S0, S1, S2, S3, S4, S5, S6, S7, S8, S9, S10, S11, S12, S13, S14, S15, S16, S17, S18⟩, Hs, -, HG⟩
    isplitr [S16 Hs HG]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S17]; · iexact S17
      iexact S18
    isplitl [S16]; · iexact S16
    isplitl [Hs]; · iexact Hs
    iexact HG
  · iintro ⟨⟨S0, S1, S2, S3, S4, S5, S6, S7, S8, S9, S10, S11, S12, S13, S14, S15, S17, S18⟩, S16, Hs, HG⟩
    isplitr [Hs HG]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      iexact S18
    isplitl [Hs]; · iexact Hs
    isplitr; · iempintro
    iexact HG

/-- What a point is handed and hands on. -/
def Phi (c : Dev nD) (n : ℕ) : sProp 𝕄 :=
  iprop(scratch c ∗ (∃ d, ⌜n % 16 ≠ 0 → d = qAcc m c n⌝ ∗ owns (c : Thread nD τ) (Memref.whole cc0_scratch16) fullShare d) ∗ semVal ((c : Thread nD τ), SemLoc.dma cc0_scratch19.sem) 0 ∗ owns (c : Thread nD τ) (Memref.whole main_v77_0) fullShare (gAt m c n))

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => kOut m c t
    | ⟨8, _⟩ => vOut m c t
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem after7 (c : Dev nD) (t : Fin cfg0.N) : (dats m 0 c).after 7 t = kOut m c t := by dsimp only [dats]
theorem after8 (c : Dev nD) (t : Fin cfg0.N) : (dats m 0 c).after 8 t = vOut m c t := by dsimp only [dats]

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  rw [show (dats m 0 c).Φ t.castSucc = Phi m c t.val from rfl, show (dats m 0 c).Φ t.succ = Phi m c (t.val + 1) from rfl]
  simp only [before0, before1, before2, before3, before4, before5, before6, after0, after1, after2, after3, after4, after5, after6, after7, after8]
  unfold Dat.owesAt Pipeline.owesWithin Phi scratch
  rw [show (dats m 0 c).owed t.castSucc = 0 from rfl, show (dats m 0 c).owed t.succ = 0 from rfl]
  iintro ⟨⟨⟨⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e29, H29⟩, ⟨%e30, H30⟩⟩, ⟨%A, %hA, H28⟩, Hs, H9⟩, ⟨%W, -, HW⟩, ⟨%d2, H2⟩, ⟨%d3, H3⟩, ⟨%d4, H4⟩, ⟨%d5, H5⟩, ⟨%d6, H6⟩, ⟨%d7, H7⟩, ⟨%d8, H8⟩, ⟨%d10, H10⟩, ⟨%d11, H11⟩⟩
  iapply (body_wp c (grid0.coords t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (Memref.whole main_v77_0) (Memref.isWhole_whole _) (win0_7.stage (cfg0.slots t 7)) (win0_8.stage (cfg0.slots t 8)) (hstage0_8 ((cfg0.slots t 8).cast nbuf0_8)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.whole cc0_scratch18) cc0_scratch19
    (iblk m c 6 t) (iblk m c 0 t) (iblk m c 3 t) (iblk m c 1 t) (iblk m c 2 t) (iblk m c 4 t) (iblk m c 5 t) A e29 e30 _ _ (gAt m c t.val) W) $$ [H12 H13 H14 H15 H16 H17 H18 H19 H20 H21 H22 H23 H24 H25 H26 H27 H29 H30 H28 Hs H9 HW H2 H3 H4 H5 H6 H7 H8 H10 H11]
  · isplitl [H12 H13 H14 H15 H16 H17 H18 H19 H20 H21 H22 H23 H24 H25 H26 H27 H29 H30 H28 H2 H3 H4 H5 H6 H7 H8]
    · unfold heldT
      isplitl [H8]; · iexact H8
      isplitl [H2]; · iexact H2
      isplitl [H5]; · iexact H5
      isplitl [H3]; · iexact H3
      isplitl [H4]; · iexact H4
      isplitl [H6]; · iexact H6
      isplitl [H7]; · iexact H7
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexact H28
      isplitl [H29]; · iexact H29
      iexact H30
    isplitl [H10]; · iexact H10
    isplitl [H11]; · iexact H11
    isplitl [H9]; · iexact H9
    isplitl [Hs]; · iexact Hs
    iexact HW
  unfold heldT
  rewrite [gAt_succ, qAcc_succ, ← qNext_congr m c t A _ hA]
  iintro ⟨⟨H8, H2, H5, H3, H4, H6, H7, H12, H13, H14, H15, H16, H17, H18, H19, H20, H21, H22, H23, H24, H25, H26, H27, H28, H29, H30⟩, H10, H11, H9, Hs, ⟨%W', HW⟩⟩
  isplitl [H12 H13 H14 H15 H16 H17 H18 H19 H20 H21 H22 H23 H24 H25 H26 H27 H29 H30 H28 Hs H9]
  · isplitl [H12 H13 H14 H15 H16 H17 H18 H19 H20 H21 H22 H23 H24 H25 H26 H27 H29 H30]
    · isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H29]; · iexists _; iexact H29
      iexists _; iexact H30
    isplitl [H28]
    · iexists _; isplitr; swap
      · iexact H28
      · ipureintro; intro _; rfl
    isplitl [Hs]; · iexact Hs
    iexact H9
  isplitl [HW]
  · iexists W'; isplitr; · ipureintro; exact fun _ _ => Or.inl trivial
    iexact HW
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem hin (c : Dev nD) : (Pipeline.ΦDRV osem0 spec0 ∅ R0 (V m) (V m) c : sProp 𝕄) ⊢ Phi m c 0 := by
  have h := (phi_eq m c 0).1
  rewrite [show (fun c => GG m c 0) = V m from funext fun c => GG_zero m c] at h
  refine h.trans ?_
  unfold Phi
  iintro ⟨Hc, ⟨%d, H⟩, Hs, HG⟩
  isplitl [Hc]; · iexact Hc
  isplitl [H]
  · iexists d; isplitr
    · ipureintro; intro e; exact absurd rfl e
    · iexact H
  isplitl [Hs]; · iexact Hs
  iexact HG

theorem hout (c : Dev nD) (n : ℕ) : Phi m c n ⊢ (Pipeline.ΦDRV osem0 spec0 ∅ R0 (V m) (fun c => GG m c n) c : sProp 𝕄) := by
  refine BIBase.Entails.trans ?_ (phi_eq m c n).2
  unfold Phi
  iintro ⟨Hc, ⟨%d, -, H⟩, Hs, HG⟩
  isplitl [Hc]; · iexact Hc
  isplitl [H]; · iexists d; iexact H
  isplitl [Hs]; · iexact Hs
  iexact HG

/-- What the run ends at: the windows' arrays, and every other buffer after the lines that follow the launch. -/
def Ends (r : PUnit × MemSt nD τ sig (Elt F)) : Prop := ∀ c : Dev nD,
  (∀ w, r.2.mem ((spec0 w).arr.view.loc (c.tc : Thread nD τ)) = (dats m 0 c).arrAt w cfg0.N)
    ∧ ∀ b ∈ Pipeline.restRefs sig spec0, r.2.mem ((c.tc : Thread nD τ).loc b)
        = StableHlo.after (List.flatten [hostOps1]) (Pipeline.withArrays spec0 c (Pipeline.withR (V0 m c) R0 c (GG m c cfg0.N)) fun w => (dats m 0 c).arrAt w cfg0.N) (Proc.devRef .tc b)

set_option backward.isDefEq.respectTransparency.types false in
theorem run_main : θ_run defs (onTc (τ := τ) (main (F := F))) (s₀ m ρ) (fun r => Ends m r ∧ r.2.sem = fun _ => 0) :=
  Pipeline.θ_run_frame_dmaR_aroundV (Q' := fun r => Ends m r ∧ r.2.sem = fun _ => 0) cfgs (dats m) (0 : Fin 1) launch0 osem0 defs₀ Variants.none ownSemFacts0 ∅ R0
    (Finset.empty_subset _) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := fun c => GG m c cfg0.N) (hmain := hmainD m Variants.none) (hA := A_eq m)
    (hin := hin m) (hout := fun c => hout m c cfg0.N) (hQ' := fun _ h => h)

end Cert.KernelIdeal.Fox

end
-- ==== Proof.Frames.lean ====
/-
  The frames: what `main` leaves of its arguments, at both programs.
-/
module

public import proofs.«01_k».proof.Defs
public import proofs.«01_k».proof.Proof.Gen.Kernel
public import proofs.«01_k».proof.Proof.Grid

@[expose] public section

noncomputable section

namespace Cert.KernelIdeal.Fox

open Idealize.ShloMosaic Idealize.ShloMosaic.TcCoe Idealize.SL Idealize.SL.Sem
open Cert.KernelIdeal.Gen
open Idealize.ShloMosaic.Pipeline (Dat)

variable {F : FTy → Type} [FloatOps F]
variable (m : (ℓ : Loc nD τ sig) → Buf (Elt F) ℓ) (ρ : Dev nD → PrngReg)

/-- A device's buffers when `main` returns. -/
def endV (c : Dev nD) : Valuation τ sig (Elt F) :=
  StableHlo.after (List.flatten [hostOps1]) (Pipeline.withArrays spec0 c (Pipeline.withR (V0 m c) R0 c (GG m c cfg0.N)) fun w => (dats m 0 c).arrAt w cfg0.N)

theorem end_arg0 (c : Dev nD) : endV m c (Proc.devRef .tc main_arg0) = m ((c : Thread nD τ).loc main_arg0) := by
  unfold endV
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c _ _ main_arg0 (by exact (by decide : ∀ w, Pipeline.arrRef spec0 w ≠ main_arg0)),
    Pipeline.withR_of_not_mem _ _ _ _ (b := main_arg0) (by decide)]
  exact V_main_arg0 m c

theorem end_arg1 (c : Dev nD) : endV m c (Proc.devRef .tc main_arg1) = m ((c : Thread nD τ).loc main_arg1) := by
  unfold endV
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c _ _ main_arg1 (by exact (by decide : ∀ w, Pipeline.arrRef spec0 w ≠ main_arg1)),
    Pipeline.withR_of_not_mem _ _ _ _ (b := main_arg1) (by decide)]
  exact V_main_arg1 m c

theorem end_arg2 (c : Dev nD) : endV m c (Proc.devRef .tc main_arg2) = m ((c : Thread nD τ).loc main_arg2) := by
  unfold endV
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c _ _ main_arg2 (by exact (by decide : ∀ w, Pipeline.arrRef spec0 w ≠ main_arg2)),
    Pipeline.withR_of_not_mem _ _ _ _ (b := main_arg2) (by decide)]
  exact V_main_arg2 m c

theorem end_arg3 (c : Dev nD) : endV m c (Proc.devRef .tc main_arg3) = m ((c : Thread nD τ).loc main_arg3) := by
  unfold endV
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c _ _ main_arg3 (by exact (by decide : ∀ w, Pipeline.arrRef spec0 w ≠ main_arg3)),
    Pipeline.withR_of_not_mem _ _ _ _ (b := main_arg3) (by decide)]
  exact V_main_arg3 m c

theorem end_arg4 (c : Dev nD) : endV m c (Proc.devRef .tc main_arg4) = m ((c : Thread nD τ).loc main_arg4) := by
  unfold endV
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c _ _ main_arg4 (by exact (by decide : ∀ w, Pipeline.arrRef spec0 w ≠ main_arg4)),
    Pipeline.withR_of_not_mem _ _ _ _ (b := main_arg4) (by decide)]
  exact V_main_arg4 m c

theorem ends_rest {r : PUnit × MemSt nD τ sig (Elt F)} (h : Ends m r) (c : Dev nD) (b : Ref sig .tc) (hb : b ∈ Pipeline.restRefs sig spec0) :
    r.2.mem ((c.tc : Thread nD τ).loc b) = endV m c (Proc.devRef .tc b) := (h c).2 b hb

theorem run_args : θ_run defs (onTc (τ := τ) (main (F := F))) (s₀ m ρ) fun r => Ends m r ∧ (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0 :=
  (θ_run defs _ _).mono (fun r h => ⟨h.1, fun c => ⟨(ends_rest m h.1 c main_arg0 (by decide)).trans (end_arg0 m c),
    (ends_rest m h.1 c main_arg1 (by decide)).trans (end_arg1 m c),
    (ends_rest m h.1 c main_arg2 (by decide)).trans (end_arg2 m c),
    (ends_rest m h.1 c main_arg3 (by decide)).trans (end_arg3 m c),
    (ends_rest m h.1 c main_arg4 (by decide)).trans (end_arg4 m c)⟩, h.2⟩) (run_main m ρ)

end Cert.KernelIdeal.Fox

namespace Cert.Proof

open Idealize.ShloMosaic Idealize.SL.Sem

theorem frame_kernelIdeal : Cert.quiescent_KernelIdeal :=
  fun m ρ _ => (θ_run Cert.KernelIdeal.defs _ _).mono (fun _ h => h.2) (Cert.KernelIdeal.Fox.run_args m ρ)

end Cert.Proof

end
-- ==== Proof.SameDefs.lean ====
/-
  The two printed programs have the same text: the body table.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

set_option maxHeartbeats 4000000 in
theorem same_body : @Cert.Kernel.cc0_fox_bwd Bits _ _ = @Cert.KernelIdeal.cc0_fox_bwd Bits _ _ := by exact rfl

set_option maxHeartbeats 4000000 in
theorem same_defs₀ : Cert.Kernel.defs₀ (F := Bits) = Cert.KernelIdeal.defs₀ (F := Bits) := by
  refine congrArg Defs.onTc ?_
  funext ℓ a
  match ℓ, a with
  | 0, (t, s) =>
    dsimp only
    rw [same_body]
    exact rfl
  | ⟨_ + 1, h⟩, _ => exact absurd h (Nat.not_lt.2 (Nat.le_add_left _ _))

set_option maxHeartbeats 4000000 in
theorem same_defs : Cert.Kernel.defs (F := Bits) = Cert.KernelIdeal.defs (F := Bits) := by
  exact congrArg (Pipeline.defs Cert.KernelIdeal.pcfgs) same_defs₀

end Cert.Proof

end
-- ==== Proof.SameMain0.lean ====
/-
  The two printed programs have the same text: a stretch of `main`.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

set_option maxHeartbeats 4000000 in
theorem same_part0 : Cert.Kernel.main_part0 (F := Bits) = Cert.KernelIdeal.main_part0 (F := Bits) := by exact rfl

end Cert.Proof

end
-- ==== Proof.SameMain1.lean ====
/-
  The two printed programs have the same text: a stretch of `main`.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

set_option maxHeartbeats 4000000 in
theorem same_part1 : Cert.Kernel.main_part1 (F := Bits) = Cert.KernelIdeal.main_part1 (F := Bits) := by exact rfl

end Cert.Proof

end
-- ==== Proof.FrameKernel.lean ====
/-
  The frame of the program as printed: its text is the ideal program's.
-/
module

public import proofs.«01_k».proof.Proof.Frames
public import proofs.«01_k».proof.Proof.SameDefs
public import proofs.«01_k».proof.Proof.SameMain0
public import proofs.«01_k».proof.Proof.SameMain1

@[expose] public section

noncomputable section

namespace Cert.Proof

open Idealize.ShloMosaic Idealize.SL.Sem

set_option maxHeartbeats 4000000 in
theorem same_main : Cert.Kernel.main (F := Bits) = Cert.KernelIdeal.main (F := Bits) := by
  unfold Cert.Kernel.main Cert.KernelIdeal.main
  rw [same_part0, same_part1]
  exact rfl

set_option maxHeartbeats 4000000 in
theorem frame_kernel : Cert.quiescent_Kernel := fun m ρ _ => by
  rw [same_defs, same_main]
  exact (θ_run Cert.KernelIdeal.defs _ _).mono (fun _ h => h.2) (Cert.KernelIdeal.Fox.run_args (F := Bits) m ρ)

end Cert.Proof

end
-- ==== Proof.RefDefs.lean ====
/-
  The reference's arrays, each as one function of the arguments, and its results as these.
-/
module

public import proofs.«01_k».proof.Proof.Gen.ReferenceIdeal.Run
public import Idealize.ShloMosaic.PureOps.Ideal

@[expose] public section

set_option maxRecDepth 16384

noncomputable section

namespace Cert.ReferenceIdeal.Fox

open Cert.ReferenceIdeal Cert.ReferenceIdeal.Gen
open Idealize.ShloMosaic Idealize.ShloMosaic.TcCoe

abbrev A3 := FVec Ideal S8192x8x64 .f32
abbrev A2 := FVec Ideal S8192x8 .f32
abbrev SS := FVec Ideal S8x8192x8192 .f32
abbrev HT := FVec Ideal S8x8192 .f32
abbrev HT1 := FVec Ideal S8x8192x1 .f32

/-- A number to a query's row, at every key; and the sum of a row, of a column. -/
def col1 (x : HT) : HT1 := broadcastInDim S8x8192x1 ![0, 1] bcast_S8x8192_S8x8192x1_0_1 x
def wide (x : HT1) : SS := broadcastInDim S8x8192x8192 ![0, 1, 2] bcast_S8x8192x1_S8x8192x8192_0_1_2 x
def zero : FVec Ideal S_ .f32 := constant (F := Ideal) S_ .f32 0x00000000#32
def full (w : BitVec 32) : SS := broadcastInDim S8x8192x8192 ![] bcast_S_S8x8192x8192 (constant (F := Ideal) S_ .f32 w)
def rowSum (x : SS) : HT := Host.reduceAdd x zero reducesTo_S8x8192x8192_S8x8192_d2 h_S_
def colSum (x : SS) : HT := Host.reduceAdd x zero reducesTo_S8x8192x8192_S8x8192_d1 h_S_

/-- The scores, the mask, the masked scores. -/
def cT (c : A2) : HT := transpose S8x8192 [1, 0] c transposes_S8192x8_S8x8192_1_0
def sc0 (q k : A3) (c : A2) : SS :=
  subf (addf (mulf (Host.dotGeneral dot_S8192x8x64_S8192x8x64_S8x8192x8192_2_2_0_0_1_1 none q k) (full 0x3E000000#32)) (wide (col1 (cT c))))
    (broadcastInDim S8x8192x8192 ![0, 1, 2] bcast_S8x1x8192_S8x8192x8192_0_1_2 (broadcastInDim S8x1x8192 ![0, 2] bcast_S8x8192_S8x1x8192_0_2 (cT c)))
def mask : IVec S8x8192x8192 1 :=
  broadcastInDim S8x8192x8192 ![1, 2] bcast_S8192x8192_S8x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))
def sR (q k : A3) (c : A2) : SS := select mask (sc0 q k c) (full 0xFF800000#32)

/-- A row's maximum, the exponentials less it, their sum, the weights. -/
def topR (s : SS) : HT := Host.reduce FloatOps.maximumf s (constant (F := Ideal) S_ .f32 0xFF800000#32) reducesTo_S8x8192x8192_S8x8192_d2 h_S_
def top2R (s : SS) : HT := maximumf (broadcastInDim S8x8192 ![] bcast_S_S8x8192 (constant (F := Ideal) S_ .f32 0xFF800000#32)) (topR s)
def eR (s : SS) : SS := Host.exp (subf s (wide (col1 (top2R s))))
def zR (e : SS) : HT1 := col1 (rowSum e)
def pR (e : SS) : SS := Host.divf e (wide (zR e))

/-- The derivative in the weight, in the exponential, in the score. -/
def gT (g : A3) : FVec Ideal S8x64x8192 .f32 := transpose S8x64x8192 [1, 2, 0] g transposes_S8192x8x64_S8x64x8192_1_2_0
def dpR (g v : A3) : SS := Host.dotGeneral dot_S8x64x8192_S8192x8x64_S8x8192x8192_1_2_2_0_0_1 none (gT g) v
def invR (e : SS) : HT1 := Host.divf (broadcastInDim S8x8192x1 ![] bcast_S_S8x8192x1 (constant (F := Ideal) S_ .f32 0x3F800000#32)) (mulf (zR e) (zR e))
def wR (e p : SS) : HT := rowSum (mulf (mulf p (wide (invR e))) e)
def nR (e p : SS) : HT := Host.reduceAdd (Host.negf (shapeCast S8x8192x1 (wR e p) shapeCasts_S8x8192_S8x8192x1)) zero reducesTo_S8x8192x1_S8x8192_d2 h_S_
def rawR (e p : SS) : SS :=
  mulf (addf (Host.divf p (wide (zR e))) (broadcastInDim S8x8192x8192 ![0, 1] bcast_S8x8192_S8x8192x8192_0_1 (nR e p))) e
def dsR (e p : SS) : SS := select mask (rawR e p) (full 0x00000000#32)
def dsA (q k v : A3) (c : A2) (g : A3) : SS := dsR (eR (sR q k c)) (dpR g v)

/-- The four gradients. -/
def dvR (e : SS) (g : A3) : A3 :=
  transpose S8192x8x64 [2, 0, 1] (Host.dotGeneral dot_S8x64x8192_S8x8192x8192_S8x64x8192_2_1_1_2_0_0 none (gT g) (pR e)) transposes_S8x64x8192_S8192x8x64_2_0_1
def scaled (ds : SS) : SS := mulf ds (full 0x3E000000#32)
def dkR (ds : SS) (q : A3) : A3 :=
  transpose S8192x8x64 [1, 0, 2] (Host.dotGeneral dot_S8x8192x8192_S8192x8x64_S8x8192x64_1_0_2_2_0_1 none (scaled ds) q) transposes_S8x8192x64_S8192x8x64_1_0_2
def dqR (ds : SS) (k : A3) : A3 :=
  transpose S8192x8x64 [1, 0, 2] (Host.dotGeneral dot_S8x8192x8192_S8192x8x64_S8x8192x64_2_0_1_2_0_1 none (scaled ds) k) transposes_S8x8192x64_S8192x8x64_1_0_2
def dcR (ds : SS) : A2 :=
  transpose S8192x8 [1, 0]
    (addf (Host.reduceAdd (shapeCast S8x1x8192 (colSum (Host.negf ds)) shapeCasts_S8x8192_S8x1x8192) zero reducesTo_S8x1x8192_S8x8192_d1 h_S_)
      (Host.reduceAdd (shapeCast S8x8192x1 (rowSum ds) shapeCasts_S8x8192_S8x8192x1) zero reducesTo_S8x8192x1_S8x8192_d2 h_S_))
    transposes_S8x8192_S8192x8_1_0

variable (m : (ℓ : Loc nD τ sig) → Buf (Elt Ideal) ℓ) (c : Dev nD)

set_option maxHeartbeats 2000000 in
theorem res_v50 : Value.res_main_v50 m c = dvR (eR (sR (m ((c.tc : Thread nD τ).loc main_arg0)) (m ((c.tc : Thread nD τ).loc main_arg1)) (m ((c.tc : Thread nD τ).loc main_arg3)))) (m ((c.tc : Thread nD τ).loc main_arg4)) := by
  unfold Value.res_main_v50
  rfl

set_option maxHeartbeats 2000000 in
theorem res_v75 : Value.res_main_v75 m c = dkR (dsA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg0)) := by
  unfold Value.res_main_v75
  rfl

set_option maxHeartbeats 2000000 in
theorem res_v77 : Value.res_main_v77 m c = dqR (dsA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) := by
  unfold Value.res_main_v77
  rfl

set_option maxHeartbeats 2000000 in
theorem res_v78 : Value.res_main_v78 m c = dcR (dsA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  unfold Value.res_main_v78
  rfl

end Cert.ReferenceIdeal.Fox

end
-- ==== Proof.RefRun.lean ====
/-
  The reference's run: its arguments and its semaphores.
-/
module

public import proofs.«01_k».proof.Defs
public import proofs.«01_k».proof.Proof.RefDefs
public import Idealize.ShloMosaic.Lib.Quiescent

@[expose] public section

noncomputable section

namespace Cert.Proof

open Idealize.ShloMosaic Idealize.SL.Sem

/-- The precondition's own side conditions. -/
theorem facts_finite : Cert.Pre_finite.Facts := by
  constructor <;> decide

/-- The reference ends with its arguments as they were. -/
theorem frame_reference : Cert.quiescent_ReferenceIdeal (hReferenceIdeal := Cert.ReferenceIdeal.Gen.facts) := fun m g _ =>
  (θ_run _ _ _).mono (fun r h => ⟨fun c => (h c).2.2.2.2, sem_eq_zero_of_no_sems (by decide) r.2⟩) (Cert.ReferenceIdeal.Value.run (F := Ideal) m g)

end Cert.Proof

end
-- ==== Proof.Tile.lean ====
/-
  The kernel's products at an index, at the ideal instance.
-/
module

public import proofs.«01_k».proof.Proof.StepRun
public import Idealize.ShloMosaic.Lib.Pointwise
public import Idealize.ShloMosaic.Lib.IdealHost

@[expose] public section

noncomputable section

namespace Cert.KernelIdeal.Fox

open Idealize.ShloMosaic
open Cert.KernelIdeal.Gen
open scoped BigOperators

theorem prodP_apply (A B : Vec Ideal S1x512x128 .bf16) (a b : Fin 512) :
    prodP (F := Ideal) A B (ix2 a b) = ∑ l : Fin 128, A (ix3 0 a l) * B (ix3 0 b l) := by
  pointwise [prodP]

theorem acc10_apply (A : Vec Ideal S1x512x128 .f32) (T : Vec Ideal S512x512 .bf16) (Z : Vec Ideal S1x512x128 .bf16) (a : Fin 512) (l : Fin 128) :
    acc10 (F := Ideal) A T Z (ix3 0 a l) = A (ix3 0 a l) + ∑ x : Fin 512, T (ix2 a x) * Z (ix3 0 x l) := by
  pointwise [acc10]

theorem acc00_apply (A : Vec Ideal S1x512x128 .f32) (T : Vec Ideal S512x512 .bf16) (Z : Vec Ideal S1x512x128 .bf16) (a : Fin 512) (l : Fin 128) :
    acc00 (F := Ideal) A T Z (ix3 0 a l) = A (ix3 0 a l) + ∑ x : Fin 512, T (ix2 x a) * Z (ix3 0 x l) := by
  pointwise [acc00]

theorem rowV_apply (v : Vec Ideal S1x1x1x512 .f32) (x : Fin 512) : rowV (F := Ideal) v (ix2 0 x) = v (ix4 0 0 0 x) := by
  pointwise [rowV]

theorem ix2_eq {a b : ℕ} (x : Fin a) (y : Fin b) : (ValueIdx.ix2 x y : (⟨2, ![a, b]⟩ : Shape).Idx) = ix2 x y := rfl
theorem ix3_eq {a b c : ℕ} (x : Fin a) (y : Fin b) (z : Fin c) : (ValueIdx.ix3 x y z : (⟨3, ![a, b, c]⟩ : Shape).Idx) = ix3 x y z := rfl
theorem ix4_eq {a b c d : ℕ} (x : Fin a) (y : Fin b) (z : Fin c) (w : Fin d) : (ValueIdx.ix4 x y z w : (⟨4, ![a, b, c, d]⟩ : Shape).Idx) = ix4 x y z w := rfl

end Cert.KernelIdeal.Fox

end
-- ==== Proof.Math.lean ====
/-
  The mathematics of the gradient of one head's forgetting attention, over the reals: the softmax's weights, their
  derivative, and the four gradients.
-/
module

public import Mathlib.Analysis.SpecialFunctions.Log.Basic
public import Mathlib.Analysis.SpecialFunctions.Pow.Real
public import Mathlib.Data.EReal.Basic
public import Mathlib.Algebra.BigOperators.Field
public import Mathlib.Algebra.Order.BigOperators.Group.Finset
public import Mathlib.Tactic.Ring
public import Mathlib.Tactic.FieldSimp

@[expose] public section

noncomputable section

namespace Cert.Fox

open scoped BigOperators

/-- The arguments, as reals: queries, keys, values, cotangent, running sum of the log forget gates. -/
structure Args where
  q : Fin 8192 → Fin 8 → Fin 64 → ℝ
  k : Fin 8192 → Fin 8 → Fin 64 → ℝ
  v : Fin 8192 → Fin 8 → Fin 64 → ℝ
  c : Fin 8192 → Fin 8 → ℝ
  g : Fin 8192 → Fin 8 → Fin 64 → ℝ

namespace Args

variable (I : Args)

/-- The score of query `t` at key `s`, without the query's own `c`. -/
def sc (h : Fin 8) (t s : Fin 8192) : ℝ := (∑ d, I.q t h d * I.k s h d) * (1 / 8) - I.c s h
def ex (h : Fin 8) (t s : Fin 8192) : ℝ := if s ≤ t then Real.exp (I.sc h t s) else 0
def Z (h : Fin 8) (t : Fin 8192) : ℝ := ∑ s, I.ex h t s
/-- The weight of key `s` for query `t`. -/
def P (h : Fin 8) (t s : Fin 8192) : ℝ := I.ex h t s / I.Z h t
/-- The derivative of the output in the weight. -/
def dp (h : Fin 8) (t s : Fin 8192) : ℝ := ∑ d, I.g t h d * I.v s h d
def D (h : Fin 8) (t : Fin 8192) : ℝ := ∑ s, I.P h t s * I.dp h t s
/-- The derivative in the score. -/
def dS (h : Fin 8) (t s : Fin 8192) : ℝ := I.P h t s * (I.dp h t s - I.D h t)

def dq (t : Fin 8192) (h : Fin 8) (d : Fin 64) : ℝ := (∑ s, I.dS h t s * I.k s h d) * (1 / 8)
def dk (s : Fin 8192) (h : Fin 8) (d : Fin 64) : ℝ := (∑ t, I.dS h t s * I.q t h d) * (1 / 8)
def dv (s : Fin 8192) (h : Fin 8) (d : Fin 64) : ℝ := ∑ t, I.P h t s * I.g t h d
def dc (s : Fin 8192) (h : Fin 8) : ℝ := -(∑ t, I.dS h t s) + ∑ s', I.dS h s s'

theorem ex_nonneg (h : Fin 8) (t s : Fin 8192) : 0 ≤ I.ex h t s := by
  unfold ex; split
  · exact (Real.exp_pos _).le
  · exact le_rfl

theorem Z_pos (h : Fin 8) (t : Fin 8192) : 0 < I.Z h t := by
  unfold Z
  refine Finset.sum_pos' (fun s _ => I.ex_nonneg h t s) ⟨t, Finset.mem_univ _, ?_⟩
  unfold ex; rw [if_pos le_rfl]; exact Real.exp_pos _

theorem P_of_lt {h : Fin 8} {t s : Fin 8192} (hts : t < s) : I.P h t s = 0 := by
  unfold P ex; rw [if_neg (not_le.mpr hts), zero_div]
theorem dS_of_lt {h : Fin 8} {t s : Fin 8192} (hts : t < s) : I.dS h t s = 0 := by
  unfold dS; rw [I.P_of_lt hts, zero_mul]

/-- The weight as the kernel has it: the exponential of the score less the row's log-sum. -/
theorem exp_sub_log (h : Fin 8) (t s : Fin 8192) (hts : s ≤ t) : Real.exp (I.sc h t s - Real.log (I.Z h t)) = I.P h t s := by
  unfold P ex
  rw [if_pos hts, Real.exp_sub, Real.exp_log (I.Z_pos h t)]

/-- The row sum of the cotangent times the output. -/
theorem D_eq (h : Fin 8) (t : Fin 8192) : ∑ d, I.g t h d * ∑ s, I.P h t s * I.v s h d = I.D h t := by
  unfold D dp
  simp only [Finset.mul_sum]
  rw [Finset.sum_comm]
  exact Finset.sum_congr rfl fun s _ => Finset.sum_congr rfl fun d _ => by ring

/-- Exponentials taken less a shift `x`: with their sum, the same weights and the same derivative. -/
theorem shifted_sum (h : Fin 8) (t : Fin 8192) (κ : ℝ) : ∑ s, I.ex h t s * κ = I.Z h t * κ := by
  unfold Z; rw [Finset.sum_mul]
theorem shifted_P (h : Fin 8) (t s : Fin 8192) (κ : ℝ) (hκ : κ ≠ 0) : I.ex h t s * κ / (I.Z h t * κ) = I.P h t s := by
  unfold P; rw [mul_div_mul_right _ _ hκ]
theorem shifted_log (h : Fin 8) (t : Fin 8192) (x : ℝ) : x + Real.log (I.Z h t * Real.exp (-x)) = Real.log (I.Z h t) := by
  rw [Real.log_mul (I.Z_pos h t).ne' (Real.exp_pos _).ne', Real.log_exp]; ring
theorem shifted_dS (h : Fin 8) (t s : Fin 8192) (κ : ℝ) (hκ : κ ≠ 0) :
    (I.dp h t s / (I.Z h t * κ) + -(∑ s', I.dp h t s' * (1 / ((I.Z h t * κ) * (I.Z h t * κ))) * (I.ex h t s' * κ))) * (I.ex h t s * κ) = I.dS h t s := by
  have hZ := (I.Z_pos h t).ne'
  have e : (∑ s', I.dp h t s' * (1 / ((I.Z h t * κ) * (I.Z h t * κ))) * (I.ex h t s' * κ)) = I.D h t / (I.Z h t * κ) := by
    unfold D P
    rw [Finset.sum_div]
    refine Finset.sum_congr rfl fun s' _ => ?_
    field_simp
  rw [e]
  unfold dS P
  field_simp
  ring

end Args

end Cert.Fox

end
-- ==== Proof.Lanes.lean ====
/-
  The padded operands of the kernel over the reals: what a row of keys times a row of queries is, and sums over blocks.
-/
module

public import proofs.«01_k».proof.Proof.Math
public import Mathlib.Algebra.BigOperators.Fin
public import Mathlib.Logic.Equiv.Fin.Basic

@[expose] public section

noncomputable section

namespace Cert.Fox

open scoped BigOperators

/-- Position `x` of block `b`. -/
def pos (b : Fin 16) (x : Fin 512) : Fin 8192 := ⟨512 * b.val + x.val, by omega⟩

theorem sum_blocks {M : Type} [AddCommMonoid M] (f : Fin 8192 → M) :
    ∑ t, f t = ∑ b ∈ Finset.range 16, ∑ x : Fin 512, f (pos (Fin.ofNat 16 b) x) := by
  rw [← (finProdFinEquiv (m := 16) (n := 512)).sum_comp (fun t : Fin (16 * 512) => f t), Fintype.sum_prod_type,
    Finset.sum_range (fun b => ∑ x : Fin 512, f (pos (Fin.ofNat 16 b) x))]
  refine Finset.sum_congr rfl fun b _ => Finset.sum_congr rfl fun x _ => congrArg f (Fin.ext ?_)
  show x.val + 512 * b.val = 512 * (b.val % 16) + x.val
  have := b.isLt; omega

/-- A head's 64 numbers, padded with zeros. -/
def pad (f : Fin 64 → ℝ) (l : Fin 128) : ℝ := if h : l.val < 64 then f ⟨l.val, h⟩ else 0

theorem sum_lanes (f : Fin 128 → ℝ) : ∑ l, f l = (∑ d : Fin 64, f ⟨d.val, by omega⟩) + ∑ d : Fin 64, f ⟨64 + d.val, by omega⟩ := by
  exact Fin.sum_univ_add (a := 64) (b := 64) f

theorem sum_pad (f g : Fin 64 → ℝ) : ∑ l, pad f l * pad g l = ∑ d, f d * g d := by
  rw [sum_lanes]
  rw [show (∑ d : Fin 64, pad f ⟨64 + d.val, by omega⟩ * pad g ⟨64 + d.val, by omega⟩) = 0 from
    Finset.sum_eq_zero fun d _ => by unfold pad; rw [dif_neg (by show ¬ 64 + d.val < 64; omega), zero_mul], add_zero]
  exact Finset.sum_congr rfl fun d _ => by unfold pad; rw [dif_pos d.isLt, dif_pos d.isLt]

namespace Args

variable (I : Args)

/-- A query's lanes. -/
def qa (h : Fin 8) (t : Fin 8192) (l : Fin 128) : ℝ :=
  if e : l.val < 64 then I.q t h ⟨l.val, e⟩ * (1 / 8 * (1 / Real.log 2)) else if l.val < 67 then -1 else 0
/-- A key's lanes. -/
def ka (h : Fin 8) (s : Fin 8192) (l : Fin 128) : ℝ :=
  if e : l.val < 64 then I.k s h ⟨l.val, e⟩ else if l.val = 64 then I.c s h * (1 / Real.log 2) else if l.val < 67 then 0 else if l.val = 67 then 1 else 0

theorem sum_qk (h : Fin 8) (t s : Fin 8192) : ∑ l, I.ka h s l * I.qa h t l = I.sc h t s * (1 / Real.log 2) := by
  rw [sum_lanes]
  have e0 : ∀ d : Fin 64, I.ka h s ⟨d.val, by omega⟩ * I.qa h t ⟨d.val, by omega⟩ = I.q t h d * I.k s h d * (1 / 8 * (1 / Real.log 2)) := fun d => by
    unfold ka qa; rw [dif_pos d.isLt, dif_pos d.isLt]; ring
  have e1 : (∑ d : Fin 64, I.ka h s ⟨64 + d.val, by omega⟩ * I.qa h t ⟨64 + d.val, by omega⟩) = -(I.c s h * (1 / Real.log 2)) := by
    rw [Finset.sum_eq_single (0 : Fin 64)]
    · unfold ka qa
      rw [dif_neg (by decide), dif_neg (by decide), if_pos (by decide), if_pos (by decide)]; ring
    · intro d _ hd
      have hd' : d.val ≠ 0 := fun e => hd (Fin.ext e)
      unfold ka qa
      rw [dif_neg (by show ¬ 64 + d.val < 64; omega), dif_neg (by show ¬ 64 + d.val < 64; omega), if_neg (by show ¬ 64 + d.val = 64; omega)]
      by_cases h3 : 64 + d.val < 67
      · rw [if_pos h3, zero_mul]
      · rw [if_neg h3, if_neg (show ¬ (⟨64 + d.val, by omega⟩ : Fin 128).val < 67 from h3), mul_zero]
    · intro e; exact absurd (Finset.mem_univ _) e
  rw [Finset.sum_congr rfl fun d _ => e0 d, e1, ← Finset.sum_mul]
  unfold sc
  ring

end Args

/-- Powers of two at logarithms taken to base two. -/
theorem two_pow (x y : ℝ) : (2 : ℝ) ^ (x * (1 / Real.log 2) - y * (1 / Real.log 2)) = Real.exp (x - y) := by
  have h : Real.log 2 ≠ 0 := (Real.log_pos (by norm_num)).ne'
  rw [Real.rpow_def_of_pos (by norm_num)]
  congr 1
  field_simp

end Cert.Fox

end
-- ==== Proof.Sweep.lean ====
/-
  What a grid point computes, over the reals: its tiles are the weights and the derivative in the scores, its
  accumulators their sums over the blocks of queries.
-/
module

public import proofs.«01_k».proof.Proof.Tile
public import proofs.«01_k».proof.Proof.Lanes
public import proofs.«01_k».proof.Proof.BodyRun

@[expose] public section

noncomputable section

namespace Cert.KernelIdeal.Fox

open Idealize.ShloMosaic
open Cert.KernelIdeal.Gen Cert.Fox
open scoped BigOperators

/-- What the blocks of a point hold: the heads `H`, the block `j` of keys. -/
structure Holds (I : Args) (H : Fin 4 → Fin 8) (j : Fin 16) (T : S1x512x512.Idx → EReal) (L Dd : S4x16x1x512.Idx → EReal)
    (Qv Ov : S4x8192x128.Idx → EReal) (K V : S4x512x128.Idx → EReal) : Prop where
  T : ∀ a b : Fin 512, T (ix3 0 a b) = if a ≤ b then 0 else ⊥
  L : ∀ n b x, L (ix4 n b 0 x) = ((Real.log (I.Z (H n) (pos b x)) * (1 / Real.log 2) : ℝ) : EReal)
  D : ∀ n b x, Dd (ix4 n b 0 x) = (I.D (H n) (pos b x) : EReal)
  Q : ∀ n t l, Qv (ix3 n t l) = (I.qa (H n) t l : EReal)
  O : ∀ n t l, Ov (ix3 n t l) = (pad (I.g t (H n)) l : EReal)
  K : ∀ n r l, K (ix3 n r l) = (I.ka (H n) (pos j r) l : EReal)
  V : ∀ n r l, V (ix3 n r l) = (pad (I.v (pos j r) (H n)) l : EReal)

theorem getH_at (n : Fin 4) (X : S4x512x128.Idx → EReal) (r : Fin 512) (l : Fin 128) : getH n X (ix3 0 r l) = X (ix3 n r l) := by
  unfold getH; exact congrArg X (rH_emb n _)
theorem getQ_at (n : Fin 4) (b : Fin 16) (X : S4x8192x128.Idx → EReal) (r : Fin 512) (l : Fin 128) : getQ n b X (ix3 0 r l) = X (ix3 n (pos b r) l) := by
  unfold getQ; exact congrArg X (rQ_emb n b _)
theorem getL_at (n : Fin 4) (b : Fin 16) (X : S4x16x1x512.Idx → EReal) (x : Fin 512) : getL n b X (ix4 0 0 0 x) = X (ix4 n b 0 x) := by
  unfold getL; exact congrArg X (rL_emb n b _)

theorem coe_sum {n : ℕ} (f : Fin n → ℝ) : (∑ i, (f i : EReal)) = ((∑ i, f i : ℝ) : EReal) := by
  induction n with
  | zero => simp
  | succ n ih => rw [Fin.sum_univ_succ, Fin.sum_univ_succ, EReal.coe_add, ih]

variable {I : Args} {H : Fin 4 → Fin 8} {j : Fin 16} {T : S1x512x512.Idx → EReal} {L Dd : S4x16x1x512.Idx → EReal}
  {Qv Ov : S4x8192x128.Idx → EReal} {K V : S4x512x128.Idx → EReal}

namespace Holds

variable (hh : Holds I H j T L Dd Qv Ov K V)
include hh

theorem score_at (b : Fin 16) (n : Fin 4) (r x : Fin 512) :
    score (F := Ideal) K Qv b n (ix2 r x) = ((I.sc (H n) (pos b x) (pos j r) * (1 / Real.log 2) : ℝ) : EReal) := by
  unfold score
  rw [prodP_apply, ← I.sum_qk, ← coe_sum]
  refine Finset.sum_congr rfl fun l _ => ?_
  rw [getH_at, getQ_at, hh.K, hh.Q, EReal.coe_mul]

theorem dp_at (b : Fin 16) (n : Fin 4) (r x : Fin 512) :
    score (F := Ideal) V Ov b n (ix2 r x) = (I.dp (H n) (pos b x) (pos j r) : EReal) := by
  unfold score
  rw [prodP_apply, Args.dp, ← sum_pad, ← coe_sum]
  refine Finset.sum_congr rfl fun l _ => ?_
  rw [getH_at, getQ_at, hh.V, hh.O, ← EReal.coe_mul, mul_comm]

theorem wt_at (b : Fin 16) (n : Fin 4) (r x : Fin 512) (hs : pos j r ≤ pos b x) :
    wt (F := Ideal) ((I.sc (H n) (pos b x) (pos j r) * (1 / Real.log 2) : ℝ) : EReal) ((Real.log (I.Z (H n) (pos b x)) * (1 / Real.log 2) : ℝ) : EReal)
      = (I.P (H n) (pos b x) (pos j r) : EReal) := by
  rw [← I.exp_sub_log _ _ _ hs, ← two_pow]
  show Ideal.exp2 (((I.sc (H n) (pos b x) (pos j r) * (1 / Real.log 2) : ℝ) : EReal) - ((Real.log (I.Z (H n) (pos b x)) * (1 / Real.log 2) : ℝ) : EReal)) = _
  rw [← EReal.coe_sub]
  exact Ideal.exp2_coe _

/-- The scores that a step's weights are taken of: `⊥` past the diagonal. -/
def Masked (I : Args) (H : Fin 4 → Fin 8) (j b : Fin 16) (K : S4x512x128.Idx → EReal) (Qv : S4x8192x128.Idx → EReal)
    (g : Vec Ideal S512x512 .f32 → Vec Ideal S512x512 .f32) : Prop :=
  ∀ n r x, g (score (F := Ideal) K Qv b n) (ix2 r x) = if pos j r ≤ pos b x then ((I.sc (H n) (pos b x) (pos j r) * (1 / Real.log 2) : ℝ) : EReal) else ⊥

theorem masked_id (b : Fin 16) (hb : j.val < b.val) : Masked I H j b K Qv id := fun n r x => by
  rw [if_pos (show pos j r ≤ pos b x from by show 512 * j.val + r.val ≤ 512 * b.val + x.val; omega)]
  exact hh.score_at b n r x

theorem masked_tab : Masked I H j j K Qv (tabX (F := Ideal) T) := fun n r x => by
  show score (F := Ideal) K Qv j n (ix2 r x) + T (ix3 0 r x) = _
  rw [hh.score_at, hh.T]
  by_cases h : r ≤ x
  · rw [if_pos h, if_pos (show pos j r ≤ pos j x from by show 512 * j.val + r.val ≤ 512 * j.val + x.val; have : r.val ≤ x.val := h; omega), add_zero]
  · rw [if_neg h, if_neg (fun e : pos j r ≤ pos j x => h (by have : 512 * j.val + r.val ≤ 512 * j.val + x.val := e; show r.val ≤ x.val; omega)), EReal.add_bot]

variable {b : Fin 16} {g : Vec Ideal S512x512 .f32 → Vec Ideal S512x512 .f32} (hg : Masked I H j b K Qv g)
include hg

theorem w_at (n : Fin 4) (r x : Fin 512) : wTile (F := Ideal) g L Dd Qv Ov K V b n (ix2 r x) = (I.P (H n) (pos b x) (pos j r) : EReal) := by
  show wt (F := Ideal) (g (score (F := Ideal) K Qv b n) (ix2 r x)) (rowV (F := Ideal) (getL n b L) (ix2 0 x)) = _
  rw [hg, rowV_apply, getL_at, hh.L]
  by_cases h : pos j r ≤ pos b x
  · rw [if_pos h]; exact hh.wt_at b n r x h
  · rw [if_neg h, I.P_of_lt (not_le.mp h)]
    show Ideal.exp2 (⊥ - ((Real.log (I.Z (H n) (pos b x)) * (1 / Real.log 2) : ℝ) : EReal)) = _
    rw [EReal.bot_sub]; rfl

theorem d_at (n : Fin 4) (r x : Fin 512) : dTile (F := Ideal) g L Dd Qv Ov K V b n (ix2 r x) = (I.dS (H n) (pos b x) (pos j r) : EReal) := by
  show wTile (F := Ideal) g L Dd Qv Ov K V b n (ix2 r x) * (score (F := Ideal) V Ov b n (ix2 r x) - rowV (F := Ideal) (getL n b Dd) (ix2 0 x)) = _
  rw [hh.w_at hg, hh.dp_at, rowV_apply, getL_at, hh.D, ← EReal.coe_sub, ← EReal.coe_mul]
  rfl

theorem nextV_at (A : S4x512x128.Idx → EReal) (n : Fin 4) (r : Fin 512) (l : Fin 128) :
    nextV (F := Ideal) g L Dd Qv Ov K V b A (ix3 n r l)
      = A (ix3 n r l) + ((∑ x, I.P (H n) (pos b x) (pos j r) * pad (I.g (pos b x) (H n)) l : ℝ) : EReal) := by
  show acc10 (F := Ideal) (getH n A) (wTile (F := Ideal) g L Dd Qv Ov K V b n) (getQ n b Ov) (ix3 0 r l) = _
  rw [acc10_apply, getH_at, ← coe_sum]
  refine congrArg (A (ix3 n r l) + ·) (Finset.sum_congr rfl fun x _ => ?_)
  rw [hh.w_at hg, getQ_at, hh.O, EReal.coe_mul]

theorem nextK_at (A : S4x512x128.Idx → EReal) (n : Fin 4) (r : Fin 512) (l : Fin 128) :
    nextK (F := Ideal) g L Dd Qv Ov K V b A (ix3 n r l)
      = A (ix3 n r l) + ((∑ x, I.dS (H n) (pos b x) (pos j r) * I.qa (H n) (pos b x) l : ℝ) : EReal) := by
  show acc10 (F := Ideal) (getH n A) (dTile (F := Ideal) g L Dd Qv Ov K V b n) (getQ n b Qv) (ix3 0 r l) = _
  rw [acc10_apply, getH_at, ← coe_sum]
  refine congrArg (A (ix3 n r l) + ·) (Finset.sum_congr rfl fun x _ => ?_)
  rw [hh.d_at hg, getQ_at, hh.Q, EReal.coe_mul]

/-- What block `j` of keys adds to a query's row. -/
def addQ (I : Args) (j : Fin 16) (h : Fin 8) (t : Fin 8192) (l : Fin 128) : ℝ := ∑ y, I.dS h t (pos j y) * I.ka h (pos j y) l

theorem nextQ_at (A : S4x8192x128.Idx → EReal) (n : Fin 4) (t : Fin 8192) (l : Fin 128) :
    nextQ (F := Ideal) g L Dd Qv Ov K V b A (ix3 n t l)
      = if t.val / 512 = b.val then A (ix3 n t l) + (addQ I j (H n) t l : EReal) else A (ix3 n t l) := by
  unfold nextQ stage
  have hS : SQ b 4 (ix3 n t l) ↔ t.val / 512 = b.val := ⟨fun h => h.2, fun h => ⟨n.isLt, h⟩⟩
  by_cases h : t.val / 512 = b.val
  · rw [if_pos h, if_pos (hS.mpr h)]
    have ht : pos b ⟨t.val % 512, Nat.mod_lt _ (by decide)⟩ = t := Fin.ext (by show 512 * b.val + t.val % 512 = t.val; omega)
    show acc00 (F := Ideal) (getQ n b A) (dTile (F := Ideal) g L Dd Qv Ov K V b n) (getH n K) (ix3 0 ⟨t.val % 512, Nat.mod_lt _ (by decide)⟩ l) = _
    rw [acc00_apply, getQ_at, ht]
    unfold addQ
    rw [← coe_sum]
    refine congrArg (A (ix3 n t l) + ·) (Finset.sum_congr rfl fun y _ => ?_)
    rw [hh.d_at hg, getH_at, hh.K, EReal.coe_mul, ht]
  · rw [if_neg h, if_neg (fun e => h (hS.mp e))]

end Holds

end Cert.KernelIdeal.Fox

end
-- ==== Proof.Total.lean ====
/-
  The sums of a grid point over all its steps: after the last, the accumulators of block `j` of keys hold its rows of
  the gradients in the values and keys, and the accumulator of the queries has gained what the block gives.
-/
module

public import proofs.«01_k».proof.Proof.Sweep

@[expose] public section

noncomputable section

namespace Cert.KernelIdeal.Fox

open Idealize.ShloMosaic
open Cert.KernelIdeal.Gen Cert.Fox
open scoped BigOperators

theorem zKV_at (y : S4x512x128.Idx) : (zKV (F := Ideal)) y = 0 := Ideal.ofBits_zero_f32
theorem zQ_at (y : S4x8192x128.Idx) : (zQ (F := Ideal)) y = 0 := Ideal.ofBits_zero_f32

/-- A block of queries before the block of keys sees none of it. -/
theorem pos_lt {j : Fin 16} {b : ℕ} (hb : b < j.val) (r x : Fin 512) : pos (blk b) x < pos j r := by
  show 512 * (b % 16) + x.val < 512 * j.val + r.val
  have := j.isLt; omega

/-- Blocks `≤ j + n`, summed: those before `j` are zero. -/
theorem sum_before {j : Fin 16} (f : ℕ → ℝ) (h0 : ∀ b < j.val, f b = 0) : ∑ b ∈ Finset.range (j.val + 1), f b = f j.val := by
  rw [Finset.sum_range_succ, Finset.sum_eq_zero (fun b hb => h0 b (Finset.mem_range.mp hb)), zero_add]

variable {I : Args} {H : Fin 4 → Fin 8} {j : Fin 16} {T : S1x512x512.Idx → EReal} {L Dd : S4x16x1x512.Idx → EReal}
  {Qv Ov : S4x8192x128.Idx → EReal} {K V : S4x512x128.Idx → EReal}

theorem blk_val (j : Fin 16) : blk j.val = j := Fin.ext (Nat.mod_eq_of_lt j.isLt)
theorem blk_of {n : ℕ} (h : n < 16) : (blk n).val = n := Nat.mod_eq_of_lt h

namespace Holds

variable (hh : Holds I H j T L Dd Qv Ov K V)
include hh

theorem atV_at (n : Fin 4) (r : Fin 512) (l : Fin 128) : ∀ i, j.val + i ≤ 15 →
    atV (F := Ideal) T L Dd Qv Ov K V j.val zKV i (ix3 n r l)
      = ((∑ b ∈ Finset.range (j.val + 1 + i), ∑ x, I.P (H n) (pos (blk b) x) (pos j r) * pad (I.g (pos (blk b) x) (H n)) l : ℝ) : EReal)
  | 0, _ => by
    show nextV (F := Ideal) (tabX T) L Dd Qv Ov K V (blk j.val) zKV (ix3 n r l) = _
    rw [blk_val, hh.nextV_at hh.masked_tab, zKV_at, zero_add, add_zero, sum_before, blk_val]
    exact fun b hb => Finset.sum_eq_zero fun x _ => by rw [I.P_of_lt (pos_lt hb r x), zero_mul]
  | i + 1, hi => by
    rw [atV_succ, hh.nextV_at (hh.masked_id _ (by rw [blk_of (by omega)]; omega)), atV_at n r l i (by omega), ← EReal.coe_add,
      show j.val + 1 + (i + 1) = j.val + 1 + i + 1 from rfl, Finset.sum_range_succ]

theorem atK_at (n : Fin 4) (r : Fin 512) (l : Fin 128) : ∀ i, j.val + i ≤ 15 →
    atK (F := Ideal) T L Dd Qv Ov K V j.val zKV i (ix3 n r l)
      = ((∑ b ∈ Finset.range (j.val + 1 + i), ∑ x, I.dS (H n) (pos (blk b) x) (pos j r) * I.qa (H n) (pos (blk b) x) l : ℝ) : EReal)
  | 0, _ => by
    show nextK (F := Ideal) (tabX T) L Dd Qv Ov K V (blk j.val) zKV (ix3 n r l) = _
    rw [blk_val, hh.nextK_at hh.masked_tab, zKV_at, zero_add, add_zero, sum_before, blk_val]
    exact fun b hb => Finset.sum_eq_zero fun x _ => by rw [I.dS_of_lt (pos_lt hb r x), zero_mul]
  | i + 1, hi => by
    rw [atK_succ, hh.nextK_at (hh.masked_id _ (by rw [blk_of (by omega)]; omega)), atK_at n r l i (by omega), ← EReal.coe_add,
      show j.val + 1 + (i + 1) = j.val + 1 + i + 1 from rfl, Finset.sum_range_succ]

theorem vTotal (n : Fin 4) (r : Fin 512) (l : Fin 128) : atV (F := Ideal) T L Dd Qv Ov K V j.val zKV (15 - j.val) (ix3 n r l)
    = ((∑ t, I.P (H n) t (pos j r) * pad (I.g t (H n)) l : ℝ) : EReal) := by
  have := j.isLt
  rw [hh.atV_at n r l _ (by omega), sum_blocks, show j.val + 1 + (15 - j.val) = 16 by omega]; rfl

theorem kTotal (n : Fin 4) (r : Fin 512) (l : Fin 128) : atK (F := Ideal) T L Dd Qv Ov K V j.val zKV (15 - j.val) (ix3 n r l)
    = ((∑ t, I.dS (H n) t (pos j r) * I.qa (H n) t l : ℝ) : EReal) := by
  have := j.isLt
  rw [hh.atK_at n r l _ (by omega), sum_blocks, show j.val + 1 + (15 - j.val) = 16 by omega]; rfl

omit hh in
theorem addQ_of_lt (j : Fin 16) (h : Fin 8) (t : Fin 8192) (l : Fin 128) (ht : t.val / 512 < j.val) : addQ I j h t l = 0 := by
  unfold addQ
  refine Finset.sum_eq_zero fun y _ => ?_
  rw [I.dS_of_lt (show t < pos j y from by show t.val < 512 * j.val + y.val; omega), zero_mul]

theorem atQ_at (A : S4x8192x128.Idx → EReal) (n : Fin 4) (t : Fin 8192) (l : Fin 128) : ∀ i, j.val + i ≤ 15 →
    atQ (F := Ideal) T L Dd Qv Ov K V j.val A i (ix3 n t l)
      = if t.val / 512 < j.val + 1 + i then A (ix3 n t l) + (addQ I j (H n) t l : EReal) else A (ix3 n t l)
  | 0, _ => by
    show nextQ (F := Ideal) (tabX T) L Dd Qv Ov K V (blk j.val) A (ix3 n t l) = _
    rw [blk_val, hh.nextQ_at hh.masked_tab]
    rcases lt_trichotomy (t.val / 512) j.val with h | h | h
    · rw [if_neg (by omega), if_pos (by omega), addQ_of_lt j _ t l h, EReal.coe_zero, add_zero]
    · rw [if_pos h, if_pos (by omega)]
    · rw [if_neg (by omega), if_neg (by omega)]
  | i + 1, hi => by
    rw [atQ_succ, hh.nextQ_at (hh.masked_id _ (by rw [blk_of (by omega)]; omega)), blk_of (by omega), atQ_at A n t l i (by omega)]
    rcases lt_trichotomy (t.val / 512) (j.val + 1 + i) with h | h | h
    · rw [if_neg (by omega), if_pos h, if_pos (by omega)]
    · rw [if_pos h, if_neg (by omega), if_pos (by omega)]
    · rw [if_neg (by omega), if_neg (by omega), if_neg (by omega)]

theorem qTotal (A : S4x8192x128.Idx → EReal) (n : Fin 4) (t : Fin 8192) (l : Fin 128) :
    atQ (F := Ideal) T L Dd Qv Ov K V j.val A (15 - j.val) (ix3 n t l) = A (ix3 n t l) + (addQ I j (H n) t l : EReal) := by
  have := j.isLt; have := t.isLt
  rw [hh.atQ_at A n t l _ (by omega), if_pos (by omega)]

end Holds

end Cert.KernelIdeal.Fox

end
-- ==== Proof.Placed.lean ====
/-
  Where a grid point's blocks sit in their arrays.
-/
module

public import proofs.«01_k».proof.Proof.Total
public import proofs.«01_k».proof.Proof.Gen.KernelIdeal.Frame
public import Idealize.ShloMosaic.Lib.Pipeline.ValueKit

@[expose] public section

set_option maxRecDepth 16384

noncomputable section

namespace Cert.KernelIdeal.Fox

open Cert.KernelIdeal Cert.KernelIdeal.Gen
open Idealize.ShloMosaic Idealize.ShloMosaic.TcCoe
open Cert.Fox

/-- The head a point's row `n` is of. -/
def hd (i : Fin 2) (n : Fin 4) : Fin 8 := ⟨4 * i.val + n.val, by omega⟩

theorem idx0 : ∀ t : Fin cfg0.N, win0_0.index t = ![(grid0.coords t 0).val, 0, 0, 0] := (by decide +kernel : ∀ t : Fin grid0.N, _)
theorem emb0 (t : Fin cfg0.N) (n : Fin 4) (b : Fin 16) (x : Fin 512) :
    ((cfg0.win 0).blk t).view.emb (ix4 n b (0 : Fin 1) x) = ix4 (hd (grid0.coords t 0) n) b (0 : Fin 1) x := by
  funext a
  refine Fin.ext ?_
  blk_simp [idx0 t]
  generalize grid0.coords t 0 = i
  fin_cases a
  · show i.val * 4 + n.val = 4 * i.val + n.val; omega
  · show 0 * 16 + b.val = b.val; omega
  · rfl
  · show 0 * 512 + x.val = x.val; omega

theorem idx3 : ∀ t : Fin cfg0.N, win0_3.index t = ![(grid0.coords t 0).val, 0, 0, 0] := (by decide +kernel : ∀ t : Fin grid0.N, _)
theorem emb3 (t : Fin cfg0.N) (n : Fin 4) (b : Fin 16) (x : Fin 512) :
    ((cfg0.win 3).blk t).view.emb (ix4 n b (0 : Fin 1) x) = ix4 (hd (grid0.coords t 0) n) b (0 : Fin 1) x := by
  funext a
  refine Fin.ext ?_
  blk_simp [idx3 t]
  generalize grid0.coords t 0 = i
  fin_cases a
  · show i.val * 4 + n.val = 4 * i.val + n.val; omega
  · show 0 * 16 + b.val = b.val; omega
  · rfl
  · show 0 * 512 + x.val = x.val; omega

theorem idx1 : ∀ t : Fin cfg0.N, win0_1.index t = ![(grid0.coords t 0).val, 0, 0] := (by decide +kernel : ∀ t : Fin grid0.N, _)
theorem emb1 (t : Fin cfg0.N) (n : Fin 4) (s : Fin 8192) (l : Fin 128) :
    ((cfg0.win 1).blk t).view.emb (ix3 n s l) = ix3 (hd (grid0.coords t 0) n) s l := by
  funext a
  refine Fin.ext ?_
  blk_simp [idx1 t]
  generalize grid0.coords t 0 = i
  fin_cases a
  · show i.val * 4 + n.val = 4 * i.val + n.val; omega
  · show 0 * 8192 + s.val = s.val; omega
  · show 0 * 128 + l.val = l.val; omega

theorem idx2 : ∀ t : Fin cfg0.N, win0_2.index t = ![(grid0.coords t 0).val, 0, 0] := (by decide +kernel : ∀ t : Fin grid0.N, _)
theorem emb2 (t : Fin cfg0.N) (n : Fin 4) (s : Fin 8192) (l : Fin 128) :
    ((cfg0.win 2).blk t).view.emb (ix3 n s l) = ix3 (hd (grid0.coords t 0) n) s l := by
  funext a
  refine Fin.ext ?_
  blk_simp [idx2 t]
  generalize grid0.coords t 0 = i
  fin_cases a
  · show i.val * 4 + n.val = 4 * i.val + n.val; omega
  · show 0 * 8192 + s.val = s.val; omega
  · show 0 * 128 + l.val = l.val; omega

theorem idx4 : ∀ t : Fin cfg0.N, win0_4.index t = ![(grid0.coords t 0).val, (grid0.coords t 1).val, 0] := (by decide +kernel : ∀ t : Fin grid0.N, _)
theorem emb4 (t : Fin cfg0.N) (n : Fin 4) (r : Fin 512) (l : Fin 128) :
    ((cfg0.win 4).blk t).view.emb (ix3 n r l) = ix3 (hd (grid0.coords t 0) n) (pos (grid0.coords t 1) r) l := by
  funext a
  refine Fin.ext ?_
  blk_simp [idx4 t]
  generalize grid0.coords t 0 = i
  generalize grid0.coords t 1 = j
  fin_cases a
  · show i.val * 4 + n.val = 4 * i.val + n.val; omega
  · show j.val * 512 + r.val = 512 * j.val + r.val; omega
  · show 0 * 128 + l.val = l.val; omega

theorem idx5 : ∀ t : Fin cfg0.N, win0_5.index t = ![(grid0.coords t 0).val, (grid0.coords t 1).val, 0] := (by decide +kernel : ∀ t : Fin grid0.N, _)
theorem emb5 (t : Fin cfg0.N) (n : Fin 4) (r : Fin 512) (l : Fin 128) :
    ((cfg0.win 5).blk t).view.emb (ix3 n r l) = ix3 (hd (grid0.coords t 0) n) (pos (grid0.coords t 1) r) l := by
  funext a
  refine Fin.ext ?_
  blk_simp [idx5 t]
  generalize grid0.coords t 0 = i
  generalize grid0.coords t 1 = j
  fin_cases a
  · show i.val * 4 + n.val = 4 * i.val + n.val; omega
  · show j.val * 512 + r.val = 512 * j.val + r.val; omega
  · show 0 * 128 + l.val = l.val; omega

theorem idx7 : ∀ t : Fin cfg0.N, win0_7.index t = ![(grid0.coords t 0).val, (grid0.coords t 1).val, 0] := (by decide +kernel : ∀ t : Fin grid0.N, _)
theorem emb7 (t : Fin cfg0.N) (n : Fin 4) (r : Fin 512) (l : Fin 128) :
    ((cfg0.win 7).blk t).view.emb (ix3 n r l) = ix3 (hd (grid0.coords t 0) n) (pos (grid0.coords t 1) r) l := by
  funext a
  refine Fin.ext ?_
  blk_simp [idx7 t]
  generalize grid0.coords t 0 = i
  generalize grid0.coords t 1 = j
  fin_cases a
  · show i.val * 4 + n.val = 4 * i.val + n.val; omega
  · show j.val * 512 + r.val = 512 * j.val + r.val; omega
  · show 0 * 128 + l.val = l.val; omega

theorem idx8 : ∀ t : Fin cfg0.N, win0_8.index t = ![(grid0.coords t 0).val, (grid0.coords t 1).val, 0] := (by decide +kernel : ∀ t : Fin grid0.N, _)
theorem emb8 (t : Fin cfg0.N) (n : Fin 4) (r : Fin 512) (l : Fin 128) :
    ((cfg0.win 8).blk t).view.emb (ix3 n r l) = ix3 (hd (grid0.coords t 0) n) (pos (grid0.coords t 1) r) l := by
  funext a
  refine Fin.ext ?_
  blk_simp [idx8 t]
  generalize grid0.coords t 0 = i
  generalize grid0.coords t 1 = j
  fin_cases a
  · show i.val * 4 + n.val = 4 * i.val + n.val; omega
  · show j.val * 512 + r.val = 512 * j.val + r.val; omega
  · show 0 * 128 + l.val = l.val; omega

theorem idx6 : ∀ t : Fin cfg0.N, win0_6.index t = ![0, 0, 0] := (by decide +kernel : ∀ t : Fin grid0.N, _)
theorem emb6 (t : Fin cfg0.N) (a b : Fin 512) : ((cfg0.win 6).blk t).view.emb (ix3 (0 : Fin 1) a b) = ix3 (0 : Fin 1) a b := by
  funext d
  refine Fin.ext ?_
  blk_simp [idx6 t]
  fin_cases d
  · rfl
  · show 0 * 512 + a.val = a.val; omega
  · show 0 * 512 + b.val = b.val; omega

end Cert.KernelIdeal.Fox

end
-- ==== Proof.Arrays.lean ====
/-
  The arrays after the launch: from what the launch finds in its operands, the three arrays of gradients at an index.
-/
module

public import proofs.«01_k».proof.Proof.Placed
public import proofs.«01_k».proof.Proof.Grid

@[expose] public section

set_option maxRecDepth 16384

noncomputable section

namespace Cert.KernelIdeal.Fox

open Cert.KernelIdeal Cert.KernelIdeal.Gen
open Idealize.ShloMosaic Idealize.ShloMosaic.TcCoe
open Idealize.ShloMosaic.Pipeline (Dat)
open Cert.Fox
open scoped BigOperators

/-- An array of extended reals at an index. -/
abbrev rd {s : Shape} (X : s.Idx → EReal) (y : s.Idx) : EReal := X y

/-- What the launch finds in its operands. -/
structure Finds (I : Args) (m : (ℓ : Loc nD τ sig) → Buf (Elt Ideal) ℓ) (c : Dev nD) : Prop where
  fT : ∀ a b : Fin 512, rd (s := S1x512x512) (V m c main_v76) (ix3 0 a b) = if a ≤ b then 0 else ⊥
  fL : ∀ (h : Fin 8) (b : Fin 16) (x : Fin 512), rd (s := S8x16x1x512) (V m c main_v64) (ix4 h b 0 x) = ((Real.log (I.Z h (pos b x)) * (1 / Real.log 2) : ℝ) : EReal)
  fD : ∀ (h : Fin 8) (b : Fin 16) (x : Fin 512), rd (s := S8x16x1x512) (V m c main_v65) (ix4 h b 0 x) = (I.D h (pos b x) : EReal)
  fQ : ∀ (h : Fin 8) (t : Fin 8192) (l : Fin 128), rd (s := S8x8192x128) (V m c main_v10) (ix3 h t l) = (I.qa h t l : EReal)
  fO : ∀ (h : Fin 8) (t : Fin 8192) (l : Fin 128), rd (s := S8x8192x128) (V m c main_v33) (ix3 h t l) = (pad (I.g t h) l : EReal)
  fK : ∀ (h : Fin 8) (s : Fin 8192) (l : Fin 128), rd (s := S8x8192x128) (V m c main_v25) (ix3 h s l) = (I.ka h s l : EReal)
  fV : ∀ (h : Fin 8) (s : Fin 8192) (l : Fin 128), rd (s := S8x8192x128) (V m c main_v29) (ix3 h s l) = (pad (I.v s h) l : EReal)

variable {I : Args} {m : (ℓ : Loc nD τ sig) → Buf (Elt Ideal) ℓ} {c : Dev nD} (hm : Finds I m c)
include hm

omit hm

theorem openT (X : S1x512x512.Idx → EReal) (t : Fin cfg0.N) (a b : Fin 512) :
    rd (s := S1x512x512) (((cfg0.win 6).blk t).view.read (Elt Ideal) X) (ix3 0 a b) = X (ix3 0 a b) := congrArg X (emb6 t a b)
theorem blkT (t : Fin cfg0.N) (a b : Fin 512) : rd (s := S1x512x512) (iblk m c 6 t) (ix3 0 a b) = rd (s := S1x512x512) (V m c main_v76) (ix3 0 a b) := openT (V m c main_v76) t a b

theorem openL (X : S8x16x1x512.Idx → EReal) (t : Fin cfg0.N) (n : Fin 4) (b : Fin 16) (x : Fin 512) :
    rd (s := S4x16x1x512) (((cfg0.win 0).blk t).view.read (Elt Ideal) X) (ix4 n b 0 x) = X (ix4 (hd (grid0.coords t 0) n) b 0 x) := congrArg X (emb0 t n b x)
theorem blkL (t : Fin cfg0.N) (n : Fin 4) (b : Fin 16) (x : Fin 512) : rd (s := S4x16x1x512) (iblk m c 0 t) (ix4 n b 0 x) = rd (s := S8x16x1x512) (V m c main_v64) (ix4 (hd (grid0.coords t 0) n) b 0 x) := openL (V m c main_v64) t n b x

theorem openD (X : S8x16x1x512.Idx → EReal) (t : Fin cfg0.N) (n : Fin 4) (b : Fin 16) (x : Fin 512) :
    rd (s := S4x16x1x512) (((cfg0.win 3).blk t).view.read (Elt Ideal) X) (ix4 n b 0 x) = X (ix4 (hd (grid0.coords t 0) n) b 0 x) := congrArg X (emb3 t n b x)
theorem blkD (t : Fin cfg0.N) (n : Fin 4) (b : Fin 16) (x : Fin 512) : rd (s := S4x16x1x512) (iblk m c 3 t) (ix4 n b 0 x) = rd (s := S8x16x1x512) (V m c main_v65) (ix4 (hd (grid0.coords t 0) n) b 0 x) := openD (V m c main_v65) t n b x

theorem openQ (X : S8x8192x128.Idx → EReal) (t : Fin cfg0.N) (n : Fin 4) (s : Fin 8192) (l : Fin 128) :
    rd (s := S4x8192x128) (((cfg0.win 1).blk t).view.read (Elt Ideal) X) (ix3 n s l) = X (ix3 (hd (grid0.coords t 0) n) s l) := congrArg X (emb1 t n s l)
theorem blkQ (t : Fin cfg0.N) (n : Fin 4) (s : Fin 8192) (l : Fin 128) : rd (s := S4x8192x128) (iblk m c 1 t) (ix3 n s l) = rd (s := S8x8192x128) (V m c main_v10) (ix3 (hd (grid0.coords t 0) n) s l) := openQ (V m c main_v10) t n s l

theorem openO (X : S8x8192x128.Idx → EReal) (t : Fin cfg0.N) (n : Fin 4) (s : Fin 8192) (l : Fin 128) :
    rd (s := S4x8192x128) (((cfg0.win 2).blk t).view.read (Elt Ideal) X) (ix3 n s l) = X (ix3 (hd (grid0.coords t 0) n) s l) := congrArg X (emb2 t n s l)
theorem blkO (t : Fin cfg0.N) (n : Fin 4) (s : Fin 8192) (l : Fin 128) : rd (s := S4x8192x128) (iblk m c 2 t) (ix3 n s l) = rd (s := S8x8192x128) (V m c main_v33) (ix3 (hd (grid0.coords t 0) n) s l) := openO (V m c main_v33) t n s l

theorem openK (X : S8x8192x128.Idx → EReal) (t : Fin cfg0.N) (n : Fin 4) (r : Fin 512) (l : Fin 128) :
    rd (s := S4x512x128) (((cfg0.win 4).blk t).view.read (Elt Ideal) X) (ix3 n r l) = X (ix3 (hd (grid0.coords t 0) n) (pos (grid0.coords t 1) r) l) := congrArg X (emb4 t n r l)
theorem blkK (t : Fin cfg0.N) (n : Fin 4) (r : Fin 512) (l : Fin 128) : rd (s := S4x512x128) (iblk m c 4 t) (ix3 n r l) = rd (s := S8x8192x128) (V m c main_v25) (ix3 (hd (grid0.coords t 0) n) (pos (grid0.coords t 1) r) l) := openK (V m c main_v25) t n r l

theorem openV (X : S8x8192x128.Idx → EReal) (t : Fin cfg0.N) (n : Fin 4) (r : Fin 512) (l : Fin 128) :
    rd (s := S4x512x128) (((cfg0.win 5).blk t).view.read (Elt Ideal) X) (ix3 n r l) = X (ix3 (hd (grid0.coords t 0) n) (pos (grid0.coords t 1) r) l) := congrArg X (emb5 t n r l)
theorem blkV (t : Fin cfg0.N) (n : Fin 4) (r : Fin 512) (l : Fin 128) : rd (s := S4x512x128) (iblk m c 5 t) (ix3 n r l) = rd (s := S8x8192x128) (V m c main_v29) (ix3 (hd (grid0.coords t 0) n) (pos (grid0.coords t 1) r) l) := openV (V m c main_v29) t n r l

include hm
theorem holds (t : Fin cfg0.N) : Holds I (hd (grid0.coords t 0)) (grid0.coords t 1) (iblk m c 6 t) (iblk m c 0 t) (iblk m c 3 t)
    (iblk m c 1 t) (iblk m c 2 t) (iblk m c 4 t) (iblk m c 5 t) where
  T a b := (blkT t a b).trans (hm.fT a b)
  L n b x := (blkL t n b x).trans (hm.fL _ b x)
  D n b x := (blkD t n b x).trans (hm.fD _ b x)
  Q n s l := (blkQ t n s l).trans (hm.fQ _ s l)
  O n s l := (blkO t n s l).trans (hm.fO _ s l)
  K n r l := (blkK t n r l).trans (hm.fK _ _ l)
  V n r l := (blkV t n r l).trans (hm.fV _ _ l)

/-- The gradient of the augmented keys, of the values, of the augmented queries. -/
def kSum (I : Args) (y : S8x8192x128.Idx) : EReal := ((∑ t, I.dS (y 0) t (y 1) * I.qa (y 0) t (y 2) : ℝ) : EReal)
def vSum (I : Args) (y : S8x8192x128.Idx) : EReal := ((∑ t, I.P (y 0) t (y 1) * pad (I.g t (y 0)) (y 2) : ℝ) : EReal)
def qSum (I : Args) (y : S8x8192x128.Idx) : EReal := ((∑ s, I.dS (y 0) (y 1) s * I.ka (y 0) s (y 2) : ℝ) : EReal)

theorem kOut_at (t : Fin cfg0.N) (n : Fin 4) (r : Fin 512) (l : Fin 128) :
    rd (s := S4x512x128) (kOut m c t) (ix3 n r l) = kSum I (ix3 (hd (grid0.coords t 0) n) (pos (grid0.coords t 1) r) l) :=
  (holds hm t).kTotal n r l
theorem vOut_at (t : Fin cfg0.N) (n : Fin 4) (r : Fin 512) (l : Fin 128) :
    rd (s := S4x512x128) (vOut m c t) (ix3 n r l) = vSum I (ix3 (hd (grid0.coords t 0) n) (pos (grid0.coords t 1) r) l) :=
  (holds hm t).vTotal n r l

theorem kFinal : (dats m 0 c).arrAt 7 cfg0.N = kSum I := by
  refine (dats m 0 c).arrAt_eq_of_covers 7 (kSum I) (by decide +kernel) fun t _ y => ?_
  obtain ⟨n, r, l, rfl⟩ : ∃ (n : Fin 4) (r : Fin 512) (l : Fin 128), y = ix3 n r l := ⟨y 0, y 1, y 2, eq_ix3 y⟩
  rw [emb7]
  blk_simp
  rw [after7]
  exact kOut_at hm t n r l

theorem vFinal : (dats m 0 c).arrAt 8 cfg0.N = vSum I := by
  refine (dats m 0 c).arrAt_eq_of_covers 8 (vSum I) (by decide +kernel) fun t _ y => ?_
  obtain ⟨n, r, l, rfl⟩ : ∃ (n : Fin 4) (r : Fin 512) (l : Fin 128), y = ix3 n r l := ⟨y 0, y 1, y 2, eq_ix3 y⟩
  rw [emb8]
  blk_simp
  rw [after8]
  exact vOut_at hm t n r l

end Cert.KernelIdeal.Fox

end
-- ==== Proof.Queries.lean ====
/-
  The gradient of the queries over the grid: the accumulator after each point, and the array its copies leave.
-/
module

public import proofs.«01_k».proof.Proof.Arrays

@[expose] public section

set_option maxRecDepth 16384

noncomputable section

namespace Cert.KernelIdeal.Fox

open Cert.KernelIdeal Cert.KernelIdeal.Gen
open Idealize.ShloMosaic Idealize.ShloMosaic.TcCoe
open Cert.Fox
open scoped BigOperators

theorem putG_in (i : grid0.Coords) (h15 : (i 1).val = 15) (X : S4x8192x128.Idx → EReal) (G : S8x8192x128.Idx → EReal) (n : Fin 4) (s : Fin 8192) (l : Fin 128) :
    putG (F := Ideal) i X G (ix3 (hd (i 0) n) s l) = X (ix3 n s l) := by
  unfold putG
  rw [if_pos h15]
  refine Eq.trans (congrArg _ (?_ : ix3 (hd (i 0) n) s l = (Rect.unit (s := S8x8192x128) ![4 * (i 0).val, 0, 0] S4x8192x128.size (inbG _ (i 0).isLt)).emb (ix3 n s l))) (putR_emb (Rect.unit (s := S8x8192x128) ![4 * (i 0).val, 0, 0] S4x8192x128.size (inbG _ (i 0).isLt)) X G (ix3 n s l))
  funext a
  refine Fin.ext ?_
  rw [ValueKit.rect_emb_unit_val]
  generalize i 0 = k
  fin_cases a
  · rfl
  · show s.val = 0 + s.val; omega
  · show l.val = 0 + l.val; omega

theorem putG_off (i : grid0.Coords) (X : S4x8192x128.Idx → EReal) (G : S8x8192x128.Idx → EReal) (k : Fin 2) (hk : k ≠ i 0) (n : Fin 4) (s : Fin 8192) (l : Fin 128) :
    putG (F := Ideal) i X G (ix3 (hd k n) s l) = G (ix3 (hd k n) s l) := by
  unfold putG
  by_cases h15 : (i 1).val = 15
  · rw [if_pos h15]
    refine putR_off (Rect.unit (s := S8x8192x128) ![4 * (i 0).val, 0, 0] S4x8192x128.size (inbG _ (i 0).isLt)) X G _ fun hx => ?_
    obtain ⟨j, hj⟩ := (Rect.unit (s := S8x8192x128) ![4 * (i 0).val, 0, 0] S4x8192x128.size (inbG _ (i 0).isLt)).exists_idx_of_mem hx
    have h0 := congrArg Fin.val (congrFun hj (0 : Fin 3))
    have h1 := ValueKit.rect_emb_unit_val (s := S8x8192x128) ![4 * (i 0).val, 0, 0] S4x8192x128.size (inbG _ (i 0).isLt) j (0 : Fin 3)
    have h2 : (j (0 : Fin 3)).val < 4 := (j (0 : Fin 3)).isLt
    have h3 : 4 * k.val + n.val = 4 * (i 0).val + (j (0 : Fin 3)).val := by
      first | exact h0.symm.trans h1 | exact (h0.trans h1)
    exact hk (Fin.ext (by have := n.isLt; omega))
  · rw [if_neg h15]

theorem blk_coord (t : Fin cfg0.N) (j : ℕ) (hj : j < 16) (i : Fin 2) (ht : t.val = 16 * i.val + j) : grid0.coords t 0 = i ∧ grid0.coords t 1 = blk j :=
  ⟨Fin.ext ((coord0 t).trans (by rw [ht]; omega)), Fin.ext ((coord1 t).trans (by rw [ht]; show (16 * i.val + j) % 16 = j % 16; omega))⟩

variable {I : Args} {m : (ℓ : Loc nD τ sig) → Buf (Elt Ideal) ℓ} {c : Dev nD} (hm : Finds I m c)
include hm

theorem qNext_at (t : Fin cfg0.N) (A : S4x8192x128.Idx → EReal) (n : Fin 4) (s : Fin 8192) (l : Fin 128) :
    rd (s := S4x8192x128) (qNext m c t A) (ix3 n s l)
      = rd (s := S4x8192x128) (startQ (F := Ideal) (grid0.coords t) A) (ix3 n s l) + (Holds.addQ I (grid0.coords t 1) (hd (grid0.coords t 0) n) s l : EReal) :=
  (holds hm t).qTotal _ n s l

theorem lt_N (i : Fin 2) (j : ℕ) (hj : j < 16) : 16 * i.val + j < cfg0.N := by
  show _ < grid0.N
  have : grid0.N = 32 := by decide
  omega

theorem qAcc_at (i : Fin 2) (n : Fin 4) (s : Fin 8192) (l : Fin 128) : ∀ j, j < 16 →
    rd (s := S4x8192x128) (qAcc m c (16 * i.val + j + 1)) (ix3 n s l) = ((∑ b ∈ Finset.range (j + 1), Holds.addQ I (blk b) (hd i n) s l : ℝ) : EReal)
  | 0, hj => by
    obtain ⟨e0, e1⟩ := blk_coord ⟨16 * i.val + 0, lt_N hm i 0 hj⟩ 0 hj i rfl
    refine (congrFun (qAcc_succ m c ⟨16 * i.val + 0, lt_N hm i 0 hj⟩) _).trans ((qNext_at hm _ _ n s l).trans ?_)
    rw [e0, e1, startQ, e1, if_pos (by rfl)]
    show rd (s := S4x8192x128) (zQ (F := Ideal)) _ + _ = _
    rw [rd, zQ_at, zero_add, Finset.sum_range_one]
  | j + 1, hj => by
    obtain ⟨e0, e1⟩ := blk_coord ⟨16 * i.val + (j + 1), lt_N hm i (j + 1) hj⟩ (j + 1) hj i rfl
    refine (congrFun (qAcc_succ m c ⟨16 * i.val + (j + 1), lt_N hm i (j + 1) hj⟩) _).trans ((qNext_at hm _ _ n s l).trans ?_)
    rw [e0, e1, startQ, e1, if_neg (by rw [blk_of hj]; omega)]
    refine (congrArg (· + _) (qAcc_at i n s l j (by omega))).trans ?_
    rw [← EReal.coe_add, ← Finset.sum_range_succ]

theorem qAcc_last (i : Fin 2) (n : Fin 4) (s : Fin 8192) (l : Fin 128) :
    rd (s := S4x8192x128) (qAcc m c (16 * i.val + 15 + 1)) (ix3 n s l) = qSum I (ix3 (hd i n) s l) := by
  rw [qAcc_at hm i n s l 15 (by omega)]
  unfold qSum
  rw [sum_blocks]; rfl

theorem gAt_at : ∀ N, N ≤ cfg0.N → ∀ i : Fin 2, 16 * i.val + 16 ≤ N → ∀ (n : Fin 4) (s : Fin 8192) (l : Fin 128),
    rd (s := S8x8192x128) (gAt m c N) (ix3 (hd i n) s l) = qSum I (ix3 (hd i n) s l)
  | 0, _, i, h, n, s, l => absurd h (by omega)
  | N + 1, hN, i, h, n, s, l => by
    refine (congrFun (gAt_succ m c ⟨N, hN⟩) _).trans ?_
    by_cases e : N = 16 * i.val + 15
    · obtain ⟨e0, e1⟩ := blk_coord ⟨N, hN⟩ 15 (by omega) i e
      have := putG_in (grid0.coords ⟨N, hN⟩) (by rw [e1]; rfl) (qAcc m c (N + 1)) (gAt m c N) n s l
      rw [e0] at this
      refine this.trans ?_
      have h2 := qAcc_last hm i n s l
      rwa [← e] at h2
    · by_cases h15 : (grid0.coords ⟨N, hN⟩ 1).val = 15
      · have h1 := (coord1 ⟨N, hN⟩).symm.trans h15
        have h0 : (grid0.coords ⟨N, hN⟩ 0).val = N / 16 := coord0 ⟨N, hN⟩
        refine (putG_off (grid0.coords ⟨N, hN⟩) (qAcc m c (N + 1)) (gAt m c N) i ?_ n s l).trans
          (gAt_at N (Nat.le_of_succ_le hN) i ?_ n s l)
        · intro e2
          have := congrArg Fin.val e2
          have h1' : N % 16 = 15 := h1
          exact e (by omega)
        · have h1' : N % 16 = 15 := h1
          omega
      · unfold putG
        rw [if_neg h15]
        have h1' : ¬ N % 16 = 15 := fun e => h15 ((coord1 ⟨N, hN⟩).trans e)
        exact gAt_at N (Nat.le_of_succ_le hN) i (by omega) n s l

theorem gFinal : rd (s := S8x8192x128) (gAt m c cfg0.N) = qSum I := by
  funext y
  obtain ⟨h, s, l, rfl⟩ : ∃ (h : Fin 8) (s : Fin 8192) (l : Fin 128), y = ix3 h s l := ⟨y 0, y 1, y 2, eq_ix3 y⟩
  have e : h = hd ⟨h.val / 4, by omega⟩ ⟨h.val % 4, by omega⟩ := Fin.ext (by show h.val = 4 * (h.val / 4) + h.val % 4; omega)
  rw [e]
  refine gAt_at hm cfg0.N le_rfl _ ?_ _ s l
  show 16 * (h.val / 4) + 16 ≤ grid0.N
  have : grid0.N = 32 := by decide
  omega

end Cert.KernelIdeal.Fox

end
-- ==== Proof.HostDefs.lean ====
/-
  The arrays the host code makes before the launch, each as one function of the arguments.
-/
module

public import proofs.«01_k».proof.Proof.Arrays
public import Idealize.ShloMosaic.Lib.Claim

@[expose] public section

set_option maxRecDepth 16384

noncomputable section

namespace Cert.KernelIdeal.Fox

open Cert.KernelIdeal Cert.KernelIdeal.Gen
open Idealize.ShloMosaic Idealize.ShloMosaic.TcCoe

/-- An argument of 64 lanes to a head, and one number to a head. -/
abbrev A3 := FVec Ideal S8192x8x64 .f32
abbrev A2 := FVec Ideal S8192x8 .f32
abbrev SS := FVec Ideal S8x8192x8192 .f32
abbrev HT := FVec Ideal S8x8192 .f32

def ln2F : FVec Ideal S_ .f32 := Host.log (constant S_ .f32 0x40000000#32)
def log2eF : FVec Ideal S_ .f32 := Host.divf (constant S_ .f32 0x3F800000#32) ln2F

/-- The queries' lanes. -/
def qaF (q : A3) : FVec Ideal S8x8192x128 .bf16 :=
  truncf .bf16 (concatenate S8x8192x128 2 [⟨S8x8192x64, mulf (transpose S8x8192x64 [1, 0, 2] q transposes_S8192x8x64_S8x8192x64_1_0_2)
      (broadcastInDim S8x8192x64 ![] bcast_S_S8x8192x64 (mulf (constant (F := Ideal) S_ .f32 0x3E000000#32) log2eF))⟩,
    ⟨S8x8192x3, broadcastInDim S8x8192x3 ![] bcast_S_S8x8192x3 (constant (F := Ideal) S_ .f32 0xBF800000#32)⟩,
    ⟨S8x8192x61, broadcastInDim S8x8192x61 ![] bcast_S_S8x8192x61 (constant (F := Ideal) S_ .f32 0x00000000#32)⟩] concatenates_S8x8192x64_S8x8192x3_S8x8192x61_S8x8192x128_d2) bitsLt_bf16_f32

/-- The keys' own `c` in units of `log 2`, and its three parts. -/
def cF (c : A2) : FVec Ideal S8x8192x1 .f32 :=
  broadcastInDim S8x8192x1 ![0, 1] bcast_S8x8192_S8x8192x1_0_1 (mulf (transpose S8x8192 [1, 0] c transposes_S8192x8_S8x8192_1_0) (broadcastInDim S8x8192 ![] bcast_S_S8x8192 log2eF))
def hiF (x : FVec Ideal S8x8192x1 .f32) : FVec Ideal S8x8192x1 .f32 := extf .f32 (truncf .bf16 x bitsLt_bf16_f32) bitsLt_bf16_f32
def midF (x : FVec Ideal S8x8192x1 .f32) : FVec Ideal S8x8192x1 .f32 := extf .f32 (truncf .bf16 (subf x (hiF x)) bitsLt_bf16_f32) bitsLt_bf16_f32
def lowF (x : FVec Ideal S8x8192x1 .f32) : FVec Ideal S8x8192x1 .f32 := subf (subf x (hiF x)) (midF x)

/-- The keys' lanes. -/
def kaF (k : A3) (c : A2) : FVec Ideal S8x8192x128 .bf16 :=
  truncf .bf16 (concatenate S8x8192x128 2 [⟨S8x8192x64, transpose S8x8192x64 [1, 0, 2] k transposes_S8192x8x64_S8x8192x64_1_0_2⟩,
    ⟨S8x8192x1, hiF (cF c)⟩, ⟨S8x8192x1, midF (cF c)⟩, ⟨S8x8192x1, lowF (cF c)⟩,
    ⟨S8x8192x1, broadcastInDim S8x8192x1 ![] bcast_S_S8x8192x1 (constant (F := Ideal) S_ .f32 0x3F800000#32)⟩,
    ⟨S8x8192x60, broadcastInDim S8x8192x60 ![] bcast_S_S8x8192x60 (constant (F := Ideal) S_ .f32 0x00000000#32)⟩] concatenates_S8x8192x64_S8x8192x1_S8x8192x1_S8x8192x1_S8x8192x1_S8x8192x60_S8x8192x128_d2) bitsLt_bf16_f32

/-- An argument's lanes, padded. -/
def padF (v : A3) : FVec Ideal S8x8192x128 .bf16 :=
  truncf .bf16 (concatenate S8x8192x128 2 [⟨S8x8192x64, transpose S8x8192x64 [1, 0, 2] v transposes_S8192x8x64_S8x8192x64_1_0_2⟩,
    ⟨S8x8192x64, broadcastInDim S8x8192x64 ![] bcast_S_S8x8192x64 (constant (F := Ideal) S_ .f32 0x00000000#32)⟩] concatenates_S8x8192x64_S8x8192x64_S8x8192x128_d2) bitsLt_bf16_f32

/-- The mask, the masked scores, their maximum, the exponentials, their sum. -/
def maskF : IVec S8x8192x8192 1 :=
  broadcastInDim S8x8192x8192 ![1, 2] bcast_S8192x8192_S8x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))
def scF (q k : A3) (c : A2) : SS :=
  subf (mulf (Host.dotGeneral dot_S8192x8x64_S8192x8x64_S8x8192x8192_2_2_0_0_1_1 none q k)
      (broadcastInDim S8x8192x8192 ![] bcast_S_S8x8192x8192 (constant (F := Ideal) S_ .f32 0x3E000000#32)))
    (broadcastInDim S8x8192x8192 ![0, 1, 2] bcast_S8x1x8192_S8x8192x8192_0_1_2
      (broadcastInDim S8x1x8192 ![0, 2] bcast_S8x8192_S8x1x8192_0_2 (transpose S8x8192 [1, 0] c transposes_S8192x8_S8x8192_1_0)))
def sF (q k : A3) (c : A2) : SS :=
  select maskF (scF q k c) (broadcastInDim S8x8192x8192 ![] bcast_S_S8x8192x8192 (constant (F := Ideal) S_ .f32 0xFF800000#32))
def topF (s : SS) : HT := Host.reduce FloatOps.maximumf s (constant (F := Ideal) S_ .f32 0xFF800000#32) reducesTo_S8x8192x8192_S8x8192_d2 h_S_
/-- A number to a query's row, at every key. -/
def rowF (x : HT) : SS :=
  broadcastInDim S8x8192x8192 ![0, 1, 2] bcast_S8x8192x1_S8x8192x8192_0_1_2 (broadcastInDim S8x8192x1 ![0, 1] bcast_S8x8192_S8x8192x1_0_1 x)
def eF (s : SS) : SS := Host.exp (subf s (rowF (topF s)))
def zF (e : SS) : HT := Host.reduceAdd e (constant (F := Ideal) S_ .f32 0x00000000#32) reducesTo_S8x8192x8192_S8x8192_d2 h_S_

def lse2F (s : SS) : HT := mulf (addf (topF s) (Host.log (zF (eF s)))) (broadcastInDim S8x8192 ![] bcast_S_S8x8192 log2eF)
/-- What the forward pass saves: a query's logarithm of its weights' sum, and the output's product with its derivative. -/
def lseF (q k : A3) (c : A2) : FVec Ideal S8x16x1x512 .f32 :=
  shapeCast S8x16x1x512 (lse2F (sF q k c)) shapeCasts_S8x8192_S8x16x1x512
def oF (p : SS) (v : A3) : FVec Ideal S8x8192x64 .f32 := Host.dotGeneral dot_S8x8192x8192_S8192x8x64_S8x8192x64_2_0_1_2_0_1 none p v
def pF (s : SS) : SS := Host.divf (eF s) (rowF (zF (eF s)))
def ddotF (o : FVec Ideal S8x8192x64 .f32) (g : A3) : HT :=
  Host.reduceAdd (mulf (transpose S8x8192x64 [1, 0, 2] g transposes_S8192x8x64_S8x8192x64_1_0_2) o) (constant (F := Ideal) S_ .f32 0x00000000#32) reducesTo_S8x8192x64_S8x8192_d2 h_S_
def ddF (q k v : A3) (c : A2) (g : A3) : FVec Ideal S8x16x1x512 .f32 :=
  shapeCast S8x16x1x512 (ddotF (oF (pF (sF q k c)) v) g) shapeCasts_S8x8192_S8x16x1x512

/-- The table of the diagonal. -/
def tabF : FVec Ideal S1x512x512 .f32 :=
  select (cmpi .sge (subi (addi (muli (broadcastInDim S1x512x512 ![] bcast_S_S1x512x512 (constantI S_ 32 512#32)) (iotaInDim S1x512x512 32 0)) (iotaInDim S1x512x512 32 2)) (iotaInDim S1x512x512 32 1))
      (broadcastInDim S1x512x512 ![] bcast_S_S1x512x512 (constantI S_ 32 0#32)))
    (broadcastInDim S1x512x512 ![] bcast_S_S1x512x512 (constant (F := Ideal) S_ .f32 0x00000000#32))
    (broadcastInDim S1x512x512 ![] bcast_S_S1x512x512 (constant (F := Ideal) S_ .f32 0xFF800000#32))

end Cert.KernelIdeal.Fox

end
-- ==== Proof.Suffix.lean ====
/-
  The host code after the launch: the four gradients from the launch's three arrays.
-/
module

public import proofs.«01_k».proof.Proof.Queries
public import proofs.«01_k».proof.Proof.HostDefs
public import proofs.«01_k».proof.Proof.Frames

@[expose] public section

set_option maxRecDepth 16384

noncomputable section

namespace Cert.KernelIdeal.Fox

open Cert.KernelIdeal Cert.KernelIdeal.Gen
open Idealize.ShloMosaic Idealize.ShloMosaic.TcCoe

abbrev L3 := FVec Ideal S8x8192x128 .f32

def dqE (x : L3) : A3 :=
  transpose S8192x8x64 [1, 0, 2] (mulf (extractStridedSlice S8x8192x64 ![0, 0, 0] x slices_S8x8192x128_S8x8192x64_0_0_0)
    (broadcastInDim S8x8192x64 ![] bcast_S_S8x8192x64 (constant (F := Ideal) S_ .f32 0x3E000000#32))) transposes_S8x8192x64_S8192x8x64_1_0_2
def dkE (x : L3) (l : FVec Ideal S_ .f32) : A3 :=
  transpose S8192x8x64 [1, 0, 2] (mulf (extractStridedSlice S8x8192x64 ![0, 0, 0] x slices_S8x8192x128_S8x8192x64_0_0_0)
    (broadcastInDim S8x8192x64 ![] bcast_S_S8x8192x64 l)) transposes_S8x8192x64_S8192x8x64_1_0_2
def dvE (x : FVec Ideal S8x8192x128 .bf16) : A3 :=
  transpose S8192x8x64 [1, 0, 2] (extf .f32 (extractStridedSlice S8x8192x64 ![0, 0, 0] x slices_S8x8192x128_S8x8192x64_0_0_0) bitsLt_bf16_f32) transposes_S8x8192x64_S8192x8x64_1_0_2
def dcE (x y : L3) : A2 :=
  transpose S8192x8 [1, 0]
    (addf (shapeCast S8x8192 (extractStridedSlice S8x8192x1 ![0, 0, 64] x slices_S8x8192x128_S8x8192x1_0_0_64) shapeCasts_S8x8192x1_S8x8192)
      (shapeCast S8x8192 (extractStridedSlice S8x8192x1 ![0, 0, 67] y slices_S8x8192x128_S8x8192x1_0_0_67) shapeCasts_S8x8192x1_S8x8192))
    transposes_S8x8192_S8192x8_1_0

variable (W : Valuation τ sig (Elt Ideal))

theorem after_v91 : StableHlo.after (List.flatten [hostOps1]) W (Proc.devRef .tc main_v91) = dqE (W (Proc.devRef .tc main_v77_0)) := by
  simp only [hostOps1, List.flatten_cons, List.flatten_nil, List.append_nil, List.cons_append, List.nil_append]
  entry_read
  exact rfl
theorem after_v92 : StableHlo.after (List.flatten [hostOps1]) W (Proc.devRef .tc main_v92) = dkE (W (Proc.devRef .tc main_v77_1)) (W (Proc.devRef .tc main_v0)) := by
  simp only [hostOps1, List.flatten_cons, List.flatten_nil, List.append_nil, List.cons_append, List.nil_append]
  entry_read
  exact rfl
theorem after_v93 : StableHlo.after (List.flatten [hostOps1]) W (Proc.devRef .tc main_v93) = dvE (W (Proc.devRef .tc main_v77_2)) := by
  simp only [hostOps1, List.flatten_cons, List.flatten_nil, List.append_nil, List.cons_append, List.nil_append]
  entry_read
  exact rfl
theorem after_v94 : StableHlo.after (List.flatten [hostOps1]) W (Proc.devRef .tc main_v94) = dcE (W (Proc.devRef .tc main_v77_1)) (W (Proc.devRef .tc main_v77_0)) := by
  simp only [hostOps1, List.flatten_cons, List.flatten_nil, List.append_nil, List.cons_append, List.nil_append]
  entry_read
  exact rfl

variable (m : (ℓ : Loc nD τ sig) → Buf (Elt Ideal) ℓ) (c : Dev nD)

/-- The buffers' contents when the launch ends. -/
def midV : Valuation τ sig (Elt Ideal) :=
  Pipeline.withArrays spec0 c (Pipeline.withR (V0 m c) R0 c (GG m c cfg0.N)) fun w => (dats m 0 c).arrAt w cfg0.N

theorem mid_0 : midV m c (Proc.devRef .tc main_v77_0) = gAt m c cfg0.N := by
  unfold midV
  rw [Pipeline.withArrays_of_ne _ c _ _ main_v77_0 (by exact (by decide : ∀ w, Pipeline.arrRef spec0 w ≠ main_v77_0)),
    Pipeline.withR_of_mem _ _ _ _ (b := main_v77_0) (by decide)]
  exact GG_at m c cfg0.N
theorem mid_c : midV m c (Proc.devRef .tc main_v0) = V m c main_v0 := by
  unfold midV
  rw [Pipeline.withArrays_of_ne _ c _ _ main_v0 (by exact (by decide : ∀ w, Pipeline.arrRef spec0 w ≠ main_v0)),
    Pipeline.withR_of_not_mem _ _ _ _ (b := main_v0) (by decide)]
theorem mid_1 : midV m c (Proc.devRef .tc main_v77_1) = (dats m 0 c).arrAt 7 cfg0.N :=
  Pipeline.withArrays_arr spec0 (by decide) c _ (fun w => (dats m 0 c).arrAt w cfg0.N) 7
theorem mid_2 : midV m c (Proc.devRef .tc main_v77_2) = (dats m 0 c).arrAt 8 cfg0.N :=
  Pipeline.withArrays_arr spec0 (by decide) c _ (fun w => (dats m 0 c).arrAt w cfg0.N) 8

theorem end_v91 : endV m c (Proc.devRef .tc main_v91) = dqE (gAt m c cfg0.N) :=
  (after_v91 (midV m c)).trans (congrArg dqE (mid_0 m c))
theorem end_v92 : endV m c (Proc.devRef .tc main_v92) = dkE ((dats m 0 c).arrAt 7 cfg0.N) (V m c main_v0) :=
  (after_v92 (midV m c)).trans (congrArg₂ dkE (mid_1 m c) (mid_c m c))
theorem end_v93 : endV m c (Proc.devRef .tc main_v93) = dvE ((dats m 0 c).arrAt 8 cfg0.N) :=
  (after_v93 (midV m c)).trans (congrArg dvE (mid_2 m c))
theorem end_v94 : endV m c (Proc.devRef .tc main_v94) = dcE ((dats m 0 c).arrAt 7 cfg0.N) (gAt m c cfg0.N) :=
  (after_v94 (midV m c)).trans (congrArg₂ dcE (mid_1 m c) (mid_0 m c))

end Cert.KernelIdeal.Fox

end
-- ==== Proof.HostVals.lean ====
/-
  The host code's arrays over the reals: at finite arguments, what the launch finds.
-/
module

public import proofs.«01_k».proof.Proof.HostDefs
public import Idealize.ShloMosaic.Lib.Pointwise
public import Idealize.ShloMosaic.Lib.IdealHost

@[expose] public section

set_option maxRecDepth 16384

noncomputable section

namespace Cert.KernelIdeal.Fox

open Cert.KernelIdeal Cert.KernelIdeal.Gen
open Idealize.ShloMosaic Idealize.ShloMosaic.TcCoe
open Cert.Fox
open scoped BigOperators

theorem pos_eq (b : Fin 16) (x : Fin 512) : (⟨b.val * 512 + x.val, by omega⟩ : Fin 8192) = pos b x := Fin.ext (by show b.val * 512 + x.val = 512 * b.val + x.val; omega)

theorem c_eighth : Ideal.ofBits .f32 0x3E000000#32 = ((1 / 8 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_neg : Ideal.ofBits .f32 0xBF800000#32 = ((-1 : ℝ) : EReal) := by
  simp [Ideal.ofBits, Ideal.ieee, -EReal.coe_mul, -EReal.coe_neg]; norm_num
theorem c_bot : Ideal.ofBits .f32 0xFF800000#32 = (⊥ : EReal) := by
  simp [Ideal.ofBits, Ideal.ieee]

theorem ln2_at (i : S_.Idx) : ln2F i = ((Real.log 2 : ℝ) : EReal) := by
  show Ideal.log (Ideal.ofBits .f32 0x40000000#32) = _
  rw [c_two, Ideal.log_coe, if_neg (by norm_num)]
theorem log2_ne : Real.log 2 ≠ 0 := (Real.log_pos (by norm_num)).ne'
theorem log2e_at (i : S_.Idx) : log2eF i = ((1 / Real.log 2 : ℝ) : EReal) := by
  show Ideal.div (Ideal.ofBits .f32 0x3F800000#32) (ln2F i) = _
  rw [ln2_at, Ideal.div_coe log2_ne, Ideal.ofBits_one_f32, one_mul, one_div]

/-- Arguments that are real numbers. -/
def Is3 (f : Fin 8192 → Fin 8 → Fin 64 → ℝ) (X : A3) : Prop := ∀ t h d, X (ix3 t h d) = (f t h d : EReal)
def Is2 (f : Fin 8192 → Fin 8 → ℝ) (X : A2) : Prop := ∀ t h, X (ix2 t h) = (f t h : EReal)

variable {I : Args} {q k v g : A3} {cc : A2}

theorem qaF_at (hq : Is3 I.q q) (h : Fin 8) (t : Fin 8192) (l : Fin 128) : rd (s := S8x8192x128) (qaF q) (ix3 h t l) = (I.qa h t l : EReal) := by
  unfold rd
  pointwise [qaF]
  unfold Args.qa
  by_cases e : l.val < 64
  · rw [dif_pos e, dif_pos e, hq, c_eighth, log2e_at, ← EReal.coe_mul, ← EReal.coe_mul]
  · rw [dif_neg e, dif_neg e]
    by_cases e2 : l.val < 67
    · rw [dif_pos (by omega), if_pos e2, c_neg]
    · rw [dif_neg (by omega), if_neg e2, EReal.coe_zero]

theorem kaF_at (hk : Is3 I.k k) (hc : Is2 I.c cc) (h : Fin 8) (t : Fin 8192) (l : Fin 128) : rd (s := S8x8192x128) (kaF k cc) (ix3 h t l) = (I.ka h t l : EReal) := by
  unfold rd
  pointwise [kaF, hiF, midF, lowF, cF]
  rw [hc, log2e_at, ← EReal.coe_mul, ← EReal.coe_sub, ← EReal.coe_sub, sub_self, sub_self, EReal.coe_zero]
  unfold Args.ka
  by_cases e : l.val < 64
  · rw [dif_pos e, dif_pos e, hk]
  · rw [dif_neg e, dif_neg e]
    by_cases e1 : l.val = 64
    · rw [dif_pos (by omega), if_pos e1]
    · rw [dif_neg (by omega), if_neg e1]
      by_cases e2 : l.val < 67
      · rw [if_pos e2, EReal.coe_zero]
        by_cases e3 : l.val - 64 - 1 < 1
        · rw [dif_pos e3]
        · rw [dif_neg e3, dif_pos (by omega)]
      · rw [if_neg e2, dif_neg (by omega), dif_neg (by omega)]
        by_cases e4 : l.val = 67
        · rw [dif_pos (by omega), if_pos e4, EReal.coe_one]
        · rw [dif_neg (by omega), if_neg e4, EReal.coe_zero]

theorem padF_at {f : Fin 8192 → Fin 8 → Fin 64 → ℝ} (hv : Is3 f v) (h : Fin 8) (t : Fin 8192) (l : Fin 128) : rd (s := S8x8192x128) (padF v) (ix3 h t l) = (pad (f t h) l : EReal) := by
  unfold rd
  pointwise [padF]
  unfold Cert.Fox.pad
  by_cases e : l.val < 64
  · rw [dif_pos e, dif_pos e, hv]
  · rw [dif_neg e, dif_neg e, EReal.coe_zero]

/-- The comparison of two positions, signed. -/
theorem le_word {n : ℕ} (hn : n ≤ 8192) (s t : Fin n) (x y : EReal) :
    Scalar.select (α := EReal) (IntOp.cmpi .sle (BitVec.ofNat 32 s.val) (BitVec.ofNat 32 t.val)) x y = if s ≤ t then x else y := by
  have hs := s.isLt; have ht := t.isLt
  rw [WordCmp.cmpi_sle_ofNat (by norm_num; omega) (by norm_num; omega)]
  by_cases e : s ≤ t
  · rw [if_pos e, decide_eq_true (show s.val ≤ t.val from e)]; rfl
  · rw [if_neg e, decide_eq_false (show ¬ s.val ≤ t.val from e)]; rfl

theorem sub_toInt (a b : Fin 512) : (BitVec.ofNat 32 b.val - BitVec.ofNat 32 a.val).toInt = (b.val : ℤ) - a.val := by
  have ha := a.isLt; have hb := b.isLt
  have h : ∀ x : Fin 512, (BitVec.ofNat 32 x.val).toInt = (x.val : ℤ) := fun x => by
    have hx := x.isLt
    have e : (BitVec.ofNat 32 x.val).toNat = x.val := by rw [BitVec.toNat_ofNat]; exact Nat.mod_eq_of_lt (by norm_num; omega)
    rw [WordCmp.toInt_eq_toNat_of_lt_half (by rw [e]; norm_num; omega), e]
  rw [BitVec.toInt_sub, h, h]
  simp only [Int.bmod_def]
  norm_num
  omega

theorem tabF_at (a b : Fin 512) : rd (s := S1x512x512) tabF (ix3 0 a b) = if a ≤ b then 0 else ⊥ := by
  unfold rd
  pointwise [tabF]
  rw [c_bot]
  have e0 : IntOp.subi (IntOp.addi (IntOp.muli 512#32 0#32) (BitVec.ofNat 32 b.val)) (BitVec.ofNat 32 a.val) = BitVec.ofNat 32 b.val - BitVec.ofNat 32 a.val := by
    show 512#32 * 0#32 + BitVec.ofNat 32 b.val - BitVec.ofNat 32 a.val = _
    rw [show 512#32 * 0#32 = 0#32 from rfl, BitVec.zero_add]
  rw [e0, WordCmp.cmpi_sge_eq, sub_toInt, show (0#32).toInt = 0 from rfl]
  by_cases e : a ≤ b
  · have e' : a.val ≤ b.val := e
    rw [if_pos e, decide_eq_true (by omega)]; rfl
  · have e' : ¬ a.val ≤ b.val := e
    rw [if_neg e, decide_eq_false (by omega)]; rfl

theorem scF_at (hq : Is3 I.q q) (hk : Is3 I.k k) (hc : Is2 I.c cc) (h : Fin 8) (t s : Fin 8192) : rd (s := S8x8192x8192) (scF q k cc) (ix3 h t s) = (I.sc h t s : EReal) := by
  unfold rd
  pointwise [scF]
  rw [c_eighth, hc]
  simp only [hq _ _ _, hk _ _ _, ← EReal.coe_mul]
  rw [coe_sum, ← EReal.coe_mul, ← EReal.coe_sub]
  rfl

theorem sF_at (hq : Is3 I.q q) (hk : Is3 I.k k) (hc : Is2 I.c cc) (h : Fin 8) (t s : Fin 8192) : rd (s := S8x8192x8192) (sF q k cc) (ix3 h t s) = if s ≤ t then (I.sc h t s : EReal) else ⊥ := by
  unfold rd
  pointwise [sF, maskF]
  rw [c_bot]
  refine (le_word (n := 8192) le_rfl s t _ _).trans ?_
  by_cases e : s ≤ t
  · rw [if_pos e, if_pos e]; exact scF_at hq hk hc h t s
  · rw [if_neg e, if_neg e]

/-- The maximum of extended reals below `⊤`, one of them above `⊥`, is a real number. -/
theorem fold_max_real {n : ℕ} (f : Fin n → EReal) (h1 : ∀ i, f i ≠ ⊤) (h2 : ∃ i, f i ≠ ⊥) : ∃ r : ℝ, Finset.fold max ⊥ f Finset.univ = (r : EReal) := by
  have ht : Finset.fold max ⊥ f Finset.univ < ⊤ := (Finset.fold_max_lt _).mpr ⟨bot_lt_top, fun i _ => lt_top_iff_ne_top.mpr (h1 i)⟩
  have hb : ⊥ < Finset.fold max ⊥ f Finset.univ := (Finset.lt_fold_max _).mpr (.inr (h2.elim fun i hi => ⟨i, Finset.mem_univ i, bot_lt_iff_ne_bot.mpr hi⟩))
  exact ⟨_, (EReal.coe_toReal ht.ne hb.ne').symm⟩

/-- Masked scores. -/
def Scores (I : Args) (S : SS) : Prop := ∀ h t s, rd (s := S8x8192x8192) S (ix3 h t s) = if s ≤ t then (I.sc h t s : EReal) else ⊥

variable {S : SS} (hS : Scores I S)
include hS

theorem topF_at (h : Fin 8) (t : Fin 8192) : ∃ r : ℝ, rd (s := S8x8192) (topF S) (ix2 h t) = (r : EReal) := by
  unfold rd
  pointwise [topF]
  rw [c_bot]
  refine fold_max_real _ (fun s => ?_) ⟨t, ?_⟩
  · intro e
    have := (hS h t s).symm.trans e
    by_cases hs : s ≤ t
    · rw [if_pos hs] at this; exact EReal.coe_ne_top _ this
    · rw [if_neg hs] at this; exact bot_ne_top this
  · intro e
    have := (hS h t t).symm.trans e
    rw [if_pos le_rfl] at this
    exact EReal.coe_ne_bot _ this

theorem eF_at {h : Fin 8} {t : Fin 8192} {r : ℝ} (hr : rd (s := S8x8192) (topF S) (ix2 h t) = (r : EReal)) (s : Fin 8192) :
    rd (s := S8x8192x8192) (eF S) (ix3 h t s) = ((I.ex h t s * Real.exp (-r) : ℝ) : EReal) := by
  unfold rd
  pointwise [eF, rowF]
  refine (congrArg₂ (fun a b => Ideal.exp (a - b)) (hS h t s) hr).trans ?_
  unfold Args.ex
  by_cases e : s ≤ t
  · rw [if_pos e, if_pos e, ← EReal.coe_sub, ← Real.exp_add]; rfl
  · rw [if_neg e, if_neg e, EReal.bot_sub, zero_mul, EReal.coe_zero]; rfl

theorem zF_at {h : Fin 8} {t : Fin 8192} {r : ℝ} (hr : rd (s := S8x8192) (topF S) (ix2 h t) = (r : EReal)) :
    rd (s := S8x8192) (zF (eF S)) (ix2 h t) = ((I.Z h t * Real.exp (-r) : ℝ) : EReal) := by
  unfold rd
  pointwise [zF]
  rw [← I.shifted_sum, ← coe_sum]
  exact Finset.sum_congr rfl fun s _ => eF_at hS hr s

theorem pF_at (h : Fin 8) (t s : Fin 8192) : rd (s := S8x8192x8192) (pF S) (ix3 h t s) = (I.P h t s : EReal) := by
  obtain ⟨r, hr⟩ := topF_at hS h t
  unfold rd
  pointwise [pF, rowF]
  refine (congrArg₂ Ideal.div (eF_at hS hr s) (zF_at hS hr)).trans ?_
  have hz : I.Z h t * Real.exp (-r) ≠ 0 := (mul_pos (I.Z_pos h t) (Real.exp_pos _)).ne'
  rw [Ideal.div_coe hz, ← EReal.coe_mul, mul_one_div, I.shifted_P h t s _ (Real.exp_pos (-r)).ne']

theorem oF_at (hv : Is3 I.v v) (h : Fin 8) (t : Fin 8192) (d : Fin 64) : rd (s := S8x8192x64) (oF (pF S) v) (ix3 h t d) = ((∑ s, I.P h t s * I.v s h d : ℝ) : EReal) := by
  unfold rd
  pointwise [oF]
  rw [← coe_sum]
  exact Finset.sum_congr rfl fun s _ => (congrArg₂ (· * ·) (pF_at hS h t s) (hv s h d)).trans (EReal.coe_mul _ _).symm

theorem ddotF_at (hv : Is3 I.v v) (hg : Is3 I.g g) (h : Fin 8) (t : Fin 8192) : rd (s := S8x8192) (ddotF (oF (pF S) v) g) (ix2 h t) = (I.D h t : EReal) := by
  unfold rd
  pointwise [ddotF]
  rw [← I.D_eq, ← coe_sum]
  exact Finset.sum_congr rfl fun d _ => (congrArg₂ (· * ·) (hg t h d) (oF_at hS hv h t d)).trans (EReal.coe_mul _ _).symm

omit hS
theorem ddF_at (hq : Is3 I.q q) (hk : Is3 I.k k) (hv : Is3 I.v v) (hc : Is2 I.c cc) (hg : Is3 I.g g) (h : Fin 8) (b : Fin 16) (x : Fin 512) :
    rd (s := S8x16x1x512) (ddF q k v cc g) (ix4 h b 0 x) = (I.D h (pos b x) : EReal) := by
  unfold rd
  pointwise [ddF]
  exact (congrArg (fun t => rd (s := S8x8192) (ddotF (oF (pF (sF q k cc)) v) g) (ix2 h t)) (pos_eq b x)).trans (ddotF_at (sF_at hq hk hc) hv hg h (pos b x))

/-- A number and a number's logarithm, added, to the base two. -/
theorem scaled_log (x z : HT) (h : Fin 8) (t : Fin 8192) : mulf (addf x (Host.log z)) (broadcastInDim S8x8192 ![] bcast_S_S8x8192 log2eF) (ix2 h t) = (x (ix2 h t) + Ideal.log (z (ix2 h t))) * ((1 / Real.log 2 : ℝ) : EReal) := by
  pointwise []
  rw [log2e_at]
theorem lse_at (hS : Scores I S) (h : Fin 8) (t : Fin 8192) : rd (s := S8x8192) (lse2F S) (ix2 h t)
    = ((Real.log (I.Z h t) * (1 / Real.log 2) : ℝ) : EReal) := by
  obtain ⟨r, hr⟩ := topF_at hS h t
  refine (scaled_log (topF S) (zF (eF S)) h t).trans ?_
  rw [show topF S (ix2 h t) = (r : EReal) from hr, show zF (eF S) (ix2 h t) = _ from zF_at hS hr]
  have hz : ¬ I.Z h t * Real.exp (-r) ≤ 0 := not_le.mpr (mul_pos (I.Z_pos h _) (Real.exp_pos _))
  rw [Ideal.log_coe, if_neg hz, ← EReal.coe_add, I.shifted_log, ← EReal.coe_mul]

theorem lseF_at (hq : Is3 I.q q) (hk : Is3 I.k k) (hc : Is2 I.c cc) (h : Fin 8) (b : Fin 16) (x : Fin 512) :
    rd (s := S8x16x1x512) (lseF q k cc) (ix4 h b 0 x) = ((Real.log (I.Z h (pos b x)) * (1 / Real.log 2) : ℝ) : EReal) := by
  unfold rd
  pointwise [lseF]
  exact (congrArg (fun t => rd (s := S8x8192) (lse2F (sF q k cc)) (ix2 h t)) (pos_eq b x)).trans (lse_at (sF_at hq hk hc) h (pos b x))

end Cert.KernelIdeal.Fox

end
-- ==== Proof.HostRead0.lean ====
/-
  What the launch finds in its operands (1): the host code's arrays.
-/
module

public import Idealize.ShloMosaic.Lib.StableHlo.RunRead
public import proofs.«01_k».proof.Proof.HostDefs

@[expose] public section

set_option maxRecDepth 16384

noncomputable section

namespace Cert.KernelIdeal.Fox

open Cert.KernelIdeal Cert.KernelIdeal.Gen
open Idealize.ShloMosaic Idealize.ShloMosaic.TcCoe

variable (m : (ℓ : Loc nD τ sig) → Buf (Elt Ideal) ℓ) (c : Dev nD)

/-- What three and six arrays put side by side leave, each read at its own name. -/
theorem three_result {a0 a1 a2 y : Ref sig .tc} (f : ((k : Fin 3) → ((![a0, a1, a2] : Fin 3 → Ref sig .tc) k).ty.Contents (Elt Ideal)) → y.ty.Contents (Elt Ideal))
    (hxs hy) (F : Valuation τ sig (Elt Ideal)) :
    (StableHlo.nary (τ := τ) ![a0, a1, a2] y f hxs hy).result F (no_index (Proc.devRef .tc y))
      = f (Fin.cons (F (Proc.devRef .tc a0)) (Fin.cons (F (Proc.devRef .tc a1)) (Fin.cons (F (Proc.devRef .tc a2)) (fun i => i.elim0)))) := by
  rw [StableHlo.nary_result]; congr 1; funext k; fin_cases k <;> rfl

theorem six_result {a0 a1 a2 a3 a4 a5 y : Ref sig .tc} (f : ((k : Fin 6) → ((![a0, a1, a2, a3, a4, a5] : Fin 6 → Ref sig .tc) k).ty.Contents (Elt Ideal)) → y.ty.Contents (Elt Ideal))
    (hxs hy) (F : Valuation τ sig (Elt Ideal)) :
    (StableHlo.nary (τ := τ) ![a0, a1, a2, a3, a4, a5] y f hxs hy).result F (no_index (Proc.devRef .tc y))
      = f (Fin.cons (F (Proc.devRef .tc a0)) (Fin.cons (F (Proc.devRef .tc a1)) (Fin.cons (F (Proc.devRef .tc a2)) (Fin.cons (F (Proc.devRef .tc a3)) (Fin.cons (F (Proc.devRef .tc a4)) (Fin.cons (F (Proc.devRef .tc a5)) (fun i => i.elim0))))))) := by
  rw [StableHlo.nary_result]; congr 1; funext k; fin_cases k <;> rfl

set_option maxHeartbeats 2000000 in
theorem read_v10 : V m c main_v10 = qaF (m ((c.tc : Thread nD τ).loc main_arg0)) := by
  simp only [V, V0, hostOps0, hostOps0_1, hostOps0_2, hostOps0_3, hostOps0_4, List.flatten_cons, List.flatten_nil, List.append_nil, List.cons_append, List.nil_append]
  simp (disch := decide) only [StableHlo.readAfter, StableHlo.readUpto, StableHlo.nullary_result', StableHlo.unary_result', StableHlo.binary_result', three_result]
  exact rfl

set_option maxHeartbeats 2000000 in
theorem read_v25 : V m c main_v25 = kaF (m ((c.tc : Thread nD τ).loc main_arg1)) (m ((c.tc : Thread nD τ).loc main_arg3)) := by
  simp only [V, V0, hostOps0, hostOps0_1, hostOps0_2, hostOps0_3, hostOps0_4, List.flatten_cons, List.flatten_nil, List.append_nil, List.cons_append, List.nil_append]
  simp (disch := decide) only [StableHlo.readAfter, StableHlo.readUpto, StableHlo.nullary_result', StableHlo.unary_result', StableHlo.binary_result', six_result]
  exact rfl

set_option maxHeartbeats 2000000 in
theorem read_v29 : V m c main_v29 = padF (m ((c.tc : Thread nD τ).loc main_arg2)) := by
  simp only [V, V0, hostOps0, hostOps0_1, hostOps0_2, hostOps0_3, hostOps0_4, List.flatten_cons, List.flatten_nil, List.append_nil, List.cons_append, List.nil_append]
  entry_read
  (try simp only [StableHlo.TRef.ofBuf_toBuf])
  exact rfl

set_option maxHeartbeats 2000000 in
theorem read_v33 : V m c main_v33 = padF (m ((c.tc : Thread nD τ).loc main_arg4)) := by
  simp only [V, V0, hostOps0, hostOps0_1, hostOps0_2, hostOps0_3, hostOps0_4, List.flatten_cons, List.flatten_nil, List.append_nil, List.cons_append, List.nil_append]
  entry_read
  (try simp only [StableHlo.TRef.ofBuf_toBuf])
  exact rfl

set_option maxHeartbeats 2000000 in
theorem read_v76 : V m c main_v76 = tabF := by
  simp only [V, V0, hostOps0, hostOps0_1, hostOps0_2, hostOps0_3, hostOps0_4, List.flatten_cons, List.flatten_nil, List.append_nil, List.cons_append, List.nil_append]
  entry_read
  (try simp only [StableHlo.TRef.ofBuf_toBuf])
  exact rfl

set_option maxHeartbeats 2000000 in
theorem read_v0 : V m c main_v0 = ln2F := by
  simp only [V, V0, hostOps0, hostOps0_1, hostOps0_2, hostOps0_3, hostOps0_4, List.flatten_cons, List.flatten_nil, List.append_nil, List.cons_append, List.nil_append]
  entry_read
  (try simp only [StableHlo.TRef.ofBuf_toBuf])
  exact rfl

end Cert.KernelIdeal.Fox

end
-- ==== Proof.HostRead1.lean ====
/-
  What the launch finds in its operands (2): the host code's arrays.
-/
module

public import proofs.«01_k».proof.Proof.HostDefs

@[expose] public section

set_option maxRecDepth 16384

noncomputable section

namespace Cert.KernelIdeal.Fox

open Cert.KernelIdeal Cert.KernelIdeal.Gen
open Idealize.ShloMosaic Idealize.ShloMosaic.TcCoe

variable (m : (ℓ : Loc nD τ sig) → Buf (Elt Ideal) ℓ) (c : Dev nD)

set_option maxHeartbeats 2000000 in
theorem read_v64 : V m c main_v64 = lseF (m ((c.tc : Thread nD τ).loc main_arg0)) (m ((c.tc : Thread nD τ).loc main_arg1)) (m ((c.tc : Thread nD τ).loc main_arg3)) := by
  simp only [V, V0, hostOps0, hostOps0_1, hostOps0_2, hostOps0_3, hostOps0_4, List.flatten_cons, List.flatten_nil, List.append_nil, List.cons_append, List.nil_append]
  entry_read
  (try simp only [StableHlo.TRef.ofBuf_toBuf])
  exact rfl

end Cert.KernelIdeal.Fox

end
-- ==== Proof.HostRead2.lean ====
/-
  What the launch finds in its operands (3): the host code's arrays.
-/
module

public import proofs.«01_k».proof.Proof.HostDefs

@[expose] public section

set_option maxRecDepth 16384

noncomputable section

namespace Cert.KernelIdeal.Fox

open Cert.KernelIdeal Cert.KernelIdeal.Gen
open Idealize.ShloMosaic Idealize.ShloMosaic.TcCoe

variable (m : (ℓ : Loc nD τ sig) → Buf (Elt Ideal) ℓ) (c : Dev nD)

set_option maxHeartbeats 2000000 in
theorem read_v65 : V m c main_v65 = ddF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [V, V0, hostOps0, hostOps0_1, hostOps0_2, hostOps0_3, hostOps0_4, List.flatten_cons, List.flatten_nil, List.append_nil, List.cons_append, List.nil_append]
  entry_read
  (try simp only [StableHlo.TRef.ofBuf_toBuf])
  exact rfl

end Cert.KernelIdeal.Fox

end
-- ==== Proof.KernelVals.lean ====
/-
  The kernel's results at real arguments: the four gradients.
-/
module

public import proofs.«01_k».proof.Proof.Suffix
public import proofs.«01_k».proof.Proof.HostVals
public import proofs.«01_k».proof.Proof.HostRead0
public import proofs.«01_k».proof.Proof.HostRead1
public import proofs.«01_k».proof.Proof.HostRead2

@[expose] public section

set_option maxRecDepth 16384

noncomputable section

namespace Cert.KernelIdeal.Fox

open Cert.KernelIdeal Cert.KernelIdeal.Gen
open Idealize.ShloMosaic Idealize.ShloMosaic.TcCoe
open Cert.Fox
open scoped BigOperators

variable {I : Args} {X Y : L3}

theorem dqE_at (hX : rd (s := S8x8192x128) X = qSum I) (t : Fin 8192) (h : Fin 8) (d : Fin 64) : rd (s := S8192x8x64) (dqE X) (ix3 t h d) = (I.dq t h d : EReal) := by
  unfold rd
  pointwise [dqE]
  rw [c_eighth]
  refine (congrArg (fun x : EReal => x * ((1 / 8 : ℝ) : EReal)) (congrFun hX (ix3 h t ⟨d.val, by omega⟩))).trans ?_
  refine (EReal.coe_mul _ _).symm.trans (congrArg _ ?_)
  unfold Args.dq
  refine congrArg (fun x : ℝ => x * (1 / 8)) (Finset.sum_congr rfl fun s _ => ?_)
  refine congrArg (fun x : ℝ => I.dS h t s * x) ?_
  unfold Args.ka
  exact dif_pos d.isLt

theorem dkE_at (hX : rd (s := S8x8192x128) X = kSum I) (s : Fin 8192) (h : Fin 8) (d : Fin 64) : rd (s := S8192x8x64) (dkE X ln2F) (ix3 s h d) = (I.dk s h d : EReal) := by
  unfold rd
  pointwise [dkE]
  rw [ln2_at]
  refine (congrArg (fun x : EReal => x * ((Real.log 2 : ℝ) : EReal)) (congrFun hX (ix3 h s ⟨d.val, by omega⟩))).trans ?_
  refine (EReal.coe_mul _ _).symm.trans (congrArg _ ?_)
  unfold Args.dk
  rw [Finset.sum_mul, Finset.sum_mul]
  refine Finset.sum_congr rfl fun t _ => ?_
  have e : I.qa h t ⟨d.val, by omega⟩ = I.q t h d * (1 / 8 * (1 / Real.log 2)) := by unfold Args.qa; exact dif_pos d.isLt
  refine (congrArg (fun x : ℝ => I.dS h t s * x * Real.log 2) e).trans ?_
  have := log2_ne
  field_simp

theorem dvE_at {X : FVec Ideal S8x8192x128 .bf16} (hX : rd (s := S8x8192x128) X = vSum I) (s : Fin 8192) (h : Fin 8) (d : Fin 64) : rd (s := S8192x8x64) (dvE X) (ix3 s h d) = (I.dv s h d : EReal) := by
  unfold rd
  pointwise [dvE]
  refine (congrFun hX (ix3 h s ⟨d.val, by omega⟩)).trans ?_
  unfold Args.dv vSum
  refine congrArg (fun x : ℝ => (x : EReal)) ?_
  refine Finset.sum_congr rfl fun t _ => congrArg (fun x : ℝ => I.P h t s * x) ?_
  unfold Cert.Fox.pad
  exact dif_pos d.isLt

theorem dcE_at (hX : rd (s := S8x8192x128) X = kSum I) (hY : rd (s := S8x8192x128) Y = qSum I) (s : Fin 8192) (h : Fin 8) : rd (s := S8192x8) (dcE X Y) (ix2 s h) = (I.dc s h : EReal) := by
  unfold rd
  pointwise [dcE]
  refine (congrArg₂ (fun a b : EReal => a + b) (congrFun hX (ix3 h s 64)) (congrFun hY (ix3 h s 67))).trans ?_
  refine (EReal.coe_add _ _).symm.trans (congrArg _ ?_)
  unfold Args.dc
  rw [← Finset.sum_neg_distrib]
  refine congrArg₂ (fun a b : ℝ => a + b) (Finset.sum_congr rfl fun t _ => ?_) (Finset.sum_congr rfl fun s' _ => ?_)
  · have e : I.qa h t 64 = -1 := by unfold Args.qa; rw [dif_neg (by decide), if_pos (by decide)]
    exact (congrArg (fun x : ℝ => I.dS h t s * x) e).trans (by ring)
  · have e : I.ka h s' 67 = 1 := by unfold Args.ka; rw [dif_neg (by decide), if_neg (by decide), if_neg (by decide), if_pos (by decide)]
    exact (congrArg (fun x : ℝ => I.dS h s s' * x) e).trans (by ring)

/-- The arguments, real. -/
structure Real5 (I : Args) (q k v : A3) (cc : A2) (g : A3) : Prop where
  q : Is3 I.q q
  k : Is3 I.k k
  v : Is3 I.v v
  c : Is2 I.c cc
  g : Is3 I.g g

variable {m : (ℓ : Loc nD τ sig) → Buf (Elt Ideal) ℓ} {c : Dev nD}

/-- A device's arguments. -/
def Given (I : Args) (m : (ℓ : Loc nD τ sig) → Buf (Elt Ideal) ℓ) (c : Dev nD) : Prop :=
  Real5 I (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem finds (H : Given I m c) : Finds I m c where
  fT a b := by rw [read_v76]; exact tabF_at a b
  fL h b x := by rw [read_v64]; exact lseF_at H.q H.k H.c h b x
  fD h b x := by rw [read_v65]; exact ddF_at H.q H.k H.v H.c H.g h b x
  fQ h t l := by rw [read_v10]; exact qaF_at H.q h t l
  fO h t l := by rw [read_v33]; exact padF_at H.g h t l
  fK h s l := by rw [read_v25]; exact kaF_at H.k H.c h s l
  fV h s l := by rw [read_v29]; exact padF_at H.v h s l

theorem out_dq (H : Given I m c) (t : Fin 8192) (h : Fin 8) (d : Fin 64) : rd (s := S8192x8x64) (endV m c (Proc.devRef .tc main_v91)) (ix3 t h d) = (I.dq t h d : EReal) := by
  rw [end_v91]; exact dqE_at (gFinal (finds H)) t h d
theorem out_dk (H : Given I m c) (s : Fin 8192) (h : Fin 8) (d : Fin 64) : rd (s := S8192x8x64) (endV m c (Proc.devRef .tc main_v92)) (ix3 s h d) = (I.dk s h d : EReal) := by
  rw [end_v92, read_v0]; exact dkE_at (kFinal (finds H)) s h d
theorem out_dv (H : Given I m c) (s : Fin 8192) (h : Fin 8) (d : Fin 64) : rd (s := S8192x8x64) (endV m c (Proc.devRef .tc main_v93)) (ix3 s h d) = (I.dv s h d : EReal) := by
  rw [end_v93]; exact dvE_at (vFinal (finds H)) s h d
theorem out_dc (H : Given I m c) (s : Fin 8192) (h : Fin 8) : rd (s := S8192x8) (endV m c (Proc.devRef .tc main_v94)) (ix2 s h) = (I.dc s h : EReal) := by
  rw [end_v94]; exact dcE_at (kFinal (finds H)) (gFinal (finds H)) s h

end Cert.KernelIdeal.Fox

end
-- ==== Proof.Finite.lean ====
/-
  Finite arguments are real numbers.
-/
module

public import proofs.«01_k».proof.Proof.KernelVals
public import proofs.«01_k».proof.Proof.RefRun

@[expose] public section

noncomputable section

namespace Cert.KernelIdeal.Fox

open Cert.KernelIdeal Cert.KernelIdeal.Gen
open Idealize.ShloMosaic Idealize.ShloMosaic.TcCoe
open Cert.Fox

theorem c_top : Ideal.ofBits .f32 0x7F800000#32 = (⊤ : EReal) := by
  simp [Ideal.ofBits, Ideal.ieee]

theorem real_of_small (x : EReal) (h : BitVec.ofBool (decide (max x (-x) < ⊤)) = 1#1) : x = (x.toReal : EReal) := by
  have hx : max x (-x) < ⊤ := by
    by_contra hn
    rw [decide_eq_false hn] at h
    exact absurd h (by decide)
  have h1 := (max_lt_iff.mp hx).1
  have h2 := (max_lt_iff.mp hx).2
  refine (EReal.coe_toReal h1.ne fun e => ?_).symm
  rw [e, EReal.neg_bot] at h2
  exact absurd h2 (lt_irrefl _)

theorem small3 (x : A3) (h : S_.BroadcastsInDim S8192x8x64 (![] : Fin 0 → Fin S8192x8x64.rank))
    (e : cmpf .olt (Host.absf x) (broadcastInDim S8192x8x64 ![] h (constant (F := Ideal) S_ .f32 0x7F800000#32)) = fun _ => 1#1) :
    Is3 (fun t n d => (x (ix3 t n d) : EReal).toReal) x := by
  intro t n d
  have e := congrFun e (ix3 t n d)
  revert e
  pointwise []
  rw [c_top]
  exact real_of_small _

theorem small2 (x : A2) (h : S_.BroadcastsInDim S8192x8 (![] : Fin 0 → Fin S8192x8.rank))
    (e : cmpf .olt (Host.absf x) (broadcastInDim S8192x8 ![] h (constant (F := Ideal) S_ .f32 0x7F800000#32)) = fun _ => 1#1) :
    Is2 (fun t n => (x (ix2 t n) : EReal).toReal) x := by
  intro t n
  have e := congrFun e (ix2 t n)
  revert e
  pointwise []
  rw [c_top]
  exact real_of_small _

/-- Finite arguments, as reals. -/
theorem given_of_finite (m : (ℓ : Loc nD τ sig) → Buf (Elt Ideal) ℓ) (H : Cert.Pre_KernelIdeal_finite (hPre_finite := Cert.Proof.facts_finite) m) (c : Dev nD) :
    ∃ I : Args, Given I m c :=
  have := Cert.Proof.facts_finite
  ⟨⟨_, _, _, _, _⟩, small3 _ _ (H c).1, small3 _ _ (H c).2.1, small3 _ _ (H c).2.2.1, small2 _ _ (H c).2.2.2.1, small3 _ _ (H c).2.2.2.2⟩

end Cert.KernelIdeal.Fox

end
-- ==== Proof.RefVals.lean ====
/-
  What the reference's arrays are at real arguments: the four gradients.
-/
module

public import proofs.«01_k».proof.Proof.RefDefs
public import proofs.«01_k».proof.Proof.HostVals

@[expose] public section

set_option maxRecDepth 16384

noncomputable section

namespace Cert.ReferenceIdeal.Fox

open Cert.ReferenceIdeal Cert.ReferenceIdeal.Gen Cert.Fox
open Cert.KernelIdeal.Fox (rd c_eighth c_bot coe_sum le_word fold_max_real Is3 Is2)
open Idealize.ShloMosaic Idealize.ShloMosaic.TcCoe
open scoped BigOperators

variable {I : Args} {q k v g : A3} {cc : A2}

theorem sc0_at (hq : Is3 I.q q) (hk : Is3 I.k k) (hc : Is2 I.c cc) (h : Fin 8) (t s : Fin 8192) :
    rd (s := S8x8192x8192) (sc0 q k cc) (ix3 h t s) = ((I.sc h t s + I.c t h : ℝ) : EReal) := by
  unfold rd
  pointwise [sc0, cT, wide, col1, full]
  rw [c_eighth, hc, hc]
  simp only [hq _ _ _, hk _ _ _, ← EReal.coe_mul]
  rw [coe_sum, ← EReal.coe_mul, ← EReal.coe_add, ← EReal.coe_sub]
  refine congrArg _ ?_
  unfold Args.sc
  ring

/-- Masked scores. -/
def Scores (I : Args) (S : SS) : Prop := ∀ h t s, rd (s := S8x8192x8192) S (ix3 h t s) = if s ≤ t then ((I.sc h t s + I.c t h : ℝ) : EReal) else ⊥

theorem sR_at (hq : Is3 I.q q) (hk : Is3 I.k k) (hc : Is2 I.c cc) : Scores I (sR q k cc) := by
  intro h t s
  unfold rd
  pointwise [sR, mask, full]
  rw [c_bot]
  refine (le_word (n := 8192) le_rfl s t _ _).trans ?_
  by_cases e : s ≤ t
  · rw [if_pos e, if_pos e]; exact sc0_at hq hk hc h t s
  · rw [if_neg e, if_neg e]

theorem max_bot (x : HT) (h : Fin 8) (t : Fin 8192) :
    maximumf (broadcastInDim S8x8192 ![] bcast_S_S8x8192 (constant (F := Ideal) S_ .f32 0xFF800000#32)) x (ix2 h t) = x (ix2 h t) := by
  pointwise []
  rw [c_bot]
  exact bot_sup_eq _

theorem top_at {S : SS} (hS : Scores I S) (h : Fin 8) (t : Fin 8192) : ∃ r : ℝ, rd (s := S8x8192) (top2R S) (ix2 h t) = (r : EReal) := by
  have e : ∃ r : ℝ, rd (s := S8x8192) (topR S) (ix2 h t) = (r : EReal) := by
    unfold rd
    pointwise [topR]
    rw [c_bot]
    refine fold_max_real _ (fun s => ?_) ⟨t, ?_⟩
    · intro e
      have := (hS h t s).symm.trans e
      by_cases hs : s ≤ t
      · rw [if_pos hs] at this; exact EReal.coe_ne_top _ this
      · rw [if_neg hs] at this; exact bot_ne_top this
    · intro e
      have := (hS h t t).symm.trans e
      rw [if_pos le_rfl] at this
      exact EReal.coe_ne_bot _ this
  obtain ⟨r, hr⟩ := e
  exact ⟨r, (max_bot (topR S) h t).trans hr⟩

/-- Exponentials less a shift of the row. -/
def Exps (I : Args) (E : SS) : Prop := ∀ h t, ∃ κ : ℝ, 0 < κ ∧ ∀ s, rd (s := S8x8192x8192) E (ix3 h t s) = ((I.ex h t s * κ : ℝ) : EReal)

theorem eR_at {S : SS} (hS : Scores I S) : Exps I (eR S) := by
  intro h t
  obtain ⟨r, hr⟩ := top_at hS h t
  refine ⟨Real.exp (I.c t h - r), Real.exp_pos _, fun s => ?_⟩
  unfold rd
  pointwise [eR, wide, col1]
  refine (congrArg₂ (fun a b => Ideal.exp (a - b)) (hS h t s) hr).trans ?_
  unfold Args.ex
  by_cases e : s ≤ t
  · rw [if_pos e, if_pos e, ← EReal.coe_sub, ← Real.exp_add, add_sub_assoc]; rfl
  · rw [if_neg e, if_neg e, EReal.bot_sub, zero_mul, EReal.coe_zero]; rfl

variable {E : SS} {h : Fin 8} {t : Fin 8192} {κ : ℝ}

theorem zR_at (hE : ∀ s, rd (s := S8x8192x8192) E (ix3 h t s) = ((I.ex h t s * κ : ℝ) : EReal)) :
    rd (s := S8x8192x1) (zR E) (ix3 h t 0) = ((I.Z h t * κ : ℝ) : EReal) := by
  unfold rd
  pointwise [zR, col1, rowSum, zero]
  rw [← I.shifted_sum, ← coe_sum]
  exact Finset.sum_congr rfl fun s _ => hE s

theorem pR_at (hE : Exps I E) (h : Fin 8) (t s : Fin 8192) : rd (s := S8x8192x8192) (pR E) (ix3 h t s) = (I.P h t s : EReal) := by
  obtain ⟨κ, hκ, hE⟩ := hE h t
  unfold rd
  pointwise [pR, wide]
  refine (congrArg₂ Ideal.div (hE s) (zR_at hE)).trans ?_
  have hz : I.Z h t * κ ≠ 0 := (mul_pos (I.Z_pos h t) hκ).ne'
  rw [Ideal.div_coe hz, ← EReal.coe_mul, mul_one_div, I.shifted_P h t s _ hκ.ne']

theorem dpR_at (hv : Is3 I.v v) (hg : Is3 I.g g) (h : Fin 8) (t s : Fin 8192) : rd (s := S8x8192x8192) (dpR g v) (ix3 h t s) = (I.dp h t s : EReal) := by
  unfold rd
  pointwise [dpR, gT]
  unfold Args.dp
  rw [← coe_sum]
  exact Finset.sum_congr rfl fun d _ => (congrArg₂ (· * ·) (hg t h d) (hv s h d)).trans (EReal.coe_mul _ _).symm

theorem dvR_at (hE : Exps I E) (hg : Is3 I.g g) (s : Fin 8192) (h : Fin 8) (d : Fin 64) : rd (s := S8192x8x64) (dvR E g) (ix3 s h d) = (I.dv s h d : EReal) := by
  unfold rd
  pointwise [dvR, gT]
  unfold Args.dv
  rw [← coe_sum]
  exact Finset.sum_congr rfl fun t _ => (congrArg₂ (· * ·) (hg t h d) (pR_at hE h t s)).trans ((EReal.coe_mul _ _).symm.trans (congrArg _ (mul_comm _ _)))

variable {p : SS}

theorem invR_at (hκ : 0 < κ) (hE : ∀ s, rd (s := S8x8192x8192) E (ix3 h t s) = ((I.ex h t s * κ : ℝ) : EReal)) :
    rd (s := S8x8192x1) (invR E) (ix3 h t 0) = ((1 / ((I.Z h t * κ) * (I.Z h t * κ)) : ℝ) : EReal) := by
  unfold rd
  pointwise [invR]
  have hz : (I.Z h t * κ) * (I.Z h t * κ) ≠ 0 := by have := mul_pos (I.Z_pos h t) hκ; exact (mul_pos this this).ne'
  refine (congrArg (fun b : EReal => Ideal.div 1 (b * b)) (zR_at hE)).trans ?_
  show Ideal.div 1 (((I.Z h t * κ : ℝ) : EReal) * ((I.Z h t * κ : ℝ) : EReal)) = _
  rw [← EReal.coe_mul, Ideal.div_coe hz, one_mul]

theorem nR_at (hκ : 0 < κ) (hE : ∀ s, rd (s := S8x8192x8192) E (ix3 h t s) = ((I.ex h t s * κ : ℝ) : EReal))
    (hp : ∀ s, rd (s := S8x8192x8192) p (ix3 h t s) = (I.dp h t s : EReal)) :
    rd (s := S8x8192) (nR E p) (ix2 h t) = ((-(∑ s', I.dp h t s' * (1 / ((I.Z h t * κ) * (I.Z h t * κ))) * (I.ex h t s' * κ)) : ℝ) : EReal) := by
  unfold rd
  pointwise [nR, zero, wR, rowSum, wide]
  refine (Fin.sum_univ_one _).trans ?_
  rw [EReal.coe_neg, ← coe_sum]
  refine congrArg (fun x : EReal => -x) (Finset.sum_congr rfl fun s _ => ?_)
  rw [EReal.coe_mul, EReal.coe_mul]
  exact congrArg₂ (fun a b : EReal => a * b) (congrArg₂ (fun a b : EReal => a * b) (hp s) (invR_at hκ hE)) (hE s)

theorem rawR_at (hE : Exps I E) (hp : ∀ h t s, rd (s := S8x8192x8192) p (ix3 h t s) = (I.dp h t s : EReal)) (h : Fin 8) (t s : Fin 8192) :
    rd (s := S8x8192x8192) (rawR E p) (ix3 h t s) = (I.dS h t s : EReal) := by
  obtain ⟨κ, hκ, hE⟩ := hE h t
  unfold rd
  pointwise [rawR, wide]
  have hz : I.Z h t * κ ≠ 0 := (mul_pos (I.Z_pos h t) hκ).ne'
  refine (congrArg₂ (fun a b : EReal => a * b) (congrArg₂ (fun a b : EReal => a + b) (congrArg₂ Ideal.div (hp h t s) (zR_at hE)) (nR_at hκ hE (hp h t))) (hE s)).trans ?_
  show (Ideal.div (I.dp h t s : EReal) ((I.Z h t * κ : ℝ) : EReal) + _) * _ = _
  rw [Ideal.div_coe hz, ← EReal.coe_mul, ← EReal.coe_add, ← EReal.coe_mul, mul_one_div, I.shifted_dS h t s _ hκ.ne']

theorem dsR_at (hE : Exps I E) (hp : ∀ h t s, rd (s := S8x8192x8192) p (ix3 h t s) = (I.dp h t s : EReal)) (h : Fin 8) (t s : Fin 8192) :
    rd (s := S8x8192x8192) (dsR E p) (ix3 h t s) = (I.dS h t s : EReal) := by
  unfold rd
  pointwise [dsR, mask, full]
  refine (le_word (n := 8192) le_rfl s t _ _).trans ?_
  by_cases e : s ≤ t
  · rw [if_pos e]; exact rawR_at hE hp h t s
  · rw [if_neg e, I.dS_of_lt (not_le.mp e)]; rfl

/-- The derivative in the score. -/
def Slopes (I : Args) (X : SS) : Prop := ∀ h t s, rd (s := S8x8192x8192) X (ix3 h t s) = (I.dS h t s : EReal)

theorem dsA_at (hq : Is3 I.q q) (hk : Is3 I.k k) (hv : Is3 I.v v) (hc : Is2 I.c cc) (hg : Is3 I.g g) : Slopes I (dsA q k v cc g) :=
  fun h t s => dsR_at (eR_at (sR_at hq hk hc)) (dpR_at hv hg) h t s

variable {X : SS}

theorem scaled_sum {n : ℕ} (x y : Fin n → EReal) (a b : Fin n → ℝ) (hx : ∀ i, x i = (a i : EReal)) (hy : ∀ i, y i = (b i : EReal)) :
    ∑ i, x i * Ideal.ofBits .f32 0x3E000000#32 * y i = (((∑ i, a i * b i) * (1 / 8) : ℝ) : EReal) := by
  rw [Finset.sum_mul, ← coe_sum]
  refine Finset.sum_congr rfl fun i _ => ?_
  rw [hx, hy, c_eighth, ← EReal.coe_mul, ← EReal.coe_mul]
  exact congrArg _ (by ring)

theorem dkR_at (hX : Slopes I X) (hq : Is3 I.q q) (s : Fin 8192) (h : Fin 8) (d : Fin 64) : rd (s := S8192x8x64) (dkR X q) (ix3 s h d) = (I.dk s h d : EReal) := by
  unfold rd
  pointwise [dkR, scaled, full]
  exact scaled_sum _ _ (fun t => I.dS h t s) (fun t => I.q t h d) (fun t => hX h t s) (fun t => hq t h d)

theorem dqR_at (hX : Slopes I X) (hk : Is3 I.k k) (t : Fin 8192) (h : Fin 8) (d : Fin 64) : rd (s := S8192x8x64) (dqR X k) (ix3 t h d) = (I.dq t h d : EReal) := by
  unfold rd
  pointwise [dqR, scaled, full]
  exact scaled_sum _ _ (fun s => I.dS h t s) (fun s => I.k s h d) (fun s => hX h t s) (fun s => hk s h d)

theorem dcR_at (hX : Slopes I X) (s : Fin 8192) (h : Fin 8) : rd (s := S8192x8) (dcR X) (ix2 s h) = (I.dc s h : EReal) := by
  unfold rd
  pointwise [dcR, rowSum, colSum, zero]
  rw [Fin.sum_univ_one, Fin.sum_univ_one]
  unfold Args.dc
  rw [EReal.coe_add, ← Finset.sum_neg_distrib, ← coe_sum, ← coe_sum]
  refine congrArg₂ (fun a b : EReal => a + b) (Finset.sum_congr rfl fun t _ => ?_) (Finset.sum_congr rfl fun s' _ => hX h s s')
  rw [EReal.coe_neg]
  exact congrArg (fun x : EReal => -x) (hX h t s)

end Cert.ReferenceIdeal.Fox

end
-- ==== Proof.Equal.lean ====
/-
  The value claim: the kernel's four gradients are the reference's.
-/
module

public import proofs.«01_k».proof.Proof.Finite
public import proofs.«01_k».proof.Proof.RefVals

@[expose] public section

noncomputable section

namespace Cert.Proof

open Idealize.ShloMosaic Idealize.ShloMosaic.TcCoe Idealize.SL.Sem
open Cert.KernelIdeal.Fox Cert.Fox

/-- Two arrays of one shape, each the same reals. -/
theorem same3 {x y : Cert.KernelIdeal.Fox.A3} (f : Fin 8192 → Fin 8 → Fin 64 → ℝ) (hx : ∀ t h d, rd (s := Cert.KernelIdeal.S8192x8x64) x (ix3 t h d) = (f t h d : EReal))
    (hy : ∀ t h d, rd (s := Cert.KernelIdeal.S8192x8x64) y (ix3 t h d) = (f t h d : EReal)) : x = y := by
  funext i
  rw [eq_ix3 i]
  exact (hx _ _ _).trans (hy _ _ _).symm
theorem same2 {x y : Cert.KernelIdeal.Fox.A2} (f : Fin 8192 → Fin 8 → ℝ) (hx : ∀ t h, rd (s := Cert.KernelIdeal.S8192x8) x (ix2 t h) = (f t h : EReal))
    (hy : ∀ t h, rd (s := Cert.KernelIdeal.S8192x8) y (ix2 t h) = (f t h : EReal)) : x = y := by
  funext i
  rw [eq_ix2 i]
  exact (hx _ _).trans (hy _ _).symm

section
variable {I : Args} (m : (ℓ : Loc Cert.ReferenceIdeal.nD Cert.ReferenceIdeal.τ Cert.ReferenceIdeal.sig) → Buf (Elt Ideal) ℓ) (c : Dev Cert.ReferenceIdeal.nD)
  {q k v g : Cert.KernelIdeal.Fox.A3} {cc : Cert.KernelIdeal.Fox.A2} (H : Real5 I q k v cc g)
  (e0 : m ((c.tc : Thread Cert.ReferenceIdeal.nD Cert.ReferenceIdeal.τ).loc Cert.ReferenceIdeal.main_arg0) = q)
  (e1 : m ((c.tc : Thread Cert.ReferenceIdeal.nD Cert.ReferenceIdeal.τ).loc Cert.ReferenceIdeal.main_arg1) = k)
  (e2 : m ((c.tc : Thread Cert.ReferenceIdeal.nD Cert.ReferenceIdeal.τ).loc Cert.ReferenceIdeal.main_arg2) = v)
  (e3 : m ((c.tc : Thread Cert.ReferenceIdeal.nD Cert.ReferenceIdeal.τ).loc Cert.ReferenceIdeal.main_arg3) = cc)
  (e4 : m ((c.tc : Thread Cert.ReferenceIdeal.nD Cert.ReferenceIdeal.τ).loc Cert.ReferenceIdeal.main_arg4) = g)
include H e0 e1 e2 e3 e4

open Cert.ReferenceIdeal.Fox in
theorem ref_dq (t : Fin 8192) (h : Fin 8) (d : Fin 64) :
    rd (s := Cert.KernelIdeal.S8192x8x64) (Cert.ReferenceIdeal.Value.res_main_v77 (F := Ideal) m c) (ix3 t h d) = (I.dq t h d : EReal) := by
  rw [res_v77, e0, e1, e2, e3, e4]
  exact dqR_at (dsA_at H.q H.k H.v H.c H.g) H.k t h d
open Cert.ReferenceIdeal.Fox in
theorem ref_dk (t : Fin 8192) (h : Fin 8) (d : Fin 64) :
    rd (s := Cert.KernelIdeal.S8192x8x64) (Cert.ReferenceIdeal.Value.res_main_v75 (F := Ideal) m c) (ix3 t h d) = (I.dk t h d : EReal) := by
  rw [res_v75, e0, e1, e2, e3, e4]
  exact dkR_at (dsA_at H.q H.k H.v H.c H.g) H.q t h d
open Cert.ReferenceIdeal.Fox in
theorem ref_dv (t : Fin 8192) (h : Fin 8) (d : Fin 64) :
    rd (s := Cert.KernelIdeal.S8192x8x64) (Cert.ReferenceIdeal.Value.res_main_v50 (F := Ideal) m c) (ix3 t h d) = (I.dv t h d : EReal) := by
  rw [res_v50, e0, e1, e3, e4]
  exact dvR_at (eR_at (sR_at H.q H.k H.c)) H.g t h d
open Cert.ReferenceIdeal.Fox in
theorem ref_dc (t : Fin 8192) (h : Fin 8) :
    rd (s := Cert.KernelIdeal.S8192x8) (Cert.ReferenceIdeal.Value.res_main_v78 (F := Ideal) m c) (ix2 t h) = (I.dc t h : EReal) := by
  rw [res_v78, e0, e1, e2, e3, e4]
  exact dcR_at (dsA_at H.q H.k H.v H.c H.g) t h
end

theorem equal : Cert.algebraic_KernelIdeal_ReferenceIdeal_pre_finite (hKernelIdeal := Cert.KernelIdeal.Gen.facts) (hReferenceIdeal := Cert.ReferenceIdeal.Gen.facts)
    (hPre_finite := facts_finite) := by
  intro m g m' g' hfin hargs
  refine ⟨fun c => endV m c (Proc.devRef .tc Cert.KernelIdeal.main_v91), fun c => endV m c (Proc.devRef .tc Cert.KernelIdeal.main_v92),
    fun c => endV m c (Proc.devRef .tc Cert.KernelIdeal.main_v93), fun c => endV m c (Proc.devRef .tc Cert.KernelIdeal.main_v94), ?_, ?_⟩
  · exact (θ_run Cert.KernelIdeal.defs _ _).mono (fun r h c => ⟨ends_rest m h.1 c _ (by decide), ends_rest m h.1 c _ (by decide),
      ends_rest m h.1 c _ (by decide), ends_rest m h.1 c _ (by decide), h.2.1 c⟩) (run_args m g)
  · refine (θ_run Cert.ReferenceIdeal.defs _ _).mono (fun r h c => ?_) (Cert.ReferenceIdeal.Value.run (F := Ideal) m' g')
    obtain ⟨I, H⟩ := given_of_finite m hfin c
    obtain ⟨e0, e1, e2, e3, e4⟩ := hargs c
    obtain ⟨h0, h1, h2, h3, h4⟩ := h c
    exact ⟨h0.trans (same3 I.dq (ref_dq m' c H e0 e1 e2 e3 e4) (out_dq H)), h1.trans (same3 I.dk (ref_dk m' c H e0 e1 e2 e3 e4) (out_dk H)),
      h2.trans (same3 I.dv (ref_dv m' c H e0 e1 e2 e3 e4) (out_dv H)), h3.trans (same2 I.dc (ref_dc m' c H e0 e1 e2 e3 e4) (out_dc H)), h4⟩

end Cert.Proof

end
-- ==== Proof.WeightsOps.lean ====
/-
  What one grid point of the projection weights' gradient adds, entry by entry.
-/
module

public import proofs.«01_k».proof.Proof.Gen.WeightsIdeal.Skeleton
public import Idealize.ShloMosaic.Lib.Pointwise
public import Idealize.ShloMosaic.Lib.IdealHost

@[expose] public section

set_option maxRecDepth 16384

noncomputable section

namespace Cert.WeightsIdeal.Columns

open Cert.WeightsIdeal Cert.WeightsIdeal.Gen
open Idealize.ShloMosaic Idealize.ShloMosaic.TcCoe
open scoped BigOperators

theorem pay4_at (u : Vec Ideal S1024x1024 .bf16) (acc : Vec Ideal S1024x4096 .f32) (z : Vec Ideal S1024x4096 .bf16) (d : Fin 1024) (k : Fin 4096) :
    k0_pay4 (F := Ideal) u acc z (ix2 d k) = (show FVec Ideal S1024x4096 .f32 from acc) (ix2 d k) + ∑ t : Fin 1024, (show FVec Ideal S1024x1024 .bf16 from u) (ix2 t d) * (show FVec Ideal S1024x4096 .bf16 from z) (ix2 t k) := by
  pointwise [k0_pay4, k0_pay3]

theorem pay5_at (u : Vec Ideal S1024x1024 .bf16) (acc : Vec Ideal S1024x128 .f32) (z : Vec Ideal S1024x128 .bf16) (d : Fin 1024) (k : Fin 128) :
    k0_pay5 (F := Ideal) u acc z (ix2 d k) = (show FVec Ideal S1024x128 .f32 from acc) (ix2 d k) + ∑ t : Fin 1024, (show FVec Ideal S1024x1024 .bf16 from u) (ix2 t d) * (show FVec Ideal S1024x128 .bf16 from z) (ix2 t k) := by
  pointwise [k0_pay5, k0_pay3]

theorem pay1_at (j : S1024x4096.Idx) : k0_pay1 (F := Ideal) j = (0 : EReal) := by
  rw [eq_ix2 j]; pointwise [k0_pay1]
theorem pay2_at (j : S1024x128.Idx) : k0_pay2 (F := Ideal) j = (0 : EReal) := by
  rw [eq_ix2 j]; pointwise [k0_pay2]

theorem pay6_at (x : Vec Ideal S1024x4096 .f32) (j : S1024x4096.Idx) : k0_pay6 (F := Ideal) x j = (show FVec Ideal S1024x4096 .f32 from x) j := rfl
theorem pay7_at (x : Vec Ideal S1024x128 .f32) (j : S1024x128.Idx) : k0_pay7 (F := Ideal) x j = (show FVec Ideal S1024x128 .f32 from x) j := rfl

end Cert.WeightsIdeal.Columns

end
-- ==== Proof.WeightsHost.lean ====
/-
  The operands of the projection weights' gradient.
-/
module

public import proofs.«01_k».proof.Proof.Gen.WeightsIdeal.Frame
public import Idealize.ShloMosaic.Lib.Pointwise
public import Idealize.ShloMosaic.Lib.IdealHost

@[expose] public section

set_option maxRecDepth 16384

noncomputable section

namespace Cert.WeightsIdeal.Columns

open Cert.WeightsIdeal Cert.WeightsIdeal.Gen
open Idealize.ShloMosaic Idealize.ShloMosaic.TcCoe
open scoped BigOperators

abbrev AU := FVec Ideal S8192x1024 .f32
abbrev AZ := FVec Ideal S8192x4104 .f32

def zmF (z : AZ) : FVec Ideal S8192x4096 .bf16 :=
  concatenate S8192x4096 1 [⟨S8192x2048, extractStridedSlice S8192x2048 ![0, 0] (truncf .bf16 z bitsLt_bf16_f32) slices_S8192x4104_S8192x2048_0_0⟩, ⟨S8192x2048, extractStridedSlice S8192x2048 ![0, 2056] (truncf .bf16 z bitsLt_bf16_f32) slices_S8192x4104_S8192x2048_0_2056⟩] concatenates_S8192x2048_S8192x2048_S8192x4096_d1
def zfF (z : AZ) : FVec Ideal S8192x128 .bf16 :=
  pad S8192x128 ![0, 0] ![0, 120] ![0, 0] (extractStridedSlice S8192x8 ![0, 2048] (truncf .bf16 z bitsLt_bf16_f32) slices_S8192x4104_S8192x8_0_2048) (sitofp .bf16 (constantI S_ 32 0#32)) pads_S8192x8_S8192x128_000_01200 h_S_
theorem zmF_at (z : AZ) (t : Fin 8192) (k : Fin 4096) : zmF z (ix2 t k) = if h : k.val < 2048 then z (ix2 t ⟨k.val, by omega⟩) else z (ix2 t ⟨k.val + 8, by omega⟩) := by
  pointwise [zmF]
  by_cases e : k.val < 2048
  · rw [dif_pos e, dif_pos e]
  · rw [dif_neg e, dif_neg e]
    congr 2; exact Fin.ext (by show 2056 + (k.val - 2048) = k.val + 8; omega)
theorem zeroFill : FloatOps.sitofp (F := Ideal) (w := 32) FTy.bf16 0#32 = (0 : EReal) := by
  show ((((0#32 : BitVec 32).toInt : ℤ) : ℝ) : EReal) = 0
  simp
theorem zfF_at (z : AZ) (t : Fin 8192) (k : Fin 128) : zfF z (ix2 t k) = if h : k.val < 8 then z (ix2 t ⟨2048 + k.val, by omega⟩) else 0 := by
  pointwise [zfF]
  rw [zeroFill]

variable (m : (ℓ : Loc nD τ sig) → Buf (Elt Ideal) ℓ) (c : Dev nD)

set_option maxHeartbeats 1000000 in
theorem read_v3 : V m c main_v3 = zmF (m ((c.tc : Thread nD τ).loc main_arg1)) := by
  simp only [V, V0, hostOps0, hostOps0_1, hostOps0_2, List.flatten_cons, List.flatten_nil, List.append_nil, List.cons_append, List.nil_append]
  entry_read
  (try simp only [StableHlo.TRef.ofBuf_toBuf])
  exact rfl
set_option maxHeartbeats 1000000 in
theorem read_v5 : V m c main_v5 = zfF (m ((c.tc : Thread nD τ).loc main_arg1)) := by
  simp only [V, V0, hostOps0, hostOps0_1, hostOps0_2, List.flatten_cons, List.flatten_nil, List.append_nil, List.cons_append, List.nil_append]
  entry_read
  (try simp only [StableHlo.TRef.ofBuf_toBuf])
  exact rfl
set_option maxHeartbeats 1000000 in
theorem read_v6 : V m c main_v6 = truncf .bf16 (show AU from m ((c.tc : Thread nD τ).loc main_arg0)) bitsLt_bf16_f32 := by
  simp only [V, V0, hostOps0, hostOps0_1, hostOps0_2, List.flatten_cons, List.flatten_nil, List.append_nil, List.cons_append, List.nil_append]
  entry_read
  (try simp only [StableHlo.TRef.ofBuf_toBuf])

end Cert.WeightsIdeal.Columns

end
-- ==== Proof.WeightsVals.lean ====
/-
  What the projection weights' gradient leaves in its result.
-/
module

public import proofs.«01_k».proof.Proof.WeightsOps
public import proofs.«01_k».proof.Proof.WeightsHost
public import Idealize.ShloMosaic.Lib.Pipeline.ValueKit
public import Idealize.ShloMosaic.Lib.Pipeline.ReadBack

@[expose] public section

set_option maxRecDepth 16384

noncomputable section

namespace Cert.WeightsIdeal.Columns

open Cert.WeightsIdeal Cert.WeightsIdeal.Gen
open Idealize.ShloMosaic Idealize.ShloMosaic.TcCoe
open scoped BigOperators

variable (m : (ℓ : Loc nD τ sig) → Buf (Elt Ideal) ℓ) (c : Dev nD)

abbrev aU : AU := m ((c.tc : Thread nD τ).loc main_arg0)
abbrev aZ : AZ := m ((c.tc : Thread nD τ).loc main_arg1)

theorem idx : ∀ t : Fin cfg0.N, win0_0.index t = ![t.val, 0] ∧ win0_1.index t = ![t.val, 0] ∧ win0_2.index t = ![t.val, 0] ∧ win0_3.index t = ![0, 0] ∧ win0_4.index t = ![0, 0] :=
  (by decide +kernel : ∀ t : Fin grid0.N, _)

/-- The row of the sequence that a block's row is. -/
def at' (t : Fin cfg0.N) (r : Fin 1024) : Fin 8192 := ⟨t.val * 1024 + r.val, by have := lt_of_lt_of_eq t.isLt N_0; omega⟩

theorem blk0 (t : Fin cfg0.N) (r d : Fin 1024) : (show FVec Ideal S1024x1024 .bf16 from iblk m c 0 t) (ix2 r d) = aU m c (ix2 (at' t r) d) := by
  refine Eq.trans (b := (show FVec Ideal S8192x1024 .bf16 from V m c main_v6) (ix2 (at' t r) d)) ?_ (congrFun (read_v6 m c) _)
  unfold at'; blk_point [iblk, idx t]
theorem blk1 (t : Fin cfg0.N) (r : Fin 1024) (k : Fin 4096) : (show FVec Ideal S1024x4096 .bf16 from iblk m c 1 t) (ix2 r k) = zmF (aZ m c) (ix2 (at' t r) k) := by
  rw [← read_v3 m c]; unfold at'; blk_point [iblk, idx t]
theorem blk2 (t : Fin cfg0.N) (r : Fin 1024) (k : Fin 128) : (show FVec Ideal S1024x128 .bf16 from iblk m c 2 t) (ix2 r k) = zfF (aZ m c) (ix2 (at' t r) k) := by
  rw [← read_v5 m c]; unfold at'; blk_point [iblk, idx t]

/-- A block's part of the two gradients. -/
def partM (t : Fin cfg0.N) (j : S1024x4096.Idx) : EReal := ∑ r : Fin 1024, aU m c (ix2 (at' t r) (j 0)) * zmF (aZ m c) (ix2 (at' t r) (j 1))
def partF (t : Fin cfg0.N) (j : S1024x128.Idx) : EReal := ∑ r : Fin 1024, aU m c (ix2 (at' t r) (j 0)) * zfF (aZ m c) (ix2 (at' t r) (j 1))

theorem stepM (t : Fin cfg0.N) (acc : Vec Ideal S1024x4096 .f32) (j : S1024x4096.Idx) :
    k0_pay4 (F := Ideal) (iblk m c 0 t) acc (iblk m c 1 t) j = (show FVec Ideal S1024x4096 .f32 from acc) j + partM m c t j := by
  rw [eq_ix2 j]
  refine (pay4_at _ _ _ (j 0) (j 1)).trans (congrArg (_ + ·) (Finset.sum_congr rfl fun r _ => ?_))
  exact congrArg₂ (fun a b : EReal => a * b) (blk0 m c t r (j 0)) (blk1 m c t r (j 1))
theorem stepF (t : Fin cfg0.N) (acc : Vec Ideal S1024x128 .f32) (j : S1024x128.Idx) :
    k0_pay5 (F := Ideal) (iblk m c 0 t) acc (iblk m c 2 t) j = (show FVec Ideal S1024x128 .f32 from acc) j + partF m c t j := by
  rw [eq_ix2 j]
  refine (pay5_at _ _ _ (j 0) (j 1)).trans (congrArg (_ + ·) (Finset.sum_congr rfl fun r _ => ?_))
  exact congrArg₂ (fun a b : EReal => a * b) (blk0 m c t r (j 0)) (blk2 m c t r (j 1))

/-- The gradient over the projection's columns, and over the gate's. -/
def outM : FVec Ideal S1024x4096 .bf16 := fun j => ∑ t : Fin 8192, aU m c (ix2 t (j 0)) * zmF (aZ m c) (ix2 t (j 1))
def outF : FVec Ideal S1024x128 .bf16 := fun j => ∑ t : Fin 8192, aU m c (ix2 t (j 0)) * zfF (aZ m c) (ix2 t (j 1))

theorem wholeM (t : Fin cfg0.N) (j : S1024x4096.Idx) {h : ∀ s : Fin 8, 8 * (t.val / 8) + s.val < cfg0.N} :
    ∑ s : Fin 8, partM m c ⟨8 * (t.val / 8) + s.val, h s⟩ j = outM m c j := by
  show ∑ s : Fin 8, partM m c ⟨8 * (t.val / 8) + s.val, h s⟩ j = ∑ t : Fin 8192, aU m c (ix2 t (j 0)) * zmF (aZ m c) (ix2 t (j 1))
  generalize hd : j 0 = d
  generalize hk : j 1 = k
  have hp : ∀ p, partM m c p j = ∑ r : Fin 1024, aU m c (ix2 (at' p r) d) * zmF (aZ m c) (ix2 (at' p r) k) := fun p => by subst hd hk; rfl
  simp only [hp]
  refine Fin.sum_mul_add_congr fun s r hl => ?_
  have ht : t.val < 8 := lt_of_lt_of_eq t.isLt N_0
  have ea : at' ⟨8 * (t.val / 8) + s.val, h s⟩ r = ⟨s.val * 1024 + r.val, hl⟩ := Fin.ext (by show (8 * (t.val / 8) + s.val) * 1024 + r.val = s.val * 1024 + r.val; omega)
  rw [ea]
theorem wholeF (t : Fin cfg0.N) (j : S1024x128.Idx) {h : ∀ s : Fin 8, 8 * (t.val / 8) + s.val < cfg0.N} :
    ∑ s : Fin 8, partF m c ⟨8 * (t.val / 8) + s.val, h s⟩ j = outF m c j := by
  show ∑ s : Fin 8, partF m c ⟨8 * (t.val / 8) + s.val, h s⟩ j = ∑ t : Fin 8192, aU m c (ix2 t (j 0)) * zfF (aZ m c) (ix2 t (j 1))
  generalize hd : j 0 = d
  generalize hk : j 1 = k
  have hp : ∀ p, partF m c p j = ∑ r : Fin 1024, aU m c (ix2 (at' p r) d) * zfF (aZ m c) (ix2 (at' p r) k) := fun p => by subst hd hk; rfl
  simp only [hp]
  refine Fin.sum_mul_add_congr fun s r hl => ?_
  have ht : t.val < 8 := lt_of_lt_of_eq t.isLt N_0
  have ea : at' ⟨8 * (t.val / 8) + s.val, h s⟩ r = ⟨s.val * 1024 + r.val, hl⟩ := Fin.ext (by show (8 * (t.val / 8) + s.val) * 1024 + r.val = s.val * 1024 + r.val; omega)
  rw [ea]

/-- The accumulators after the last point. -/
theorem accM (t : Fin cfg0.N) (ht : t.val % 8 = 7) (j : S1024x4096.Idx) : (show FVec Ideal S1024x4096 .f32 from (outsAt0 m c t.val t.isLt).2.2.1) j = outM m c j := by
  show (outsAt0 m c t.val t.isLt).2.2.1 j = _
  rw [Pipeline.eq_sum_fin_of_reset_step_apply_of_flush (fun n h => (outsAt0 m c n h).2.2.1) 8 (fun _ => 0) (fun p j => partM m c p j)
    (fun t h j => by
      rw [outsAt0_A m c t h (by omega)]; frame_out; rw [stepM]; exact congrArg (· + partM m c t j) (pay1_at j))
    (fun t h j => by
      by_cases h7 : t.val % 8 = 7
      · rw [outsAt0_C m c t h h7]; frame_out; rw [stepM, read_unread_whole]
      · rw [outsAt0_B m c t h h7]; frame_out; rw [stepM, read_unread_whole])
    t ht _, zero_add]
  exact wholeM m c t j
theorem accF (t : Fin cfg0.N) (ht : t.val % 8 = 7) (j : S1024x128.Idx) : (show FVec Ideal S1024x128 .f32 from (outsAt0 m c t.val t.isLt).2.2.2) j = outF m c j := by
  show (outsAt0 m c t.val t.isLt).2.2.2 j = _
  rw [Pipeline.eq_sum_fin_of_reset_step_apply_of_flush (fun n h => (outsAt0 m c n h).2.2.2) 8 (fun _ => 0) (fun p j => partF m c p j)
    (fun t h j => by
      rw [outsAt0_A m c t h (by omega)]; frame_out; rw [stepF]; exact congrArg (· + partF m c t j) (pay2_at j))
    (fun t h j => by
      by_cases h7 : t.val % 8 = 7
      · rw [outsAt0_C m c t h h7]; frame_out; rw [stepF, read_unread_whole]
      · rw [outsAt0_B m c t h h7]; frame_out; rw [stepF, read_unread_whole])
    t ht _, zero_add]
  exact wholeF m c t j

theorem emb3 (t : Fin cfg0.N) (d : Fin 1024) (k : Fin 4096) : ((cfg0.win 3).blk t).view.emb (ix2 d k) = ix2 d k := by
  funext a
  refine Fin.ext ?_
  blk_simp [idx t]
  fin_cases a
  · show 0 * 1024 + d.val = d.val; omega
  · show 0 * 4096 + k.val = k.val; omega
theorem emb4 (t : Fin cfg0.N) (d : Fin 1024) (k : Fin 128) : ((cfg0.win 4).blk t).view.emb (ix2 d k) = ix2 d k := by
  funext a
  refine Fin.ext ?_
  blk_simp [idx t]
  fin_cases a
  · show 0 * 1024 + d.val = d.val; omega
  · show 0 * 128 + k.val = k.val; omega

theorem final3 : (dats m 0 c).arrAt 3 (cfgs 0).N = outM m c := by
  refine (dats m 0 c).arrAt_eq_of_covers 3 _ (by decide +kernel) fun t hf y => ?_
  have h7 := (flush0_3 t).mp hf
  have ha := accM m c t h7
  rw [outsAt0_C m c t (by omega) h7] at ha
  have he : ((cfg0.win 3).blk t).view.emb y = y := (congrArg _ (eq_ix2 (y : S1024x4096.Idx))).trans ((emb3 t _ _).trans (eq_ix2 (y : S1024x4096.Idx)).symm)
  refine Eq.trans ?_ (congrArg (outM m c) he).symm
  rw [after0_3, outsAt0_C m c t (by omega) h7]
  frame_out at ha
  frame_out
  exact ha y
theorem final4 : (dats m 0 c).arrAt 4 (cfgs 0).N = outF m c := by
  refine (dats m 0 c).arrAt_eq_of_covers 4 _ (by decide +kernel) fun t hf y => ?_
  have h7 := (flush0_4 t).mp hf
  have ha := accF m c t h7
  rw [outsAt0_C m c t (by omega) h7] at ha
  have he : ((cfg0.win 4).blk t).view.emb y = y := (congrArg _ (eq_ix2 (y : S1024x128.Idx))).trans ((emb4 t _ _).trans (eq_ix2 (y : S1024x128.Idx)).symm)
  refine Eq.trans ?_ (congrArg (outF m c) he).symm
  rw [after0_4, outsAt0_C m c t (by omega) h7]
  frame_out at ha
  frame_out
  exact ha y

end Cert.WeightsIdeal.Columns

end
-- ==== Proof.WeightsSuffix.lean ====
/-
  The host code after the launch: the gradient from the two arrays that the launch leaves.
-/
module

public import proofs.«01_k».proof.Proof.WeightsHost

@[expose] public section

set_option maxRecDepth 16384

noncomputable section

namespace Cert.WeightsIdeal.Columns

open Cert.WeightsIdeal Cert.WeightsIdeal.Gen
open Idealize.ShloMosaic Idealize.ShloMosaic.TcCoe

/-- The gradient from the two arrays the launch leaves. -/
def wE (x : FVec Ideal S1024x4096 .bf16) (y : FVec Ideal S1024x128 .bf16) : FVec Ideal S1024x4104 .f32 :=
  extf .f32 (concatenate S1024x4104 1 [⟨S1024x2048, extractStridedSlice S1024x2048 ![0, 0] x slices_S1024x4096_S1024x2048_0_0⟩,
    ⟨S1024x8, extractStridedSlice S1024x8 ![0, 0] y slices_S1024x128_S1024x8_0_0⟩,
    ⟨S1024x2048, extractStridedSlice S1024x2048 ![0, 2048] x slices_S1024x4096_S1024x2048_0_2048⟩] concatenates_S1024x2048_S1024x8_S1024x2048_S1024x4104_d1) bitsLt_bf16_f32

set_option maxHeartbeats 1000000 in
theorem after_v12 (W : Valuation τ sig (Elt Ideal)) : StableHlo.after (List.flatten [hostOps1]) W (Proc.devRef .tc main_v12) = wE (W (Proc.devRef .tc main_v7_0)) (W (Proc.devRef .tc main_v7_1)) := by
  simp only [hostOps1, List.flatten_cons, List.flatten_nil, List.append_nil, List.cons_append, List.nil_append]
  after_results
  exact rfl

end Cert.WeightsIdeal.Columns

end
-- ==== Proof.WeightsEqual.lean ====
/-
  The projection weights' gradient: the kernel leaves what the reference leaves.
-/
module

public import proofs.«01_k».proof.Defs
public import proofs.«01_k».proof.Proof.Gen.WeightsReferenceIdeal.Run
public import proofs.«01_k».proof.Proof.Gen.WeightsReferenceIdeal.Read
public import proofs.«01_k».proof.Proof.WeightsVals
public import proofs.«01_k».proof.Proof.WeightsSuffix
public import Idealize.ShloMosaic.Lib.Quiescent

@[expose] public section

set_option maxRecDepth 16384

noncomputable section

namespace Cert.WeightsIdeal.Columns

open Cert.WeightsIdeal Cert.WeightsIdeal.Gen
open Idealize.ShloMosaic Idealize.ShloMosaic.TcCoe Idealize.SL.Sem
open scoped BigOperators

variable (m : (ℓ : Loc nD τ sig) → Buf (Elt Ideal) ℓ) (c : Dev nD)

theorem wE_at (d : Fin 1024) (k : Fin 4104) : wE (outM m c) (outF m c) (ix2 d k) = ∑ t : Fin 8192, aU m c (ix2 t d) * aZ m c (ix2 t k) := by
  pointwise [wE]
  by_cases e : k.val < 2048
  · rw [dif_pos e]
    refine Finset.sum_congr rfl fun t _ => congrArg (aU m c (ix2 t d) * ·) ?_
    exact (zmF_at _ t _).trans (dif_pos e)
  · rw [dif_neg e]
    by_cases e' : k.val - 2048 < 8
    · rw [dif_pos e']
      refine Finset.sum_congr rfl fun t _ => congrArg (aU m c (ix2 t d) * ·) ?_
      refine ((zfF_at _ t _).trans (dif_pos e')).trans (congrArg (fun x => aZ m c (ix2 t x)) (Fin.ext ?_))
      show 2048 + (k.val - 2048) = k.val; omega
    · rw [dif_neg e']
      refine Finset.sum_congr rfl fun t _ => congrArg (aU m c (ix2 t d) * ·) ?_
      refine ((zmF_at _ t _).trans (dif_neg (by show ¬ 2048 + (k.val - 2048 - 8) < 2048; omega))).trans (congrArg (fun x => aZ m c (ix2 t x)) (Fin.ext ?_))
      show 2048 + (k.val - 2048 - 8) + 8 = k.val; omega

theorem end_v12 : Pipeline.afterTail₀ cfgs (dats m) 0 (V0 m) [hostOps1] c main_v12 = wE (outM m c) (outF m c) := by
  refine (after_v12 _).trans (congrArg₂ wE ?_ ?_)
  · exact (Pipeline.withArrays_arr spec0 (by decide) c _ (fun w => (dats m 0 c).arrAt w cfg0.N) 3).trans (final3 m c)
  · exact (Pipeline.withArrays_arr spec0 (by decide) c _ (fun w => (dats m 0 c).arrAt w cfg0.N) 4).trans (final4 m c)

end Cert.WeightsIdeal.Columns

namespace Cert.Proof

open Idealize.ShloMosaic Idealize.ShloMosaic.TcCoe Idealize.SL.Sem
open scoped BigOperators

theorem frame_weights_reference : Cert.quiescent_WeightsReferenceIdeal (hWeightsReferenceIdeal := Cert.WeightsReferenceIdeal.Gen.facts) := fun m g _ =>
  (θ_run _ _ _).mono (fun r h => ⟨fun c => (h c).2, sem_eq_zero_of_no_sems (by decide) r.2⟩) (Cert.WeightsReferenceIdeal.Value.run (F := Ideal) m g)

section
variable (m : (ℓ : Loc Cert.WeightsIdeal.nD Cert.WeightsIdeal.τ Cert.WeightsIdeal.sig) → Buf (Elt Ideal) ℓ) (c : Dev Cert.WeightsIdeal.nD)
open Cert.WeightsIdeal.Columns

theorem weights_dw : Cert.WeightsReferenceIdeal.Read.val_main_v3 (F := Ideal) (aU m c) (aZ m c) = wE (outM m c) (outF m c) := by
  funext i
  rw [eq_ix2 i]
  refine Eq.trans ?_ (wE_at m c (i 0) (i 1)).symm
  rw [Cert.WeightsReferenceIdeal.Read.val_main_v3_apply, Cert.WeightsReferenceIdeal.Read.val_main_v2_apply]
  refine Finset.sum_congr rfl fun t _ => (mul_comm _ _).trans (congrArg₂ (fun a b : EReal => a * b) (congrArg (aU m c) ?_) (congrArg (aZ m c) ?_))
  · funext a; match a with | ⟨0, _⟩ => rfl | ⟨1, _⟩ => rfl
  · funext a; match a with | ⟨0, _⟩ => rfl | ⟨1, _⟩ => rfl
end

theorem equal_weights : Cert.algebraic_WeightsIdeal_WeightsReferenceIdeal (hWeightsIdeal := Cert.WeightsIdeal.Gen.facts) (hWeightsReferenceIdeal := Cert.WeightsReferenceIdeal.Gen.facts) := by
  intro m g m' g' _ hargs
  refine ⟨fun c => Cert.WeightsIdeal.Columns.wE (Cert.WeightsIdeal.Columns.outM m c) (Cert.WeightsIdeal.Columns.outF m c), ?_, ?_⟩
  · exact (θ_run Cert.WeightsIdeal.defs _ _).mono (fun r h c => ⟨((h.1 c).2 Cert.WeightsIdeal.main_v12 (by decide)).trans (Cert.WeightsIdeal.Columns.end_v12 m c), h.2 c⟩)
      (θ_run_and (Cert.WeightsIdeal.Gen.run_main (F := Ideal) m g) (Cert.WeightsIdeal.Gen.unchanged (F := Ideal) m g))
  · refine (θ_run Cert.WeightsReferenceIdeal.defs _ _).mono (fun r h c => ?_) (Cert.WeightsReferenceIdeal.Value.run (F := Ideal) m' g')
    obtain ⟨e0, e1⟩ := hargs c
    obtain ⟨h0, h1⟩ := h c
    refine ⟨h0.trans ((Cert.WeightsReferenceIdeal.Read.val_main_v3_eq _ _).trans ?_), h1⟩
    rw [e0, e1]; exact weights_dw m c

end Cert.Proof

end
-- ==== Proof.NormMath.lean ====
/-
  The derivative of a row divided by its root mean square, over the extended reals: the kernel's form is the reference's.
-/
module

public import Idealize.ShloMosaic.PureOps.Ideal.Laws
public import Mathlib.Data.EReal.Operations

@[expose] public section

noncomputable section

namespace Cert.RowNorm

open Idealize.ShloMosaic
open scoped BigOperators

theorem c_1024 : Ideal.ofBits .f32 0x44800000#32 = ((1024 : ℝ) : EReal) := by
  simp [Ideal.ofBits, Ideal.ieee, -EReal.coe_mul]; norm_num
theorem c_half : Ideal.ofBits .f32 0xBF000000#32 = ((-(1 / 2) : ℝ) : EReal) := by
  simp [Ideal.ofBits, Ideal.ieee, -EReal.coe_mul, -EReal.coe_neg]; norm_num
theorem c_zero : Ideal.ofBits .f32 0x00000000#32 = (0 : EReal) := by
  simp [Ideal.ofBits, Ideal.ieee]
/-- The number added to a mean of squares is positive. -/
theorem c_eps : ∃ e : ℝ, 0 < e ∧ Ideal.ofBits .f32 0x358637BD#32 = (e : EReal) := by
  refine ⟨_, ?_, by simp [Ideal.ofBits, Ideal.ieee, -EReal.coe_mul]; rfl⟩
  norm_num

/-- A row's mean of squares, more than zero. -/
def ms {n : ℕ} (x : Fin n → EReal) : EReal := Ideal.div (∑ i, x i * x i) ((1024 : ℝ) : EReal) + Ideal.ofBits .f32 0x358637BD#32

theorem sq_nonneg (x : EReal) : 0 ≤ x * x := by
  induction x using EReal.rec with
  | bot => simp
  | top => simp
  | coe r => rw [← EReal.coe_mul]; exact EReal.coe_nonneg.mpr (mul_self_nonneg r)

/-- A real number times a sum. -/
theorem sum_mul_pos {n : ℕ} (f : Fin n → EReal) {r : ℝ} (hr : 0 ≤ r) : ∑ i, f i * (r : EReal) = (∑ i, f i) * (r : EReal) := by
  classical
  induction (Finset.univ : Finset (Fin n)) using Finset.induction_on with
  | empty => simp
  | insert a s ha ih =>
    rw [Finset.sum_insert ha, Finset.sum_insert ha, ih, EReal.right_distrib_of_nonneg_of_ne_top (EReal.coe_nonneg.mpr hr) (EReal.coe_ne_top r)]

/-- It is infinite, or a positive real number. -/
theorem ms_cases {n : ℕ} (x : Fin n → EReal) : ms x = ⊤ ∨ ∃ μ : ℝ, 0 < μ ∧ ms x = (μ : EReal) := by
  obtain ⟨e, he, hE⟩ := c_eps
  have h : 0 ≤ ∑ i, x i * x i := Finset.sum_nonneg fun i _ => sq_nonneg (x i)
  unfold ms
  rw [hE, Ideal.div_coe (by norm_num)]
  generalize (∑ i, x i * x i) = S at h
  induction S using EReal.rec with
  | bot => exact absurd h (by simp)
  | top =>
    left
    rw [EReal.top_mul_coe_of_pos (by norm_num), EReal.top_add_coe]
  | coe s =>
    right
    have hs : 0 ≤ s := EReal.coe_nonneg.mp h
    refine ⟨s * (1 / 1024) + e, by positivity, ?_⟩
    rw [← EReal.coe_mul, ← EReal.coe_add]

theorem twice (P : EReal) {κ : ℝ} (hκ : 0 ≤ κ) : P * ((-κ : ℝ) : EReal) + P * ((-κ : ℝ) : EReal) = -(P * ((2 * κ : ℝ) : EReal)) := by
  have h : P * ((-κ : ℝ) : EReal) = -(P * (κ : EReal)) := by rw [EReal.coe_neg, mul_neg]
  rw [h]
  have h2 : P * ((2 * κ : ℝ) : EReal) = P * (κ : EReal) + P * (κ : EReal) := by
    rw [show (2 * κ : ℝ) = κ + κ by ring, EReal.coe_add]
    exact EReal.left_distrib_of_nonneg (EReal.coe_nonneg.mpr hκ) (EReal.coe_nonneg.mpr hκ)
  rw [h2]
  generalize P * (κ : EReal) = Q
  induction Q using EReal.rec with
  | bot => simp
  | top => simp
  | coe q => rw [← EReal.coe_neg, ← EReal.coe_add, ← EReal.coe_add, ← EReal.coe_neg]; congr 1; ring

/-- The kernel's gradient of a row's entry, and the reference's. -/
def kGrad {n : ℕ} (x a : Fin n → EReal) (y : EReal) (j : Fin n) : EReal :=
  y + Ideal.rsqrt (ms x) * (a j - x j * Ideal.rsqrt (ms x) * Ideal.div (∑ i, a i * (x i * Ideal.rsqrt (ms x))) ((1024 : ℝ) : EReal))
def rCoef {n : ℕ} (x a : Fin n → EReal) : EReal :=
  Ideal.div ((∑ i, x i * a i) * (((-(1 / 2) : ℝ) : EReal) * Ideal.div (Ideal.rsqrt (ms x)) (ms x))) ((1024 : ℝ) : EReal)
def rGrad {n : ℕ} (x a : Fin n → EReal) (y : EReal) (j : Fin n) : EReal :=
  y + a j * Ideal.rsqrt (ms x) + x j * rCoef x a + rCoef x a * x j

theorem grad_eq {n : ℕ} (x a : Fin n → EReal) (y : EReal) (j : Fin n) : kGrad x a y j = rGrad x a y j := by
  unfold kGrad rGrad rCoef
  rcases ms_cases x with h | ⟨μ, hμ, h⟩
  · rw [h]
    simp [Ideal.div]
  · rw [h, Ideal.rsqrt_coe, if_neg hμ.not_gt, if_neg hμ.ne']
    have hρ : 0 < (Real.sqrt μ)⁻¹ := inv_pos.mpr (Real.sqrt_pos.mpr hμ)
    have hsq : (Real.sqrt μ)⁻¹ * (Real.sqrt μ)⁻¹ = 1 / μ := by rw [← mul_inv, Real.mul_self_sqrt hμ.le, one_div]
    generalize (Real.sqrt μ)⁻¹ = ρ at hρ hsq
    have hS : ∑ i, a i * (x i * (ρ : EReal)) = (∑ i, x i * a i) * (ρ : EReal) := by
      rw [← sum_mul_pos _ hρ.le]
      exact Finset.sum_congr rfl fun i _ => by rw [← mul_assoc, mul_comm (a i)]
    rw [hS]
    generalize (∑ i, x i * a i) = S
    generalize a j = b
    generalize x j = z
    have h1024 : (1024 : ℝ) ≠ 0 := by norm_num
    simp only [Ideal.div_coe h1024, Ideal.div_coe hμ.ne']
    rw [sub_eq_add_neg, EReal.left_distrib_of_nonneg_of_ne_top (EReal.coe_nonneg.mpr hρ.le) (EReal.coe_ne_top ρ)]
    have e1 : (ρ : EReal) * -(z * (ρ : EReal) * (S * (ρ : EReal) * ((1 / 1024 : ℝ) : EReal)))
        = -(z * S * ((2 * (1 / 2 * (ρ * (1 / μ)) * (1 / 1024)) : ℝ) : EReal)) := by
      rw [mul_neg]
      congr 1
      have : ((2 * (1 / 2 * (ρ * (1 / μ)) * (1 / 1024)) : ℝ) : EReal) = (ρ : EReal) * (ρ : EReal) * (ρ : EReal) * ((1 / 1024 : ℝ) : EReal) := by
        rw [← EReal.coe_mul, ← EReal.coe_mul, ← EReal.coe_mul, ← hsq]
        congr 1; ring
      rw [this]
      ac_rfl
    have e2 : z * (S * (((-(1 / 2) : ℝ) : EReal) * ((ρ : EReal) * ((1 / μ : ℝ) : EReal))) * ((1 / 1024 : ℝ) : EReal))
        = z * S * ((-(1 / 2 * (ρ * (1 / μ)) * (1 / 1024)) : ℝ) : EReal) := by
      have : ((-(1 / 2 * (ρ * (1 / μ)) * (1 / 1024)) : ℝ) : EReal) = ((-(1 / 2) : ℝ) : EReal) * ((ρ : EReal) * ((1 / μ : ℝ) : EReal)) * ((1 / 1024 : ℝ) : EReal) := by
        rw [← EReal.coe_mul, ← EReal.coe_mul, ← EReal.coe_mul]
        congr 1; ring
      rw [this]
      ac_rfl
    rw [e1, mul_comm _ z, e2, ← twice (z * S) (by positivity)]
    ac_rfl

end Cert.RowNorm

end
-- ==== Proof.NormOps.lean ====
/-
  What one grid point of the normalisation's derivative computes, entry by entry.
-/
module

public import proofs.«01_k».proof.Proof.Gen.NormIdeal.Skeleton
public import proofs.«01_k».proof.Proof.NormMath
public import Idealize.ShloMosaic.Lib.Pointwise
public import Idealize.ShloMosaic.Lib.IdealHost

@[expose] public section

set_option maxRecDepth 16384

noncomputable section

namespace Cert.NormIdeal.RowNorm

open Cert.NormIdeal Cert.NormIdeal.Gen
open Idealize.ShloMosaic Idealize.ShloMosaic.TcCoe
open Cert.RowNorm
open scoped BigOperators

theorem pay4_at (zm : Vec Ideal S256x4096 .bf16) (wm : Vec Ideal S1024x4096 .bf16) (zf : Vec Ideal S256x128 .bf16) (wf : Vec Ideal S1024x128 .bf16) (r : Fin 256) (d : Fin 1024) :
    k0_pay4 (F := Ideal) zm wm zf wf (ix2 r d) = (∑ k : Fin 4096, (show FVec Ideal S256x4096 .bf16 from zm) (ix2 r k) * (show FVec Ideal S1024x4096 .bf16 from wm) (ix2 d k)) + ∑ k : Fin 128, (show FVec Ideal S256x128 .bf16 from zf) (ix2 r k) * (show FVec Ideal S1024x128 .bf16 from wf) (ix2 d k) := by
  pointwise [k0_pay4]

theorem pay5_at (h : Vec Ideal S256x1024 .f32) (r : Fin 256) :
    k0_pay5 (F := Ideal) h (ix2 r 0) = Ideal.rsqrt (ms fun d : Fin 1024 => (show FVec Ideal S256x1024 .f32 from h) (ix2 r d)) := by
  unfold ms
  rw [← c_1024]
  pointwise [k0_pay5]

theorem pay6_at (h : Vec Ideal S256x1024 .f32) (r : Fin 256) (d : Fin 1024) :
    k0_pay6 (F := Ideal) h (ix2 r d) = (show FVec Ideal S256x1024 .f32 from h) (ix2 r d) * k0_pay5 (F := Ideal) h (ix2 r 0) := by
  pointwise [k0_pay6]

theorem pay7_at (zm : Vec Ideal S256x4096 .bf16) (wm : Vec Ideal S1024x4096 .bf16) (zf : Vec Ideal S256x128 .bf16) (wf : Vec Ideal S1024x128 .bf16) (g : Vec Ideal S1x1024 .f32) (r : Fin 256) (d : Fin 1024) :
    k0_pay7 (F := Ideal) zm wm zf wf g (ix2 r d) = k0_pay4 (F := Ideal) zm wm zf wf (ix2 r d) * (show FVec Ideal S1x1024 .f32 from g) (ix2 0 d) := by
  pointwise [k0_pay7]

theorem pay8_at (zm : Vec Ideal S256x4096 .bf16) (wm : Vec Ideal S1024x4096 .bf16) (zf : Vec Ideal S256x128 .bf16) (wf : Vec Ideal S1024x128 .bf16) (h : Vec Ideal S256x1024 .f32) (g : Vec Ideal S1x1024 .f32) (r : Fin 256) :
    k0_pay8 (F := Ideal) zm wm zf wf h g (ix2 r 0) = Ideal.div (∑ d : Fin 1024, k0_pay7 (F := Ideal) zm wm zf wf g (ix2 r d) * k0_pay6 (F := Ideal) h (ix2 r d)) ((1024 : ℝ) : EReal) := by
  rw [← c_1024]
  pointwise [k0_pay8]

theorem pay1_at (s : FVec Ideal S256x1 .f32) (xh a : FVec Ideal S256x1024 .f32) (y : Vec Ideal S256x1024 .f32) (e : FVec Ideal S256x1 .f32) (r : Fin 256) (d : Fin 1024) :
    k0_pay1 (F := Ideal) s xh a y e (ix2 r d) = (show FVec Ideal S256x1024 .f32 from y) (ix2 r d) + s (ix2 r 0) * (a (ix2 r d) - xh (ix2 r d) * e (ix2 r 0)) := by
  pointwise [k0_pay1]

theorem pay2_at (du xh : FVec Ideal S256x1024 .f32) (acc : Vec Ideal S1x1024 .f32) (d : Fin 1024) :
    k0_pay2 (F := Ideal) du xh acc (ix2 0 d) = (show FVec Ideal S1x1024 .f32 from acc) (ix2 0 d) + ∑ r : Fin 256, du (ix2 r d) * xh (ix2 r d) := by
  pointwise [k0_pay2]

theorem pay3_at (j : S1x1024.Idx) : k0_pay3 (F := Ideal) j = (0 : EReal) := by pointwise [k0_pay3]

end Cert.NormIdeal.RowNorm

end
-- ==== Proof.NormHost.lean ====
/-
  The operands of the normalisation's derivative: the projection's columns and the gate's columns, apart.
-/
module

public import proofs.«01_k».proof.Proof.Gen.NormIdeal.Frame
public import Idealize.ShloMosaic.Lib.Pointwise
public import Idealize.ShloMosaic.Lib.IdealHost

@[expose] public section

set_option maxRecDepth 16384

noncomputable section

namespace Cert.NormIdeal.RowNorm

open Cert.NormIdeal Cert.NormIdeal.Gen
open Idealize.ShloMosaic Idealize.ShloMosaic.TcCoe
open scoped BigOperators

abbrev AH := FVec Ideal S8192x1024 .f32
abbrev AG := FVec Ideal S1024 .f32
abbrev AW := FVec Ideal S1024x4104 .f32
abbrev AZ := FVec Ideal S8192x4104 .f32

def zmF (z : AZ) : FVec Ideal S8192x4096 .bf16 :=
  concatenate S8192x4096 1 [⟨S8192x2048, extractStridedSlice S8192x2048 ![0, 0] (truncf .bf16 z bitsLt_bf16_f32) slices_S8192x4104_S8192x2048_0_0⟩, ⟨S8192x2048, extractStridedSlice S8192x2048 ![0, 2056] (truncf .bf16 z bitsLt_bf16_f32) slices_S8192x4104_S8192x2048_0_2056⟩] concatenates_S8192x2048_S8192x2048_S8192x4096_d1
def zfF (z : AZ) : FVec Ideal S8192x128 .bf16 :=
  pad S8192x128 ![0, 0] ![0, 120] ![0, 0] (extractStridedSlice S8192x8 ![0, 2048] (truncf .bf16 z bitsLt_bf16_f32) slices_S8192x4104_S8192x8_0_2048) (sitofp .bf16 (constantI S_ 32 0#32)) pads_S8192x8_S8192x128_000_01200 h_S_
def wmF (w : AW) : FVec Ideal S1024x4096 .bf16 :=
  concatenate S1024x4096 1 [⟨S1024x2048, extractStridedSlice S1024x2048 ![0, 0] (truncf .bf16 w bitsLt_bf16_f32) slices_S1024x4104_S1024x2048_0_0⟩, ⟨S1024x2048, extractStridedSlice S1024x2048 ![0, 2056] (truncf .bf16 w bitsLt_bf16_f32) slices_S1024x4104_S1024x2048_0_2056⟩] concatenates_S1024x2048_S1024x2048_S1024x4096_d1
def wfF (w : AW) : FVec Ideal S1024x128 .bf16 :=
  pad S1024x128 ![0, 0] ![0, 120] ![0, 0] (extractStridedSlice S1024x8 ![0, 2048] (truncf .bf16 w bitsLt_bf16_f32) slices_S1024x4104_S1024x8_0_2048) (sitofp .bf16 (constantI S_ 32 0#32)) pads_S1024x8_S1024x128_000_01200 h_S_

theorem zmF_at (z : AZ) (t : Fin 8192) (k : Fin 4096) : zmF z (ix2 t k) = if h : k.val < 2048 then z (ix2 t ⟨k.val, by omega⟩) else z (ix2 t ⟨k.val + 8, by omega⟩) := by
  pointwise [zmF]
  by_cases e : k.val < 2048
  · rw [dif_pos e, dif_pos e]
  · rw [dif_neg e, dif_neg e]
    congr 2; exact Fin.ext (by show 2056 + (k.val - 2048) = k.val + 8; omega)
theorem wmF_at (w : AW) (d : Fin 1024) (k : Fin 4096) : wmF w (ix2 d k) = if h : k.val < 2048 then w (ix2 d ⟨k.val, by omega⟩) else w (ix2 d ⟨k.val + 8, by omega⟩) := by
  pointwise [wmF]
  by_cases e : k.val < 2048
  · rw [dif_pos e, dif_pos e]
  · rw [dif_neg e, dif_neg e]
    congr 2; exact Fin.ext (by show 2056 + (k.val - 2048) = k.val + 8; omega)
theorem zeroFill : FloatOps.sitofp (F := Ideal) (w := 32) FTy.bf16 0#32 = (0 : EReal) := by
  show ((((0#32 : BitVec 32).toInt : ℤ) : ℝ) : EReal) = 0
  simp
theorem zfF_at (z : AZ) (t : Fin 8192) (k : Fin 128) : zfF z (ix2 t k) = if h : k.val < 8 then z (ix2 t ⟨2048 + k.val, by omega⟩) else 0 := by
  pointwise [zfF]
  rw [zeroFill]
theorem wfF_at (w : AW) (d : Fin 1024) (k : Fin 128) : wfF w (ix2 d k) = if h : k.val < 8 then w (ix2 d ⟨2048 + k.val, by omega⟩) else 0 := by
  pointwise [wfF]
  rw [zeroFill]

/-- A contraction over all the columns is one over the projection's and one over the gate's. -/
theorem cols_sum (f : Fin 4104 → EReal) : (∑ k : Fin 4096, if h : k.val < 2048 then f ⟨k.val, by omega⟩ else f ⟨k.val + 8, by omega⟩) + (∑ k : Fin 128, if h : k.val < 8 then f ⟨2048 + k.val, by omega⟩ else 0) = ∑ k, f k := by
  have e1 : (∑ k : Fin 4096, if h : k.val < 2048 then f ⟨k.val, by omega⟩ else f ⟨k.val + 8, by omega⟩) = (∑ k : Fin 2048, f ⟨k.val, by omega⟩) + ∑ k : Fin 2048, f ⟨2056 + k.val, by omega⟩ := by
    refine (Fin.sum_univ_add (a := 2048) (b := 2048) (fun k : Fin 4096 => if h : k.val < 2048 then f ⟨k.val, by omega⟩ else f ⟨k.val + 8, by omega⟩)).trans ?_
    refine congrArg₂ (· + ·) (Finset.sum_congr rfl fun k _ => ?_) (Finset.sum_congr rfl fun k _ => ?_)
    · exact dif_pos (show k.val < 2048 from k.isLt)
    · refine (dif_neg (show ¬ 2048 + k.val < 2048 by omega)).trans (congrArg f (Fin.ext ?_))
      show 2048 + k.val + 8 = 2056 + k.val; omega
  have e2 : (∑ k : Fin 128, if h : k.val < 8 then f ⟨2048 + k.val, by omega⟩ else 0) = ∑ k : Fin 8, f ⟨2048 + k.val, by omega⟩ := by
    refine (Fin.sum_univ_add (a := 8) (b := 120) (fun k : Fin 128 => if h : k.val < 8 then f ⟨2048 + k.val, by omega⟩ else 0)).trans ?_
    refine (congrArg₂ (· + ·) (Finset.sum_congr rfl fun k _ => ?_) (Finset.sum_eq_zero fun k _ => ?_)).trans (add_zero _)
    · exact dif_pos (show k.val < 8 from k.isLt)
    · exact dif_neg (show ¬ 8 + k.val < 8 by omega)
  have e3 : ∑ k, f k = (∑ k : Fin 2048, f ⟨k.val, by omega⟩) + ((∑ k : Fin 8, f ⟨2048 + k.val, by omega⟩) + ∑ k : Fin 2048, f ⟨2056 + k.val, by omega⟩) := by
    refine (Fin.sum_univ_add (a := 2048) (b := 2056) f).trans (congrArg₂ (· + ·) rfl ?_)
    refine (Fin.sum_univ_add (a := 8) (b := 2048) _).trans (congrArg₂ (· + ·) rfl (Finset.sum_congr rfl fun k _ => congrArg f (Fin.ext ?_)))
    show 2048 + (8 + k.val) = 2056 + k.val; omega
  rw [e1, e2, e3, add_assoc, add_comm (∑ k : Fin 2048, f ⟨2056 + k.val, by omega⟩)]

/-- The gradient of the normalised, scaled row. -/
def du (w : AW) (z : AZ) (t : Fin 8192) (d : Fin 1024) : EReal := ∑ k : Fin 4104, z (ix2 t k) * w (ix2 d k)

theorem du_eq (w : AW) (z : AZ) (t : Fin 8192) (d : Fin 1024) :
    (∑ k : Fin 4096, zmF z (ix2 t k) * wmF w (ix2 d k)) + (∑ k : Fin 128, zfF z (ix2 t k) * wfF w (ix2 d k)) = du w z t d := by
  unfold du
  rw [← cols_sum fun k => z (ix2 t k) * w (ix2 d k)]
  refine congrArg₂ (· + ·) (Finset.sum_congr rfl fun k _ => ?_) (Finset.sum_congr rfl fun k _ => ?_)
  · rw [zmF_at, wmF_at]
    by_cases e : k.val < 2048
    · rw [dif_pos e, dif_pos e, dif_pos e]
    · rw [dif_neg e, dif_neg e, dif_neg e]
  · rw [zfF_at, wfF_at]
    by_cases e : k.val < 8
    · rw [dif_pos e, dif_pos e, dif_pos e]
    · rw [dif_neg e, dif_neg e, dif_neg e, zero_mul]

variable (m : (ℓ : Loc nD τ sig) → Buf (Elt Ideal) ℓ) (c : Dev nD)

set_option maxHeartbeats 1000000 in
theorem read_v3 : V m c main_v3 = zmF (m ((c.tc : Thread nD τ).loc main_arg4)) := by
  simp only [V, hostOps0, hostOps0_1, hostOps0_2, hostOps0_3, hostOps0_4, List.flatten_cons, List.flatten_nil, List.append_nil, List.cons_append, List.nil_append]
  entry_read
  (try simp only [StableHlo.TRef.ofBuf_toBuf])
  exact rfl
set_option maxHeartbeats 1000000 in
theorem read_v5 : V m c main_v5 = zfF (m ((c.tc : Thread nD τ).loc main_arg4)) := by
  simp only [V, hostOps0, hostOps0_1, hostOps0_2, hostOps0_3, hostOps0_4, List.flatten_cons, List.flatten_nil, List.append_nil, List.cons_append, List.nil_append]
  entry_read
  (try simp only [StableHlo.TRef.ofBuf_toBuf])
  exact rfl
set_option maxHeartbeats 1000000 in
theorem read_v9 : V m c main_v9 = wmF (m ((c.tc : Thread nD τ).loc main_arg2)) := by
  simp only [V, hostOps0, hostOps0_1, hostOps0_2, hostOps0_3, hostOps0_4, List.flatten_cons, List.flatten_nil, List.append_nil, List.cons_append, List.nil_append]
  entry_read
  (try simp only [StableHlo.TRef.ofBuf_toBuf])
  exact rfl
set_option maxHeartbeats 1000000 in
theorem read_v11 : V m c main_v11 = wfF (m ((c.tc : Thread nD τ).loc main_arg2)) := by
  simp only [V, hostOps0, hostOps0_1, hostOps0_2, hostOps0_3, hostOps0_4, List.flatten_cons, List.flatten_nil, List.append_nil, List.cons_append, List.nil_append]
  entry_read
  (try simp only [StableHlo.TRef.ofBuf_toBuf])
  exact rfl
set_option maxHeartbeats 1000000 in
theorem read_v12 (d : Fin 1024) : (show FVec Ideal S1x1024 .f32 from V m c main_v12) (ix2 0 d) = (show AG from m ((c.tc : Thread nD τ).loc main_arg1)) (ix1 d) := by
  have e : V m c main_v12 = shapeCast S1x1024 (show AG from m ((c.tc : Thread nD τ).loc main_arg1)) shapeCasts_S1024_S1x1024 := by
    simp only [V, hostOps0, hostOps0_1, hostOps0_2, hostOps0_3, hostOps0_4, List.flatten_cons, List.flatten_nil, List.append_nil, List.cons_append, List.nil_append]
    entry_read
    (try simp only [StableHlo.TRef.ofBuf_toBuf])
    exact rfl
  rw [e]
  pointwise

end Cert.NormIdeal.RowNorm

end
-- ==== Proof.NormVals.lean ====
/-
  What the normalisation's derivative leaves in its two results.
-/
module

public import proofs.«01_k».proof.Proof.NormOps
public import proofs.«01_k».proof.Proof.NormHost
public import Idealize.ShloMosaic.Lib.Pipeline.ValueKit

@[expose] public section

set_option maxRecDepth 16384

noncomputable section

namespace Cert.NormIdeal.RowNorm

open Cert.NormIdeal Cert.NormIdeal.Gen
open Idealize.ShloMosaic Idealize.ShloMosaic.TcCoe
open Cert.RowNorm
open scoped BigOperators

variable (m : (ℓ : Loc nD τ sig) → Buf (Elt Ideal) ℓ) (c : Dev nD)

abbrev aH : AH := m ((c.tc : Thread nD τ).loc main_arg0)
abbrev aG : AG := m ((c.tc : Thread nD τ).loc main_arg1)
abbrev aW : AW := m ((c.tc : Thread nD τ).loc main_arg2)
abbrev aY : AH := m ((c.tc : Thread nD τ).loc main_arg3)
abbrev aZ : AZ := m ((c.tc : Thread nD τ).loc main_arg4)

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![0, 0] ∧ win0_7.index t = ![t.val, 0] ∧ win0_8.index t = ![0, 0] :=
  (by decide +kernel : ∀ t : Fin grid0.N, _)

/-- The row of the sequence that a block's row is. -/
def at' (t : Fin cfg0.N) (r : Fin 256) : Fin 8192 := ⟨t.val * 256 + r.val, by have := lt_of_lt_of_eq t.isLt N_0; omega⟩

theorem blk0 (t : Fin cfg0.N) (r : Fin 256) (k : Fin 4096) : (show FVec Ideal S256x4096 .bf16 from iblk m c 0 t) (ix2 r k) = zmF (aZ m c) (ix2 (at' t r) k) := by
  rw [← read_v3 m c]; unfold at'; blk_point [iblk, idx t]
theorem blk1 (t : Fin cfg0.N) (r : Fin 256) (k : Fin 128) : (show FVec Ideal S256x128 .bf16 from iblk m c 1 t) (ix2 r k) = zfF (aZ m c) (ix2 (at' t r) k) := by
  rw [← read_v5 m c]; unfold at'; blk_point [iblk, idx t]
theorem blk2 (t : Fin cfg0.N) (d : Fin 1024) (k : Fin 4096) : (show FVec Ideal S1024x4096 .bf16 from iblk m c 2 t) (ix2 d k) = wmF (aW m c) (ix2 d k) := by
  rw [← read_v9 m c]; blk_point [iblk, idx t]
theorem blk3 (t : Fin cfg0.N) (d : Fin 1024) (k : Fin 128) : (show FVec Ideal S1024x128 .bf16 from iblk m c 3 t) (ix2 d k) = wfF (aW m c) (ix2 d k) := by
  rw [← read_v11 m c]; blk_point [iblk, idx t]
theorem blk4 (t : Fin cfg0.N) (r : Fin 256) (d : Fin 1024) : (show FVec Ideal S256x1024 .f32 from iblk m c 4 t) (ix2 r d) = aH m c (ix2 (at' t r) d) := by
  unfold aH at'; rw [← V_main_arg0 m c]; blk_point [iblk, idx t]
theorem blk5 (t : Fin cfg0.N) (r : Fin 256) (d : Fin 1024) : (show FVec Ideal S256x1024 .f32 from iblk m c 5 t) (ix2 r d) = aY m c (ix2 (at' t r) d) := by
  unfold aY at'; rw [← V_main_arg3 m c]; blk_point [iblk, idx t]
theorem blk6 (t : Fin cfg0.N) (d : Fin 1024) : (show FVec Ideal S1x1024 .f32 from iblk m c 6 t) (ix2 0 d) = aG m c (ix1 d) := by
  refine Eq.trans ?_ (read_v12 m c d); blk_point [iblk, idx t]

/-- A row, and the gradient of the normalised row. -/
def row (t : Fin 8192) (d : Fin 1024) : EReal := aH m c (ix2 t d)
def da (t : Fin 8192) (d : Fin 1024) : EReal := du (aW m c) (aZ m c) t d * aG m c (ix1 d)

/-- What is computed at a point: the row's gradient, its reciprocal root mean square, and so on. -/
theorem p4 (t : Fin cfg0.N) (r : Fin 256) (d : Fin 1024) : k0_pay4 (F := Ideal) (iblk m c 0 t) (iblk m c 2 t) (iblk m c 1 t) (iblk m c 3 t) (ix2 r d) = du (aW m c) (aZ m c) (at' t r) d := by
  refine (pay4_at _ _ _ _ r d).trans ((congrArg₂ (· + ·) (Finset.sum_congr rfl fun k _ => ?_) (Finset.sum_congr rfl fun k _ => ?_)).trans (du_eq (aW m c) (aZ m c) (at' t r) d))
  · exact congrArg₂ (fun a b : EReal => a * b) (blk0 m c t r k) (blk2 m c t d k)
  · exact congrArg₂ (fun a b : EReal => a * b) (blk1 m c t r k) (blk3 m c t d k)
theorem p5 (t : Fin cfg0.N) (r : Fin 256) : k0_pay5 (F := Ideal) (iblk m c 4 t) (ix2 r 0) = Ideal.rsqrt (ms (row m c (at' t r))) :=
  (pay5_at _ r).trans (congrArg (fun x => Ideal.rsqrt (ms x)) (funext fun d => blk4 m c t r d))
theorem p6 (t : Fin cfg0.N) (r : Fin 256) (d : Fin 1024) : k0_pay6 (F := Ideal) (iblk m c 4 t) (ix2 r d) = row m c (at' t r) d * Ideal.rsqrt (ms (row m c (at' t r))) :=
  (pay6_at _ r d).trans (congrArg₂ (fun a b : EReal => a * b) (blk4 m c t r d) (p5 m c t r))
theorem p7 (t : Fin cfg0.N) (r : Fin 256) (d : Fin 1024) : k0_pay7 (F := Ideal) (iblk m c 0 t) (iblk m c 2 t) (iblk m c 1 t) (iblk m c 3 t) (iblk m c 6 t) (ix2 r d) = da m c (at' t r) d :=
  (pay7_at _ _ _ _ _ r d).trans (congrArg₂ (fun a b : EReal => a * b) (p4 m c t r d) (blk6 m c t d))
theorem p8 (t : Fin cfg0.N) (r : Fin 256) : k0_pay8 (F := Ideal) (iblk m c 0 t) (iblk m c 2 t) (iblk m c 1 t) (iblk m c 3 t) (iblk m c 4 t) (iblk m c 6 t) (ix2 r 0)
    = Ideal.div (∑ d : Fin 1024, da m c (at' t r) d * (row m c (at' t r) d * Ideal.rsqrt (ms (row m c (at' t r))))) ((1024 : ℝ) : EReal) :=
  (pay8_at _ _ _ _ _ _ r).trans (congrArg (fun x => Ideal.div x ((1024 : ℝ) : EReal)) (Finset.sum_congr rfl fun d _ => congrArg₂ (fun a b : EReal => a * b) (p7 m c t r d) (p6 m c t r d)))

/-- The gradient of the residual stream. -/
def outH : AH := fun i => kGrad (row m c (i 0)) (da m c (i 0)) (aY m c i) (i 1)
/-- A block's part of the gradient of the scale. -/
def part (t : Fin cfg0.N) (d : Fin 1024) : EReal := ∑ r : Fin 256, du (aW m c) (aZ m c) (at' t r) d * (row m c (at' t r) d * Ideal.rsqrt (ms (row m c (at' t r))))

theorem p1 (t : Fin cfg0.N) (r : Fin 256) (d : Fin 1024) :
    k0_pay1 (F := Ideal) (k0_pay5 (iblk m c 4 t)) (k0_pay6 (iblk m c 4 t)) (k0_pay7 (iblk m c 0 t) (iblk m c 2 t) (iblk m c 1 t) (iblk m c 3 t) (iblk m c 6 t)) (iblk m c 5 t)
      (k0_pay8 (iblk m c 0 t) (iblk m c 2 t) (iblk m c 1 t) (iblk m c 3 t) (iblk m c 4 t) (iblk m c 6 t)) (ix2 r d) = outH m c (ix2 (at' t r) d) := by
  refine (pay1_at _ _ _ _ _ r d).trans ?_
  rw [p5, p6, p7, p8]
  exact congrArg (· + _) (blk5 m c t r d)

theorem p2 (t : Fin cfg0.N) (acc : Vec Ideal S1x1024 .f32) (d : Fin 1024) :
    k0_pay2 (F := Ideal) (k0_pay4 (iblk m c 0 t) (iblk m c 2 t) (iblk m c 1 t) (iblk m c 3 t)) (k0_pay6 (iblk m c 4 t)) acc (ix2 0 d) = (show FVec Ideal S1x1024 .f32 from acc) (ix2 0 d) + part m c t d := by
  refine (pay2_at _ _ _ d).trans (congrArg (_ + ·) (Finset.sum_congr rfl fun r _ => ?_))
  exact congrArg₂ (fun a b : EReal => a * b) (p4 m c t r d) (p6 m c t r d)

theorem emb7 (t : Fin cfg0.N) (r : Fin 256) (d : Fin 1024) : ((cfg0.win 7).blk t).view.emb (ix2 r d) = ix2 (at' t r) d := by
  funext a
  refine Fin.ext ?_
  blk_simp [idx t]
  fin_cases a
  · rfl
  · show 0 * 1024 + d.val = d.val; omega
theorem emb8 (t : Fin cfg0.N) (d : Fin 1024) : ((cfg0.win 8).blk t).view.emb (ix2 (0 : Fin 1) d) = ix2 (0 : Fin 1) d := by
  funext a
  refine Fin.ext ?_
  blk_simp [idx t]
  fin_cases a
  · rfl
  · show 0 * 1024 + d.val = d.val; omega

theorem point7 (t : Fin cfg0.N) (y : S256x1024.Idx) :
    k0_pay1 (F := Ideal) (k0_pay5 (iblk m c 4 t)) (k0_pay6 (iblk m c 4 t)) (k0_pay7 (iblk m c 0 t) (iblk m c 2 t) (iblk m c 1 t) (iblk m c 3 t) (iblk m c 6 t)) (iblk m c 5 t)
      (k0_pay8 (iblk m c 0 t) (iblk m c 2 t) (iblk m c 1 t) (iblk m c 3 t) (iblk m c 4 t) (iblk m c 6 t)) y = outH m c (((cfg0.win 7).blk t).view.emb y) := by
  rw [eq_ix2 y]
  exact (p1 m c t (y 0) (y 1)).trans (congrArg (outH m c) (emb7 t (y 0) (y 1)).symm)

theorem final7 : (dats m 0 c).arrAt 7 (cfgs 0).N = outH m c := by
  refine (dats m 0 c).arrAt_eq_of_covers 7 _ (by decide +kernel) fun t _ y => ?_
  blk_simp
  rw [after0_7]
  by_cases h : t.val % 32 = 0
  · rw [outsAt0_A m c t h]
    frame_out
    exact point7 m c t y
  · rw [outsAt0_B m c t h]
    frame_out
    exact point7 m c t y

/-- The gradient of the scale. -/
def outG : FVec Ideal S1x1024 .f32 := fun i => ∑ t : Fin 8192, du (aW m c) (aZ m c) t (i 1) * (row m c t (i 1) * Ideal.rsqrt (ms (row m c t)))

theorem step8 (t : Fin cfg0.N) (acc : Vec Ideal S1x1024 .f32) (j : S1x1024.Idx) :
    k0_pay2 (F := Ideal) (k0_pay4 (iblk m c 0 t) (iblk m c 2 t) (iblk m c 1 t) (iblk m c 3 t)) (k0_pay6 (iblk m c 4 t)) acc j = (show FVec Ideal S1x1024 .f32 from acc) j + part m c t (j 1) := by
  have e : j = ix2 0 (j 1) := (eq_ix2 j).trans (congrArg (fun x => ix2 x (j 1)) (Subsingleton.elim (α := Fin 1) _ _))
  rw [e]
  exact p2 m c t acc (j 1)

theorem whole8 (t : Fin cfg0.N) {h : ∀ s : Fin 32, 32 * (t.val / 32) + s.val < cfg0.N} (y : S1x1024.Idx) :
    ∑ s : Fin 32, part m c ⟨32 * (t.val / 32) + s.val, h s⟩ (y 1) = outG m c (((cfg0.win 8).blk t).view.emb y) := by
  have e : y = ix2 0 (y 1) := (eq_ix2 y).trans (congrArg (fun x => ix2 x (y 1)) (Subsingleton.elim (α := Fin 1) _ _))
  have e2 : ((cfg0.win 8).blk t).view.emb y = ix2 (0 : Fin 1) (y 1) := (congrArg _ e).trans (emb8 t (y 1))
  rw [e2]
  show ∑ s : Fin 32, part m c ⟨32 * (t.val / 32) + s.val, h s⟩ (y 1) = ∑ t : Fin 8192, du (aW m c) (aZ m c) t (y 1) * (row m c t (y 1) * Ideal.rsqrt (ms (row m c t)))
  generalize y 1 = d
  refine Fin.sum_mul_add_congr fun s r hl => ?_
  have ht : t.val < 32 := lt_of_lt_of_eq t.isLt N_0
  have ea : at' ⟨32 * (t.val / 32) + s.val, h s⟩ r = ⟨s.val * 256 + r.val, hl⟩ := Fin.ext (by show (32 * (t.val / 32) + s.val) * 256 + r.val = s.val * 256 + r.val; omega)
  rw [ea]

theorem final8 : (dats m 0 c).arrAt 8 (cfgs 0).N = outG m c := by
  refine (dats m 0 c).arrAt_eq_of_covers 8 _ (by decide +kernel) fun t hf y => ?_
  blk_simp
  rw [after0_8, Pipeline.eq_sum_fin_of_reset_step_apply_of_flush (fun n h => (outsAt0 m c n h).2) 32 (fun _ => 0) (fun p j => part m c p (j 1))
    (fun t h j => by rw [outsAt0_A m c t h]; frame_out; rw [step8]; exact congrArg (· + part m c t (j 1)) (pay3_at j))
    (fun t h j => by rw [outsAt0_B m c t h]; frame_out; rw [step8])
    t ((flush0_8 t).mp hf) _, zero_add]
  exact whole8 m c t y

end Cert.NormIdeal.RowNorm

end
-- ==== Proof.NormRef.lean ====
/-
  The reference's derivative of the normalised projection, entry by entry.
-/
module

public import proofs.«01_k».proof.Proof.Gen.NormReferenceIdeal.Read
public import proofs.«01_k».proof.Proof.NormMath
public import Idealize.ShloMosaic.Lib.Pointwise
public import Idealize.ShloMosaic.Lib.IdealHost

@[expose] public section

set_option maxRecDepth 16384

noncomputable section

namespace Cert.NormReferenceIdeal.RowNorm

open Cert.NormReferenceIdeal Cert.NormReferenceIdeal.Read
open Idealize.ShloMosaic Idealize.ShloMosaic.TcCoe
open Cert.RowNorm
open scoped BigOperators

abbrev AH := FVec Ideal S8192x1024 .f32
abbrev AG := FVec Ideal S1024 .f32
abbrev AW := FVec Ideal S1024x4104 .f32
abbrev AZ := FVec Ideal S8192x4104 .f32

variable (h : AH) (g : AG) (w : AW) (y : AH) (z : AZ)

/-- The gradient of the normalised, scaled row. -/
def du (t : Fin 8192) (d : Fin 1024) : EReal := ∑ k : Fin 4104, z (ix2 t k) * w (ix2 d k)
/-- A row, and the gradient of the normalised row. -/
def row (t : Fin 8192) (d : Fin 1024) : EReal := h (ix2 t d)
def da (t : Fin 8192) (d : Fin 1024) : EReal := du w z t d * g (ix1 d)

theorem v1_at (t : Fin 8192) : val_main_v1 (F := Ideal) h (ix1 t) = ∑ d, row h t d * row h t d := by
  rw [val_main_v1_apply, val_main_cst_apply]
  refine (congrArg (· + _) c_zero).trans ((zero_add _).trans (Finset.sum_congr rfl fun d _ => ?_))
  have e : idx_main_v1 (ix1 t) d = ix2 t d := funext fun a => by match a with | ⟨0, _⟩ => rfl | ⟨1, _⟩ => rfl
  rw [e]; rfl

theorem v6_at (t : Fin 8192) : val_main_v6 (F := Ideal) h (ix2 t 0) = ms (row h t) := by
  rw [val_main_v6_apply, val_main_v4_apply, val_main_v2_apply, val_main_v3_apply, val_main_v5_apply, val_main_cst_0_apply, val_main_cst_1_apply]
  have e : idx_main_v2 (ix2 t 0) = ix1 t := funext fun a => by match a with | ⟨0, _⟩ => rfl
  rw [e, v1_at]
  unfold ms
  rw [← c_1024]; rfl

theorem v7_at (t : Fin 8192) : val_main_v7 (F := Ideal) h (ix2 t 0) = Ideal.rsqrt (ms (row h t)) := by
  rw [val_main_v7_apply, v6_at]; rfl

theorem v10_at (t : Fin 8192) : val_main_v10 (F := Ideal) h (ix2 t 0) = ((-(1 / 2) : ℝ) : EReal) * Ideal.div (Ideal.rsqrt (ms (row h t))) (ms (row h t)) := by
  rw [val_main_v10_apply, val_main_v8_apply, val_main_v9_apply, val_main_cst_2_apply, v6_at, v7_at, ← c_half]; rfl

theorem v17_at (t : Fin 8192) (d : Fin 1024) : val_main_v17 (F := Ideal) w z (ix2 t d) = du w z t d := by
  rw [val_main_v17_apply]
  unfold du
  refine Finset.sum_congr rfl fun k _ => ?_
  have e1 : lidx_main_v17 (ix2 t d) k = ix2 t k := funext fun a => by match a with | ⟨0, _⟩ => rfl | ⟨1, _⟩ => rfl
  have e2 : ridx_main_v17 (ix2 t d) k = ix2 d k := funext fun a => by match a with | ⟨0, _⟩ => rfl | ⟨1, _⟩ => rfl
  rw [e1, e2]

theorem v22_at (t : Fin 8192) (d : Fin 1024) : val_main_v22 (F := Ideal) g w z (ix2 t d) = da g w z t d := by
  rw [val_main_v22_apply, v17_at, val_main_v21_apply, val_main_v13_apply]
  have e : idx_main_v13 (idx_main_v21 (ix2 t d)) = ix1 d := funext fun a => by match a with | ⟨0, _⟩ => rfl
  rw [e]; rfl

theorem v26_at (t : Fin 8192) : val_main_v26 (F := Ideal) h g w z (ix2 t 0) = ∑ d, row h t d * da g w z t d := by
  rw [val_main_v26_apply, val_main_v25_apply, val_main_cst_5_apply]
  refine (congrArg (· + _) c_zero).trans ((zero_add _).trans (Finset.sum_congr rfl fun d _ => ?_))
  have e : idx_main_v25 (idx_main_v26 (ix2 t 0)) d = ix2 t d := funext fun a => by
    match a with
    | ⟨0, _⟩ => exact Fin.ext (by show t.val * 1 + 0 = t.val; omega)
    | ⟨1, _⟩ => rfl
  rw [e, val_main_v24_apply, v22_at]; rfl

theorem v32_at (t : Fin 8192) : val_main_v32 (F := Ideal) h g w z (ix2 t 0) = rCoef (row h t) (da g w z t) := by
  rw [val_main_v32_apply, val_main_v30_apply, val_main_v31_apply, val_main_cst_6_apply, v26_at, v10_at]
  unfold rCoef
  rw [← c_1024]; rfl

theorem v34_at (t : Fin 8192) (d : Fin 1024) : val_main_v34 (F := Ideal) h g w z (ix2 t d) = rCoef (row h t) (da g w z t) := by
  rw [val_main_v34_apply, val_main_v33_apply, val_main_cst_7_apply]
  refine (congrArg (· + _) c_zero).trans ((zero_add _).trans ?_)
  rw [Fin.sum_univ_one]
  have e : idx_main_v33 (idx_main_v34 (ix2 t d)) 0 = ix2 t 0 := funext fun a => by match a with | ⟨0, _⟩ => rfl | ⟨1, _⟩ => rfl
  rw [e, v32_at]

theorem v29_at (t : Fin 8192) (d : Fin 1024) : val_main_v29 (F := Ideal) h g w y z (ix2 t d) = y (ix2 t d) + da g w z t d * Ideal.rsqrt (ms (row h t)) := by
  rw [val_main_v29_apply, val_main_v28_apply, val_main_v27_apply, v22_at]
  have e : idx_main_v27 (ix2 t d) = ix2 t 0 := funext fun a => by match a with | ⟨0, _⟩ => rfl | ⟨1, _⟩ => rfl
  rw [e, v7_at]; rfl

/-- The gradient of the residual stream's entry. -/
theorem dh_at (t : Fin 8192) (d : Fin 1024) : val_main_v38 (F := Ideal) h g w y z (ix2 t d) = rGrad (row h t) (da g w z t) (y (ix2 t d)) d := by
  rw [val_main_v38_apply, val_main_v36_apply, val_main_v35_apply, val_main_v37_apply, v34_at, v29_at]; rfl

/-- The gradient of the scale's entry. -/
theorem dg_at (d : Fin 1024) : val_main_v39 (F := Ideal) h w z (ix2 0 d) = ∑ t : Fin 8192, row h t d * Ideal.rsqrt (ms (row h t)) * du w z t d := by
  rw [val_main_v39_apply, val_main_v23_apply, val_main_cst_4_apply]
  refine (congrArg (· + _) c_zero).trans ((zero_add _).trans ?_)
  rw [Fin.sum_univ_one, val_main_v20_apply, val_main_v19_apply, val_main_cst_3_apply]
  refine (congrArg (· + _) c_zero).trans ((zero_add _).trans (Finset.sum_congr rfl fun t _ => ?_))
  have e : idx_main_v19 (idx_main_v20 (idx_main_v23 (idx_main_v39 (ix2 0 d)) 0)) t = ix2 t d := funext fun a => by
    match a with
    | ⟨0, _⟩ => rfl
    | ⟨1, _⟩ => exact Fin.ext (by show _ = d.val; simp)
  rw [e, val_main_v18_apply, val_main_v12_apply, val_main_v11_apply, v17_at]
  have e2 : idx_main_v11 (ix2 t d) = ix2 t 0 := funext fun a => by match a with | ⟨0, _⟩ => rfl | ⟨1, _⟩ => rfl
  rw [e2, v7_at]; rfl

end Cert.NormReferenceIdeal.RowNorm

end
-- ==== Proof.NormEqual.lean ====
/-
  The derivative of the normalised projection: the kernel leaves what the reference leaves.
-/
module

public import proofs.«01_k».proof.Defs
public import proofs.«01_k».proof.Proof.Gen.NormIdeal.Value
public import proofs.«01_k».proof.Proof.NormVals
public import proofs.«01_k».proof.Proof.NormRef
public import Idealize.ShloMosaic.Lib.Quiescent

@[expose] public section

set_option maxRecDepth 16384

noncomputable section

namespace Cert.Proof

open Idealize.ShloMosaic Idealize.ShloMosaic.TcCoe Idealize.SL.Sem
open Cert.RowNorm
open scoped BigOperators

theorem frame_norm_reference : Cert.quiescent_NormReferenceIdeal (hNormReferenceIdeal := Cert.NormReferenceIdeal.Gen.facts) := fun m g _ =>
  (θ_run _ _ _).mono (fun r h => ⟨fun c => (h c).2.2, sem_eq_zero_of_no_sems (by decide) r.2⟩) (Cert.NormReferenceIdeal.Value.run (F := Ideal) m g)

section
variable (m : (ℓ : Loc Cert.NormIdeal.nD Cert.NormIdeal.τ Cert.NormIdeal.sig) → Buf (Elt Ideal) ℓ) (c : Dev Cert.NormIdeal.nD)
open Cert.NormIdeal.RowNorm

theorem norm_dh : Cert.NormReferenceIdeal.Read.val_main_v38 (F := Ideal) (aH m c) (aG m c) (aW m c) (aY m c) (aZ m c) = outH m c := by
  funext i
  rw [eq_ix2 i]
  exact (Cert.NormReferenceIdeal.RowNorm.dh_at (aH m c) (aG m c) (aW m c) (aY m c) (aZ m c) (i 0) (i 1)).trans (grad_eq (row m c (i 0)) (da m c (i 0)) (aY m c (ix2 (i 0) (i 1))) (i 1)).symm

theorem norm_dg : Cert.NormReferenceIdeal.Read.val_main_v39 (F := Ideal) (aH m c) (aW m c) (aZ m c) = outG m c := by
  funext i
  have e : i = ix2 0 (i 1) := (eq_ix2 i).trans (congrArg (fun x => ix2 x (i 1)) (Subsingleton.elim (α := Fin 1) _ _))
  rw [e]
  refine (Cert.NormReferenceIdeal.RowNorm.dg_at (aH m c) (aW m c) (aZ m c) (i 1)).trans ?_
  exact Finset.sum_congr rfl fun t _ => mul_comm _ _
end

theorem equal_norm : Cert.algebraic_NormIdeal_NormReferenceIdeal (hNormIdeal := Cert.NormIdeal.Gen.facts) (hNormReferenceIdeal := Cert.NormReferenceIdeal.Gen.facts) := by
  intro m g m' g' _ hargs
  refine ⟨fun c => Cert.NormIdeal.RowNorm.outH m c, fun c => Cert.NormIdeal.RowNorm.outG m c, ?_, ?_⟩
  · exact (θ_run Cert.NormIdeal.defs _ _).mono (fun r h c => ⟨(h c).1.trans (Cert.NormIdeal.RowNorm.final7 m c), (h c).2.1.trans (Cert.NormIdeal.RowNorm.final8 m c), (h c).2.2⟩)
      (Cert.NormIdeal.Value.run_blocks (F := Ideal) m g)
  · refine (θ_run Cert.NormReferenceIdeal.defs _ _).mono (fun r h c => ?_) (Cert.NormReferenceIdeal.Value.run (F := Ideal) m' g')
    obtain ⟨e0, e1, e2, e3, e4⟩ := hargs c
    obtain ⟨h0, h1, h2⟩ := h c
    refine ⟨h0.trans ((Cert.NormReferenceIdeal.Read.val_main_v38_eq m' c).trans ?_), h1.trans ((Cert.NormReferenceIdeal.Read.val_main_v39_eq _ _ _).trans ?_), h2⟩
    · rw [e0, e1, e2, e3, e4]; exact norm_dh m c
    · rw [e0, e2, e4]; exact norm_dg m c

end Cert.Proof

end
-- ==== Proof.SquareVals.lean ====
/-
  The gradient of a square projection's weights: what the kernel leaves in its result.
-/
module

public import proofs.«01_k».proof.Proof.Gen.SquareIdeal.Frame
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.SquareIdeal.Square

open Cert.SquareIdeal Cert.SquareIdeal.Gen
open Idealize.ShloMosaic Idealize.ShloMosaic.TcCoe
open scoped BigOperators

theorem pay1_at (j : S1024x1024.Idx) : k0_pay1 (F := Ideal) j = (0 : EReal) := by
  rw [eq_ix2 j]; pointwise [k0_pay1]
theorem pay2_at (acc : Vec Ideal S1024x1024 .f32) (a b : Vec Ideal S1024x1024 .bf16) (d k : Fin 1024) :
    k0_pay2 (F := Ideal) acc a b (ix2 d k) = (show FVec Ideal S1024x1024 .f32 from acc) (ix2 d k) + ∑ t : Fin 1024, (show FVec Ideal S1024x1024 .bf16 from a) (ix2 t d) * (show FVec Ideal S1024x1024 .bf16 from b) (ix2 t k) := by
  pointwise [k0_pay2]

abbrev AT := FVec Ideal S8192x1024 .f32

variable (m : (ℓ : Loc nD τ sig) → Buf (Elt Ideal) ℓ) (c : Dev nD)

abbrev aA : AT := m ((c.tc : Thread nD τ).loc main_arg0)
abbrev aB : AT := m ((c.tc : Thread nD τ).loc main_arg1)

set_option maxHeartbeats 1000000 in
theorem read_v0 : V m c main_v0 = truncf .bf16 (show AT from m ((c.tc : Thread nD τ).loc main_arg0)) bitsLt_bf16_f32 := by
  simp only [V, V0, hostOps0, List.flatten_cons, List.flatten_nil, List.append_nil, List.cons_append, List.nil_append]
  after_results
set_option maxHeartbeats 1000000 in
theorem read_v1 : V m c main_v1 = truncf .bf16 (show AT from m ((c.tc : Thread nD τ).loc main_arg1)) bitsLt_bf16_f32 := by
  simp only [V, V0, hostOps0, List.flatten_cons, List.flatten_nil, List.append_nil, List.cons_append, List.nil_append]
  after_results

theorem idx : ∀ t : Fin cfg0.N, win0_0.index t = ![t.val, 0] ∧ win0_1.index t = ![t.val, 0] ∧ win0_2.index t = ![0, 0] :=
  (by decide +kernel : ∀ t : Fin grid0.N, _)

/-- The row of the sequence that a block's row is. -/
def at' (t : Fin cfg0.N) (r : Fin 1024) : Fin 8192 := ⟨t.val * 1024 + r.val, by have := lt_of_lt_of_eq t.isLt N_0; omega⟩

theorem blk0 (t : Fin cfg0.N) (r d : Fin 1024) : (show FVec Ideal S1024x1024 .bf16 from iblk m c 0 t) (ix2 r d) = aA m c (ix2 (at' t r) d) := by
  refine Eq.trans (b := (show FVec Ideal S8192x1024 .bf16 from V m c main_v0) (ix2 (at' t r) d)) ?_ (congrFun (read_v0 m c) _)
  unfold at'; blk_point [iblk, idx t]
theorem blk1 (t : Fin cfg0.N) (r k : Fin 1024) : (show FVec Ideal S1024x1024 .bf16 from iblk m c 1 t) (ix2 r k) = aB m c (ix2 (at' t r) k) := by
  refine Eq.trans (b := (show FVec Ideal S8192x1024 .bf16 from V m c main_v1) (ix2 (at' t r) k)) ?_ (congrFun (read_v1 m c) _)
  unfold at'; blk_point [iblk, idx t]

/-- A block's part of the gradient. -/
def part (t : Fin cfg0.N) (j : S1024x1024.Idx) : EReal := ∑ r : Fin 1024, aA m c (ix2 (at' t r) (j 0)) * aB m c (ix2 (at' t r) (j 1))

theorem step (t : Fin cfg0.N) (acc : Vec Ideal S1024x1024 .f32) (j : S1024x1024.Idx) :
    k0_pay2 (F := Ideal) acc (iblk m c 0 t) (iblk m c 1 t) j = (show FVec Ideal S1024x1024 .f32 from acc) j + part m c t j := by
  rw [eq_ix2 j]
  refine (pay2_at _ _ _ (j 0) (j 1)).trans (congrArg (_ + ·) (Finset.sum_congr rfl fun r _ => ?_))
  exact congrArg₂ (fun a b : EReal => a * b) (blk0 m c t r (j 0)) (blk1 m c t r (j 1))

/-- The gradient. -/
def out : FVec Ideal S1024x1024 .bf16 := fun j => ∑ t : Fin 8192, aA m c (ix2 t (j 0)) * aB m c (ix2 t (j 1))

theorem whole (t : Fin cfg0.N) (j : S1024x1024.Idx) {h : ∀ s : Fin 8, 8 * (t.val / 8) + s.val < cfg0.N} :
    ∑ s : Fin 8, part m c ⟨8 * (t.val / 8) + s.val, h s⟩ j = out m c j := by
  show ∑ s : Fin 8, part m c ⟨8 * (t.val / 8) + s.val, h s⟩ j = ∑ t : Fin 8192, aA m c (ix2 t (j 0)) * aB m c (ix2 t (j 1))
  generalize hd : j 0 = d
  generalize hk : j 1 = k
  have hp : ∀ p, part m c p j = ∑ r : Fin 1024, aA m c (ix2 (at' p r) d) * aB m c (ix2 (at' p r) k) := fun p => by subst hd hk; rfl
  simp only [hp]
  refine Fin.sum_mul_add_congr fun s r hl => ?_
  have ht : t.val < 8 := lt_of_lt_of_eq t.isLt N_0
  have ea : at' ⟨8 * (t.val / 8) + s.val, h s⟩ r = ⟨s.val * 1024 + r.val, hl⟩ := Fin.ext (by show (8 * (t.val / 8) + s.val) * 1024 + r.val = s.val * 1024 + r.val; omega)
  rw [ea]

/-- The accumulator after the last point. -/
theorem acc (t : Fin cfg0.N) (ht : t.val % 8 = 7) (j : S1024x1024.Idx) : (show FVec Ideal S1024x1024 .f32 from (outsAt0 m c t.val t.isLt).2) j = out m c j := by
  show (outsAt0 m c t.val t.isLt).2 j = _
  rw [Pipeline.eq_sum_fin_of_reset_step_apply_of_flush (fun n h => (outsAt0 m c n h).2) 8 (fun _ => 0) (fun p j => part m c p j)
    (fun t h j => by
      rw [outsAt0_A m c t h (by omega)]; frame_out; rw [step]; exact congrArg (· + part m c t j) (pay1_at j))
    (fun t h j => by
      by_cases h7 : t.val % 8 = 7
      · rw [outsAt0_C m c t h h7]; frame_out; rw [step, read_unread_whole]
      · rw [outsAt0_B m c t h h7]; frame_out; rw [step, read_unread_whole])
    t ht _, zero_add]
  exact whole m c t j

theorem emb2 (t : Fin cfg0.N) (d k : Fin 1024) : ((cfg0.win 2).blk t).view.emb (ix2 d k) = ix2 d k := by
  funext a
  refine Fin.ext ?_
  blk_simp [idx t]
  fin_cases a
  · show 0 * 1024 + d.val = d.val; omega
  · show 0 * 1024 + k.val = k.val; omega

theorem final2 : (dats m 0 c).arrAt 2 (cfgs 0).N = out m c := by
  refine (dats m 0 c).arrAt_eq_of_covers 2 _ (by decide +kernel) fun t hf y => ?_
  have h7 := (flush0_2 t).mp hf
  have ha := acc m c t h7
  rw [outsAt0_C m c t (by omega) h7] at ha
  have he : ((cfg0.win 2).blk t).view.emb y = y := (congrArg _ (eq_ix2 (y : S1024x1024.Idx))).trans ((emb2 t _ _).trans (eq_ix2 (y : S1024x1024.Idx)).symm)
  refine Eq.trans ?_ (congrArg (out m c) he).symm
  rw [after0_2, outsAt0_C m c t (by omega) h7]
  frame_out at ha
  frame_out
  exact ha y

set_option maxHeartbeats 1000000 in
theorem after_v3 (W : Valuation τ sig (Elt Ideal)) : StableHlo.after (List.flatten [hostOps1]) W (Proc.devRef .tc main_v3) = extf .f32 (show FVec Ideal S1024x1024 .bf16 from W (Proc.devRef .tc main_v2)) bitsLt_bf16_f32 := by
  simp only [hostOps1, List.flatten_cons, List.flatten_nil, List.append_nil, List.cons_append, List.nil_append]
  after_results

/-- The gradient, as returned. -/
def outE : FVec Ideal S1024x1024 .f32 := extf .f32 (out m c) bitsLt_bf16_f32

theorem end_v3 : Pipeline.afterTail₀ cfgs (dats m) 0 (V0 m) [hostOps1] c main_v3 = outE m c := by
  refine (after_v3 _).trans (congrArg (fun x : FVec Ideal S1024x1024 .bf16 => extf .f32 x bitsLt_bf16_f32) ?_)
  exact (Pipeline.withArrays_arr spec0 (by decide) c _ (fun w => (dats m 0 c).arrAt w cfg0.N) 2).trans (final2 m c)

end Cert.SquareIdeal.Square

end
-- ==== Proof.SquareEqual.lean ====
/-
  The gradient of a square projection's weights: the kernel leaves what the reference leaves.
-/
module

public import proofs.«01_k».proof.Defs
public import proofs.«01_k».proof.Proof.Gen.SquareReferenceIdeal.Run
public import proofs.«01_k».proof.Proof.Gen.SquareReferenceIdeal.Read
public import proofs.«01_k».proof.Proof.SquareVals
public import Idealize.ShloMosaic.Lib.Quiescent

@[expose] public section

set_option maxRecDepth 16384

noncomputable section

namespace Cert.Proof

open Idealize.ShloMosaic Idealize.ShloMosaic.TcCoe Idealize.SL.Sem
open scoped BigOperators

theorem frame_square_reference : Cert.quiescent_SquareReferenceIdeal (hSquareReferenceIdeal := Cert.SquareReferenceIdeal.Gen.facts) := fun m g _ =>
  (θ_run _ _ _).mono (fun r h => ⟨fun c => (h c).2, sem_eq_zero_of_no_sems (by decide) r.2⟩) (Cert.SquareReferenceIdeal.Value.run (F := Ideal) m g)

section
variable (m : (ℓ : Loc Cert.SquareIdeal.nD Cert.SquareIdeal.τ Cert.SquareIdeal.sig) → Buf (Elt Ideal) ℓ) (c : Dev Cert.SquareIdeal.nD)
open Cert.SquareIdeal.Square

theorem square_dw : Cert.SquareReferenceIdeal.Read.val_main_v3 (F := Ideal) (aA m c) (aB m c) = outE m c := by
  funext i
  rw [Cert.SquareReferenceIdeal.Read.val_main_v3_apply, Cert.SquareReferenceIdeal.Read.val_main_v2_apply]
  show _ = ∑ t : Fin 8192, aA m c (ix2 t (i 0)) * aB m c (ix2 t (i 1))
  refine Finset.sum_congr rfl fun t _ => (mul_comm _ _).trans (congrArg₂ (fun a b : EReal => a * b) (congrArg (aA m c) ?_) (congrArg (aB m c) ?_))
  · funext a; match a with | ⟨0, _⟩ => rfl | ⟨1, _⟩ => rfl
  · funext a; match a with | ⟨0, _⟩ => rfl | ⟨1, _⟩ => rfl
end

theorem equal_square : Cert.algebraic_SquareIdeal_SquareReferenceIdeal (hSquareIdeal := Cert.SquareIdeal.Gen.facts) (hSquareReferenceIdeal := Cert.SquareReferenceIdeal.Gen.facts) := by
  intro m g m' g' _ hargs
  refine ⟨fun c => Cert.SquareIdeal.Square.outE m c, ?_, ?_⟩
  · exact (θ_run Cert.SquareIdeal.defs _ _).mono (fun r h c => ⟨((h.1 c).2 Cert.SquareIdeal.main_v3 (by decide)).trans (Cert.SquareIdeal.Square.end_v3 m c), h.2 c⟩)
      (θ_run_and (Cert.SquareIdeal.Gen.run_main (F := Ideal) m g) (Cert.SquareIdeal.Gen.unchanged (F := Ideal) m g))
  · refine (θ_run Cert.SquareReferenceIdeal.defs _ _).mono (fun r h c => ?_) (Cert.SquareReferenceIdeal.Value.run (F := Ideal) m' g')
    obtain ⟨e0, e1⟩ := hargs c
    obtain ⟨h0, h1⟩ := h c
    refine ⟨h0.trans ((Cert.SquareReferenceIdeal.Read.val_main_v3_eq _ _).trans ?_), h1⟩
    rw [e0, e1]; exact square_dw m c

end Cert.Proof

end
-- ==== Proof.ProjectVals.lean ====
/-
  The normalised projection: what the kernel leaves in its three arrays.
-/
module

public import proofs.«01_k».proof.Proof.Gen.ProjectIdeal.Frame
public import proofs.«01_k».proof.Proof.NormMath
public import Idealize.ShloMosaic.Lib.Pointwise
public import Idealize.ShloMosaic.Lib.IdealHost
public import Idealize.ShloMosaic.Lib.Pipeline.ValueKit

@[expose] public section

set_option maxRecDepth 16384

noncomputable section

namespace Cert.ProjectIdeal.Project

open Cert.ProjectIdeal Cert.ProjectIdeal.Gen
open Idealize.ShloMosaic Idealize.ShloMosaic.TcCoe
open Cert.RowNorm
open scoped BigOperators

abbrev AH := FVec Ideal S8192x1024 .f32
abbrev AG := FVec Ideal S1024 .f32
abbrev AW := FVec Ideal S1024x4104 .f32

/-- The root-mean-square normalised row, scaled. -/
def nrm (h : AH) (g : AG) (t : Fin 8192) (d : Fin 1024) : EReal := h (ix2 t d) * Ideal.rsqrt (ms fun d : Fin 1024 => h (ix2 t d)) * g (ix1 d)

theorem pay1_at (h : Vec Ideal S256x1024 .f32) (g : Vec Ideal S1x1024 .f32) (r : Fin 256) (d : Fin 1024) :
    k0_pay1 (F := Ideal) h g (ix2 r d) = (show FVec Ideal S256x1024 .f32 from h) (ix2 r d) * Ideal.rsqrt (ms fun d : Fin 1024 => (show FVec Ideal S256x1024 .f32 from h) (ix2 r d)) * (show FVec Ideal S1x1024 .f32 from g) (ix2 0 d) := by
  unfold ms
  rw [← c_1024]
  pointwise [k0_pay1]
theorem pay2_at (h : Vec Ideal S256x1024 .f32) (g : Vec Ideal S1x1024 .f32) (w : Vec Ideal S1024x4096 .bf16) (r : Fin 256) (k : Fin 4096) :
    k0_pay2 (F := Ideal) h g w (ix2 r k) = ∑ d : Fin 1024, k0_pay1 (F := Ideal) h g (ix2 r d) * (show FVec Ideal S1024x4096 .bf16 from w) (ix2 d k) := by
  pointwise [k0_pay2]
theorem pay3_at (h : Vec Ideal S256x1024 .f32) (g : Vec Ideal S1x1024 .f32) (w : Vec Ideal S1024x128 .bf16) (r : Fin 256) (k : Fin 128) :
    k0_pay3 (F := Ideal) h g w (ix2 r k) = ∑ d : Fin 1024, k0_pay1 (F := Ideal) h g (ix2 r d) * (show FVec Ideal S1024x128 .bf16 from w) (ix2 d k) := by
  pointwise [k0_pay3]

def wmF (w : AW) : FVec Ideal S1024x4096 .bf16 :=
  concatenate S1024x4096 1 [⟨S1024x2048, extractStridedSlice S1024x2048 ![0, 0] (truncf .bf16 w bitsLt_bf16_f32) slices_S1024x4104_S1024x2048_0_0⟩, ⟨S1024x2048, extractStridedSlice S1024x2048 ![0, 2056] (truncf .bf16 w bitsLt_bf16_f32) slices_S1024x4104_S1024x2048_0_2056⟩] concatenates_S1024x2048_S1024x2048_S1024x4096_d1
def wfF (w : AW) : FVec Ideal S1024x128 .bf16 :=
  pad S1024x128 ![0, 0] ![0, 120] ![0, 0] (extractStridedSlice S1024x8 ![0, 2048] (truncf .bf16 w bitsLt_bf16_f32) slices_S1024x4104_S1024x8_0_2048) (sitofp .bf16 (constantI S_ 32 0#32)) pads_S1024x8_S1024x128_000_01200 h_S_

theorem wmF_at (w : AW) (d : Fin 1024) (k : Fin 4096) : wmF w (ix2 d k) = if h : k.val < 2048 then w (ix2 d ⟨k.val, by omega⟩) else w (ix2 d ⟨k.val + 8, by omega⟩) := by
  pointwise [wmF]
  by_cases e : k.val < 2048
  · rw [dif_pos e, dif_pos e]
  · rw [dif_neg e, dif_neg e]
    congr 2; exact Fin.ext (by show 2056 + (k.val - 2048) = k.val + 8; omega)
theorem zeroFill : FloatOps.sitofp (F := Ideal) (w := 32) FTy.bf16 0#32 = (0 : EReal) := by
  show ((((0#32 : BitVec 32).toInt : ℤ) : ℝ) : EReal) = 0
  simp
theorem wfF_at (w : AW) (d : Fin 1024) (k : Fin 128) : wfF w (ix2 d k) = if h : k.val < 8 then w (ix2 d ⟨2048 + k.val, by omega⟩) else 0 := by
  pointwise [wfF]
  rw [zeroFill]

variable (m : (ℓ : Loc nD τ sig) → Buf (Elt Ideal) ℓ) (c : Dev nD)

abbrev aH : AH := m ((c.tc : Thread nD τ).loc main_arg0)
abbrev aG : AG := m ((c.tc : Thread nD τ).loc main_arg1)
abbrev aW : AW := m ((c.tc : Thread nD τ).loc main_arg2)

set_option maxHeartbeats 1000000 in
theorem read_v3 : V m c main_v3 = wmF (m ((c.tc : Thread nD τ).loc main_arg2)) := by
  simp only [V, V0, hostOps0, hostOps0_1, hostOps0_2, List.flatten_cons, List.flatten_nil, List.append_nil, List.cons_append, List.nil_append]
  entry_read
  (try simp only [StableHlo.TRef.ofBuf_toBuf])
  exact rfl
set_option maxHeartbeats 1000000 in
theorem read_v5 : V m c main_v5 = wfF (m ((c.tc : Thread nD τ).loc main_arg2)) := by
  simp only [V, V0, hostOps0, hostOps0_1, hostOps0_2, List.flatten_cons, List.flatten_nil, List.append_nil, List.cons_append, List.nil_append]
  entry_read
  (try simp only [StableHlo.TRef.ofBuf_toBuf])
  exact rfl
set_option maxHeartbeats 1000000 in
theorem read_v6 (d : Fin 1024) : (show FVec Ideal S1x1024 .f32 from V m c main_v6) (ix2 0 d) = (show AG from m ((c.tc : Thread nD τ).loc main_arg1)) (ix1 d) := by
  have e : V m c main_v6 = shapeCast S1x1024 (show AG from m ((c.tc : Thread nD τ).loc main_arg1)) shapeCasts_S1024_S1x1024 := by
    simp only [V, V0, hostOps0, hostOps0_1, hostOps0_2, List.flatten_cons, List.flatten_nil, List.append_nil, List.cons_append, List.nil_append]
    entry_read
    (try simp only [StableHlo.TRef.ofBuf_toBuf])
    exact rfl
  rw [e]
  pointwise

theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] :=
  (by decide +kernel : ∀ t : Fin grid0.N, _)

/-- The row of the sequence that a block's row is. -/
def at' (t : Fin cfg0.N) (r : Fin 256) : Fin 8192 := ⟨t.val * 256 + r.val, by have := lt_of_lt_of_eq t.isLt N_0; omega⟩

theorem blk0 (t : Fin cfg0.N) (r : Fin 256) (d : Fin 1024) : (show FVec Ideal S256x1024 .f32 from iblk m c 0 t) (ix2 r d) = aH m c (ix2 (at' t r) d) := by
  unfold aH at'; rw [← V_main_arg0 m c]; blk_point [iblk, idx t]
theorem blk1 (t : Fin cfg0.N) (d : Fin 1024) : (show FVec Ideal S1x1024 .f32 from iblk m c 1 t) (ix2 0 d) = aG m c (ix1 d) := by
  refine Eq.trans ?_ (read_v6 m c d); blk_point [iblk, idx t]
theorem blk2 (t : Fin cfg0.N) (d : Fin 1024) (k : Fin 4096) : (show FVec Ideal S1024x4096 .bf16 from iblk m c 2 t) (ix2 d k) = wmF (aW m c) (ix2 d k) := by
  rw [← read_v3 m c]; blk_point [iblk, idx t]
theorem blk3 (t : Fin cfg0.N) (d : Fin 1024) (k : Fin 128) : (show FVec Ideal S1024x128 .bf16 from iblk m c 3 t) (ix2 d k) = wfF (aW m c) (ix2 d k) := by
  rw [← read_v5 m c]; blk_point [iblk, idx t]

/-- The three results. -/
def outU : FVec Ideal S8192x1024 .bf16 := fun j => nrm (aH m c) (aG m c) (j 0) (j 1)
def outM : FVec Ideal S8192x4096 .bf16 := fun j => ∑ d : Fin 1024, nrm (aH m c) (aG m c) (j 0) d * wmF (aW m c) (ix2 d (j 1))
def outF : FVec Ideal S8192x128 .f32 := fun j => ∑ d : Fin 1024, nrm (aH m c) (aG m c) (j 0) d * wfF (aW m c) (ix2 d (j 1))

theorem p1 (t : Fin cfg0.N) (r : Fin 256) (d : Fin 1024) : k0_pay1 (F := Ideal) (iblk m c 0 t) (iblk m c 1 t) (ix2 r d) = nrm (aH m c) (aG m c) (at' t r) d :=
  (pay1_at _ _ r d).trans (congrArg₂ (fun a b : EReal => a * b) (congrArg₂ (fun a b : EReal => a * b) (blk0 m c t r d) (congrArg (fun x => Ideal.rsqrt (ms x)) (funext fun d => blk0 m c t r d))) (blk1 m c t d))
theorem p2 (t : Fin cfg0.N) (r : Fin 256) (k : Fin 4096) : k0_pay2 (F := Ideal) (iblk m c 0 t) (iblk m c 1 t) (iblk m c 2 t) (ix2 r k) = outM m c (ix2 (at' t r) k) :=
  (pay2_at _ _ _ r k).trans (Finset.sum_congr rfl fun d _ => congrArg₂ (fun a b : EReal => a * b) (p1 m c t r d) (blk2 m c t d k))
theorem p3 (t : Fin cfg0.N) (r : Fin 256) (k : Fin 128) : k0_pay3 (F := Ideal) (iblk m c 0 t) (iblk m c 1 t) (iblk m c 3 t) (ix2 r k) = outF m c (ix2 (at' t r) k) :=
  (pay3_at _ _ _ r k).trans (Finset.sum_congr rfl fun d _ => congrArg₂ (fun a b : EReal => a * b) (p1 m c t r d) (blk3 m c t d k))

theorem emb4 (t : Fin cfg0.N) (r : Fin 256) (d : Fin 4096) : ((cfg0.win 4).blk t).view.emb (ix2 r d) = ix2 (at' t r) d := by
  funext a
  refine Fin.ext ?_
  blk_simp [idx t]
  fin_cases a
  · rfl
  · show 0 * 4096 + d.val = d.val; omega
theorem emb5 (t : Fin cfg0.N) (r : Fin 256) (d : Fin 128) : ((cfg0.win 5).blk t).view.emb (ix2 r d) = ix2 (at' t r) d := by
  funext a
  refine Fin.ext ?_
  blk_simp [idx t]
  fin_cases a
  · rfl
  · show 0 * 128 + d.val = d.val; omega
theorem emb6 (t : Fin cfg0.N) (r : Fin 256) (d : Fin 1024) : ((cfg0.win 6).blk t).view.emb (ix2 r d) = ix2 (at' t r) d := by
  funext a
  refine Fin.ext ?_
  blk_simp [idx t]
  fin_cases a
  · rfl
  · show 0 * 1024 + d.val = d.val; omega
theorem final4 : (dats m 0 c).arrAt 4 (cfgs 0).N = outM m c := by
  refine (dats m 0 c).arrAt_eq_of_covers 4 _ (by decide +kernel) fun t hf y => ?_
  have he : ((cfg0.win 4).blk t).view.emb y = ix2 (at' t (y 0)) (y 1) := (congrArg _ (eq_ix2 (y : S256x4096.Idx))).trans (emb4 t _ _)
  refine Eq.trans ?_ (congrArg (outM m c) he).symm
  rw [after0_4]
  frame_out
  exact (congrArg _ (eq_ix2 (y : S256x4096.Idx))).trans (p2 m c t (y 0) (y 1))
theorem final5 : (dats m 0 c).arrAt 5 (cfgs 0).N = outF m c := by
  refine (dats m 0 c).arrAt_eq_of_covers 5 _ (by decide +kernel) fun t hf y => ?_
  have he : ((cfg0.win 5).blk t).view.emb y = ix2 (at' t (y 0)) (y 1) := (congrArg _ (eq_ix2 (y : S256x128.Idx))).trans (emb5 t _ _)
  refine Eq.trans ?_ (congrArg (outF m c) he).symm
  rw [after0_5]
  frame_out
  exact (congrArg _ (eq_ix2 (y : S256x128.Idx))).trans (p3 m c t (y 0) (y 1))
theorem final6 : (dats m 0 c).arrAt 6 (cfgs 0).N = outU m c := by
  refine (dats m 0 c).arrAt_eq_of_covers 6 _ (by decide +kernel) fun t hf y => ?_
  have he : ((cfg0.win 6).blk t).view.emb y = ix2 (at' t (y 0)) (y 1) := (congrArg _ (eq_ix2 (y : S256x1024.Idx))).trans (emb6 t _ _)
  refine Eq.trans ?_ (congrArg (outU m c) he).symm
  rw [after0_6]
  frame_out
  exact (congrArg _ (eq_ix2 (y : S256x1024.Idx))).trans (p1 m c t (y 0) (y 1))
end Cert.ProjectIdeal.Project

end
-- ==== Proof.ProjectSuffix.lean ====
/-
  The host code after the launch: the projection and the normalised stream as returned.
-/
module

public import proofs.«01_k».proof.Proof.ProjectVals

@[expose] public section

set_option maxRecDepth 16384

noncomputable section

namespace Cert.ProjectIdeal.Project

open Cert.ProjectIdeal Cert.ProjectIdeal.Gen
open Idealize.ShloMosaic Idealize.ShloMosaic.TcCoe
open scoped BigOperators

/-- The projection from the launch's two arrays. -/
def zE (x : FVec Ideal S8192x4096 .bf16) (y : FVec Ideal S8192x128 .f32) : FVec Ideal S8192x4104 .f32 :=
  concatenate S8192x4104 1 [⟨S8192x2048, extractStridedSlice S8192x2048 ![0, 0] (extf .f32 x bitsLt_bf16_f32) slices_S8192x4096_S8192x2048_0_0⟩,
    ⟨S8192x8, extractStridedSlice S8192x8 ![0, 0] y slices_S8192x128_S8192x8_0_0⟩,
    ⟨S8192x2048, extractStridedSlice S8192x2048 ![0, 2048] (extf .f32 x bitsLt_bf16_f32) slices_S8192x4096_S8192x2048_0_2048⟩] concatenates_S8192x2048_S8192x8_S8192x2048_S8192x4104_d1

set_option maxHeartbeats 1000000 in
theorem after_v12 (W : Valuation τ sig (Elt Ideal)) : StableHlo.after (List.flatten [hostOps1]) W (Proc.devRef .tc main_v12) = zE (W (Proc.devRef .tc main_v7_0)) (W (Proc.devRef .tc main_v7_1)) := by
  simp only [hostOps1, List.flatten_cons, List.flatten_nil, List.append_nil, List.cons_append, List.nil_append]
  after_results
  exact rfl
set_option maxHeartbeats 1000000 in
theorem after_v13 (W : Valuation τ sig (Elt Ideal)) : StableHlo.after (List.flatten [hostOps1]) W (Proc.devRef .tc main_v13) = extf .f32 (show FVec Ideal S8192x1024 .bf16 from W (Proc.devRef .tc main_v7_2)) bitsLt_bf16_f32 := by
  simp only [hostOps1, List.flatten_cons, List.flatten_nil, List.append_nil, List.cons_append, List.nil_append]
  after_results

variable (m : (ℓ : Loc nD τ sig) → Buf (Elt Ideal) ℓ) (c : Dev nD)

theorem zE_at (t : Fin 8192) (k : Fin 4104) : zE (outM m c) (outF m c) (ix2 t k) = ∑ d : Fin 1024, nrm (aH m c) (aG m c) t d * aW m c (ix2 d k) := by
  pointwise [zE]
  by_cases e : k.val < 2048
  · rw [dif_pos e]
    refine Finset.sum_congr rfl fun d _ => congrArg (nrm (aH m c) (aG m c) t d * ·) ?_
    exact (wmF_at _ d _).trans (dif_pos e)
  · rw [dif_neg e]
    by_cases e' : k.val - 2048 < 8
    · rw [dif_pos e']
      refine Finset.sum_congr rfl fun d _ => congrArg (nrm (aH m c) (aG m c) t d * ·) ?_
      refine ((wfF_at _ d _).trans (dif_pos e')).trans (congrArg (fun x => aW m c (ix2 d x)) (Fin.ext ?_))
      show 2048 + (k.val - 2048) = k.val; omega
    · rw [dif_neg e']
      refine Finset.sum_congr rfl fun d _ => congrArg (nrm (aH m c) (aG m c) t d * ·) ?_
      refine ((wmF_at _ d _).trans (dif_neg (by show ¬ 2048 + (k.val - 2048 - 8) < 2048; omega))).trans (congrArg (fun x => aW m c (ix2 d x)) (Fin.ext ?_))
      show 2048 + (k.val - 2048 - 8) + 8 = k.val; omega

/-- The normalised stream, as returned. -/
def outUE : FVec Ideal S8192x1024 .f32 := extf .f32 (outU m c) bitsLt_bf16_f32

theorem end_v12 : Pipeline.afterTail₀ cfgs (dats m) 0 (V0 m) [hostOps1] c main_v12 = zE (outM m c) (outF m c) := by
  refine (after_v12 _).trans (congrArg₂ zE ?_ ?_)
  · exact (Pipeline.withArrays_arr spec0 (by decide) c _ (fun w => (dats m 0 c).arrAt w cfg0.N) 4).trans (final4 m c)
  · exact (Pipeline.withArrays_arr spec0 (by decide) c _ (fun w => (dats m 0 c).arrAt w cfg0.N) 5).trans (final5 m c)
theorem end_v13 : Pipeline.afterTail₀ cfgs (dats m) 0 (V0 m) [hostOps1] c main_v13 = outUE m c := by
  refine (after_v13 _).trans (congrArg (fun x : FVec Ideal S8192x1024 .bf16 => extf .f32 x bitsLt_bf16_f32) ?_)
  exact (Pipeline.withArrays_arr spec0 (by decide) c _ (fun w => (dats m 0 c).arrAt w cfg0.N) 6).trans (final6 m c)

end Cert.ProjectIdeal.Project

end
-- ==== Proof.ProjectEqual.lean ====
/-
  The normalised projection: the kernel leaves what the reference leaves.
-/
module

public import proofs.«01_k».proof.Defs
public import proofs.«01_k».proof.Proof.Gen.ProjectReferenceIdeal.Run
public import proofs.«01_k».proof.Proof.Gen.ProjectReferenceIdeal.Read
public import proofs.«01_k».proof.Proof.ProjectSuffix
public import Idealize.ShloMosaic.Lib.Quiescent

@[expose] public section

set_option maxRecDepth 16384

noncomputable section

namespace Cert.Proof

open Idealize.ShloMosaic Idealize.ShloMosaic.TcCoe Idealize.SL.Sem
open Cert.RowNorm
open scoped BigOperators

theorem frame_project_reference : Cert.quiescent_ProjectReferenceIdeal (hProjectReferenceIdeal := Cert.ProjectReferenceIdeal.Gen.facts) := fun m g _ =>
  (θ_run _ _ _).mono (fun r h => ⟨fun c => (h c).2.2, sem_eq_zero_of_no_sems (by decide) r.2⟩) (Cert.ProjectReferenceIdeal.Value.run (F := Ideal) m g)

section
open Cert.ProjectReferenceIdeal Cert.ProjectReferenceIdeal.Read
variable (h : FVec Ideal S8192x1024 .f32) (g : FVec Ideal S1024 .f32)

theorem project_ms (t : Fin 8192) : val_main_v6 (F := Ideal) h (ix2 t 0) = ms fun d : Fin 1024 => h (ix2 t d) := by
  rw [val_main_v6_apply, val_main_v4_apply, val_main_v2_apply, val_main_v3_apply, val_main_v5_apply, val_main_cst_0_apply, val_main_cst_1_apply]
  have e : idx_main_v2 (ix2 t 0) = ix1 t := funext fun a => by match a with | ⟨0, _⟩ => rfl
  have e1 : val_main_v1 (F := Ideal) h (ix1 t) = ∑ d : Fin 1024, h (ix2 t d) * h (ix2 t d) := by
    rw [val_main_v1_apply, val_main_cst_apply]
    refine (congrArg (· + _) c_zero).trans ((zero_add _).trans (Finset.sum_congr rfl fun d _ => ?_))
    have e : idx_main_v1 (ix1 t) d = ix2 t d := funext fun a => by match a with | ⟨0, _⟩ => rfl | ⟨1, _⟩ => rfl
    rw [e]; rfl
  rw [e, e1]
  unfold ms
  rw [← c_1024]; rfl

theorem project_u (t : Fin 8192) (d : Fin 1024) : val_main_v12 (F := Ideal) h g (ix2 t d) = Cert.ProjectIdeal.Project.nrm h g t d := by
  rw [val_main_v12_apply, val_main_v9_apply, val_main_v8_apply, val_main_v11_apply, val_main_v10_apply]
  have e1 : idx_main_v8 (ix2 t d) = ix2 t 0 := funext fun a => by match a with | ⟨0, _⟩ => rfl | ⟨1, _⟩ => rfl
  have e2 : idx_main_v10 (idx_main_v11 (ix2 t d)) = ix1 d := funext fun a => by match a with | ⟨0, _⟩ => rfl
  rw [e1, e2, val_main_v7_apply, project_ms]; rfl
end

section
variable (m : (ℓ : Loc Cert.ProjectIdeal.nD Cert.ProjectIdeal.τ Cert.ProjectIdeal.sig) → Buf (Elt Ideal) ℓ) (c : Dev Cert.ProjectIdeal.nD)
open Cert.ProjectIdeal.Project

theorem project_out_u : Cert.ProjectReferenceIdeal.Read.val_main_v12 (F := Ideal) (aH m c) (aG m c) = outUE m c := by
  funext i
  rw [eq_ix2 i]
  exact project_u (aH m c) (aG m c) (i 0) (i 1)
theorem project_out_z : Cert.ProjectReferenceIdeal.Read.val_main_v13 (F := Ideal) (aH m c) (aG m c) (aW m c) = zE (outM m c) (outF m c) := by
  funext i
  rw [eq_ix2 i]
  refine Eq.trans ?_ (zE_at m c (i 0) (i 1)).symm
  rw [Cert.ProjectReferenceIdeal.Read.val_main_v13_apply]
  refine Finset.sum_congr rfl fun d _ => ?_
  have e1 : Cert.ProjectReferenceIdeal.Read.lidx_main_v13 (ix2 (i 0) (i 1)) d = ix2 (i 0) d := funext fun a => by match a with | ⟨0, _⟩ => rfl | ⟨1, _⟩ => rfl
  have e2 : Cert.ProjectReferenceIdeal.Read.ridx_main_v13 (ix2 (i 0) (i 1)) d = ix2 d (i 1) := funext fun a => by match a with | ⟨0, _⟩ => rfl | ⟨1, _⟩ => rfl
  rw [e1, e2]
  exact congrArg (· * _) (project_u (aH m c) (aG m c) (i 0) d)
end

theorem equal_project : Cert.algebraic_ProjectIdeal_ProjectReferenceIdeal (hProjectIdeal := Cert.ProjectIdeal.Gen.facts) (hProjectReferenceIdeal := Cert.ProjectReferenceIdeal.Gen.facts) := by
  intro m g m' g' _ hargs
  refine ⟨fun c => Cert.ProjectIdeal.Project.zE (Cert.ProjectIdeal.Project.outM m c) (Cert.ProjectIdeal.Project.outF m c), fun c => Cert.ProjectIdeal.Project.outUE m c, ?_, ?_⟩
  · exact (θ_run Cert.ProjectIdeal.defs _ _).mono (fun r h c => ⟨((h.1 c).2 Cert.ProjectIdeal.main_v12 (by decide)).trans (Cert.ProjectIdeal.Project.end_v12 m c), ((h.1 c).2 Cert.ProjectIdeal.main_v13 (by decide)).trans (Cert.ProjectIdeal.Project.end_v13 m c), h.2 c⟩)
      (θ_run_and (Cert.ProjectIdeal.Gen.run_main (F := Ideal) m g) (Cert.ProjectIdeal.Gen.unchanged (F := Ideal) m g))
  · refine (θ_run Cert.ProjectReferenceIdeal.defs _ _).mono (fun r h c => ?_) (Cert.ProjectReferenceIdeal.Value.run (F := Ideal) m' g')
    obtain ⟨e0, e1, e2⟩ := hargs c
    obtain ⟨h0, h1, h2⟩ := h c
    refine ⟨h0.trans ((Cert.ProjectReferenceIdeal.Read.val_main_v13_eq _ _ _).trans ?_), h1.trans ((Cert.ProjectReferenceIdeal.Read.val_main_v12_eq _ _).trans ?_), h2⟩
    · rw [e0, e1, e2]; exact project_out_z m c
    · rw [e0, e1]; exact project_out_u m c

end Cert.Proof

end
-- ==== Proof.EmbedVals.lean ====
/-
  The gradient of the per-layer input embedding's projection weights: what the kernel leaves in its result.
-/
module

public import proofs.«01_k».proof.Proof.Gen.EmbedIdeal.Frame
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.EmbedIdeal.Embed

open Cert.EmbedIdeal Cert.EmbedIdeal.Gen
open Idealize.ShloMosaic Idealize.ShloMosaic.TcCoe
open scoped BigOperators

theorem pay1_at (j : S256x1024.Idx) : k0_pay1 (F := Ideal) j = (0 : EReal) := by
  rw [eq_ix2 j]; pointwise [k0_pay1]
theorem pay2_at (acc : Vec Ideal S256x1024 .f32) (a : Vec Ideal S1x1x1024x256 .f32) (b : Vec Ideal S1024x1024 .bf16) (d : Fin 256) (k : Fin 1024) :
    k0_pay2 (F := Ideal) acc a b (ix2 d k) = (show FVec Ideal S256x1024 .f32 from acc) (ix2 d k) + ∑ t : Fin 1024, (show FVec Ideal S1x1x1024x256 .f32 from a) (ix4 0 0 t d) * (show FVec Ideal S1024x1024 .bf16 from b) (ix2 t k) := by
  pointwise [k0_pay2]

abbrev AP := FVec Ideal S2x1x8192x256 .f32
abbrev AT := FVec Ideal S8192x1024 .f32

variable (m : (ℓ : Loc nD τ sig) → Buf (Elt Ideal) ℓ) (c : Dev nD)

abbrev aA : AP := m ((c.tc : Thread nD τ).loc main_arg0)
abbrev aB : AT := m ((c.tc : Thread nD τ).loc main_arg1)

set_option maxHeartbeats 1000000 in
theorem read_v0 : V m c main_v0 = truncf .bf16 (show AT from m ((c.tc : Thread nD τ).loc main_arg1)) bitsLt_bf16_f32 := by
  simp only [V, V0, hostOps0, List.flatten_cons, List.flatten_nil, List.append_nil, List.cons_append, List.nil_append]
  after_results

theorem idx : ∀ t : Fin cfg0.N, win0_0.index t = ![1, 0, t.val, 0] ∧ win0_1.index t = ![t.val, 0] ∧ win0_2.index t = ![0, 0] :=
  (by decide +kernel : ∀ t : Fin grid0.N, _)

/-- The row of the sequence that a block's row is. -/
def at' (t : Fin cfg0.N) (r : Fin 1024) : Fin 8192 := ⟨t.val * 1024 + r.val, by have := lt_of_lt_of_eq t.isLt N_0; omega⟩

theorem blk0 (t : Fin cfg0.N) (r : Fin 1024) (d : Fin 256) : (show FVec Ideal S1x1x1024x256 .f32 from iblk m c 0 t) (ix4 0 0 r d) = aA m c (ix4 1 0 (at' t r) d) := by
  unfold aA at'; rw [← V_main_arg0 m c]; blk_point [iblk, idx t]
theorem blk1 (t : Fin cfg0.N) (r k : Fin 1024) : (show FVec Ideal S1024x1024 .bf16 from iblk m c 1 t) (ix2 r k) = aB m c (ix2 (at' t r) k) := by
  refine Eq.trans (b := (show FVec Ideal S8192x1024 .bf16 from V m c main_v0) (ix2 (at' t r) k)) ?_ (congrFun (read_v0 m c) _)
  unfold at'; blk_point [iblk, idx t]

/-- A block's part of the gradient. -/
def part (t : Fin cfg0.N) (j : S256x1024.Idx) : EReal := ∑ r : Fin 1024, aA m c (ix4 1 0 (at' t r) (j 0)) * aB m c (ix2 (at' t r) (j 1))

theorem step (t : Fin cfg0.N) (acc : Vec Ideal S256x1024 .f32) (j : S256x1024.Idx) :
    k0_pay2 (F := Ideal) acc (iblk m c 0 t) (iblk m c 1 t) j = (show FVec Ideal S256x1024 .f32 from acc) j + part m c t j := by
  rw [eq_ix2 j]
  refine (pay2_at _ _ _ (j 0) (j 1)).trans (congrArg (_ + ·) (Finset.sum_congr rfl fun r _ => ?_))
  exact congrArg₂ (fun a b : EReal => a * b) (blk0 m c t r (j 0)) (blk1 m c t r (j 1))

/-- The gradient. -/
def out : FVec Ideal S256x1024 .bf16 := fun j => ∑ t : Fin 8192, aA m c (ix4 1 0 t (j 0)) * aB m c (ix2 t (j 1))

theorem whole (t : Fin cfg0.N) (j : S256x1024.Idx) {h : ∀ s : Fin 8, 8 * (t.val / 8) + s.val < cfg0.N} :
    ∑ s : Fin 8, part m c ⟨8 * (t.val / 8) + s.val, h s⟩ j = out m c j := by
  show ∑ s : Fin 8, part m c ⟨8 * (t.val / 8) + s.val, h s⟩ j = ∑ t : Fin 8192, aA m c (ix4 1 0 t (j 0)) * aB m c (ix2 t (j 1))
  generalize hd : j 0 = d
  generalize hk : j 1 = k
  have hp : ∀ p, part m c p j = ∑ r : Fin 1024, aA m c (ix4 1 0 (at' p r) d) * aB m c (ix2 (at' p r) k) := fun p => by subst hd hk; rfl
  simp only [hp]
  refine Fin.sum_mul_add_congr fun s r hl => ?_
  have ht : t.val < 8 := lt_of_lt_of_eq t.isLt N_0
  have ea : at' ⟨8 * (t.val / 8) + s.val, h s⟩ r = ⟨s.val * 1024 + r.val, hl⟩ := Fin.ext (by show (8 * (t.val / 8) + s.val) * 1024 + r.val = s.val * 1024 + r.val; omega)
  rw [ea]

/-- The accumulator after the last point. -/
theorem acc (t : Fin cfg0.N) (ht : t.val % 8 = 7) (j : S256x1024.Idx) : (show FVec Ideal S256x1024 .f32 from (outsAt0 m c t.val t.isLt).2) j = out m c j := by
  show (outsAt0 m c t.val t.isLt).2 j = _
  rw [Pipeline.eq_sum_fin_of_reset_step_apply_of_flush (fun n h => (outsAt0 m c n h).2) 8 (fun _ => 0) (fun p j => part m c p j)
    (fun t h j => by
      rw [outsAt0_A m c t h (by omega)]; frame_out; rw [step]; exact congrArg (· + part m c t j) (pay1_at j))
    (fun t h j => by
      by_cases h7 : t.val % 8 = 7
      · rw [outsAt0_C m c t h h7]; frame_out; rw [step, read_unread_whole]
      · rw [outsAt0_B m c t h h7]; frame_out; rw [step, read_unread_whole])
    t ht _, zero_add]
  exact whole m c t j

theorem emb2 (t : Fin cfg0.N) (d : Fin 256) (k : Fin 1024) : ((cfg0.win 2).blk t).view.emb (ix2 d k) = ix2 d k := by
  funext a
  refine Fin.ext ?_
  blk_simp [idx t]
  fin_cases a
  · show 0 * 256 + d.val = d.val; omega
  · show 0 * 1024 + k.val = k.val; omega

theorem final2 : (dats m 0 c).arrAt 2 (cfgs 0).N = out m c := by
  refine (dats m 0 c).arrAt_eq_of_covers 2 _ (by decide +kernel) fun t hf y => ?_
  have h7 := (flush0_2 t).mp hf
  have ha := acc m c t h7
  rw [outsAt0_C m c t (by omega) h7] at ha
  have he : ((cfg0.win 2).blk t).view.emb y = y := (congrArg _ (eq_ix2 (y : S256x1024.Idx))).trans ((emb2 t _ _).trans (eq_ix2 (y : S256x1024.Idx)).symm)
  refine Eq.trans ?_ (congrArg (out m c) he).symm
  rw [after0_2, outsAt0_C m c t (by omega) h7]
  frame_out at ha
  frame_out
  exact ha y

set_option maxHeartbeats 1000000 in
theorem after_v2 (W : Valuation τ sig (Elt Ideal)) : StableHlo.after (List.flatten [hostOps1]) W (Proc.devRef .tc main_v2) = extf .f32 (show FVec Ideal S256x1024 .bf16 from W (Proc.devRef .tc main_v1)) bitsLt_bf16_f32 := by
  simp only [hostOps1, List.flatten_cons, List.flatten_nil, List.append_nil, List.cons_append, List.nil_append]
  after_results

/-- The gradient, as returned. -/
def outE : FVec Ideal S256x1024 .f32 := extf .f32 (out m c) bitsLt_bf16_f32

theorem end_v2 : Pipeline.afterTail₀ cfgs (dats m) 0 (V0 m) [hostOps1] c main_v2 = outE m c := by
  refine (after_v2 _).trans (congrArg (fun x : FVec Ideal S256x1024 .bf16 => extf .f32 x bitsLt_bf16_f32) ?_)
  exact (Pipeline.withArrays_arr spec0 (by decide) c _ (fun w => (dats m 0 c).arrAt w cfg0.N) 2).trans (final2 m c)

end Cert.EmbedIdeal.Embed

end
-- ==== Proof.EmbedEqual.lean ====
/-
  The gradient of the per-layer input embedding's projection weights: the kernel leaves what the reference leaves.
-/
module

public import proofs.«01_k».proof.Defs
public import proofs.«01_k».proof.Proof.Gen.EmbedReferenceIdeal.Run
public import proofs.«01_k».proof.Proof.Gen.EmbedReferenceIdeal.Read
public import proofs.«01_k».proof.Proof.EmbedVals
public import Idealize.ShloMosaic.Lib.Quiescent

@[expose] public section

set_option maxRecDepth 16384

noncomputable section

namespace Cert.Proof

open Idealize.ShloMosaic Idealize.ShloMosaic.TcCoe Idealize.SL.Sem
open scoped BigOperators

theorem frame_embed_reference : Cert.quiescent_EmbedReferenceIdeal (hEmbedReferenceIdeal := Cert.EmbedReferenceIdeal.Gen.facts) := fun m g _ =>
  (θ_run _ _ _).mono (fun r h => ⟨fun c => (h c).2, sem_eq_zero_of_no_sems (by decide) r.2⟩) (Cert.EmbedReferenceIdeal.Value.run (F := Ideal) m g)

section
variable (m : (ℓ : Loc Cert.EmbedIdeal.nD Cert.EmbedIdeal.τ Cert.EmbedIdeal.sig) → Buf (Elt Ideal) ℓ) (c : Dev Cert.EmbedIdeal.nD)
open Cert.EmbedIdeal.Embed

theorem embed_dw : Cert.EmbedReferenceIdeal.Read.val_main_v5 (F := Ideal) (aA m c) (aB m c) = outE m c := by
  funext i
  rw [Cert.EmbedReferenceIdeal.Read.val_main_v5_apply, Cert.EmbedReferenceIdeal.Read.val_main_v4_apply]
  show _ = ∑ t : Fin 8192, aA m c (ix4 1 0 t (i 0)) * aB m c (ix2 t (i 1))
  refine Finset.sum_congr rfl fun t _ => (mul_comm _ _).trans (congrArg₂ (fun a b : EReal => a * b) ?_ (congrArg (aB m c) ?_))
  · rw [Cert.EmbedReferenceIdeal.Read.val_main_v2_apply, Cert.EmbedReferenceIdeal.Read.val_main_v1_apply]
    refine congrArg (aA m c) (funext fun a => ?_)
    have h0 : (i 0).val < 256 := (i 0).isLt
    match a with
    | ⟨0, _⟩ => rfl
    | ⟨1, _⟩ => rfl
    | ⟨2, _⟩ => exact Fin.ext (by show (t.val * 256 + (i 0).val) / 256 % 8192 = t.val; omega)
    | ⟨3, _⟩ => exact Fin.ext (by show (t.val * 256 + (i 0).val) % 256 = (i 0).val; omega)
  · funext a; match a with | ⟨0, _⟩ => rfl | ⟨1, _⟩ => rfl
end

theorem equal_embed : Cert.algebraic_EmbedIdeal_EmbedReferenceIdeal (hEmbedIdeal := Cert.EmbedIdeal.Gen.facts) (hEmbedReferenceIdeal := Cert.EmbedReferenceIdeal.Gen.facts) := by
  intro m g m' g' _ hargs
  refine ⟨fun c => Cert.EmbedIdeal.Embed.outE m c, ?_, ?_⟩
  · exact (θ_run Cert.EmbedIdeal.defs _ _).mono (fun r h c => ⟨((h.1 c).2 Cert.EmbedIdeal.main_v2 (by decide)).trans (Cert.EmbedIdeal.Embed.end_v2 m c), h.2 c⟩)
      (θ_run_and (Cert.EmbedIdeal.Gen.run_main (F := Ideal) m g) (Cert.EmbedIdeal.Gen.unchanged (F := Ideal) m g))
  · refine (θ_run Cert.EmbedReferenceIdeal.defs _ _).mono (fun r h c => ?_) (Cert.EmbedReferenceIdeal.Value.run (F := Ideal) m' g')
    obtain ⟨e0, e1⟩ := hargs c
    obtain ⟨h0, h1⟩ := h c
    refine ⟨h0.trans ((Cert.EmbedReferenceIdeal.Read.val_main_v5_eq _ _).trans ?_), h1⟩
    rw [e0, e1]; exact embed_dw m c

end Cert.Proof

end
-- ==== Proof.MidVals.lean ====
/-
  The middle of a layer (gated outputs, output projection, second norm, gated input embedding): what the kernel leaves in
  its six arrays.
-/
module

public import proofs.«01_k».proof.Proof.Gen.MidIdeal.Frame
public import proofs.«01_k».proof.Proof.NormMath
public import Idealize.ShloMosaic.Lib.Pointwise
public import Idealize.ShloMosaic.Lib.IdealHost
public import Idealize.ShloMosaic.Lib.Pipeline.ValueKit

@[expose] public section

set_option maxRecDepth 16384

noncomputable section

namespace Cert.MidIdeal.Mid

open Cert.MidIdeal Cert.MidIdeal.Gen
open Idealize.ShloMosaic Idealize.ShloMosaic.TcCoe
open Cert.RowNorm
open scoped BigOperators

abbrev AO := FVec Ideal S8192x512 .f32
abbrev AZ := FVec Ideal S8192x4104 .f32
abbrev AT := FVec Ideal S8192x1024 .f32
abbrev AP := FVec Ideal S2x1x8192x256 .f32
abbrev AS := FVec Ideal S1024x1024 .f32
abbrev AG := FVec Ideal S1024 .f32
abbrev AE := FVec Ideal S256x1024 .f32

def sigm (x : EReal) : EReal := Ideal.div 1 (1 + Ideal.exp (0 - x))
def silu (x : EReal) : EReal := x * sigm x

/-! ## The six results as functions of the arguments -/

/-- The attentions' outputs, gated. -/
def gy (oa ob : AO) (z : AZ) (t : Fin 8192) (d : Fin 1024) : EReal :=
  if h : d.val < 512 then oa (ix2 t ⟨d.val, h⟩) * silu (z (ix2 t ⟨1536 + d.val, by omega⟩))
  else ob (ix2 t ⟨d.val - 512, by omega⟩) * silu (z (ix2 t ⟨3592 + (d.val - 512), by omega⟩))
/-- The residual stream after the output projection. -/
def gh (oa ob : AO) (z : AZ) (h : AT) (wo : AS) (t : Fin 8192) (d : Fin 1024) : EReal := h (ix2 t d) + ∑ k : Fin 1024, gy oa ob z t k * wo (ix2 k d)
/-- Its norm. -/
def gu (oa ob : AO) (z : AZ) (h : AT) (wo : AS) (g : AG) (t : Fin 8192) (d : Fin 1024) : EReal :=
  gh oa ob z h wo t d * Ideal.rsqrt (ms fun d : Fin 1024 => gh oa ob z h wo t d) * g (ix1 d)
/-- The gate. -/
def gg (oa ob : AO) (z : AZ) (h : AT) (wo : AS) (g : AG) (wg : AS) (t : Fin 8192) (d : Fin 1024) : EReal := sigm (∑ k : Fin 1024, gu oa ob z h wo g t k * wg (ix2 k d))
/-- The projected input embedding of layer 0. -/
def ge (p : AP) (wp : AE) (t : Fin 8192) (d : Fin 1024) : EReal := ∑ k : Fin 256, p (ix4 0 0 t k) * wp (ix2 k d)
/-- The layer's output. -/
def gz (oa ob : AO) (z : AZ) (h : AT) (p : AP) (wo : AS) (g : AG) (wg : AS) (wp : AE) (t : Fin 8192) (d : Fin 1024) : EReal :=
  gh oa ob z h wo t d + ge p wp t d * gg oa ob z h wo g wg t d

/-! ## The body's values at a point of a block -/

section
variable (x0 : Vec Ideal S4x256x128 .f32) (x1 : Vec Ideal S4x256x128 .f32) (x2 : Vec Ideal S256x512 .bf16) (x3 : Vec Ideal S256x512 .bf16) (x4 : Vec Ideal S256x1024 .f32) (x5 : Vec Ideal S1x1x256x256 .f32) (x6 : Vec Ideal S1024x1024 .bf16) (x7 : Vec Ideal S1024x1024 .bf16) (x8 : Vec Ideal S256x1024 .bf16) (x9 : Vec Ideal S1x1024 .f32)

def payY : FVec Ideal S256x1024 .bf16 := k0_pay20 (k0_pay25 x0 x1 x2 x3 x4 x5 x6 x7 x8 x9) (k0_pay26 x0 x1 x2 x3 x4 x5 x6 x7 x8 x9) (k0_pay27 x0 x1 x2 x3 x4 x5 x6 x7 x8 x9) (k0_pay28 x0 x1 x2 x3 x4 x5 x6 x7 x8 x9) (k0_pay29 x0 x1 x2 x3 x4 x5 x6 x7 x8 x9) (k0_pay30 x0 x1 x2 x3 x4 x5 x6 x7 x8 x9) (k0_pay31 x0 x1 x2 x3 x4 x5 x6 x7 x8 x9) (k0_pay32 x0 x1 x2 x3 x4 x5 x6 x7 x8 x9) (k0_pay33 x0 x1 x2 x3 x4 x5 x6 x7 x8 x9) (k0_pay34 x0 x1 x2 x3 x4 x5 x6 x7 x8 x9) (FloatOps.ofBits (F := Ideal) .f32 0x3F800000#32)
def payH : FVec Ideal S256x1024 .f32 := k0_pay21 (k0_pay25 x0 x1 x2 x3 x4 x5 x6 x7 x8 x9) (k0_pay26 x0 x1 x2 x3 x4 x5 x6 x7 x8 x9) (k0_pay27 x0 x1 x2 x3 x4 x5 x6 x7 x8 x9) (k0_pay28 x0 x1 x2 x3 x4 x5 x6 x7 x8 x9) (k0_pay29 x0 x1 x2 x3 x4 x5 x6 x7 x8 x9) (k0_pay30 x0 x1 x2 x3 x4 x5 x6 x7 x8 x9) (k0_pay31 x0 x1 x2 x3 x4 x5 x6 x7 x8 x9) (k0_pay32 x0 x1 x2 x3 x4 x5 x6 x7 x8 x9) (k0_pay33 x0 x1 x2 x3 x4 x5 x6 x7 x8 x9) (k0_pay34 x0 x1 x2 x3 x4 x5 x6 x7 x8 x9) (FloatOps.ofBits (F := Ideal) .f32 0x3F800000#32) x4 x6
def payU : FVec Ideal S256x1024 .bf16 := k0_pay22 (k0_pay25 x0 x1 x2 x3 x4 x5 x6 x7 x8 x9) (k0_pay26 x0 x1 x2 x3 x4 x5 x6 x7 x8 x9) (k0_pay27 x0 x1 x2 x3 x4 x5 x6 x7 x8 x9) (k0_pay28 x0 x1 x2 x3 x4 x5 x6 x7 x8 x9) (k0_pay29 x0 x1 x2 x3 x4 x5 x6 x7 x8 x9) (k0_pay30 x0 x1 x2 x3 x4 x5 x6 x7 x8 x9) (k0_pay31 x0 x1 x2 x3 x4 x5 x6 x7 x8 x9) (k0_pay32 x0 x1 x2 x3 x4 x5 x6 x7 x8 x9) (k0_pay33 x0 x1 x2 x3 x4 x5 x6 x7 x8 x9) (k0_pay34 x0 x1 x2 x3 x4 x5 x6 x7 x8 x9) (FloatOps.ofBits (F := Ideal) .f32 0x3F800000#32) x4 x6 x9
def payE : FVec Ideal S256x1024 .f32 := k0_pay2 x5 x8
def payG : FVec Ideal S256x1024 .f32 := k0_pay1 (k0_pay35 x0 x1 x2 x3 x4 x5 x6 x7 x8 x9) (k0_pay36 x0 x1 x2 x3 x4 x5 x6 x7 x8 x9)
def payZ : FVec Ideal S256x1024 .f32 := k0_pay5 (k0_pay21 (k0_pay25 x0 x1 x2 x3 x4 x5 x6 x7 x8 x9) (k0_pay26 x0 x1 x2 x3 x4 x5 x6 x7 x8 x9) (k0_pay27 x0 x1 x2 x3 x4 x5 x6 x7 x8 x9) (k0_pay28 x0 x1 x2 x3 x4 x5 x6 x7 x8 x9) (k0_pay29 x0 x1 x2 x3 x4 x5 x6 x7 x8 x9) (k0_pay30 x0 x1 x2 x3 x4 x5 x6 x7 x8 x9) (k0_pay31 x0 x1 x2 x3 x4 x5 x6 x7 x8 x9) (k0_pay32 x0 x1 x2 x3 x4 x5 x6 x7 x8 x9) (k0_pay33 x0 x1 x2 x3 x4 x5 x6 x7 x8 x9) (k0_pay34 x0 x1 x2 x3 x4 x5 x6 x7 x8 x9) (FloatOps.ofBits (F := Ideal) .f32 0x3F800000#32) x4 x6) (k0_pay35 x0 x1 x2 x3 x4 x5 x6 x7 x8 x9) (k0_pay36 x0 x1 x2 x3 x4 x5 x6 x7 x8 x9) x5 x8

theorem piece (A G : Fin 512 → EReal) (k k' j : Fin 512) (h : k.val = j.val) (h' : k'.val = j.val) :
    A k * (G k' * Ideal.div 1 (1 + Ideal.exp (0 - G k'))) = A j * silu (G j) := by
  obtain rfl := Fin.ext h
  obtain rfl := Fin.ext h'
  rfl

theorem cat_at (v14 v29 v44 v59 v74 v89 v104 : FVec Ideal S256x128 .bf16) (v107 v109 v114 : FVec Ideal S256x128 .f32) (o : Ideal .f32) (r : Fin 256) (d : Fin 1024) :
    k0_pay20 v14 v29 v44 v59 v74 v89 v104 v107 v109 v114 o (ix2 r d) =
      if h : d.val < 128 then v14 (ix2 r ⟨d.val, h⟩) else
      if h : d.val - 128 < 128 then v29 (ix2 r ⟨d.val - 128, h⟩) else
      if h : d.val - 128 - 128 < 128 then v44 (ix2 r ⟨d.val - 128 - 128, h⟩) else
      if h : d.val - 128 - 128 - 128 < 128 then v59 (ix2 r ⟨d.val - 128 - 128 - 128, h⟩) else
      if h : d.val - 128 - 128 - 128 - 128 < 128 then v74 (ix2 r ⟨d.val - 128 - 128 - 128 - 128, h⟩) else
      if h : d.val - 128 - 128 - 128 - 128 - 128 < 128 then v89 (ix2 r ⟨d.val - 128 - 128 - 128 - 128 - 128, h⟩) else
      if h : d.val - 128 - 128 - 128 - 128 - 128 - 128 < 128 then v104 (ix2 r ⟨d.val - 128 - 128 - 128 - 128 - 128 - 128, h⟩) else
      v109 (ix2 r ⟨d.val - 128 - 128 - 128 - 128 - 128 - 128 - 128, by omega⟩) * (v107 (ix2 r ⟨d.val - 128 - 128 - 128 - 128 - 128 - 128 - 128, by omega⟩) * Ideal.div o (v114 (ix2 r ⟨d.val - 128 - 128 - 128 - 128 - 128 - 128 - 128, by omega⟩))) := by
  pointwise [k0_pay20]

theorem pay25_at (A G : Fin 256 → Fin 512 → EReal) (h : ∀ (p : Fin 4) (r : Fin 256) (l : Fin 128), (show FVec Ideal S4x256x128 .f32 from x0) (ix3 p r l) = A r ⟨128 * p.val + l.val, by omega⟩) (h' : ∀ (r : Fin 256) (k : Fin 512), (show FVec Ideal S256x512 .bf16 from x2) (ix2 r k) = G r k) (r : Fin 256) (l : Fin 128) (j : Fin 512) (hj : 0 + l.val = j.val) :
    k0_pay25 x0 x1 x2 x3 x4 x5 x6 x7 x8 x9 (ix2 r l) = A r j * silu (G r j) := by
  pointwise [k0_pay25, k0_pay6]
  rw [h, h']
  exact piece (A r) (G r) _ _ j (by first | (simp; done) | (simp; omega) | omega | (simp at hj ⊢; omega)) (by first | (simp; done) | (simp; omega) | omega | (simp at hj ⊢; omega))
theorem pay26_at (A G : Fin 256 → Fin 512 → EReal) (h : ∀ (p : Fin 4) (r : Fin 256) (l : Fin 128), (show FVec Ideal S4x256x128 .f32 from x0) (ix3 p r l) = A r ⟨128 * p.val + l.val, by omega⟩) (h' : ∀ (r : Fin 256) (k : Fin 512), (show FVec Ideal S256x512 .bf16 from x2) (ix2 r k) = G r k) (r : Fin 256) (l : Fin 128) (j : Fin 512) (hj : 128 + l.val = j.val) :
    k0_pay26 x0 x1 x2 x3 x4 x5 x6 x7 x8 x9 (ix2 r l) = A r j * silu (G r j) := by
  pointwise [k0_pay26, k0_pay7]
  rw [h, h']
  exact piece (A r) (G r) _ _ j (by first | (simp; done) | (simp; omega) | omega | (simp at hj ⊢; omega)) (by first | (simp; done) | (simp; omega) | omega | (simp at hj ⊢; omega))
theorem pay27_at (A G : Fin 256 → Fin 512 → EReal) (h : ∀ (p : Fin 4) (r : Fin 256) (l : Fin 128), (show FVec Ideal S4x256x128 .f32 from x0) (ix3 p r l) = A r ⟨128 * p.val + l.val, by omega⟩) (h' : ∀ (r : Fin 256) (k : Fin 512), (show FVec Ideal S256x512 .bf16 from x2) (ix2 r k) = G r k) (r : Fin 256) (l : Fin 128) (j : Fin 512) (hj : 256 + l.val = j.val) :
    k0_pay27 x0 x1 x2 x3 x4 x5 x6 x7 x8 x9 (ix2 r l) = A r j * silu (G r j) := by
  pointwise [k0_pay27, k0_pay8, k0_pay9, k0_pay10, k0_pay11]
  rw [h, h']
  exact piece (A r) (G r) _ _ j (by first | (simp; done) | (simp; omega) | omega | (simp at hj ⊢; omega)) (by first | (simp; done) | (simp; omega) | omega | (simp at hj ⊢; omega))
theorem pay28_at (A G : Fin 256 → Fin 512 → EReal) (h : ∀ (p : Fin 4) (r : Fin 256) (l : Fin 128), (show FVec Ideal S4x256x128 .f32 from x0) (ix3 p r l) = A r ⟨128 * p.val + l.val, by omega⟩) (h' : ∀ (r : Fin 256) (k : Fin 512), (show FVec Ideal S256x512 .bf16 from x2) (ix2 r k) = G r k) (r : Fin 256) (l : Fin 128) (j : Fin 512) (hj : 384 + l.val = j.val) :
    k0_pay28 x0 x1 x2 x3 x4 x5 x6 x7 x8 x9 (ix2 r l) = A r j * silu (G r j) := by
  pointwise [k0_pay28, k0_pay12]
  rw [h, h']
  exact piece (A r) (G r) _ _ j (by first | (simp; done) | (simp; omega) | omega | (simp at hj ⊢; omega)) (by first | (simp; done) | (simp; omega) | omega | (simp at hj ⊢; omega))
theorem pay29_at (A G : Fin 256 → Fin 512 → EReal) (h : ∀ (p : Fin 4) (r : Fin 256) (l : Fin 128), (show FVec Ideal S4x256x128 .f32 from x1) (ix3 p r l) = A r ⟨128 * p.val + l.val, by omega⟩) (h' : ∀ (r : Fin 256) (k : Fin 512), (show FVec Ideal S256x512 .bf16 from x3) (ix2 r k) = G r k) (r : Fin 256) (l : Fin 128) (j : Fin 512) (hj : 0 + l.val = j.val) :
    k0_pay29 x0 x1 x2 x3 x4 x5 x6 x7 x8 x9 (ix2 r l) = A r j * silu (G r j) := by
  pointwise [k0_pay29, k0_pay13]
  rw [h, h']
  exact piece (A r) (G r) _ _ j (by first | (simp; done) | (simp; omega) | omega | (simp at hj ⊢; omega)) (by first | (simp; done) | (simp; omega) | omega | (simp at hj ⊢; omega))
theorem pay30_at (A G : Fin 256 → Fin 512 → EReal) (h : ∀ (p : Fin 4) (r : Fin 256) (l : Fin 128), (show FVec Ideal S4x256x128 .f32 from x1) (ix3 p r l) = A r ⟨128 * p.val + l.val, by omega⟩) (h' : ∀ (r : Fin 256) (k : Fin 512), (show FVec Ideal S256x512 .bf16 from x3) (ix2 r k) = G r k) (r : Fin 256) (l : Fin 128) (j : Fin 512) (hj : 128 + l.val = j.val) :
    k0_pay30 x0 x1 x2 x3 x4 x5 x6 x7 x8 x9 (ix2 r l) = A r j * silu (G r j) := by
  pointwise [k0_pay30, k0_pay14, k0_pay15]
  rw [h, h']
  exact piece (A r) (G r) _ _ j (by first | (simp; done) | (simp; omega) | omega | (simp at hj ⊢; omega)) (by first | (simp; done) | (simp; omega) | omega | (simp at hj ⊢; omega))
theorem pay31_at (A G : Fin 256 → Fin 512 → EReal) (h : ∀ (p : Fin 4) (r : Fin 256) (l : Fin 128), (show FVec Ideal S4x256x128 .f32 from x1) (ix3 p r l) = A r ⟨128 * p.val + l.val, by omega⟩) (h' : ∀ (r : Fin 256) (k : Fin 512), (show FVec Ideal S256x512 .bf16 from x3) (ix2 r k) = G r k) (r : Fin 256) (l : Fin 128) (j : Fin 512) (hj : 256 + l.val = j.val) :
    k0_pay31 x0 x1 x2 x3 x4 x5 x6 x7 x8 x9 (ix2 r l) = A r j * silu (G r j) := by
  pointwise [k0_pay31, k0_pay16]
  rw [h, h']
  exact piece (A r) (G r) _ _ j (by first | (simp; done) | (simp; omega) | omega | (simp at hj ⊢; omega)) (by first | (simp; done) | (simp; omega) | omega | (simp at hj ⊢; omega))
theorem last_at (A G : Fin 256 → Fin 512 → EReal) (h : ∀ (p : Fin 4) (r : Fin 256) (l : Fin 128), (show FVec Ideal S4x256x128 .f32 from x1) (ix3 p r l) = A r ⟨128 * p.val + l.val, by omega⟩) (h' : ∀ (r : Fin 256) (k : Fin 512), (show FVec Ideal S256x512 .bf16 from x3) (ix2 r k) = G r k) (r : Fin 256) (l : Fin 128) (j : Fin 512) (hj : 384 + l.val = j.val) :
    k0_pay33 x0 x1 x2 x3 x4 x5 x6 x7 x8 x9 (ix2 r l) * (k0_pay32 x0 x1 x2 x3 x4 x5 x6 x7 x8 x9 (ix2 r l) * Ideal.div (FloatOps.ofBits (F := Ideal) .f32 0x3F800000#32) (k0_pay34 x0 x1 x2 x3 x4 x5 x6 x7 x8 x9 (ix2 r l))) = A r j * silu (G r j) := by
  pointwise [k0_pay32, k0_pay33, k0_pay34, k0_pay17, k0_pay18, k0_pay19]
  rw [h, h']
  exact piece (A r) (G r) _ _ j (by first | (simp; done) | (simp; omega) | omega | (simp at hj ⊢; omega)) (by first | (simp; done) | (simp; omega) | omega | (simp at hj ⊢; omega))
theorem payY_at (A B G H : Fin 256 → Fin 512 → EReal)
    (h0 : ∀ (p : Fin 4) (r : Fin 256) (l : Fin 128), (show FVec Ideal S4x256x128 .f32 from x0) (ix3 p r l) = A r ⟨128 * p.val + l.val, by omega⟩)
    (h1 : ∀ (p : Fin 4) (r : Fin 256) (l : Fin 128), (show FVec Ideal S4x256x128 .f32 from x1) (ix3 p r l) = B r ⟨128 * p.val + l.val, by omega⟩)
    (h2 : ∀ (r : Fin 256) (k : Fin 512), (show FVec Ideal S256x512 .bf16 from x2) (ix2 r k) = G r k)
    (h3 : ∀ (r : Fin 256) (k : Fin 512), (show FVec Ideal S256x512 .bf16 from x3) (ix2 r k) = H r k) (r : Fin 256) (d : Fin 1024) :
    payY x0 x1 x2 x3 x4 x5 x6 x7 x8 x9 (ix2 r d) = if h : d.val < 512 then A r ⟨d.val, h⟩ * silu (G r ⟨d.val, h⟩) else B r ⟨d.val - 512, by omega⟩ * silu (H r ⟨d.val - 512, by omega⟩) := by
  unfold payY
  rw [cat_at]
  by_cases e0 : d.val < 128
  · rw [dif_pos e0]; rw [dif_pos (show d.val < 512 by omega)]; exact (pay25_at x0 x1 x2 x3 x4 x5 x6 x7 x8 x9 A G h0 h2 r _ ⟨d.val, by omega⟩ (by show 0 + (d.val) = d.val; omega))
  rw [dif_neg e0]
  by_cases e1 : d.val - 128 < 128
  · rw [dif_pos e1]; rw [dif_pos (show d.val < 512 by omega)]; exact (pay26_at x0 x1 x2 x3 x4 x5 x6 x7 x8 x9 A G h0 h2 r _ ⟨d.val, by omega⟩ (by show 128 + (d.val - 128) = d.val; omega))
  rw [dif_neg e1]
  by_cases e2 : d.val - 128 - 128 < 128
  · rw [dif_pos e2]; rw [dif_pos (show d.val < 512 by omega)]; exact (pay27_at x0 x1 x2 x3 x4 x5 x6 x7 x8 x9 A G h0 h2 r _ ⟨d.val, by omega⟩ (by show 256 + (d.val - 128 - 128) = d.val; omega))
  rw [dif_neg e2]
  by_cases e3 : d.val - 128 - 128 - 128 < 128
  · rw [dif_pos e3]; rw [dif_pos (show d.val < 512 by omega)]; exact (pay28_at x0 x1 x2 x3 x4 x5 x6 x7 x8 x9 A G h0 h2 r _ ⟨d.val, by omega⟩ (by show 384 + (d.val - 128 - 128 - 128) = d.val; omega))
  rw [dif_neg e3]
  by_cases e4 : d.val - 128 - 128 - 128 - 128 < 128
  · rw [dif_pos e4]; rw [dif_neg (show ¬ d.val < 512 by omega)]; exact (pay29_at x0 x1 x2 x3 x4 x5 x6 x7 x8 x9 B H h1 h3 r _ ⟨d.val - 512, by omega⟩ (by show 0 + (d.val - 128 - 128 - 128 - 128) = d.val - 512; omega))
  rw [dif_neg e4]
  by_cases e5 : d.val - 128 - 128 - 128 - 128 - 128 < 128
  · rw [dif_pos e5]; rw [dif_neg (show ¬ d.val < 512 by omega)]; exact (pay30_at x0 x1 x2 x3 x4 x5 x6 x7 x8 x9 B H h1 h3 r _ ⟨d.val - 512, by omega⟩ (by show 128 + (d.val - 128 - 128 - 128 - 128 - 128) = d.val - 512; omega))
  rw [dif_neg e5]
  by_cases e6 : d.val - 128 - 128 - 128 - 128 - 128 - 128 < 128
  · rw [dif_pos e6]; rw [dif_neg (show ¬ d.val < 512 by omega)]; exact (pay31_at x0 x1 x2 x3 x4 x5 x6 x7 x8 x9 B H h1 h3 r _ ⟨d.val - 512, by omega⟩ (by show 256 + (d.val - 128 - 128 - 128 - 128 - 128 - 128) = d.val - 512; omega))
  rw [dif_neg e6]
  rw [dif_neg (show ¬ d.val < 512 by omega)]; exact (last_at x0 x1 x2 x3 x4 x5 x6 x7 x8 x9 B H h1 h3 r _ ⟨d.val - 512, by omega⟩ (by show 384 + (d.val - 128 - 128 - 128 - 128 - 128 - 128 - 128) = d.val - 512; omega))
theorem payH_at (r : Fin 256) (d : Fin 1024) :
    payH x0 x1 x2 x3 x4 x5 x6 x7 x8 x9 (ix2 r d) = (show FVec Ideal S256x1024 .f32 from x4) (ix2 r d) + ∑ k : Fin 1024, payY x0 x1 x2 x3 x4 x5 x6 x7 x8 x9 (ix2 r k) * (show FVec Ideal S1024x1024 .bf16 from x6) (ix2 k d) := by
  unfold payH payY
  pointwise [k0_pay21]
theorem payU_at (r : Fin 256) (d : Fin 1024) :
    payU x0 x1 x2 x3 x4 x5 x6 x7 x8 x9 (ix2 r d) = payH x0 x1 x2 x3 x4 x5 x6 x7 x8 x9 (ix2 r d) * Ideal.rsqrt (ms fun d : Fin 1024 => payH x0 x1 x2 x3 x4 x5 x6 x7 x8 x9 (ix2 r d)) * (show FVec Ideal S1x1024 .f32 from x9) (ix2 0 d) := by
  unfold payU payH ms
  rw [← c_1024]
  pointwise [k0_pay22]
theorem payE_at (r : Fin 256) (d : Fin 1024) :
    payE x5 x8 (ix2 r d) = ∑ k : Fin 256, (show FVec Ideal S1x1x256x256 .f32 from x5) (ix4 0 0 r k) * (show FVec Ideal S256x1024 .bf16 from x8) (ix2 k d) := by
  unfold payE
  pointwise [k0_pay2]
theorem payG_at (r : Fin 256) (d : Fin 1024) :
    payG x0 x1 x2 x3 x4 x5 x6 x7 x8 x9 (ix2 r d) = sigm (∑ k : Fin 1024, payU x0 x1 x2 x3 x4 x5 x6 x7 x8 x9 (ix2 r k) * (show FVec Ideal S1024x1024 .bf16 from x7) (ix2 k d)) := by
  have e4 : View.ld x4 r0_8 = x4 := View.ld_unit_lit' _ x4 (by decide)
  have e6 : View.ld x6 r0_9 = x6 := View.ld_unit_lit' _ x6 (by decide)
  have e7 : View.ld x7 r0_9 = x7 := View.ld_unit_lit' _ x7 (by decide)
  have e9 : View.ld x9 r0_10 = x9 := View.ld_unit_lit' _ x9 (by decide)
  unfold payG payU sigm k0_pay35
  rw [e4, e6, e7, e9]
  pointwise [k0_pay1, k0_pay36, k0_pay23, k0_pay24]
theorem payZ_at (j : S256x1024.Idx) : payZ x0 x1 x2 x3 x4 x5 x6 x7 x8 x9 j = payH x0 x1 x2 x3 x4 x5 x6 x7 x8 x9 j + payE x5 x8 j * payG x0 x1 x2 x3 x4 x5 x6 x7 x8 x9 j := by
  unfold payZ payH payE payG k0_pay5
  rfl
end

/-! ## The arguments and the operands -/

variable (m : (ℓ : Loc nD τ sig) → Buf (Elt Ideal) ℓ) (c : Dev nD)

abbrev aOa : AO := m ((c.tc : Thread nD τ).loc main_arg0)
abbrev aOb : AO := m ((c.tc : Thread nD τ).loc main_arg1)
abbrev aZ : AZ := m ((c.tc : Thread nD τ).loc main_arg2)
abbrev aH : AT := m ((c.tc : Thread nD τ).loc main_arg3)
abbrev aP : AP := m ((c.tc : Thread nD τ).loc main_arg4)
abbrev aWo : AS := m ((c.tc : Thread nD τ).loc main_arg5)
abbrev aG : AG := m ((c.tc : Thread nD τ).loc main_arg6)
abbrev aWg : AS := m ((c.tc : Thread nD τ).loc main_arg7)
abbrev aWp : AE := m ((c.tc : Thread nD τ).loc main_arg8)

/-- A branch's outputs by pairs of heads. -/
def pairs (o : AO) : FVec Ideal S4x8192x128 .f32 := transpose S4x8192x128 [1, 0, 2] (shapeCast S8192x4x128 o shapeCasts_S8192x512_S8192x4x128) transposes_S8192x4x128_S4x8192x128_1_0_2
theorem pairs_at (o : AO) (p : Fin 4) (t : Fin 8192) (l : Fin 128) : pairs o (ix3 p t l) = o (ix2 t ⟨128 * p.val + l.val, by omega⟩) := by
  pointwise [pairs]
  exact congrArg (fun x => o (ix2 t x)) (Fin.ext (by show p.val * 128 + l.val = 128 * p.val + l.val; omega))
/-- The main columns of z. -/
def zmF (z : AZ) : FVec Ideal S8192x4096 .bf16 :=
  concatenate S8192x4096 1 [⟨S8192x2048, extractStridedSlice S8192x2048 ![0, 0] (truncf .bf16 z bitsLt_bf16_f32) slices_S8192x4104_S8192x2048_0_0⟩, ⟨S8192x2048, extractStridedSlice S8192x2048 ![0, 2056] (truncf .bf16 z bitsLt_bf16_f32) slices_S8192x4104_S8192x2048_0_2056⟩] concatenates_S8192x2048_S8192x2048_S8192x4096_d1
theorem zmF_at (z : AZ) (t : Fin 8192) (k : Fin 4096) : zmF z (ix2 t k) = if h : k.val < 2048 then z (ix2 t ⟨k.val, by omega⟩) else z (ix2 t ⟨k.val + 8, by omega⟩) := by
  pointwise [zmF]
  by_cases e : k.val < 2048
  · rw [dif_pos e, dif_pos e]
  · rw [dif_neg e, dif_neg e]
    congr 2; exact Fin.ext (by show 2056 + (k.val - 2048) = k.val + 8; omega)

set_option maxHeartbeats 1000000 in
theorem read_v1 : V m c main_v1 = pairs (m ((c.tc : Thread nD τ).loc main_arg0)) := by
  simp only [V, V0, hostOps0, hostOps0_1, hostOps0_2, List.flatten_cons, List.flatten_nil, List.append_nil, List.cons_append, List.nil_append]
  entry_read
  try exact rfl
set_option maxHeartbeats 1000000 in
theorem read_v3 : V m c main_v3 = pairs (m ((c.tc : Thread nD τ).loc main_arg1)) := by
  simp only [V, V0, hostOps0, hostOps0_1, hostOps0_2, List.flatten_cons, List.flatten_nil, List.append_nil, List.cons_append, List.nil_append]
  entry_read
  try exact rfl
set_option maxHeartbeats 1000000 in
theorem read_v7 : V m c main_v7 = zmF (m ((c.tc : Thread nD τ).loc main_arg2)) := by
  simp only [V, V0, hostOps0, hostOps0_1, hostOps0_2, List.flatten_cons, List.flatten_nil, List.append_nil, List.cons_append, List.nil_append]
  entry_read
  try exact rfl
set_option maxHeartbeats 1000000 in
theorem read_v10 : V m c main_v10 = truncf .bf16 (show AS from (m ((c.tc : Thread nD τ).loc main_arg5))) bitsLt_bf16_f32 := by
  simp only [V, V0, hostOps0, hostOps0_1, hostOps0_2, List.flatten_cons, List.flatten_nil, List.append_nil, List.cons_append, List.nil_append]
  entry_read
  try exact rfl
set_option maxHeartbeats 1000000 in
theorem read_v11 : V m c main_v11 = truncf .bf16 (show AS from (m ((c.tc : Thread nD τ).loc main_arg7))) bitsLt_bf16_f32 := by
  simp only [V, V0, hostOps0, hostOps0_1, hostOps0_2, List.flatten_cons, List.flatten_nil, List.append_nil, List.cons_append, List.nil_append]
  entry_read
  try exact rfl
set_option maxHeartbeats 1000000 in
theorem read_v12 : V m c main_v12 = truncf .bf16 (show AE from (m ((c.tc : Thread nD τ).loc main_arg8))) bitsLt_bf16_f32 := by
  simp only [V, V0, hostOps0, hostOps0_1, hostOps0_2, List.flatten_cons, List.flatten_nil, List.append_nil, List.cons_append, List.nil_append]
  entry_read
  try exact rfl
set_option maxHeartbeats 1000000 in
theorem read_v13 : V m c main_v13 = shapeCast S1x1024 (show AG from (m ((c.tc : Thread nD τ).loc main_arg6))) shapeCasts_S1024_S1x1024 := by
  simp only [V, V0, hostOps0, hostOps0_1, hostOps0_2, List.flatten_cons, List.flatten_nil, List.append_nil, List.cons_append, List.nil_append]
  entry_read
  try exact rfl
theorem row_at (g : AG) (d : Fin 1024) : shapeCast S1x1024 g shapeCasts_S1024_S1x1024 (ix2 0 d) = g (ix1 d) := by
  pointwise

theorem idx : ∀ t : Fin cfg0.N, win0_0.index t = ![0, t.val, 0] ∧ win0_1.index t = ![0, t.val, 0] ∧ win0_2.index t = ![t.val, 3] ∧ win0_3.index t = ![t.val, 7] ∧ win0_4.index t = ![t.val, 0] ∧ win0_5.index t = ![0, 0, t.val, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

/-- The row of the sequence that a block's row is. -/
def at' (t : Fin cfg0.N) (r : Fin 256) : Fin 8192 := ⟨t.val * 256 + r.val, by have := lt_of_lt_of_eq t.isLt N_0; omega⟩

theorem blk0 (t : Fin cfg0.N) (p : Fin 4) (r : Fin 256) (l : Fin 128) : (show FVec Ideal S4x256x128 .f32 from iblk m c 0 t) (ix3 p r l) = aOa m c (ix2 (at' t r) ⟨128 * p.val + l.val, by omega⟩) := by
  refine Eq.trans (b := (show FVec Ideal S4x8192x128 .f32 from V m c main_v1) (ix3 p (at' t r) l)) ?_ ((congrFun (read_v1 m c) _).trans (pairs_at _ p _ l))
  unfold at'; blk_point [iblk, idx t]
theorem blk1 (t : Fin cfg0.N) (p : Fin 4) (r : Fin 256) (l : Fin 128) : (show FVec Ideal S4x256x128 .f32 from iblk m c 1 t) (ix3 p r l) = aOb m c (ix2 (at' t r) ⟨128 * p.val + l.val, by omega⟩) := by
  refine Eq.trans (b := (show FVec Ideal S4x8192x128 .f32 from V m c main_v3) (ix3 p (at' t r) l)) ?_ ((congrFun (read_v3 m c) _).trans (pairs_at _ p _ l))
  unfold at'; blk_point [iblk, idx t]
theorem blk2 (t : Fin cfg0.N) (r : Fin 256) (k : Fin 512) : (show FVec Ideal S256x512 .bf16 from iblk m c 2 t) (ix2 r k) = aZ m c (ix2 (at' t r) ⟨1536 + k.val, by omega⟩) := by
  refine Eq.trans (b := (show FVec Ideal S8192x4096 .bf16 from V m c main_v7) (ix2 (at' t r) ⟨1536 + k.val, by omega⟩)) ?_ ((congrFun (read_v7 m c) _).trans ((zmF_at _ _ _).trans ((dif_pos (by show 1536 + k.val < 2048; omega)).trans (congrArg (fun x => aZ m c (ix2 (at' t r) x)) (Fin.ext ?_)))))
  · unfold at'; blk_point [iblk, idx t]
  · show 1536 + k.val = 1536 + k.val; omega
theorem blk3 (t : Fin cfg0.N) (r : Fin 256) (k : Fin 512) : (show FVec Ideal S256x512 .bf16 from iblk m c 3 t) (ix2 r k) = aZ m c (ix2 (at' t r) ⟨3592 + k.val, by omega⟩) := by
  refine Eq.trans (b := (show FVec Ideal S8192x4096 .bf16 from V m c main_v7) (ix2 (at' t r) ⟨3584 + k.val, by omega⟩)) ?_ ((congrFun (read_v7 m c) _).trans ((zmF_at _ _ _).trans ((dif_neg (by show ¬ 3584 + k.val < 2048; omega)).trans (congrArg (fun x => aZ m c (ix2 (at' t r) x)) (Fin.ext ?_)))))
  · unfold at'; blk_point [iblk, idx t]
  · show 3584 + k.val + 8 = 3592 + k.val; omega
theorem blk4 (t : Fin cfg0.N) (r : Fin 256) (d : Fin 1024) : (show FVec Ideal S256x1024 .f32 from iblk m c 4 t) (ix2 r d) = aH m c (ix2 (at' t r) d) := by
  unfold aH at'; rw [← V_main_arg3 m c]; blk_point [iblk, idx t]
theorem blk5 (t : Fin cfg0.N) (r k : Fin 256) : (show FVec Ideal S1x1x256x256 .f32 from iblk m c 5 t) (ix4 0 0 r k) = aP m c (ix4 0 0 (at' t r) k) := by
  unfold aP at'; rw [← V_main_arg4 m c]; blk_point [iblk, idx t]
theorem blk6 (t : Fin cfg0.N) (k : Fin 1024) (d : Fin 1024) : (show FVec Ideal S1024x1024 .bf16 from iblk m c 6 t) (ix2 k d) = aWo m c (ix2 k d) := by
  refine Eq.trans (b := (show FVec Ideal S1024x1024 .bf16 from V m c main_v10) (ix2 k d)) ?_ (congrFun (read_v10 m c) _)
  blk_point [iblk, idx t]
theorem blk7 (t : Fin cfg0.N) (k : Fin 1024) (d : Fin 1024) : (show FVec Ideal S1024x1024 .bf16 from iblk m c 7 t) (ix2 k d) = aWg m c (ix2 k d) := by
  refine Eq.trans (b := (show FVec Ideal S1024x1024 .bf16 from V m c main_v11) (ix2 k d)) ?_ (congrFun (read_v11 m c) _)
  blk_point [iblk, idx t]
theorem blk8 (t : Fin cfg0.N) (k : Fin 256) (d : Fin 1024) : (show FVec Ideal S256x1024 .bf16 from iblk m c 8 t) (ix2 k d) = aWp m c (ix2 k d) := by
  refine Eq.trans (b := (show FVec Ideal S256x1024 .bf16 from V m c main_v12) (ix2 k d)) ?_ (congrFun (read_v12 m c) _)
  blk_point [iblk, idx t]
theorem blk9 (t : Fin cfg0.N) (d : Fin 1024) : (show FVec Ideal S1x1024 .f32 from iblk m c 9 t) (ix2 0 d) = aG m c (ix1 d) := by
  refine Eq.trans (b := (show FVec Ideal S1x1024 .f32 from V m c main_v13) (ix2 0 d)) ?_ ((congrFun (read_v13 m c) _).trans (row_at _ d))
  blk_point [iblk, idx t]

/-! ## The results' blocks -/

theorem pY (t : Fin cfg0.N) (r : Fin 256) (d : Fin 1024) : payY (iblk m c 0 t) (iblk m c 1 t) (iblk m c 2 t) (iblk m c 3 t) (iblk m c 4 t) (iblk m c 5 t) (iblk m c 6 t) (iblk m c 7 t) (iblk m c 8 t) (iblk m c 9 t) (ix2 r d) = gy (aOa m c) (aOb m c) (aZ m c) (at' t r) d :=
  payY_at (iblk m c 0 t) (iblk m c 1 t) (iblk m c 2 t) (iblk m c 3 t) (iblk m c 4 t) (iblk m c 5 t) (iblk m c 6 t) (iblk m c 7 t) (iblk m c 8 t) (iblk m c 9 t) (fun r k => aOa m c (ix2 (at' t r) k)) (fun r k => aOb m c (ix2 (at' t r) k)) (fun r k => aZ m c (ix2 (at' t r) ⟨1536 + k.val, by omega⟩)) (fun r k => aZ m c (ix2 (at' t r) ⟨3592 + k.val, by omega⟩))
    (fun p r l => blk0 m c t p r l) (fun p r l => blk1 m c t p r l) (fun r k => blk2 m c t r k) (fun r k => blk3 m c t r k) r d
theorem pH (t : Fin cfg0.N) (r : Fin 256) (d : Fin 1024) : payH (iblk m c 0 t) (iblk m c 1 t) (iblk m c 2 t) (iblk m c 3 t) (iblk m c 4 t) (iblk m c 5 t) (iblk m c 6 t) (iblk m c 7 t) (iblk m c 8 t) (iblk m c 9 t) (ix2 r d) = gh (aOa m c) (aOb m c) (aZ m c) (aH m c) (aWo m c) (at' t r) d :=
  (payH_at (iblk m c 0 t) (iblk m c 1 t) (iblk m c 2 t) (iblk m c 3 t) (iblk m c 4 t) (iblk m c 5 t) (iblk m c 6 t) (iblk m c 7 t) (iblk m c 8 t) (iblk m c 9 t) r d).trans (congrArg₂ (fun a b : EReal => a + b) (blk4 m c t r d) (Finset.sum_congr rfl fun k _ => congrArg₂ (fun a b : EReal => a * b) (pY m c t r k) (blk6 m c t k d)))
theorem pU (t : Fin cfg0.N) (r : Fin 256) (d : Fin 1024) : payU (iblk m c 0 t) (iblk m c 1 t) (iblk m c 2 t) (iblk m c 3 t) (iblk m c 4 t) (iblk m c 5 t) (iblk m c 6 t) (iblk m c 7 t) (iblk m c 8 t) (iblk m c 9 t) (ix2 r d) = gu (aOa m c) (aOb m c) (aZ m c) (aH m c) (aWo m c) (aG m c) (at' t r) d :=
  (payU_at (iblk m c 0 t) (iblk m c 1 t) (iblk m c 2 t) (iblk m c 3 t) (iblk m c 4 t) (iblk m c 5 t) (iblk m c 6 t) (iblk m c 7 t) (iblk m c 8 t) (iblk m c 9 t) r d).trans (congrArg₂ (fun a b : EReal => a * b) (congrArg₂ (fun a b : EReal => a * b) (pH m c t r d) (congrArg (fun x => Ideal.rsqrt (ms x)) (funext fun d => pH m c t r d))) (blk9 m c t d))
theorem pE (t : Fin cfg0.N) (r : Fin 256) (d : Fin 1024) : payE (iblk m c 5 t) (iblk m c 8 t) (ix2 r d) = ge (aP m c) (aWp m c) (at' t r) d :=
  (payE_at (iblk m c 5 t) (iblk m c 8 t) r d).trans (Finset.sum_congr rfl fun k _ => congrArg₂ (fun a b : EReal => a * b) (blk5 m c t r k) (blk8 m c t k d))
theorem pG (t : Fin cfg0.N) (r : Fin 256) (d : Fin 1024) : payG (iblk m c 0 t) (iblk m c 1 t) (iblk m c 2 t) (iblk m c 3 t) (iblk m c 4 t) (iblk m c 5 t) (iblk m c 6 t) (iblk m c 7 t) (iblk m c 8 t) (iblk m c 9 t) (ix2 r d) = gg (aOa m c) (aOb m c) (aZ m c) (aH m c) (aWo m c) (aG m c) (aWg m c) (at' t r) d :=
  (payG_at (iblk m c 0 t) (iblk m c 1 t) (iblk m c 2 t) (iblk m c 3 t) (iblk m c 4 t) (iblk m c 5 t) (iblk m c 6 t) (iblk m c 7 t) (iblk m c 8 t) (iblk m c 9 t) r d).trans (congrArg sigm (Finset.sum_congr rfl fun k _ => congrArg₂ (fun a b : EReal => a * b) (pU m c t r k) (blk7 m c t k d)))

/-! ## The six arrays -/

def outY : FVec Ideal S8192x1024 .bf16 := fun j => gy (aOa m c) (aOb m c) (aZ m c) (j 0) (j 1)
def outH : FVec Ideal S8192x1024 .f32 := fun j => gh (aOa m c) (aOb m c) (aZ m c) (aH m c) (aWo m c) (j 0) (j 1)
def outZ : FVec Ideal S8192x1024 .f32 := fun j => gz (aOa m c) (aOb m c) (aZ m c) (aH m c) (aP m c) (aWo m c) (aG m c) (aWg m c) (aWp m c) (j 0) (j 1)
def outU : FVec Ideal S8192x1024 .bf16 := fun j => gu (aOa m c) (aOb m c) (aZ m c) (aH m c) (aWo m c) (aG m c) (j 0) (j 1)
def outE : FVec Ideal S8192x1024 .bf16 := fun j => ge (aP m c) (aWp m c) (j 0) (j 1)
def outG : FVec Ideal S8192x1024 .bf16 := fun j => gg (aOa m c) (aOb m c) (aZ m c) (aH m c) (aWo m c) (aG m c) (aWg m c) (j 0) (j 1)

theorem pZ (t : Fin cfg0.N) (r : Fin 256) (d : Fin 1024) : payZ (iblk m c 0 t) (iblk m c 1 t) (iblk m c 2 t) (iblk m c 3 t) (iblk m c 4 t) (iblk m c 5 t) (iblk m c 6 t) (iblk m c 7 t) (iblk m c 8 t) (iblk m c 9 t) (ix2 r d) = outZ m c (ix2 (at' t r) d) :=
  (payZ_at (iblk m c 0 t) (iblk m c 1 t) (iblk m c 2 t) (iblk m c 3 t) (iblk m c 4 t) (iblk m c 5 t) (iblk m c 6 t) (iblk m c 7 t) (iblk m c 8 t) (iblk m c 9 t) _).trans (congrArg₂ (fun a b : EReal => a + b) (pH m c t r d) (congrArg₂ (fun a b : EReal => a * b) (pE m c t r d) (pG m c t r d)))

theorem emb10 (t : Fin cfg0.N) (r : Fin 256) (d : Fin 1024) : ((cfg0.win 10).blk t).view.emb (ix2 r d) = ix2 (at' t r) d := by
  funext a
  refine Fin.ext ?_
  blk_simp [idx t]
  fin_cases a
  · rfl
  · show 0 * 1024 + d.val = d.val; omega
theorem final10 : (dats m 0 c).arrAt 10 (cfgs 0).N = outY m c := by
  refine (dats m 0 c).arrAt_eq_of_covers 10 _ (by decide +kernel) fun t hf y => ?_
  have he : ((cfg0.win 10).blk t).view.emb y = ix2 (at' t (y 0)) (y 1) := (congrArg _ (eq_ix2 (y : S256x1024.Idx))).trans (emb10 t _ _)
  refine Eq.trans ?_ (congrArg (outY m c) he).symm
  rw [after0_10]
  frame_out
  exact (congrArg _ (eq_ix2 (y : S256x1024.Idx))).trans (pY m c t (y 0) (y 1))
theorem emb11 (t : Fin cfg0.N) (r : Fin 256) (d : Fin 1024) : ((cfg0.win 11).blk t).view.emb (ix2 r d) = ix2 (at' t r) d := by
  funext a
  refine Fin.ext ?_
  blk_simp [idx t]
  fin_cases a
  · rfl
  · show 0 * 1024 + d.val = d.val; omega
theorem final11 : (dats m 0 c).arrAt 11 (cfgs 0).N = outH m c := by
  refine (dats m 0 c).arrAt_eq_of_covers 11 _ (by decide +kernel) fun t hf y => ?_
  have he : ((cfg0.win 11).blk t).view.emb y = ix2 (at' t (y 0)) (y 1) := (congrArg _ (eq_ix2 (y : S256x1024.Idx))).trans (emb11 t _ _)
  refine Eq.trans ?_ (congrArg (outH m c) he).symm
  rw [after0_11]
  frame_out
  exact (congrArg _ (eq_ix2 (y : S256x1024.Idx))).trans (pH m c t (y 0) (y 1))
theorem emb12 (t : Fin cfg0.N) (r : Fin 256) (d : Fin 1024) : ((cfg0.win 12).blk t).view.emb (ix2 r d) = ix2 (at' t r) d := by
  funext a
  refine Fin.ext ?_
  blk_simp [idx t]
  fin_cases a
  · rfl
  · show 0 * 1024 + d.val = d.val; omega
theorem final12 : (dats m 0 c).arrAt 12 (cfgs 0).N = outZ m c := by
  refine (dats m 0 c).arrAt_eq_of_covers 12 _ (by decide +kernel) fun t hf y => ?_
  have he : ((cfg0.win 12).blk t).view.emb y = ix2 (at' t (y 0)) (y 1) := (congrArg _ (eq_ix2 (y : S256x1024.Idx))).trans (emb12 t _ _)
  refine Eq.trans ?_ (congrArg (outZ m c) he).symm
  rw [after0_12]
  frame_out
  exact (congrArg _ (eq_ix2 (y : S256x1024.Idx))).trans (pZ m c t (y 0) (y 1))
theorem emb13 (t : Fin cfg0.N) (r : Fin 256) (d : Fin 1024) : ((cfg0.win 13).blk t).view.emb (ix2 r d) = ix2 (at' t r) d := by
  funext a
  refine Fin.ext ?_
  blk_simp [idx t]
  fin_cases a
  · rfl
  · show 0 * 1024 + d.val = d.val; omega
theorem final13 : (dats m 0 c).arrAt 13 (cfgs 0).N = outU m c := by
  refine (dats m 0 c).arrAt_eq_of_covers 13 _ (by decide +kernel) fun t hf y => ?_
  have he : ((cfg0.win 13).blk t).view.emb y = ix2 (at' t (y 0)) (y 1) := (congrArg _ (eq_ix2 (y : S256x1024.Idx))).trans (emb13 t _ _)
  refine Eq.trans ?_ (congrArg (outU m c) he).symm
  rw [after0_13]
  frame_out
  exact (congrArg _ (eq_ix2 (y : S256x1024.Idx))).trans (pU m c t (y 0) (y 1))
theorem emb14 (t : Fin cfg0.N) (r : Fin 256) (d : Fin 1024) : ((cfg0.win 14).blk t).view.emb (ix2 r d) = ix2 (at' t r) d := by
  funext a
  refine Fin.ext ?_
  blk_simp [idx t]
  fin_cases a
  · rfl
  · show 0 * 1024 + d.val = d.val; omega
theorem final14 : (dats m 0 c).arrAt 14 (cfgs 0).N = outE m c := by
  refine (dats m 0 c).arrAt_eq_of_covers 14 _ (by decide +kernel) fun t hf y => ?_
  have he : ((cfg0.win 14).blk t).view.emb y = ix2 (at' t (y 0)) (y 1) := (congrArg _ (eq_ix2 (y : S256x1024.Idx))).trans (emb14 t _ _)
  refine Eq.trans ?_ (congrArg (outE m c) he).symm
  rw [after0_14]
  frame_out
  exact (congrArg _ (eq_ix2 (y : S256x1024.Idx))).trans (pE m c t (y 0) (y 1))
theorem emb15 (t : Fin cfg0.N) (r : Fin 256) (d : Fin 1024) : ((cfg0.win 15).blk t).view.emb (ix2 r d) = ix2 (at' t r) d := by
  funext a
  refine Fin.ext ?_
  blk_simp [idx t]
  fin_cases a
  · rfl
  · show 0 * 1024 + d.val = d.val; omega
theorem final15 : (dats m 0 c).arrAt 15 (cfgs 0).N = outG m c := by
  refine (dats m 0 c).arrAt_eq_of_covers 15 _ (by decide +kernel) fun t hf y => ?_
  have he : ((cfg0.win 15).blk t).view.emb y = ix2 (at' t (y 0)) (y 1) := (congrArg _ (eq_ix2 (y : S256x1024.Idx))).trans (emb15 t _ _)
  refine Eq.trans ?_ (congrArg (outG m c) he).symm
  rw [after0_15]
  frame_out
  exact (congrArg _ (eq_ix2 (y : S256x1024.Idx))).trans (pG m c t (y 0) (y 1))

end Cert.MidIdeal.Mid

end
-- ==== Proof.MidSuffix.lean ====
/-
  The host code after the launch: four of the middle's six arrays as returned.
-/
module

public import proofs.«01_k».proof.Proof.MidVals

@[expose] public section

set_option maxRecDepth 16384

noncomputable section

namespace Cert.MidIdeal.Mid

open Cert.MidIdeal Cert.MidIdeal.Gen
open Idealize.ShloMosaic Idealize.ShloMosaic.TcCoe

/-- An array of the launch in the type it is returned in. -/
def wide (x : FVec Ideal S8192x1024 .bf16) : FVec Ideal S8192x1024 .f32 := extf .f32 x bitsLt_bf16_f32

set_option maxHeartbeats 1000000 in
theorem after_v15 (W : Valuation τ sig (Elt Ideal)) : StableHlo.after (List.flatten [hostOps1]) W (Proc.devRef .tc main_v15) = wide (W (Proc.devRef .tc main_v14_0)) := by
  simp only [hostOps1, List.flatten_cons, List.flatten_nil, List.append_nil, List.cons_append, List.nil_append]
  after_results
  exact rfl
set_option maxHeartbeats 1000000 in
theorem after_v16 (W : Valuation τ sig (Elt Ideal)) : StableHlo.after (List.flatten [hostOps1]) W (Proc.devRef .tc main_v16) = wide (W (Proc.devRef .tc main_v14_3)) := by
  simp only [hostOps1, List.flatten_cons, List.flatten_nil, List.append_nil, List.cons_append, List.nil_append]
  after_results
  exact rfl
set_option maxHeartbeats 1000000 in
theorem after_v17 (W : Valuation τ sig (Elt Ideal)) : StableHlo.after (List.flatten [hostOps1]) W (Proc.devRef .tc main_v17) = wide (W (Proc.devRef .tc main_v14_4)) := by
  simp only [hostOps1, List.flatten_cons, List.flatten_nil, List.append_nil, List.cons_append, List.nil_append]
  after_results
  exact rfl
set_option maxHeartbeats 1000000 in
theorem after_v18 (W : Valuation τ sig (Elt Ideal)) : StableHlo.after (List.flatten [hostOps1]) W (Proc.devRef .tc main_v18) = wide (W (Proc.devRef .tc main_v14_5)) := by
  simp only [hostOps1, List.flatten_cons, List.flatten_nil, List.append_nil, List.cons_append, List.nil_append]
  after_results
  exact rfl

variable (m : (ℓ : Loc nD τ sig) → Buf (Elt Ideal) ℓ) (c : Dev nD)

/-- After the launch an array holds what its window left, whatever two windows read one array. -/
theorem arr_end (w : Fin 16) : Pipeline.withArrays spec0 c (V0 m c) (fun w => (dats m 0 c).arrAt w cfg0.N) (Proc.devRef .tc (Pipeline.arrRef spec0 w)) = (dats m 0 c).arrAt w cfg0.N :=
  (dats m 0 c).withArrays_arrAt sharedIn0 (V0 m c) (A_eq m c) w
theorem end_v15 : Pipeline.afterTail₀ cfgs (dats m) 0 (V0 m) [hostOps1] c main_v15 = wide (outY m c) :=
  (after_v15 _).trans (congrArg wide ((arr_end m c 10).trans (final10 m c)))
theorem end_v16 : Pipeline.afterTail₀ cfgs (dats m) 0 (V0 m) [hostOps1] c main_v16 = wide (outU m c) :=
  (after_v16 _).trans (congrArg wide ((arr_end m c 13).trans (final13 m c)))
theorem end_v17 : Pipeline.afterTail₀ cfgs (dats m) 0 (V0 m) [hostOps1] c main_v17 = wide (outE m c) :=
  (after_v17 _).trans (congrArg wide ((arr_end m c 14).trans (final14 m c)))
theorem end_v18 : Pipeline.afterTail₀ cfgs (dats m) 0 (V0 m) [hostOps1] c main_v18 = wide (outG m c) :=
  (after_v18 _).trans (congrArg wide ((arr_end m c 15).trans (final15 m c)))

end Cert.MidIdeal.Mid

end
-- ==== Proof.MidEqual.lean ====
/-
  The middle of a layer: the kernel leaves what the reference leaves.
-/
module

public import proofs.«01_k».proof.Defs
public import proofs.«01_k».proof.Proof.Gen.MidReferenceIdeal.Run
public import proofs.«01_k».proof.Proof.Gen.MidReferenceIdeal.Read
public import proofs.«01_k».proof.Proof.MidSuffix
public import Idealize.ShloMosaic.Lib.Quiescent

@[expose] public section

set_option maxRecDepth 16384

noncomputable section

namespace Cert.Proof

open Idealize.ShloMosaic Idealize.ShloMosaic.TcCoe Idealize.SL.Sem
open Cert.RowNorm
open scoped BigOperators

theorem frame_mid_reference : Cert.quiescent_MidReferenceIdeal (hMidReferenceIdeal := Cert.MidReferenceIdeal.Gen.facts) := fun m g _ =>
  (θ_run _ _ _).mono (fun r h => ⟨fun c => (h c).2.2.2.2.2.2, sem_eq_zero_of_no_sems (by decide) r.2⟩) (Cert.MidReferenceIdeal.Value.run (F := Ideal) m g)

section
open Cert.MidReferenceIdeal Cert.MidReferenceIdeal.Read
open Cert.MidIdeal.Mid (sigm silu gy gh gu gg ge gz)

theorem c_one : Ideal.ofBits .f32 0x3F800000#32 = (1 : EReal) := by
  have h : Ideal.ofBits .f32 0x3F800000#32 = ((1 : ℝ) : EReal) := by
    simp [Ideal.ofBits, Ideal.ieee, -EReal.coe_mul, -EReal.coe_one]; norm_num
  rw [h, EReal.coe_one]

/-- The logistic function, as the reference spells it. -/
theorem sigm_eq (x : EReal) : Ideal.div (Ideal.ofBits .f32 0x3F800000#32) (Ideal.ofBits .f32 0x3F800000#32 + Ideal.exp (-x)) = sigm x := by
  unfold sigm
  rw [c_one, zero_sub]

variable (oa ob : FVec Ideal S8192x512 .f32) (z : FVec Ideal S8192x4104 .f32) (h : FVec Ideal S8192x1024 .f32) (p : FVec Ideal S2x1x8192x256 .f32)
  (wo : FVec Ideal S1024x1024 .f32) (g : FVec Ideal S1024 .f32) (wg : FVec Ideal S1024x1024 .f32) (wp : FVec Ideal S256x1024 .f32)

theorem mid_branch0 (t : Fin 8192) (k : Fin 512) : val_main_v3 (F := Ideal) oa z (ix2 t k) = oa (ix2 t k) * silu (z (ix2 t ⟨1536 + k.val, by omega⟩)) := by
  rw [val_main_v3_apply, val_main_v2_apply, val_main_call0_v5_apply, val_main_call0_v4_apply, val_main_call0_cst_0_apply, val_main_call0_v3_apply,
    val_main_call0_v2_apply, val_main_call0_cst_apply, val_main_call0_v1_apply, val_main_call0_v0_apply, val_main_v0_apply]
  have e : idx_main_v0 (ix2 t k) = ix2 t ⟨1536 + k.val, by omega⟩ := funext fun a => by
    match a with
    | ⟨0, _⟩ => rfl
    | ⟨1, _⟩ => exact Fin.ext (by first | rfl | (show k.val + 1536 = 1536 + k.val; omega))
  rw [e]
  exact congrArg (fun x => oa (ix2 t k) * (z (ix2 t ⟨1536 + k.val, by omega⟩) * x)) (sigm_eq _)

theorem mid_branch1 (t : Fin 8192) (k : Fin 512) : val_main_v5 (F := Ideal) ob z (ix2 t k) = ob (ix2 t k) * silu (z (ix2 t ⟨3592 + k.val, by omega⟩)) := by
  rw [val_main_v5_apply, val_main_v4_apply, val_main_call1_v5_apply, val_main_call1_v4_apply, val_main_call1_cst_0_apply, val_main_call1_v3_apply,
    val_main_call1_v2_apply, val_main_call1_cst_apply, val_main_call1_v1_apply, val_main_call1_v0_apply, val_main_v1_apply]
  have e : idx_main_v1 (ix2 t k) = ix2 t ⟨3592 + k.val, by omega⟩ := funext fun a => by
    match a with
    | ⟨0, _⟩ => rfl
    | ⟨1, _⟩ => exact Fin.ext (by first | rfl | (show k.val + 3592 = 3592 + k.val; omega))
  rw [e]
  exact congrArg (fun x => ob (ix2 t k) * (z (ix2 t ⟨3592 + k.val, by omega⟩) * x)) (sigm_eq _)

theorem mid_y (t : Fin 8192) (d : Fin 1024) : val_main_v6 (F := Ideal) oa ob z (ix2 t d) = gy oa ob z t d := by
  have e : val_main_v6 (F := Ideal) oa ob z (ix2 t d) = if h : d.val < 512 then val_main_v3 (F := Ideal) oa z (ix2 t ⟨d.val, h⟩) else val_main_v5 (F := Ideal) ob z (ix2 t ⟨d.val - 512, by omega⟩) := by
    unfold val_main_v6
    generalize val_main_v3 (F := Ideal) oa z = y0
    generalize val_main_v5 (F := Ideal) ob z = y1
    pointwise
  rw [e]
  unfold gy
  by_cases e' : d.val < 512
  · rw [dif_pos e', dif_pos e']; exact mid_branch0 oa z t _
  · rw [dif_neg e', dif_neg e']; exact mid_branch1 ob z t _

theorem mid_h (t : Fin 8192) (d : Fin 1024) : val_main_v8 (F := Ideal) oa ob z h wo (ix2 t d) = gh oa ob z h wo t d := by
  rw [val_main_v8_apply, val_main_v7_apply]
  refine congrArg (h (ix2 t d) + ·) (Finset.sum_congr rfl fun k _ => ?_)
  have e1 : lidx_main_v7 (ix2 t d) k = ix2 t k := funext fun a => by match a with | ⟨0, _⟩ => rfl | ⟨1, _⟩ => rfl
  have e2 : ridx_main_v7 (ix2 t d) k = ix2 k d := funext fun a => by match a with | ⟨0, _⟩ => rfl | ⟨1, _⟩ => rfl
  rw [e1, e2]
  exact congrArg (· * _) (mid_y oa ob z t k)

theorem mid_ms (t : Fin 8192) : val_main_v15 (F := Ideal) oa ob z h wo (ix2 t 0) = ms fun d : Fin 1024 => gh oa ob z h wo t d := by
  rw [val_main_v15_apply, val_main_v13_apply, val_main_v11_apply, val_main_v12_apply, val_main_v14_apply, val_main_cst_0_apply, val_main_cst_1_apply]
  have e : idx_main_v11 (ix2 t 0) = ix1 t := funext fun a => by match a with | ⟨0, _⟩ => rfl
  have e1 : val_main_v10 (F := Ideal) oa ob z h wo (ix1 t) = ∑ d : Fin 1024, gh oa ob z h wo t d * gh oa ob z h wo t d := by
    rw [val_main_v10_apply, val_main_cst_apply]
    refine (congrArg (· + _) c_zero).trans ((zero_add _).trans (Finset.sum_congr rfl fun d _ => ?_))
    have e : idx_main_v10 (ix1 t) d = ix2 t d := funext fun a => by match a with | ⟨0, _⟩ => rfl | ⟨1, _⟩ => rfl
    rw [e, val_main_v9_apply]
    exact congrArg (fun x : EReal => x * x) (mid_h oa ob z h wo t d)
  rw [e, e1]
  unfold ms
  rw [← c_1024]; rfl

theorem mid_u (t : Fin 8192) (d : Fin 1024) : val_main_v21 (F := Ideal) oa ob z h wo g (ix2 t d) = gu oa ob z h wo g t d := by
  rw [val_main_v21_apply, val_main_v18_apply, val_main_v17_apply, val_main_v20_apply, val_main_v19_apply]
  have e1 : idx_main_v17 (ix2 t d) = ix2 t 0 := funext fun a => by match a with | ⟨0, _⟩ => rfl | ⟨1, _⟩ => rfl
  have e2 : idx_main_v19 (idx_main_v20 (ix2 t d)) = ix1 d := funext fun a => by match a with | ⟨0, _⟩ => rfl
  rw [e1, e2, val_main_v16_apply, mid_ms, mid_h]; rfl

theorem mid_gate (t : Fin 8192) (d : Fin 1024) : val_main_v28 (F := Ideal) oa ob z h wo g wg (ix2 t d) = gg oa ob z h wo g wg t d := by
  rw [val_main_v28_apply, val_main_v27_apply, val_main_cst_3_apply, val_main_v26_apply, val_main_v25_apply, val_main_cst_2_apply, val_main_v24_apply, val_main_v23_apply, val_main_v22_apply]
  refine (sigm_eq _).trans (congrArg sigm (Finset.sum_congr rfl fun k _ => ?_))
  have e1 : lidx_main_v22 (ix2 t d) k = ix2 t k := funext fun a => by match a with | ⟨0, _⟩ => rfl | ⟨1, _⟩ => rfl
  have e2 : ridx_main_v22 (ix2 t d) k = ix2 k d := funext fun a => by match a with | ⟨0, _⟩ => rfl | ⟨1, _⟩ => rfl
  rw [e1, e2]
  exact congrArg (· * _) (mid_u oa ob z h wo g t k)

theorem mid_e (t : Fin 8192) (d : Fin 1024) : val_main_v31 (F := Ideal) p wp (ix2 t d) = ge p wp t d := by
  rw [val_main_v31_apply]
  refine Finset.sum_congr rfl fun k _ => congrArg₂ (fun a b : EReal => a * b) ?_ (congrArg wp (funext fun a => by match a with | ⟨0, _⟩ => rfl | ⟨1, _⟩ => rfl))
  rw [val_main_v30_apply, val_main_v29_apply]
  refine congrArg p (funext fun a => ?_)
  match a with
  | ⟨0, _⟩ => rfl
  | ⟨1, _⟩ => rfl
  | ⟨2, _⟩ => exact Fin.ext (by show (t.val * 256 + k.val) / 256 % 8192 = t.val; omega)
  | ⟨3, _⟩ => exact Fin.ext (by show (t.val * 256 + k.val) % 256 = k.val; omega)

theorem mid_z (t : Fin 8192) (d : Fin 1024) : val_main_v33 (F := Ideal) oa ob z h p wo g wg wp (ix2 t d) = gz oa ob z h p wo g wg wp t d := by
  rw [val_main_v33_apply, val_main_v32_apply, mid_h, mid_e, mid_gate]; rfl
end

section
variable (m : (ℓ : Loc Cert.MidIdeal.nD Cert.MidIdeal.τ Cert.MidIdeal.sig) → Buf (Elt Ideal) ℓ) (c : Dev Cert.MidIdeal.nD)
open Cert.MidIdeal.Mid Cert.MidReferenceIdeal.Read

theorem mid_out_y : val_main_v6 (F := Ideal) (aOa m c) (aOb m c) (aZ m c) = wide (outY m c) := by
  funext i
  rw [eq_ix2 i]
  exact mid_y (aOa m c) (aOb m c) (aZ m c) (i 0) (i 1)
theorem mid_out_h : val_main_v8 (F := Ideal) (aOa m c) (aOb m c) (aZ m c) (aH m c) (aWo m c) = outH m c := by
  funext i
  rw [eq_ix2 i]
  exact mid_h (aOa m c) (aOb m c) (aZ m c) (aH m c) (aWo m c) (i 0) (i 1)
theorem mid_out_z : val_main_v33 (F := Ideal) (aOa m c) (aOb m c) (aZ m c) (aH m c) (aP m c) (aWo m c) (aG m c) (aWg m c) (aWp m c) = outZ m c := by
  funext i
  rw [eq_ix2 i]
  exact mid_z (aOa m c) (aOb m c) (aZ m c) (aH m c) (aP m c) (aWo m c) (aG m c) (aWg m c) (aWp m c) (i 0) (i 1)
theorem mid_out_u : val_main_v21 (F := Ideal) (aOa m c) (aOb m c) (aZ m c) (aH m c) (aWo m c) (aG m c) = wide (outU m c) := by
  funext i
  rw [eq_ix2 i]
  exact mid_u (aOa m c) (aOb m c) (aZ m c) (aH m c) (aWo m c) (aG m c) (i 0) (i 1)
theorem mid_out_e : val_main_v31 (F := Ideal) (aP m c) (aWp m c) = wide (outE m c) := by
  funext i
  rw [eq_ix2 i]
  exact mid_e (aP m c) (aWp m c) (i 0) (i 1)
theorem mid_out_gate : val_main_v28 (F := Ideal) (aOa m c) (aOb m c) (aZ m c) (aH m c) (aWo m c) (aG m c) (aWg m c) = wide (outG m c) := by
  funext i
  rw [eq_ix2 i]
  exact mid_gate (aOa m c) (aOb m c) (aZ m c) (aH m c) (aWo m c) (aG m c) (aWg m c) (i 0) (i 1)
end

theorem equal_mid : Cert.algebraic_MidIdeal_MidReferenceIdeal (hMidIdeal := Cert.MidIdeal.Gen.facts) (hMidReferenceIdeal := Cert.MidReferenceIdeal.Gen.facts) := by
  intro m g m' g' _ hargs
  refine ⟨fun c => Cert.MidIdeal.Mid.wide (Cert.MidIdeal.Mid.outY m c), fun c => Cert.MidIdeal.Mid.outH m c, fun c => Cert.MidIdeal.Mid.outZ m c, fun c => Cert.MidIdeal.Mid.wide (Cert.MidIdeal.Mid.outU m c), fun c => Cert.MidIdeal.Mid.wide (Cert.MidIdeal.Mid.outE m c), fun c => Cert.MidIdeal.Mid.wide (Cert.MidIdeal.Mid.outG m c), ?_, ?_⟩
  · exact (θ_run Cert.MidIdeal.defs _ _).mono (fun r h c => ⟨((h.1 c).2 Cert.MidIdeal.main_v15 (by decide)).trans (Cert.MidIdeal.Mid.end_v15 m c), ((h.1 c).1 11).trans (Cert.MidIdeal.Mid.final11 m c), ((h.1 c).1 12).trans (Cert.MidIdeal.Mid.final12 m c), ((h.1 c).2 Cert.MidIdeal.main_v16 (by decide)).trans (Cert.MidIdeal.Mid.end_v16 m c), ((h.1 c).2 Cert.MidIdeal.main_v17 (by decide)).trans (Cert.MidIdeal.Mid.end_v17 m c), ((h.1 c).2 Cert.MidIdeal.main_v18 (by decide)).trans (Cert.MidIdeal.Mid.end_v18 m c), h.2 c⟩)
      (θ_run_and (Cert.MidIdeal.Gen.run_main (F := Ideal) m g) (Cert.MidIdeal.Gen.unchanged (F := Ideal) m g))
  · refine (θ_run Cert.MidReferenceIdeal.defs _ _).mono (fun r h c => ?_) (Cert.MidReferenceIdeal.Value.run (F := Ideal) m' g')
    obtain ⟨e0, e1, e2, e3, e4, e5, e6, e7, e8⟩ := hargs c
    obtain ⟨h0, h1, h2, h3, h4, h5, h6⟩ := h c
    refine ⟨h0.trans ((Cert.MidReferenceIdeal.Read.val_main_v6_eq _ _ _).trans ?_), h1.trans ((Cert.MidReferenceIdeal.Read.val_main_v8_eq _ _ _ _ _).trans ?_), h2.trans ((Cert.MidReferenceIdeal.Read.val_main_v33_eq m' c).trans ?_), h3.trans ((Cert.MidReferenceIdeal.Read.val_main_v21_eq m' c).trans ?_), h4.trans ((Cert.MidReferenceIdeal.Read.val_main_v31_eq _ _).trans ?_), h5.trans ((Cert.MidReferenceIdeal.Read.val_main_v28_eq m' c).trans ?_), h6⟩
    · rw [e0, e1, e2]; exact mid_out_y m c
    · rw [e0, e1, e2, e3, e5]; exact mid_out_h m c
    · rw [e0, e1, e2, e3, e4, e5, e6, e7, e8]; exact mid_out_z m c
    · rw [e0, e1, e2, e3, e5, e6]; exact mid_out_u m c
    · rw [e4, e8]; exact mid_out_e m c
    · rw [e0, e1, e2, e3, e5, e6, e7]; exact mid_out_gate m c

end Cert.Proof

end
-- ==== Proof.lean ====
/-
  The proof of `Cert.Claim`.
-/
module

public import proofs.«01_k».proof.Defs
public import proofs.«01_k».proof.Proof.Gen.ReferenceIdeal
public import proofs.«01_k».proof.Proof.Gen.ReferenceIdeal.Run
public import proofs.«01_k».proof.Proof.Gen.Weights.Frame
public import proofs.«01_k».proof.Proof.Gen.WeightsIdeal.Frame
public import proofs.«01_k».proof.Proof.Gen.WeightsReferenceIdeal.Read
public import proofs.«01_k».proof.Proof.Gen.Norm.Frame
public import proofs.«01_k».proof.Proof.Gen.NormIdeal.Value
public import proofs.«01_k».proof.Proof.Gen.NormReferenceIdeal.Read
public import proofs.«01_k».proof.Proof.Gen.Square.Frame
public import proofs.«01_k».proof.Proof.Gen.SquareIdeal.Frame
public import proofs.«01_k».proof.Proof.Gen.SquareReferenceIdeal.Read
public import proofs.«01_k».proof.Proof.Gen.Project.Frame
public import proofs.«01_k».proof.Proof.Gen.ProjectIdeal.Frame
public import proofs.«01_k».proof.Proof.Gen.ProjectReferenceIdeal.Read
public import proofs.«01_k».proof.Proof.Gen.Embed.Frame
public import proofs.«01_k».proof.Proof.Gen.EmbedIdeal.Frame
public import proofs.«01_k».proof.Proof.Gen.EmbedReferenceIdeal.Read
public import proofs.«01_k».proof.Proof.Gen.Mid.Frame
public import proofs.«01_k».proof.Proof.Gen.MidIdeal.Frame
public import proofs.«01_k».proof.Proof.Gen.MidReferenceIdeal.Read
public import proofs.«01_k».proof.Proof.FrameKernel
public import proofs.«01_k».proof.Proof.Frames
public import proofs.«01_k».proof.Proof.RefRun
public import proofs.«01_k».proof.Proof.Equal
public import proofs.«01_k».proof.Proof.WeightsEqual
public import proofs.«01_k».proof.Proof.NormEqual
public import proofs.«01_k».proof.Proof.SquareEqual
public import proofs.«01_k».proof.Proof.ProjectEqual
public import proofs.«01_k».proof.Proof.EmbedEqual
public import proofs.«01_k».proof.Proof.MidEqual

@[expose] public section

noncomputable section

namespace Cert.Proof

open Idealize.ShloMosaic

theorem claim : Cert.Claim :=
  ⟨Cert.Kernel.Gen.facts, Cert.KernelIdeal.Gen.facts, Cert.ReferenceIdeal.Gen.facts, Cert.Weights.Gen.facts, Cert.WeightsIdeal.Gen.facts, Cert.WeightsReferenceIdeal.Gen.facts, Cert.Norm.Gen.facts, Cert.NormIdeal.Gen.facts, Cert.NormReferenceIdeal.Gen.facts, Cert.Square.Gen.facts, Cert.SquareIdeal.Gen.facts, Cert.SquareReferenceIdeal.Gen.facts, Cert.Project.Gen.facts, Cert.ProjectIdeal.Gen.facts, Cert.ProjectReferenceIdeal.Gen.facts, Cert.Embed.Gen.facts, Cert.EmbedIdeal.Gen.facts, Cert.EmbedReferenceIdeal.Gen.facts, Cert.Mid.Gen.facts, Cert.MidIdeal.Gen.facts, Cert.MidReferenceIdeal.Gen.facts, facts_finite,
  frame_kernel, frame_kernelIdeal, fun m g _ => frame_kernelIdeal m g trivial, frame_reference, fun m g _ => frame_reference m g trivial,
  fun m ρ _ => Cert.Weights.Gen.frame m ρ, fun m ρ _ => Cert.WeightsIdeal.Gen.frame m ρ, frame_weights_reference,
  fun m ρ _ => Cert.Norm.Gen.frame m ρ, fun m ρ _ => Cert.NormIdeal.Gen.frame m ρ, frame_norm_reference,
  fun m ρ _ => Cert.Square.Gen.frame m ρ, fun m ρ _ => Cert.SquareIdeal.Gen.frame m ρ, frame_square_reference,
  fun m ρ _ => Cert.Project.Gen.frame m ρ, fun m ρ _ => Cert.ProjectIdeal.Gen.frame m ρ, frame_project_reference,
  fun m ρ _ => Cert.Embed.Gen.frame m ρ, fun m ρ _ => Cert.EmbedIdeal.Gen.frame m ρ, frame_embed_reference,
  fun m ρ _ => Cert.Mid.Gen.frame m ρ, fun m ρ _ => Cert.MidIdeal.Gen.frame m ρ, frame_mid_reference,
  trivial, equal, trivial, equal_weights, trivial, equal_norm, trivial, equal_square, trivial, equal_project, trivial, equal_embed, trivial, equal_mid⟩

end Cert.Proof

end
